-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetReferenceIdeal (m : (ℓ : Loc Cert.ForgetReferenceIdeal.nD Cert.ForgetReferenceIdeal.τ Cert.ForgetReferenceIdeal.sig) → Buf (Elt Ideal) ℓ) : Prop :=
  True

def Pre_Cumsum (m : (ℓ : Loc Cert.Cumsum.nD Cert.Cumsum.τ Cert.Cumsum.sig) → Buf (Elt Bits) ℓ) : Prop :=
  True

def Pre_CumsumIdeal (m : (ℓ : Loc Cert.CumsumIdeal.nD Cert.CumsumIdeal.τ Cert.CumsumIdeal.sig) → Buf (Elt Ideal) ℓ) : Prop :=
  True

def Pre_CumsumIdeal_gates_below_infinity [hPre_gates_below_infinity : Cert.Pre_gates_below_infinity.Facts] (m : (ℓ : Loc Cert.CumsumIdeal.nD Cert.CumsumIdeal.τ Cert.CumsumIdeal.sig) → Buf (Elt Ideal) ℓ) : Prop :=
  ∀ c : Dev Cert.CumsumIdeal.nD,
    (Cert.Pre_gates_below_infinity.fn (F := Ideal) (m ((c.tc : Thread Cert.CumsumIdeal.nD Cert.CumsumIdeal.τ).loc Cert.CumsumIdeal.main_arg0)) (m ((c.tc : Thread Cert.CumsumIdeal.nD Cert.CumsumIdeal.τ).loc Cert.CumsumIdeal.main_arg1))) = (fun _ => 1#1)

def Pre_CumsumReferenceIdeal (m : (ℓ : Loc Cert.CumsumReferenceIdeal.nD Cert.CumsumReferenceIdeal.τ Cert.CumsumReferenceIdeal.sig) → Buf (Elt Ideal) ℓ) : Prop :=
  True

def Pre_CumsumReferenceIdeal_gates_below_infinity [hPre_gates_below_infinity : Cert.Pre_gates_below_infinity.Facts] (m : (ℓ : Loc Cert.CumsumReferenceIdeal.nD Cert.CumsumReferenceIdeal.τ Cert.CumsumReferenceIdeal.sig) → Buf (Elt Ideal) ℓ) : Prop :=
  ∀ c : Dev Cert.CumsumReferenceIdeal.nD,
    (Cert.Pre_gates_below_infinity.fn (F := Ideal) (m ((c.tc : Thread Cert.CumsumReferenceIdeal.nD Cert.CumsumReferenceIdeal.τ).loc Cert.CumsumReferenceIdeal.main_arg0)) (m ((c.tc : Thread Cert.CumsumReferenceIdeal.nD Cert.CumsumReferenceIdeal.τ).loc Cert.CumsumReferenceIdeal.main_arg1))) = (fun _ => 1#1)

def Pre_QkvMeta (m : (ℓ : Loc Cert.QkvMeta.nD Cert.QkvMeta.τ Cert.QkvMeta.sig) → Buf (Elt Bits) ℓ) : Prop :=
  True

def Pre_QkvMetaIdeal (m : (ℓ : Loc Cert.QkvMetaIdeal.nD Cert.QkvMetaIdeal.τ Cert.QkvMetaIdeal.sig) → Buf (Elt Ideal) ℓ) : Prop :=
  True

def Pre_QkvMetaReferenceIdeal (m : (ℓ : Loc Cert.QkvMetaReferenceIdeal.nD Cert.QkvMetaReferenceIdeal.τ Cert.QkvMetaReferenceIdeal.sig) → Buf (Elt Ideal) ℓ) : Prop :=
  True

def Pre_GluMeta (m : (ℓ : Loc Cert.GluMeta.nD Cert.GluMeta.τ Cert.GluMeta.sig) → Buf (Elt Bits) ℓ) : Prop :=
  True

def Pre_GluMetaIdeal (m : (ℓ : Loc Cert.GluMetaIdeal.nD Cert.GluMetaIdeal.τ Cert.GluMetaIdeal.sig) → Buf (Elt Ideal) ℓ) : Prop :=
  True

def Pre_GluMetaReferenceIdeal (m : (ℓ : Loc Cert.GluMetaReferenceIdeal.nD Cert.GluMetaReferenceIdeal.τ Cert.GluMetaReferenceIdeal.sig) → Buf (Elt Ideal) ℓ) : Prop :=
  True

def Pre_ForgetMeta (m : (ℓ : Loc Cert.ForgetMeta.nD Cert.ForgetMeta.τ Cert.ForgetMeta.sig) → Buf (Elt Bits) ℓ) : Prop :=
  True

def Pre_ForgetMetaIdeal (m : (ℓ : Loc Cert.ForgetMetaIdeal.nD Cert.ForgetMetaIdeal.τ Cert.ForgetMetaIdeal.sig) → Buf (Elt Ideal) ℓ) : Prop :=
  True

def Pre_ForgetMetaReferenceIdeal (m : (ℓ : Loc Cert.ForgetMetaReferenceIdeal.nD Cert.ForgetMetaReferenceIdeal.τ Cert.ForgetMetaReferenceIdeal.sig) → Buf (Elt Ideal) ℓ) : Prop :=
  True

def Pre_NormMeta (m : (ℓ : Loc Cert.NormMeta.nD Cert.NormMeta.τ Cert.NormMeta.sig) → Buf (Elt Bits) ℓ) : Prop :=
  True

def Pre_NormMetaIdeal (m : (ℓ : Loc Cert.NormMetaIdeal.nD Cert.NormMetaIdeal.τ Cert.NormMetaIdeal.sig) → Buf (Elt Ideal) ℓ) : Prop :=
  True

def Pre_NormMetaReferenceIdeal (m : (ℓ : Loc Cert.NormMetaReferenceIdeal.nD Cert.NormMetaReferenceIdeal.τ Cert.NormMetaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetReferenceIdeal [hForgetReferenceIdeal : Cert.ForgetReferenceIdeal.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1)
      ∧ r.2.mem ((c.tc : Thread Cert.ForgetReferenceIdeal.nD Cert.ForgetReferenceIdeal.τ).loc Cert.ForgetReferenceIdeal.main_arg2) = m ((c.tc : Thread Cert.ForgetReferenceIdeal.nD Cert.ForgetReferenceIdeal.τ).loc Cert.ForgetReferenceIdeal.main_arg2))
      ∧ r.2.sem = fun _ => 0)

def quiescent_Cumsum [hCumsum : Cert.Cumsum.Facts] : Prop :=
  ∀ (m : (ℓ : Loc Cert.Cumsum.nD Cert.Cumsum.τ Cert.Cumsum.sig) → Buf (Elt Bits) ℓ) (g : Dev Cert.Cumsum.nD → PrngReg), Pre_Cumsum m →
    θ_run (Cert.Cumsum.defs (F := Bits)) (onTc (τ := Cert.Cumsum.τ) (Cert.Cumsum.main (F := Bits))) ⟨m, fun _ => 0, g⟩ (fun r => (∀ c : Dev Cert.Cumsum.nD,
      r.2.mem ((c.tc : Thread Cert.Cumsum.nD Cert.Cumsum.τ).loc Cert.Cumsum.main_arg0) = m ((c.tc : Thread Cert.Cumsum.nD Cert.Cumsum.τ).loc Cert.Cumsum.main_arg0)
      ∧ r.2.mem ((c.tc : Thread Cert.Cumsum.nD Cert.Cumsum.τ).loc Cert.Cumsum.main_arg1) = m ((c.tc : Thread Cert.Cumsum.nD Cert.Cumsum.τ).loc Cert.Cumsum.main_arg1))
      ∧ r.2.sem = fun _ => 0)

def quiescent_CumsumIdeal [hCumsumIdeal : Cert.CumsumIdeal.Facts] : Prop :=
  ∀ (m : (ℓ : Loc Cert.CumsumIdeal.nD Cert.CumsumIdeal.τ Cert.CumsumIdeal.sig) → Buf (Elt Ideal) ℓ) (g : Dev Cert.CumsumIdeal.nD → PrngReg), Pre_CumsumIdeal m →
    θ_run (Cert.CumsumIdeal.defs (F := Ideal)) (onTc (τ := Cert.CumsumIdeal.τ) (Cert.CumsumIdeal.main (F := Ideal))) ⟨m, fun _ => 0, g⟩ (fun r => (∀ c : Dev Cert.CumsumIdeal.nD,
      r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0)
      ∧ r.2.mem ((c.tc : Thread Cert.CumsumIdeal.nD Cert.CumsumIdeal.τ).loc Cert.CumsumIdeal.main_arg1) = m ((c.tc : Thread Cert.CumsumIdeal.nD Cert.CumsumIdeal.τ).loc Cert.CumsumIdeal.main_arg1))
      ∧ r.2.sem = fun _ => 0)

def quiescent_CumsumIdeal_pre_gates_below_infinity [hCumsumIdeal : Cert.CumsumIdeal.Facts] [hPre_gates_below_infinity : Cert.Pre_gates_below_infinity.Facts] : Prop :=
  ∀ (m : (ℓ : Loc Cert.CumsumIdeal.nD Cert.CumsumIdeal.τ Cert.CumsumIdeal.sig) → Buf (Elt Ideal) ℓ) (g : Dev Cert.CumsumIdeal.nD → PrngReg), Pre_CumsumIdeal_gates_below_infinity m →
    θ_run (Cert.CumsumIdeal.defs (F := Ideal)) (onTc (τ := Cert.CumsumIdeal.τ) (Cert.CumsumIdeal.main (F := Ideal))) ⟨m, fun _ => 0, g⟩ (fun r => (∀ c : Dev Cert.CumsumIdeal.nD,
      r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0)
      ∧ r.2.mem ((c.tc : Thread Cert.CumsumIdeal.nD Cert.CumsumIdeal.τ).loc Cert.CumsumIdeal.main_arg1) = m ((c.tc : Thread Cert.CumsumIdeal.nD Cert.CumsumIdeal.τ).loc Cert.CumsumIdeal.main_arg1))
      ∧ r.2.sem = fun _ => 0)

def quiescent_CumsumReferenceIdeal [hCumsumReferenceIdeal : Cert.CumsumReferenceIdeal.Facts] : Prop :=
  ∀ (m : (ℓ : Loc Cert.CumsumReferenceIdeal.nD Cert.CumsumReferenceIdeal.τ Cert.CumsumReferenceIdeal.sig) → Buf (Elt Ideal) ℓ) (g : Dev Cert.CumsumReferenceIdeal.nD → PrngReg), Pre_CumsumReferenceIdeal m →
    θ_run (Cert.CumsumReferenceIdeal.defs (F := Ideal)) (onTc (τ := Cert.CumsumReferenceIdeal.τ) (Cert.CumsumReferenceIdeal.main (F := Ideal))) ⟨m, fun _ => 0, g⟩ (fun r => (∀ c : Dev Cert.CumsumReferenceIdeal.nD,
      r.2.mem ((c.tc : Thread Cert.CumsumReferenceIdeal.nD Cert.CumsumReferenceIdeal.τ).loc Cert.CumsumReferenceIdeal.main_arg0) = m ((c.tc : Thread Cert.CumsumReferenceIdeal.nD Cert.CumsumReferenceIdeal.τ).loc Cert.CumsumReferenceIdeal.main_arg0)
      ∧ r.2.mem ((c.tc : Thread Cert.CumsumReferenceIdeal.nD Cert.CumsumReferenceIdeal.τ).loc Cert.CumsumReferenceIdeal.main_arg1) = m ((c.tc : Thread Cert.CumsumReferenceIdeal.nD Cert.CumsumReferenceIdeal.τ).loc Cert.CumsumReferenceIdeal.main_arg1))
      ∧ r.2.sem = fun _ => 0)

def quiescent_CumsumReferenceIdeal_pre_gates_below_infinity [hCumsumReferenceIdeal : Cert.CumsumReferenceIdeal.Facts] [hPre_gates_below_infinity : Cert.Pre_gates_below_infinity.Facts] : Prop :=
  ∀ (m : (ℓ : Loc Cert.CumsumReferenceIdeal.nD Cert.CumsumReferenceIdeal.τ Cert.CumsumReferenceIdeal.sig) → Buf (Elt Ideal) ℓ) (g : Dev Cert.CumsumReferenceIdeal.nD → PrngReg), Pre_CumsumReferenceIdeal_gates_below_infinity m →
    θ_run (Cert.CumsumReferenceIdeal.defs (F := Ideal)) (onTc (τ := Cert.CumsumReferenceIdeal.τ) (Cert.CumsumReferenceIdeal.main (F := Ideal))) ⟨m, fun _ => 0, g⟩ (fun r => (∀ c : Dev Cert.CumsumReferenceIdeal.nD,
      r.2.mem ((c.tc : Thread Cert.CumsumReferenceIdeal.nD Cert.CumsumReferenceIdeal.τ).loc Cert.CumsumReferenceIdeal.main_arg0) = m ((c.tc : Thread Cert.CumsumReferenceIdeal.nD Cert.CumsumReferenceIdeal.τ).loc Cert.CumsumReferenceIdeal.main_arg0)
      ∧ r.2.mem ((c.tc : Thread Cert.CumsumReferenceIdeal.nD Cert.CumsumReferenceIdeal.τ).loc Cert.CumsumReferenceIdeal.main_arg1) = m ((c.tc : Thread Cert.CumsumReferenceIdeal.nD Cert.CumsumReferenceIdeal.τ).loc Cert.CumsumReferenceIdeal.main_arg1))
      ∧ r.2.sem = fun _ => 0)

def quiescent_QkvMeta [hQkvMeta : Cert.QkvMeta.Facts] : Prop :=
  ∀ (m : (ℓ : Loc Cert.QkvMeta.nD Cert.QkvMeta.τ Cert.QkvMeta.sig) → Buf (Elt Bits) ℓ) (g : Dev Cert.QkvMeta.nD → PrngReg), Pre_QkvMeta m →
    θ_run (Cert.QkvMeta.defs (F := Bits)) (onTc (τ := Cert.QkvMeta.τ) (Cert.QkvMeta.main (F := Bits))) ⟨m, fun _ => 0, g⟩ (fun r => (∀ c : Dev Cert.QkvMeta.nD,
      r.2.mem ((c.tc : Thread Cert.QkvMeta.nD Cert.QkvMeta.τ).loc Cert.QkvMeta.main_arg0) = m ((c.tc : Thread Cert.QkvMeta.nD Cert.QkvMeta.τ).loc Cert.QkvMeta.main_arg0)
      ∧ r.2.mem ((c.tc : Thread Cert.QkvMeta.nD Cert.QkvMeta.τ).loc Cert.QkvMeta.main_arg1) = m ((c.tc : Thread Cert.QkvMeta.nD Cert.QkvMeta.τ).loc Cert.QkvMeta.main_arg1)
      ∧ r.2.mem ((c.tc : Thread Cert.QkvMeta.nD Cert.QkvMeta.τ).loc Cert.QkvMeta.main_arg2) = m ((c.tc : Thread Cert.QkvMeta.nD Cert.QkvMeta.τ).loc Cert.QkvMeta.main_arg2)
      ∧ r.2.mem ((c.tc : Thread Cert.QkvMeta.nD Cert.QkvMeta.τ).loc Cert.QkvMeta.main_arg3) = m ((c.tc : Thread Cert.QkvMeta.nD Cert.QkvMeta.τ).loc Cert.QkvMeta.main_arg3))
      ∧ r.2.sem = fun _ => 0)

def quiescent_QkvMetaIdeal [hQkvMetaIdeal : Cert.QkvMetaIdeal.Facts] : Prop :=
  ∀ (m : (ℓ : Loc Cert.QkvMetaIdeal.nD Cert.QkvMetaIdeal.τ Cert.QkvMetaIdeal.sig) → Buf (Elt Ideal) ℓ) (g : Dev Cert.QkvMetaIdeal.nD → PrngReg), Pre_QkvMetaIdeal m →
    θ_run (Cert.QkvMetaIdeal.defs (F := Ideal)) (onTc (τ := Cert.QkvMetaIdeal.τ) (Cert.QkvMetaIdeal.main (F := Ideal))) ⟨m, fun _ => 0, g⟩ (fun r => (∀ c : Dev Cert.QkvMetaIdeal.nD,
      r.2.mem ((c.tc : Thread Cert.QkvMetaIdeal.nD Cert.QkvMetaIdeal.τ).loc Cert.QkvMetaIdeal.main_arg0) = m ((c.tc : Thread Cert.QkvMetaIdeal.nD Cert.QkvMetaIdeal.τ).loc Cert.QkvMetaIdeal.main_arg0)
      ∧ r.2.mem ((c.tc : Thread Cert.QkvMetaIdeal.nD Cert.QkvMetaIdeal.τ).loc Cert.QkvMetaIdeal.main_arg1) = m ((c.tc : Thread Cert.QkvMetaIdeal.nD Cert.QkvMetaIdeal.τ).loc Cert.QkvMetaIdeal.main_arg1)
      ∧ r.2.mem ((c.tc : Thread Cert.QkvMetaIdeal.nD Cert.QkvMetaIdeal.τ).loc Cert.QkvMetaIdeal.main_arg2) = m ((c.tc : Thread Cert.QkvMetaIdeal.nD Cert.QkvMetaIdeal.τ).loc Cert.QkvMetaIdeal.main_arg2)
      ∧ r.2.mem ((c.tc : Thread Cert.QkvMetaIdeal.nD Cert.QkvMetaIdeal.τ).loc Cert.QkvMetaIdeal.main_arg3) = m ((c.tc : Thread Cert.QkvMetaIdeal.nD Cert.QkvMetaIdeal.τ).loc Cert.QkvMetaIdeal.main_arg3))
      ∧ r.2.sem = fun _ => 0)

def quiescent_QkvMetaReferenceIdeal [hQkvMetaReferenceIdeal : Cert.QkvMetaReferenceIdeal.Facts] : Prop :=
  ∀ (m : (ℓ : Loc Cert.QkvMetaReferenceIdeal.nD Cert.QkvMetaReferenceIdeal.τ Cert.QkvMetaReferenceIdeal.sig) → Buf (Elt Ideal) ℓ) (g : Dev Cert.QkvMetaReferenceIdeal.nD → PrngReg), Pre_QkvMetaReferenceIdeal m →
    θ_run (Cert.QkvMetaReferenceIdeal.defs (F := Ideal)) (onTc (τ := Cert.QkvMetaReferenceIdeal.τ) (Cert.QkvMetaReferenceIdeal.main (F := Ideal))) ⟨m, fun _ => 0, g⟩ (fun r => (∀ c : Dev Cert.QkvMetaReferenceIdeal.nD,
      r.2.mem ((c.tc : Thread Cert.QkvMetaReferenceIdeal.nD Cert.QkvMetaReferenceIdeal.τ).loc Cert.QkvMetaReferenceIdeal.main_arg0) = m ((c.tc : Thread Cert.QkvMetaReferenceIdeal.nD Cert.QkvMetaReferenceIdeal.τ).loc Cert.QkvMetaReferenceIdeal.main_arg0)
      ∧ r.2.mem ((c.tc : Thread Cert.QkvMetaReferenceIdeal.nD Cert.QkvMetaReferenceIdeal.τ).loc Cert.QkvMetaReferenceIdeal.main_arg1) = m ((c.tc : Thread Cert.QkvMetaReferenceIdeal.nD Cert.QkvMetaReferenceIdeal.τ).loc Cert.QkvMetaReferenceIdeal.main_arg1)
      ∧ r.2.mem ((c.tc : Thread Cert.QkvMetaReferenceIdeal.nD Cert.QkvMetaReferenceIdeal.τ).loc Cert.QkvMetaReferenceIdeal.main_arg2) = m ((c.tc : Thread Cert.QkvMetaReferenceIdeal.nD Cert.QkvMetaReferenceIdeal.τ).loc Cert.QkvMetaReferenceIdeal.main_arg2)
      ∧ r.2.mem ((c.tc : Thread Cert.QkvMetaReferenceIdeal.nD Cert.QkvMetaReferenceIdeal.τ).loc Cert.QkvMetaReferenceIdeal.main_arg3) = m ((c.tc : Thread Cert.QkvMetaReferenceIdeal.nD Cert.QkvMetaReferenceIdeal.τ).loc Cert.QkvMetaReferenceIdeal.main_arg3))
      ∧ r.2.sem = fun _ => 0)

def quiescent_GluMeta [hGluMeta : Cert.GluMeta.Facts] : Prop :=
  ∀ (m : (ℓ : Loc Cert.GluMeta.nD Cert.GluMeta.τ Cert.GluMeta.sig) → Buf (Elt Bits) ℓ) (g : Dev Cert.GluMeta.nD → PrngReg), Pre_GluMeta m →
    θ_run (Cert.GluMeta.defs (F := Bits)) (onTc (τ := Cert.GluMeta.τ) (Cert.GluMeta.main (F := Bits))) ⟨m, fun _ => 0, g⟩ (fun r => (∀ c : Dev Cert.GluMeta.nD,
      r.2.mem ((c.tc : Thread Cert.GluMeta.nD Cert.GluMeta.τ).loc Cert.GluMeta.main_arg0) = m ((c.tc : Thread Cert.GluMeta.nD Cert.GluMeta.τ).loc Cert.GluMeta.main_arg0)
      ∧ r.2.mem ((c.tc : Thread Cert.GluMeta.nD Cert.GluMeta.τ).loc Cert.GluMeta.main_arg1) = m ((c.tc : Thread Cert.GluMeta.nD Cert.GluMeta.τ).loc Cert.GluMeta.main_arg1)
      ∧ r.2.mem ((c.tc : Thread Cert.GluMeta.nD Cert.GluMeta.τ).loc Cert.GluMeta.main_arg2) = m ((c.tc : Thread Cert.GluMeta.nD Cert.GluMeta.τ).loc Cert.GluMeta.main_arg2))
      ∧ r.2.sem = fun _ => 0)

def quiescent_GluMetaIdeal [hGluMetaIdeal : Cert.GluMetaIdeal.Facts] : Prop :=
  ∀ (m : (ℓ : Loc Cert.GluMetaIdeal.nD Cert.GluMetaIdeal.τ Cert.GluMetaIdeal.sig) → Buf (Elt Ideal) ℓ) (g : Dev Cert.GluMetaIdeal.nD → PrngReg), Pre_GluMetaIdeal m →
    θ_run (Cert.GluMetaIdeal.defs (F := Ideal)) (onTc (τ := Cert.GluMetaIdeal.τ) (Cert.GluMetaIdeal.main (F := Ideal))) ⟨m, fun _ => 0, g⟩ (fun r => (∀ c : Dev Cert.GluMetaIdeal.nD,
      r.2.mem ((c.tc : Thread Cert.GluMetaIdeal.nD Cert.GluMetaIdeal.τ).loc Cert.GluMetaIdeal.main_arg0) = m ((c.tc : Thread Cert.GluMetaIdeal.nD Cert.GluMetaIdeal.τ).loc Cert.GluMetaIdeal.main_arg0)
      ∧ r.2.mem ((c.tc : Thread Cert.GluMetaIdeal.nD Cert.GluMetaIdeal.τ).loc Cert.GluMetaIdeal.main_arg1) = m ((c.tc : Thread Cert.GluMetaIdeal.nD Cert.GluMetaIdeal.τ).loc Cert.GluMetaIdeal.main_arg1)
      ∧ r.2.mem ((c.tc : Thread Cert.GluMetaIdeal.nD Cert.GluMetaIdeal.τ).loc Cert.GluMetaIdeal.main_arg2) = m ((c.tc : Thread Cert.GluMetaIdeal.nD Cert.GluMetaIdeal.τ).loc Cert.GluMetaIdeal.main_arg2))
      ∧ r.2.sem = fun _ => 0)

def quiescent_GluMetaReferenceIdeal [hGluMetaReferenceIdeal : Cert.GluMetaReferenceIdeal.Facts] : Prop :=
  ∀ (m : (ℓ : Loc Cert.GluMetaReferenceIdeal.nD Cert.GluMetaReferenceIdeal.τ Cert.GluMetaReferenceIdeal.sig) → Buf (Elt Ideal) ℓ) (g : Dev Cert.GluMetaReferenceIdeal.nD → PrngReg), Pre_GluMetaReferenceIdeal m →
    θ_run (Cert.GluMetaReferenceIdeal.defs (F := Ideal)) (onTc (τ := Cert.GluMetaReferenceIdeal.τ) (Cert.GluMetaReferenceIdeal.main (F := Ideal))) ⟨m, fun _ => 0, g⟩ (fun r => (∀ c : Dev Cert.GluMetaReferenceIdeal.nD,
      r.2.mem ((c.tc : Thread Cert.GluMetaReferenceIdeal.nD Cert.GluMetaReferenceIdeal.τ).loc Cert.GluMetaReferenceIdeal.main_arg0) = m ((c.tc : Thread Cert.GluMetaReferenceIdeal.nD Cert.GluMetaReferenceIdeal.τ).loc Cert.GluMetaReferenceIdeal.main_arg0)
      ∧ r.2.mem ((c.tc : Thread Cert.GluMetaReferenceIdeal.nD Cert.GluMetaReferenceIdeal.τ).loc Cert.GluMetaReferenceIdeal.main_arg1) = m ((c.tc : Thread Cert.GluMetaReferenceIdeal.nD Cert.GluMetaReferenceIdeal.τ).loc Cert.GluMetaReferenceIdeal.main_arg1)
      ∧ r.2.mem ((c.tc : Thread Cert.GluMetaReferenceIdeal.nD Cert.GluMetaReferenceIdeal.τ).loc Cert.GluMetaReferenceIdeal.main_arg2) = m ((c.tc : Thread Cert.GluMetaReferenceIdeal.nD Cert.GluMetaReferenceIdeal.τ).loc Cert.GluMetaReferenceIdeal.main_arg2))
      ∧ r.2.sem = fun _ => 0)

def quiescent_ForgetMeta [hForgetMeta : Cert.ForgetMeta.Facts] : Prop :=
  ∀ (m : (ℓ : Loc Cert.ForgetMeta.nD Cert.ForgetMeta.τ Cert.ForgetMeta.sig) → Buf (Elt Bits) ℓ) (g : Dev Cert.ForgetMeta.nD → PrngReg), Pre_ForgetMeta m →
    θ_run (Cert.ForgetMeta.defs (F := Bits)) (onTc (τ := Cert.ForgetMeta.τ) (Cert.ForgetMeta.main (F := Bits))) ⟨m, fun _ => 0, g⟩ (fun r => (∀ c : Dev Cert.ForgetMeta.nD,
      r.2.mem ((c.tc : Thread Cert.ForgetMeta.nD Cert.ForgetMeta.τ).loc Cert.ForgetMeta.main_arg0) = m ((c.tc : Thread Cert.ForgetMeta.nD Cert.ForgetMeta.τ).loc Cert.ForgetMeta.main_arg0)
      ∧ r.2.mem ((c.tc : Thread Cert.ForgetMeta.nD Cert.ForgetMeta.τ).loc Cert.ForgetMeta.main_arg1) = m ((c.tc : Thread Cert.ForgetMeta.nD Cert.ForgetMeta.τ).loc Cert.ForgetMeta.main_arg1)
      ∧ r.2.mem ((c.tc : Thread Cert.ForgetMeta.nD Cert.ForgetMeta.τ).loc Cert.ForgetMeta.main_arg2) = m ((c.tc : Thread Cert.ForgetMeta.nD Cert.ForgetMeta.τ).loc Cert.ForgetMeta.main_arg2))
      ∧ r.2.sem = fun _ => 0)

def quiescent_ForgetMetaIdeal [hForgetMetaIdeal : Cert.ForgetMetaIdeal.Facts] : Prop :=
  ∀ (m : (ℓ : Loc Cert.ForgetMetaIdeal.nD Cert.ForgetMetaIdeal.τ Cert.ForgetMetaIdeal.sig) → Buf (Elt Ideal) ℓ) (g : Dev Cert.ForgetMetaIdeal.nD → PrngReg), Pre_ForgetMetaIdeal m →
    θ_run (Cert.ForgetMetaIdeal.defs (F := Ideal)) (onTc (τ := Cert.ForgetMetaIdeal.τ) (Cert.ForgetMetaIdeal.main (F := Ideal))) ⟨m, fun _ => 0, g⟩ (fun r => (∀ c : Dev Cert.ForgetMetaIdeal.nD,
      r.2.mem ((c.tc : Thread Cert.ForgetMetaIdeal.nD Cert.ForgetMetaIdeal.τ).loc Cert.ForgetMetaIdeal.main_arg0) = m ((c.tc : Thread Cert.ForgetMetaIdeal.nD Cert.ForgetMetaIdeal.τ).loc Cert.ForgetMetaIdeal.main_arg0)
      ∧ r.2.mem ((c.tc : Thread Cert.ForgetMetaIdeal.nD Cert.ForgetMetaIdeal.τ).loc Cert.ForgetMetaIdeal.main_arg1) = m ((c.tc : Thread Cert.ForgetMetaIdeal.nD Cert.ForgetMetaIdeal.τ).loc Cert.ForgetMetaIdeal.main_arg1)
      ∧ r.2.mem ((c.tc : Thread Cert.ForgetMetaIdeal.nD Cert.ForgetMetaIdeal.τ).loc Cert.ForgetMetaIdeal.main_arg2) = m ((c.tc : Thread Cert.ForgetMetaIdeal.nD Cert.ForgetMetaIdeal.τ).loc Cert.ForgetMetaIdeal.main_arg2))
      ∧ r.2.sem = fun _ => 0)

def quiescent_ForgetMetaReferenceIdeal [hForgetMetaReferenceIdeal : Cert.ForgetMetaReferenceIdeal.Facts] : Prop :=
  ∀ (m : (ℓ : Loc Cert.ForgetMetaReferenceIdeal.nD Cert.ForgetMetaReferenceIdeal.τ Cert.ForgetMetaReferenceIdeal.sig) → Buf (Elt Ideal) ℓ) (g : Dev Cert.ForgetMetaReferenceIdeal.nD → PrngReg), Pre_ForgetMetaReferenceIdeal m →
    θ_run (Cert.ForgetMetaReferenceIdeal.defs (F := Ideal)) (onTc (τ := Cert.ForgetMetaReferenceIdeal.τ) (Cert.ForgetMetaReferenceIdeal.main (F := Ideal))) ⟨m, fun _ => 0, g⟩ (fun r => (∀ c : Dev Cert.ForgetMetaReferenceIdeal.nD,
      r.2.mem ((c.tc : Thread Cert.ForgetMetaReferenceIdeal.nD Cert.ForgetMetaReferenceIdeal.τ).loc Cert.ForgetMetaReferenceIdeal.main_arg0) = m ((c.tc : Thread Cert.ForgetMetaReferenceIdeal.nD Cert.ForgetMetaReferenceIdeal.τ).loc Cert.ForgetMetaReferenceIdeal.main_arg0)
      ∧ r.2.mem ((c.tc : Thread Cert.ForgetMetaReferenceIdeal.nD Cert.ForgetMetaReferenceIdeal.τ).loc Cert.ForgetMetaReferenceIdeal.main_arg1) = m ((c.tc : Thread Cert.ForgetMetaReferenceIdeal.nD Cert.ForgetMetaReferenceIdeal.τ).loc Cert.ForgetMetaReferenceIdeal.main_arg1)
      ∧ r.2.mem ((c.tc : Thread Cert.ForgetMetaReferenceIdeal.nD Cert.ForgetMetaReferenceIdeal.τ).loc Cert.ForgetMetaReferenceIdeal.main_arg2) = m ((c.tc : Thread Cert.ForgetMetaReferenceIdeal.nD Cert.ForgetMetaReferenceIdeal.τ).loc Cert.ForgetMetaReferenceIdeal.main_arg2))
      ∧ r.2.sem = fun _ => 0)

def quiescent_NormMeta [hNormMeta : Cert.NormMeta.Facts] : Prop :=
  ∀ (m : (ℓ : Loc Cert.NormMeta.nD Cert.NormMeta.τ Cert.NormMeta.sig) → Buf (Elt Bits) ℓ) (g : Dev Cert.NormMeta.nD → PrngReg), Pre_NormMeta m →
    θ_run (Cert.NormMeta.defs (F := Bits)) (onTc (τ := Cert.NormMeta.τ) (Cert.NormMeta.main (F := Bits))) ⟨m, fun _ => 0, g⟩ (fun r => (∀ c : Dev Cert.NormMeta.nD,
      r.2.mem ((c.tc : Thread Cert.NormMeta.nD Cert.NormMeta.τ).loc Cert.NormMeta.main_arg0) = m ((c.tc : Thread Cert.NormMeta.nD Cert.NormMeta.τ).loc Cert.NormMeta.main_arg0)
      ∧ r.2.mem ((c.tc : Thread Cert.NormMeta.nD Cert.NormMeta.τ).loc Cert.NormMeta.main_arg1) = m ((c.tc : Thread Cert.NormMeta.nD Cert.NormMeta.τ).loc Cert.NormMeta.main_arg1)
      ∧ r.2.mem ((c.tc : Thread Cert.NormMeta.nD Cert.NormMeta.τ).loc Cert.NormMeta.main_arg2) = m ((c.tc : Thread Cert.NormMeta.nD Cert.NormMeta.τ).loc Cert.NormMeta.main_arg2))
      ∧ r.2.sem = fun _ => 0)

def quiescent_NormMetaIdeal [hNormMetaIdeal : Cert.NormMetaIdeal.Facts] : Prop :=
  ∀ (m : (ℓ : Loc Cert.NormMetaIdeal.nD Cert.NormMetaIdeal.τ Cert.NormMetaIdeal.sig) → Buf (Elt Ideal) ℓ) (g : Dev Cert.NormMetaIdeal.nD → PrngReg), Pre_NormMetaIdeal m →
    θ_run (Cert.NormMetaIdeal.defs (F := Ideal)) (onTc (τ := Cert.NormMetaIdeal.τ) (Cert.NormMetaIdeal.main (F := Ideal))) ⟨m, fun _ => 0, g⟩ (fun r => (∀ c : Dev Cert.NormMetaIdeal.nD,
      r.2.mem ((c.tc : Thread Cert.NormMetaIdeal.nD Cert.NormMetaIdeal.τ).loc Cert.NormMetaIdeal.main_arg0) = m ((c.tc : Thread Cert.NormMetaIdeal.nD Cert.NormMetaIdeal.τ).loc Cert.NormMetaIdeal.main_arg0)
      ∧ r.2.mem ((c.tc : Thread Cert.NormMetaIdeal.nD Cert.NormMetaIdeal.τ).loc Cert.NormMetaIdeal.main_arg1) = m ((c.tc : Thread Cert.NormMetaIdeal.nD Cert.NormMetaIdeal.τ).loc Cert.NormMetaIdeal.main_arg1)
      ∧ r.2.mem ((c.tc : Thread Cert.NormMetaIdeal.nD Cert.NormMetaIdeal.τ).loc Cert.NormMetaIdeal.main_arg2) = m ((c.tc : Thread Cert.NormMetaIdeal.nD Cert.NormMetaIdeal.τ).loc Cert.NormMetaIdeal.main_arg2))
      ∧ r.2.sem = fun _ => 0)

def quiescent_NormMetaReferenceIdeal [hNormMetaReferenceIdeal : Cert.NormMetaReferenceIdeal.Facts] : Prop :=
  ∀ (m : (ℓ : Loc Cert.NormMetaReferenceIdeal.nD Cert.NormMetaReferenceIdeal.τ Cert.NormMetaReferenceIdeal.sig) → Buf (Elt Ideal) ℓ) (g : Dev Cert.NormMetaReferenceIdeal.nD → PrngReg), Pre_NormMetaReferenceIdeal m →
    θ_run (Cert.NormMetaReferenceIdeal.defs (F := Ideal)) (onTc (τ := Cert.NormMetaReferenceIdeal.τ) (Cert.NormMetaReferenceIdeal.main (F := Ideal))) ⟨m, fun _ => 0, g⟩ (fun r => (∀ c : Dev Cert.NormMetaReferenceIdeal.nD,
      r.2.mem ((c.tc : Thread Cert.NormMetaReferenceIdeal.nD Cert.NormMetaReferenceIdeal.τ).loc Cert.NormMetaReferenceIdeal.main_arg0) = m ((c.tc : Thread Cert.NormMetaReferenceIdeal.nD Cert.NormMetaReferenceIdeal.τ).loc Cert.NormMetaReferenceIdeal.main_arg0)
      ∧ r.2.mem ((c.tc : Thread Cert.NormMetaReferenceIdeal.nD Cert.NormMetaReferenceIdeal.τ).loc Cert.NormMetaReferenceIdeal.main_arg1) = m ((c.tc : Thread Cert.NormMetaReferenceIdeal.nD Cert.NormMetaReferenceIdeal.τ).loc Cert.NormMetaReferenceIdeal.main_arg1)
      ∧ r.2.mem ((c.tc : Thread Cert.NormMetaReferenceIdeal.nD Cert.NormMetaReferenceIdeal.τ).loc Cert.NormMetaReferenceIdeal.main_arg2) = m ((c.tc : Thread Cert.NormMetaReferenceIdeal.nD Cert.NormMetaReferenceIdeal.τ).loc Cert.NormMetaReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v8)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v12) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v7)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v7) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v14) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v7)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v7) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v13) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v11_0)) (v1 : (c : Dev Cert.MixIdeal.nD) → Buf (Elt Ideal) ((c.tc : Thread Cert.MixIdeal.nD Cert.MixIdeal.τ).loc Cert.MixIdeal.main_v11_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11_0) = v0 c
          ∧ r.2.mem ((c.tc : Thread Cert.MixIdeal.nD Cert.MixIdeal.τ).loc Cert.MixIdeal.main_v11_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v59) = v0 c
          ∧ r.2.mem ((c.tc : Thread Cert.MixReferenceIdeal.nD Cert.MixReferenceIdeal.τ).loc Cert.MixReferenceIdeal.main_v60) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v9)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v264) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v25) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Forget_ForgetIdeal : Prop :=
  True

def algebraic_ForgetIdeal_ForgetReferenceIdeal [hForgetIdeal : Cert.ForgetIdeal.Facts] [hForgetReferenceIdeal : Cert.ForgetReferenceIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetReferenceIdeal.nD Cert.ForgetReferenceIdeal.τ Cert.ForgetReferenceIdeal.sig) → Buf (Elt Ideal) ℓ) (g' : Dev Cert.ForgetReferenceIdeal.nD → PrngReg), Pre_ForgetIdeal m →
    (∀ c : Dev Cert.ForgetIdeal.nD,
      m' ((c.tc : Thread Cert.ForgetReferenceIdeal.nD Cert.ForgetReferenceIdeal.τ).loc Cert.ForgetReferenceIdeal.main_arg0) = m ((c.tc : Thread Cert.ForgetIdeal.nD Cert.ForgetIdeal.τ).loc Cert.ForgetIdeal.main_arg0)
      ∧ m' ((c.tc : Thread Cert.ForgetReferenceIdeal.nD Cert.ForgetReferenceIdeal.τ).loc Cert.ForgetReferenceIdeal.main_arg1) = m ((c.tc : Thread Cert.ForgetIdeal.nD Cert.ForgetIdeal.τ).loc Cert.ForgetIdeal.main_arg1)
      ∧ m' ((c.tc : Thread Cert.ForgetReferenceIdeal.nD Cert.ForgetReferenceIdeal.τ).loc Cert.ForgetReferenceIdeal.main_arg2) = m ((c.tc : Thread Cert.ForgetIdeal.nD Cert.ForgetIdeal.τ).loc Cert.ForgetIdeal.main_arg2)) →
    ∃ (v0 : (c : Dev Cert.ForgetIdeal.nD) → Buf (Elt Ideal) ((c.tc : Thread Cert.ForgetIdeal.nD Cert.ForgetIdeal.τ).loc Cert.ForgetIdeal.main_v8)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v8) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ θ_run (Cert.ForgetReferenceIdeal.defs (F := Ideal)) (onTc (τ := Cert.ForgetReferenceIdeal.τ) (Cert.ForgetReferenceIdeal.main (F := Ideal))) ⟨m', fun _ => 0, g'⟩ (fun r => ∀ c : Dev Cert.ForgetReferenceIdeal.nD,
          r.2.mem ((c.tc : Thread Cert.ForgetReferenceIdeal.nD Cert.ForgetReferenceIdeal.τ).loc Cert.ForgetReferenceIdeal.main_v8) = v0 c
          ∧ r.2.mem ((c.tc : Thread Cert.ForgetReferenceIdeal.nD Cert.ForgetReferenceIdeal.τ).loc Cert.ForgetReferenceIdeal.main_arg0) = m' ((c.tc : Thread Cert.ForgetReferenceIdeal.nD Cert.ForgetReferenceIdeal.τ).loc Cert.ForgetReferenceIdeal.main_arg0)
          ∧ r.2.mem ((c.tc : Thread Cert.ForgetReferenceIdeal.nD Cert.ForgetReferenceIdeal.τ).loc Cert.ForgetReferenceIdeal.main_arg1) = m' ((c.tc : Thread Cert.ForgetReferenceIdeal.nD Cert.ForgetReferenceIdeal.τ).loc Cert.ForgetReferenceIdeal.main_arg1)
          ∧ r.2.mem ((c.tc : Thread Cert.ForgetReferenceIdeal.nD Cert.ForgetReferenceIdeal.τ).loc Cert.ForgetReferenceIdeal.main_arg2) = m' ((c.tc : Thread Cert.ForgetReferenceIdeal.nD Cert.ForgetReferenceIdeal.τ).loc Cert.ForgetReferenceIdeal.main_arg2))

def preserves_Cumsum_CumsumIdeal : Prop :=
  True

def algebraic_CumsumIdeal_CumsumReferenceIdeal_pre_gates_below_infinity [hCumsumIdeal : Cert.CumsumIdeal.Facts] [hCumsumReferenceIdeal : Cert.CumsumReferenceIdeal.Facts] [hPre_gates_below_infinity : Cert.Pre_gates_below_infinity.Facts] : Prop :=
  ∀ (m : (ℓ : Loc Cert.CumsumIdeal.nD Cert.CumsumIdeal.τ Cert.CumsumIdeal.sig) → Buf (Elt Ideal) ℓ) (g : Dev Cert.CumsumIdeal.nD → PrngReg)
    (m' : (ℓ : Loc Cert.CumsumReferenceIdeal.nD Cert.CumsumReferenceIdeal.τ Cert.CumsumReferenceIdeal.sig) → Buf (Elt Ideal) ℓ) (g' : Dev Cert.CumsumReferenceIdeal.nD → PrngReg), Pre_CumsumIdeal_gates_below_infinity m →
    (∀ c : Dev Cert.CumsumIdeal.nD,
      m' ((c.tc : Thread Cert.CumsumReferenceIdeal.nD Cert.CumsumReferenceIdeal.τ).loc Cert.CumsumReferenceIdeal.main_arg0) = m ((c.tc : Thread Cert.CumsumIdeal.nD Cert.CumsumIdeal.τ).loc Cert.CumsumIdeal.main_arg0)
      ∧ m' ((c.tc : Thread Cert.CumsumReferenceIdeal.nD Cert.CumsumReferenceIdeal.τ).loc Cert.CumsumReferenceIdeal.main_arg1) = m ((c.tc : Thread Cert.CumsumIdeal.nD Cert.CumsumIdeal.τ).loc Cert.CumsumIdeal.main_arg1)) →
    ∃ (v0 : (c : Dev Cert.CumsumIdeal.nD) → Buf (Elt Ideal) ((c.tc : Thread Cert.CumsumIdeal.nD Cert.CumsumIdeal.τ).loc Cert.CumsumIdeal.main_v8_0)) (v1 : (c : Dev Cert.CumsumIdeal.nD) → Buf (Elt Ideal) ((c.tc : Thread Cert.CumsumIdeal.nD Cert.CumsumIdeal.τ).loc Cert.CumsumIdeal.main_v8_1)),
      θ_run (Cert.CumsumIdeal.defs (F := Ideal)) (onTc (τ := Cert.CumsumIdeal.τ) (Cert.CumsumIdeal.main (F := Ideal))) ⟨m, fun _ => 0, g⟩ (fun r => ∀ c : Dev Cert.CumsumIdeal.nD,
          r.2.mem ((c.tc : Thread Cert.CumsumIdeal.nD Cert.CumsumIdeal.τ).loc Cert.CumsumIdeal.main_v8_0) = v0 c
          ∧ r.2.mem ((c.tc : Thread Cert.CumsumIdeal.nD Cert.CumsumIdeal.τ).loc Cert.CumsumIdeal.main_v8_1) = v1 c
          ∧ r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0)
          ∧ r.2.mem ((c.tc : Thread Cert.CumsumIdeal.nD Cert.CumsumIdeal.τ).loc Cert.CumsumIdeal.main_arg1) = m ((c.tc : Thread Cert.CumsumIdeal.nD Cert.CumsumIdeal.τ).loc Cert.CumsumIdeal.main_arg1))
      ∧ θ_run (Cert.CumsumReferenceIdeal.defs (F := Ideal)) (onTc (τ := Cert.CumsumReferenceIdeal.τ) (Cert.CumsumReferenceIdeal.main (F := Ideal))) ⟨m', fun _ => 0, g'⟩ (fun r => ∀ c : Dev Cert.CumsumReferenceIdeal.nD,
          r.2.mem ((c.tc : Thread Cert.CumsumReferenceIdeal.nD Cert.CumsumReferenceIdeal.τ).loc Cert.CumsumReferenceIdeal.main_v8) = v0 c
          ∧ r.2.mem ((c.tc : Thread Cert.CumsumReferenceIdeal.nD Cert.CumsumReferenceIdeal.τ).loc Cert.CumsumReferenceIdeal.main_v9) = v1 c
          ∧ r.2.mem ((c.tc : Thread Cert.CumsumReferenceIdeal.nD Cert.CumsumReferenceIdeal.τ).loc Cert.CumsumReferenceIdeal.main_arg0) = m' ((c.tc : Thread Cert.CumsumReferenceIdeal.nD Cert.CumsumReferenceIdeal.τ).loc Cert.CumsumReferenceIdeal.main_arg0)
          ∧ r.2.mem ((c.tc : Thread Cert.CumsumReferenceIdeal.nD Cert.CumsumReferenceIdeal.τ).loc Cert.CumsumReferenceIdeal.main_arg1) = m' ((c.tc : Thread Cert.CumsumReferenceIdeal.nD Cert.CumsumReferenceIdeal.τ).loc Cert.CumsumReferenceIdeal.main_arg1))

def preserves_QkvMeta_QkvMetaIdeal : Prop :=
  True

def algebraic_QkvMetaIdeal_QkvMetaReferenceIdeal [hQkvMetaIdeal : Cert.QkvMetaIdeal.Facts] [hQkvMetaReferenceIdeal : Cert.QkvMetaReferenceIdeal.Facts] : Prop :=
  ∀ (m : (ℓ : Loc Cert.QkvMetaIdeal.nD Cert.QkvMetaIdeal.τ Cert.QkvMetaIdeal.sig) → Buf (Elt Ideal) ℓ) (g : Dev Cert.QkvMetaIdeal.nD → PrngReg)
    (m' : (ℓ : Loc Cert.QkvMetaReferenceIdeal.nD Cert.QkvMetaReferenceIdeal.τ Cert.QkvMetaReferenceIdeal.sig) → Buf (Elt Ideal) ℓ) (g' : Dev Cert.QkvMetaReferenceIdeal.nD → PrngReg), Pre_QkvMetaIdeal m →
    (∀ c : Dev Cert.QkvMetaIdeal.nD,
      m' ((c.tc : Thread Cert.QkvMetaReferenceIdeal.nD Cert.QkvMetaReferenceIdeal.τ).loc Cert.QkvMetaReferenceIdeal.main_arg0) = m ((c.tc : Thread Cert.QkvMetaIdeal.nD Cert.QkvMetaIdeal.τ).loc Cert.QkvMetaIdeal.main_arg0)
      ∧ m' ((c.tc : Thread Cert.QkvMetaReferenceIdeal.nD Cert.QkvMetaReferenceIdeal.τ).loc Cert.QkvMetaReferenceIdeal.main_arg1) = m ((c.tc : Thread Cert.QkvMetaIdeal.nD Cert.QkvMetaIdeal.τ).loc Cert.QkvMetaIdeal.main_arg1)
      ∧ m' ((c.tc : Thread Cert.QkvMetaReferenceIdeal.nD Cert.QkvMetaReferenceIdeal.τ).loc Cert.QkvMetaReferenceIdeal.main_arg2) = m ((c.tc : Thread Cert.QkvMetaIdeal.nD Cert.QkvMetaIdeal.τ).loc Cert.QkvMetaIdeal.main_arg2)
      ∧ m' ((c.tc : Thread Cert.QkvMetaReferenceIdeal.nD Cert.QkvMetaReferenceIdeal.τ).loc Cert.QkvMetaReferenceIdeal.main_arg3) = m ((c.tc : Thread Cert.QkvMetaIdeal.nD Cert.QkvMetaIdeal.τ).loc Cert.QkvMetaIdeal.main_arg3)) →
    ∃ (v0 : (c : Dev Cert.QkvMetaIdeal.nD) → Buf (Elt Ideal) ((c.tc : Thread Cert.QkvMetaIdeal.nD Cert.QkvMetaIdeal.τ).loc Cert.QkvMetaIdeal.main_v8)),
      θ_run (Cert.QkvMetaIdeal.defs (F := Ideal)) (onTc (τ := Cert.QkvMetaIdeal.τ) (Cert.QkvMetaIdeal.main (F := Ideal))) ⟨m, fun _ => 0, g⟩ (fun r => ∀ c : Dev Cert.QkvMetaIdeal.nD,
          r.2.mem ((c.tc : Thread Cert.QkvMetaIdeal.nD Cert.QkvMetaIdeal.τ).loc Cert.QkvMetaIdeal.main_v8) = v0 c
          ∧ r.2.mem ((c.tc : Thread Cert.QkvMetaIdeal.nD Cert.QkvMetaIdeal.τ).loc Cert.QkvMetaIdeal.main_arg0) = m ((c.tc : Thread Cert.QkvMetaIdeal.nD Cert.QkvMetaIdeal.τ).loc Cert.QkvMetaIdeal.main_arg0)
          ∧ r.2.mem ((c.tc : Thread Cert.QkvMetaIdeal.nD Cert.QkvMetaIdeal.τ).loc Cert.QkvMetaIdeal.main_arg1) = m ((c.tc : Thread Cert.QkvMetaIdeal.nD Cert.QkvMetaIdeal.τ).loc Cert.QkvMetaIdeal.main_arg1)
          ∧ r.2.mem ((c.tc : Thread Cert.QkvMetaIdeal.nD Cert.QkvMetaIdeal.τ).loc Cert.QkvMetaIdeal.main_arg2) = m ((c.tc : Thread Cert.QkvMetaIdeal.nD Cert.QkvMetaIdeal.τ).loc Cert.QkvMetaIdeal.main_arg2)
          ∧ r.2.mem ((c.tc : Thread Cert.QkvMetaIdeal.nD Cert.QkvMetaIdeal.τ).loc Cert.QkvMetaIdeal.main_arg3) = m ((c.tc : Thread Cert.QkvMetaIdeal.nD Cert.QkvMetaIdeal.τ).loc Cert.QkvMetaIdeal.main_arg3))
      ∧ θ_run (Cert.QkvMetaReferenceIdeal.defs (F := Ideal)) (onTc (τ := Cert.QkvMetaReferenceIdeal.τ) (Cert.QkvMetaReferenceIdeal.main (F := Ideal))) ⟨m', fun _ => 0, g'⟩ (fun r => ∀ c : Dev Cert.QkvMetaReferenceIdeal.nD,
          r.2.mem ((c.tc : Thread Cert.QkvMetaReferenceIdeal.nD Cert.QkvMetaReferenceIdeal.τ).loc Cert.QkvMetaReferenceIdeal.main_v12) = v0 c
          ∧ r.2.mem ((c.tc : Thread Cert.QkvMetaReferenceIdeal.nD Cert.QkvMetaReferenceIdeal.τ).loc Cert.QkvMetaReferenceIdeal.main_arg0) = m' ((c.tc : Thread Cert.QkvMetaReferenceIdeal.nD Cert.QkvMetaReferenceIdeal.τ).loc Cert.QkvMetaReferenceIdeal.main_arg0)
          ∧ r.2.mem ((c.tc : Thread Cert.QkvMetaReferenceIdeal.nD Cert.QkvMetaReferenceIdeal.τ).loc Cert.QkvMetaReferenceIdeal.main_arg1) = m' ((c.tc : Thread Cert.QkvMetaReferenceIdeal.nD Cert.QkvMetaReferenceIdeal.τ).loc Cert.QkvMetaReferenceIdeal.main_arg1)
          ∧ r.2.mem ((c.tc : Thread Cert.QkvMetaReferenceIdeal.nD Cert.QkvMetaReferenceIdeal.τ).loc Cert.QkvMetaReferenceIdeal.main_arg2) = m' ((c.tc : Thread Cert.QkvMetaReferenceIdeal.nD Cert.QkvMetaReferenceIdeal.τ).loc Cert.QkvMetaReferenceIdeal.main_arg2)
          ∧ r.2.mem ((c.tc : Thread Cert.QkvMetaReferenceIdeal.nD Cert.QkvMetaReferenceIdeal.τ).loc Cert.QkvMetaReferenceIdeal.main_arg3) = m' ((c.tc : Thread Cert.QkvMetaReferenceIdeal.nD Cert.QkvMetaReferenceIdeal.τ).loc Cert.QkvMetaReferenceIdeal.main_arg3))

def preserves_GluMeta_GluMetaIdeal : Prop :=
  True

def algebraic_GluMetaIdeal_GluMetaReferenceIdeal [hGluMetaIdeal : Cert.GluMetaIdeal.Facts] [hGluMetaReferenceIdeal : Cert.GluMetaReferenceIdeal.Facts] : Prop :=
  ∀ (m : (ℓ : Loc Cert.GluMetaIdeal.nD Cert.GluMetaIdeal.τ Cert.GluMetaIdeal.sig) → Buf (Elt Ideal) ℓ) (g : Dev Cert.GluMetaIdeal.nD → PrngReg)
    (m' : (ℓ : Loc Cert.GluMetaReferenceIdeal.nD Cert.GluMetaReferenceIdeal.τ Cert.GluMetaReferenceIdeal.sig) → Buf (Elt Ideal) ℓ) (g' : Dev Cert.GluMetaReferenceIdeal.nD → PrngReg), Pre_GluMetaIdeal m →
    (∀ c : Dev Cert.GluMetaIdeal.nD,
      m' ((c.tc : Thread Cert.GluMetaReferenceIdeal.nD Cert.GluMetaReferenceIdeal.τ).loc Cert.GluMetaReferenceIdeal.main_arg0) = m ((c.tc : Thread Cert.GluMetaIdeal.nD Cert.GluMetaIdeal.τ).loc Cert.GluMetaIdeal.main_arg0)
      ∧ m' ((c.tc : Thread Cert.GluMetaReferenceIdeal.nD Cert.GluMetaReferenceIdeal.τ).loc Cert.GluMetaReferenceIdeal.main_arg1) = m ((c.tc : Thread Cert.GluMetaIdeal.nD Cert.GluMetaIdeal.τ).loc Cert.GluMetaIdeal.main_arg1)
      ∧ m' ((c.tc : Thread Cert.GluMetaReferenceIdeal.nD Cert.GluMetaReferenceIdeal.τ).loc Cert.GluMetaReferenceIdeal.main_arg2) = m ((c.tc : Thread Cert.GluMetaIdeal.nD Cert.GluMetaIdeal.τ).loc Cert.GluMetaIdeal.main_arg2)) →
    ∃ (v0 : (c : Dev Cert.GluMetaIdeal.nD) → Buf (Elt Ideal) ((c.tc : Thread Cert.GluMetaIdeal.nD Cert.GluMetaIdeal.τ).loc Cert.GluMetaIdeal.main_v7)),
      θ_run (Cert.GluMetaIdeal.defs (F := Ideal)) (onTc (τ := Cert.GluMetaIdeal.τ) (Cert.GluMetaIdeal.main (F := Ideal))) ⟨m, fun _ => 0, g⟩ (fun r => ∀ c : Dev Cert.GluMetaIdeal.nD,
          r.2.mem ((c.tc : Thread Cert.GluMetaIdeal.nD Cert.GluMetaIdeal.τ).loc Cert.GluMetaIdeal.main_v7) = v0 c
          ∧ r.2.mem ((c.tc : Thread Cert.GluMetaIdeal.nD Cert.GluMetaIdeal.τ).loc Cert.GluMetaIdeal.main_arg0) = m ((c.tc : Thread Cert.GluMetaIdeal.nD Cert.GluMetaIdeal.τ).loc Cert.GluMetaIdeal.main_arg0)
          ∧ r.2.mem ((c.tc : Thread Cert.GluMetaIdeal.nD Cert.GluMetaIdeal.τ).loc Cert.GluMetaIdeal.main_arg1) = m ((c.tc : Thread Cert.GluMetaIdeal.nD Cert.GluMetaIdeal.τ).loc Cert.GluMetaIdeal.main_arg1)
          ∧ r.2.mem ((c.tc : Thread Cert.GluMetaIdeal.nD Cert.GluMetaIdeal.τ).loc Cert.GluMetaIdeal.main_arg2) = m ((c.tc : Thread Cert.GluMetaIdeal.nD Cert.GluMetaIdeal.τ).loc Cert.GluMetaIdeal.main_arg2))
      ∧ θ_run (Cert.GluMetaReferenceIdeal.defs (F := Ideal)) (onTc (τ := Cert.GluMetaReferenceIdeal.τ) (Cert.GluMetaReferenceIdeal.main (F := Ideal))) ⟨m', fun _ => 0, g'⟩ (fun r => ∀ c : Dev Cert.GluMetaReferenceIdeal.nD,
          r.2.mem ((c.tc : Thread Cert.GluMetaReferenceIdeal.nD Cert.GluMetaReferenceIdeal.τ).loc Cert.GluMetaReferenceIdeal.main_v14) = v0 c
          ∧ r.2.mem ((c.tc : Thread Cert.GluMetaReferenceIdeal.nD Cert.GluMetaReferenceIdeal.τ).loc Cert.GluMetaReferenceIdeal.main_arg0) = m' ((c.tc : Thread Cert.GluMetaReferenceIdeal.nD Cert.GluMetaReferenceIdeal.τ).loc Cert.GluMetaReferenceIdeal.main_arg0)
          ∧ r.2.mem ((c.tc : Thread Cert.GluMetaReferenceIdeal.nD Cert.GluMetaReferenceIdeal.τ).loc Cert.GluMetaReferenceIdeal.main_arg1) = m' ((c.tc : Thread Cert.GluMetaReferenceIdeal.nD Cert.GluMetaReferenceIdeal.τ).loc Cert.GluMetaReferenceIdeal.main_arg1)
          ∧ r.2.mem ((c.tc : Thread Cert.GluMetaReferenceIdeal.nD Cert.GluMetaReferenceIdeal.τ).loc Cert.GluMetaReferenceIdeal.main_arg2) = m' ((c.tc : Thread Cert.GluMetaReferenceIdeal.nD Cert.GluMetaReferenceIdeal.τ).loc Cert.GluMetaReferenceIdeal.main_arg2))

def preserves_ForgetMeta_ForgetMetaIdeal : Prop :=
  True

def algebraic_ForgetMetaIdeal_ForgetMetaReferenceIdeal [hForgetMetaIdeal : Cert.ForgetMetaIdeal.Facts] [hForgetMetaReferenceIdeal : Cert.ForgetMetaReferenceIdeal.Facts] : Prop :=
  ∀ (m : (ℓ : Loc Cert.ForgetMetaIdeal.nD Cert.ForgetMetaIdeal.τ Cert.ForgetMetaIdeal.sig) → Buf (Elt Ideal) ℓ) (g : Dev Cert.ForgetMetaIdeal.nD → PrngReg)
    (m' : (ℓ : Loc Cert.ForgetMetaReferenceIdeal.nD Cert.ForgetMetaReferenceIdeal.τ Cert.ForgetMetaReferenceIdeal.sig) → Buf (Elt Ideal) ℓ) (g' : Dev Cert.ForgetMetaReferenceIdeal.nD → PrngReg), Pre_ForgetMetaIdeal m →
    (∀ c : Dev Cert.ForgetMetaIdeal.nD,
      m' ((c.tc : Thread Cert.ForgetMetaReferenceIdeal.nD Cert.ForgetMetaReferenceIdeal.τ).loc Cert.ForgetMetaReferenceIdeal.main_arg0) = m ((c.tc : Thread Cert.ForgetMetaIdeal.nD Cert.ForgetMetaIdeal.τ).loc Cert.ForgetMetaIdeal.main_arg0)
      ∧ m' ((c.tc : Thread Cert.ForgetMetaReferenceIdeal.nD Cert.ForgetMetaReferenceIdeal.τ).loc Cert.ForgetMetaReferenceIdeal.main_arg1) = m ((c.tc : Thread Cert.ForgetMetaIdeal.nD Cert.ForgetMetaIdeal.τ).loc Cert.ForgetMetaIdeal.main_arg1)
      ∧ m' ((c.tc : Thread Cert.ForgetMetaReferenceIdeal.nD Cert.ForgetMetaReferenceIdeal.τ).loc Cert.ForgetMetaReferenceIdeal.main_arg2) = m ((c.tc : Thread Cert.ForgetMetaIdeal.nD Cert.ForgetMetaIdeal.τ).loc Cert.ForgetMetaIdeal.main_arg2)) →
    ∃ (v0 : (c : Dev Cert.ForgetMetaIdeal.nD) → Buf (Elt Ideal) ((c.tc : Thread Cert.ForgetMetaIdeal.nD Cert.ForgetMetaIdeal.τ).loc Cert.ForgetMetaIdeal.main_v8)),
      θ_run (Cert.ForgetMetaIdeal.defs (F := Ideal)) (onTc (τ := Cert.ForgetMetaIdeal.τ) (Cert.ForgetMetaIdeal.main (F := Ideal))) ⟨m, fun _ => 0, g⟩ (fun r => ∀ c : Dev Cert.ForgetMetaIdeal.nD,
          r.2.mem ((c.tc : Thread Cert.ForgetMetaIdeal.nD Cert.ForgetMetaIdeal.τ).loc Cert.ForgetMetaIdeal.main_v8) = v0 c
          ∧ r.2.mem ((c.tc : Thread Cert.ForgetMetaIdeal.nD Cert.ForgetMetaIdeal.τ).loc Cert.ForgetMetaIdeal.main_arg0) = m ((c.tc : Thread Cert.ForgetMetaIdeal.nD Cert.ForgetMetaIdeal.τ).loc Cert.ForgetMetaIdeal.main_arg0)
          ∧ r.2.mem ((c.tc : Thread Cert.ForgetMetaIdeal.nD Cert.ForgetMetaIdeal.τ).loc Cert.ForgetMetaIdeal.main_arg1) = m ((c.tc : Thread Cert.ForgetMetaIdeal.nD Cert.ForgetMetaIdeal.τ).loc Cert.ForgetMetaIdeal.main_arg1)
          ∧ r.2.mem ((c.tc : Thread Cert.ForgetMetaIdeal.nD Cert.ForgetMetaIdeal.τ).loc Cert.ForgetMetaIdeal.main_arg2) = m ((c.tc : Thread Cert.ForgetMetaIdeal.nD Cert.ForgetMetaIdeal.τ).loc Cert.ForgetMetaIdeal.main_arg2))
      ∧ θ_run (Cert.ForgetMetaReferenceIdeal.defs (F := Ideal)) (onTc (τ := Cert.ForgetMetaReferenceIdeal.τ) (Cert.ForgetMetaReferenceIdeal.main (F := Ideal))) ⟨m', fun _ => 0, g'⟩ (fun r => ∀ c : Dev Cert.ForgetMetaReferenceIdeal.nD,
          r.2.mem ((c.tc : Thread Cert.ForgetMetaReferenceIdeal.nD Cert.ForgetMetaReferenceIdeal.τ).loc Cert.ForgetMetaReferenceIdeal.main_v8) = v0 c
          ∧ r.2.mem ((c.tc : Thread Cert.ForgetMetaReferenceIdeal.nD Cert.ForgetMetaReferenceIdeal.τ).loc Cert.ForgetMetaReferenceIdeal.main_arg0) = m' ((c.tc : Thread Cert.ForgetMetaReferenceIdeal.nD Cert.ForgetMetaReferenceIdeal.τ).loc Cert.ForgetMetaReferenceIdeal.main_arg0)
          ∧ r.2.mem ((c.tc : Thread Cert.ForgetMetaReferenceIdeal.nD Cert.ForgetMetaReferenceIdeal.τ).loc Cert.ForgetMetaReferenceIdeal.main_arg1) = m' ((c.tc : Thread Cert.ForgetMetaReferenceIdeal.nD Cert.ForgetMetaReferenceIdeal.τ).loc Cert.ForgetMetaReferenceIdeal.main_arg1)
          ∧ r.2.mem ((c.tc : Thread Cert.ForgetMetaReferenceIdeal.nD Cert.ForgetMetaReferenceIdeal.τ).loc Cert.ForgetMetaReferenceIdeal.main_arg2) = m' ((c.tc : Thread Cert.ForgetMetaReferenceIdeal.nD Cert.ForgetMetaReferenceIdeal.τ).loc Cert.ForgetMetaReferenceIdeal.main_arg2))

def preserves_NormMeta_NormMetaIdeal : Prop :=
  True

def algebraic_NormMetaIdeal_NormMetaReferenceIdeal [hNormMetaIdeal : Cert.NormMetaIdeal.Facts] [hNormMetaReferenceIdeal : Cert.NormMetaReferenceIdeal.Facts] : Prop :=
  ∀ (m : (ℓ : Loc Cert.NormMetaIdeal.nD Cert.NormMetaIdeal.τ Cert.NormMetaIdeal.sig) → Buf (Elt Ideal) ℓ) (g : Dev Cert.NormMetaIdeal.nD → PrngReg)
    (m' : (ℓ : Loc Cert.NormMetaReferenceIdeal.nD Cert.NormMetaReferenceIdeal.τ Cert.NormMetaReferenceIdeal.sig) → Buf (Elt Ideal) ℓ) (g' : Dev Cert.NormMetaReferenceIdeal.nD → PrngReg), Pre_NormMetaIdeal m →
    (∀ c : Dev Cert.NormMetaIdeal.nD,
      m' ((c.tc : Thread Cert.NormMetaReferenceIdeal.nD Cert.NormMetaReferenceIdeal.τ).loc Cert.NormMetaReferenceIdeal.main_arg0) = m ((c.tc : Thread Cert.NormMetaIdeal.nD Cert.NormMetaIdeal.τ).loc Cert.NormMetaIdeal.main_arg0)
      ∧ m' ((c.tc : Thread Cert.NormMetaReferenceIdeal.nD Cert.NormMetaReferenceIdeal.τ).loc Cert.NormMetaReferenceIdeal.main_arg1) = m ((c.tc : Thread Cert.NormMetaIdeal.nD Cert.NormMetaIdeal.τ).loc Cert.NormMetaIdeal.main_arg1)
      ∧ m' ((c.tc : Thread Cert.NormMetaReferenceIdeal.nD Cert.NormMetaReferenceIdeal.τ).loc Cert.NormMetaReferenceIdeal.main_arg2) = m ((c.tc : Thread Cert.NormMetaIdeal.nD Cert.NormMetaIdeal.τ).loc Cert.NormMetaIdeal.main_arg2)) →
    ∃ (v0 : (c : Dev Cert.NormMetaIdeal.nD) → Buf (Elt Ideal) ((c.tc : Thread Cert.NormMetaIdeal.nD Cert.NormMetaIdeal.τ).loc Cert.NormMetaIdeal.main_v2)),
      θ_run (Cert.NormMetaIdeal.defs (F := Ideal)) (onTc (τ := Cert.NormMetaIdeal.τ) (Cert.NormMetaIdeal.main (F := Ideal))) ⟨m, fun _ => 0, g⟩ (fun r => ∀ c : Dev Cert.NormMetaIdeal.nD,
          r.2.mem ((c.tc : Thread Cert.NormMetaIdeal.nD Cert.NormMetaIdeal.τ).loc Cert.NormMetaIdeal.main_v2) = v0 c
          ∧ r.2.mem ((c.tc : Thread Cert.NormMetaIdeal.nD Cert.NormMetaIdeal.τ).loc Cert.NormMetaIdeal.main_arg0) = m ((c.tc : Thread Cert.NormMetaIdeal.nD Cert.NormMetaIdeal.τ).loc Cert.NormMetaIdeal.main_arg0)
          ∧ r.2.mem ((c.tc : Thread Cert.NormMetaIdeal.nD Cert.NormMetaIdeal.τ).loc Cert.NormMetaIdeal.main_arg1) = m ((c.tc : Thread Cert.NormMetaIdeal.nD Cert.NormMetaIdeal.τ).loc Cert.NormMetaIdeal.main_arg1)
          ∧ r.2.mem ((c.tc : Thread Cert.NormMetaIdeal.nD Cert.NormMetaIdeal.τ).loc Cert.NormMetaIdeal.main_arg2) = m ((c.tc : Thread Cert.NormMetaIdeal.nD Cert.NormMetaIdeal.τ).loc Cert.NormMetaIdeal.main_arg2))
      ∧ θ_run (Cert.NormMetaReferenceIdeal.defs (F := Ideal)) (onTc (τ := Cert.NormMetaReferenceIdeal.τ) (Cert.NormMetaReferenceIdeal.main (F := Ideal))) ⟨m', fun _ => 0, g'⟩ (fun r => ∀ c : Dev Cert.NormMetaReferenceIdeal.nD,
          r.2.mem ((c.tc : Thread Cert.NormMetaReferenceIdeal.nD Cert.NormMetaReferenceIdeal.τ).loc Cert.NormMetaReferenceIdeal.main_v24) = v0 c
          ∧ r.2.mem ((c.tc : Thread Cert.NormMetaReferenceIdeal.nD Cert.NormMetaReferenceIdeal.τ).loc Cert.NormMetaReferenceIdeal.main_arg0) = m' ((c.tc : Thread Cert.NormMetaReferenceIdeal.nD Cert.NormMetaReferenceIdeal.τ).loc Cert.NormMetaReferenceIdeal.main_arg0)
          ∧ r.2.mem ((c.tc : Thread Cert.NormMetaReferenceIdeal.nD Cert.NormMetaReferenceIdeal.τ).loc Cert.NormMetaReferenceIdeal.main_arg1) = m' ((c.tc : Thread Cert.NormMetaReferenceIdeal.nD Cert.NormMetaReferenceIdeal.τ).loc Cert.NormMetaReferenceIdeal.main_arg1)
          ∧ r.2.mem ((c.tc : Thread Cert.NormMetaReferenceIdeal.nD Cert.NormMetaReferenceIdeal.τ).loc Cert.NormMetaReferenceIdeal.main_arg2) = m' ((c.tc : Thread Cert.NormMetaReferenceIdeal.nD Cert.NormMetaReferenceIdeal.τ).loc Cert.NormMetaReferenceIdeal.main_arg2))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hGlu : Cert.Glu.Facts) (hGluIdeal : Cert.GluIdeal.Facts) (hGluReferenceIdeal : Cert.GluReferenceIdeal.Facts) (hGates : Cert.Gates.Facts) (hGatesIdeal : Cert.GatesIdeal.Facts) (hGatesReferenceIdeal : Cert.GatesReferenceIdeal.Facts) (hOut : Cert.Out.Facts) (hOutIdeal : Cert.OutIdeal.Facts) (hOutReferenceIdeal : Cert.OutReferenceIdeal.Facts) (hMix : Cert.Mix.Facts) (hMixIdeal : Cert.MixIdeal.Facts) (hMixReferenceIdeal : Cert.MixReferenceIdeal.Facts) (hConv : Cert.Conv.Facts) (hConvIdeal : Cert.ConvIdeal.Facts) (hConvReferenceIdeal : Cert.ConvReferenceIdeal.Facts) (hNorm : Cert.Norm.Facts) (hNormIdeal : Cert.NormIdeal.Facts) (hNormReferenceIdeal : Cert.NormReferenceIdeal.Facts) (hForget : Cert.Forget.Facts) (hForgetIdeal : Cert.ForgetIdeal.Facts) (hForgetReferenceIdeal : Cert.ForgetReferenceIdeal.Facts) (hCumsum : Cert.Cumsum.Facts) (hCumsumIdeal : Cert.CumsumIdeal.Facts) (hCumsumReferenceIdeal : Cert.CumsumReferenceIdeal.Facts) (hQkvMeta : Cert.QkvMeta.Facts) (hQkvMetaIdeal : Cert.QkvMetaIdeal.Facts) (hQkvMetaReferenceIdeal : Cert.QkvMetaReferenceIdeal.Facts) (hGluMeta : Cert.GluMeta.Facts) (hGluMetaIdeal : Cert.GluMetaIdeal.Facts) (hGluMetaReferenceIdeal : Cert.GluMetaReferenceIdeal.Facts) (hForgetMeta : Cert.ForgetMeta.Facts) (hForgetMetaIdeal : Cert.ForgetMetaIdeal.Facts) (hForgetMetaReferenceIdeal : Cert.ForgetMetaReferenceIdeal.Facts) (hNormMeta : Cert.NormMeta.Facts) (hNormMetaIdeal : Cert.NormMetaIdeal.Facts) (hNormMetaReferenceIdeal : Cert.NormMetaReferenceIdeal.Facts) (hPre_finite_scores : Cert.Pre_finite_scores.Facts) (hPre_gates_below_infinity : Cert.Pre_gates_below_infinity.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Out (hOut := hOut)
    ∧ quiescent_OutIdeal (hOutIdeal := hOutIdeal)
    ∧ quiescent_OutReferenceIdeal (hOutReferenceIdeal := hOutReferenceIdeal)
    ∧ quiescent_Mix (hMix := hMix)
    ∧ quiescent_MixIdeal (hMixIdeal := hMixIdeal)
    ∧ quiescent_MixReferenceIdeal (hMixReferenceIdeal := hMixReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Forget (hForget := hForget)
    ∧ quiescent_ForgetIdeal (hForgetIdeal := hForgetIdeal)
    ∧ quiescent_ForgetReferenceIdeal (hForgetReferenceIdeal := hForgetReferenceIdeal)
    ∧ quiescent_Cumsum (hCumsum := hCumsum)
    ∧ quiescent_CumsumIdeal (hCumsumIdeal := hCumsumIdeal)
    ∧ quiescent_CumsumIdeal_pre_gates_below_infinity (hCumsumIdeal := hCumsumIdeal) (hPre_gates_below_infinity := hPre_gates_below_infinity)
    ∧ quiescent_CumsumReferenceIdeal (hCumsumReferenceIdeal := hCumsumReferenceIdeal)
    ∧ quiescent_CumsumReferenceIdeal_pre_gates_below_infinity (hCumsumReferenceIdeal := hCumsumReferenceIdeal) (hPre_gates_below_infinity := hPre_gates_below_infinity)
    ∧ quiescent_QkvMeta (hQkvMeta := hQkvMeta)
    ∧ quiescent_QkvMetaIdeal (hQkvMetaIdeal := hQkvMetaIdeal)
    ∧ quiescent_QkvMetaReferenceIdeal (hQkvMetaReferenceIdeal := hQkvMetaReferenceIdeal)
    ∧ quiescent_GluMeta (hGluMeta := hGluMeta)
    ∧ quiescent_GluMetaIdeal (hGluMetaIdeal := hGluMetaIdeal)
    ∧ quiescent_GluMetaReferenceIdeal (hGluMetaReferenceIdeal := hGluMetaReferenceIdeal)
    ∧ quiescent_ForgetMeta (hForgetMeta := hForgetMeta)
    ∧ quiescent_ForgetMetaIdeal (hForgetMetaIdeal := hForgetMetaIdeal)
    ∧ quiescent_ForgetMetaReferenceIdeal (hForgetMetaReferenceIdeal := hForgetMetaReferenceIdeal)
    ∧ quiescent_NormMeta (hNormMeta := hNormMeta)
    ∧ quiescent_NormMetaIdeal (hNormMetaIdeal := hNormMetaIdeal)
    ∧ quiescent_NormMetaReferenceIdeal (hNormMetaReferenceIdeal := hNormMetaReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Qkv_QkvIdeal
    ∧ algebraic_QkvIdeal_QkvReferenceIdeal (hQkvIdeal := hQkvIdeal) (hQkvReferenceIdeal := hQkvReferenceIdeal)
    ∧ preserves_Glu_GluIdeal
    ∧ algebraic_GluIdeal_GluReferenceIdeal (hGluIdeal := hGluIdeal) (hGluReferenceIdeal := hGluReferenceIdeal)
    ∧ preserves_Gates_GatesIdeal
    ∧ algebraic_GatesIdeal_GatesReferenceIdeal (hGatesIdeal := hGatesIdeal) (hGatesReferenceIdeal := hGatesReferenceIdeal)
    ∧ preserves_Out_OutIdeal
    ∧ algebraic_OutIdeal_OutReferenceIdeal (hOutIdeal := hOutIdeal) (hOutReferenceIdeal := hOutReferenceIdeal)
    ∧ preserves_Mix_MixIdeal
    ∧ algebraic_MixIdeal_MixReferenceIdeal (hMixIdeal := hMixIdeal) (hMixReferenceIdeal := hMixReferenceIdeal)
    ∧ preserves_Conv_ConvIdeal
    ∧ algebraic_ConvIdeal_ConvReferenceIdeal (hConvIdeal := hConvIdeal) (hConvReferenceIdeal := hConvReferenceIdeal)
    ∧ preserves_Norm_NormIdeal
    ∧ algebraic_NormIdeal_NormReferenceIdeal (hNormIdeal := hNormIdeal) (hNormReferenceIdeal := hNormReferenceIdeal)
    ∧ preserves_Forget_ForgetIdeal
    ∧ algebraic_ForgetIdeal_ForgetReferenceIdeal (hForgetIdeal := hForgetIdeal) (hForgetReferenceIdeal := hForgetReferenceIdeal)
    ∧ preserves_Cumsum_CumsumIdeal
    ∧ algebraic_CumsumIdeal_CumsumReferenceIdeal_pre_gates_below_infinity (hCumsumIdeal := hCumsumIdeal) (hCumsumReferenceIdeal := hCumsumReferenceIdeal) (hPre_gates_below_infinity := hPre_gates_below_infinity)
    ∧ preserves_QkvMeta_QkvMetaIdeal
    ∧ algebraic_QkvMetaIdeal_QkvMetaReferenceIdeal (hQkvMetaIdeal := hQkvMetaIdeal) (hQkvMetaReferenceIdeal := hQkvMetaReferenceIdeal)
    ∧ preserves_GluMeta_GluMetaIdeal
    ∧ algebraic_GluMetaIdeal_GluMetaReferenceIdeal (hGluMetaIdeal := hGluMetaIdeal) (hGluMetaReferenceIdeal := hGluMetaReferenceIdeal)
    ∧ preserves_ForgetMeta_ForgetMetaIdeal
    ∧ algebraic_ForgetMetaIdeal_ForgetMetaReferenceIdeal (hForgetMetaIdeal := hForgetMetaIdeal) (hForgetMetaReferenceIdeal := hForgetMetaReferenceIdeal)
    ∧ preserves_NormMeta_NormMetaIdeal
    ∧ algebraic_NormMetaIdeal_NormMetaReferenceIdeal (hNormMetaIdeal := hNormMetaIdeal) (hNormMetaReferenceIdeal := hNormMetaReferenceIdeal)
-- ==== Pre_finite_scores.lean ====
abbrev S4x8192x16x128 : Shape := ⟨4, ![4, 8192, 16, 128]⟩
abbrev S16x16x128 : Shape := ⟨3, ![16, 16, 128]⟩
abbrev S4x8192x16 : Shape := ⟨3, ![4, 8192, 16]⟩
abbrev S16x16 : Shape := ⟨2, ![16, 16]⟩
abbrev S_ : Shape := ⟨0, ![]⟩

class Facts : Prop where
  bcast_S_S4x8192x16x128 : S_.BroadcastsInDim S4x8192x16x128 (![] : Fin 0 → Fin S4x8192x16x128.rank)
  reducesTo_S4x8192x16x128_S_d0_1_2_3 : S4x8192x16x128.ReducesTo [0, 1, 2, 3] S_
  h_S_ : 0 < S_.numel
  bcast_S_S16x16x128 : S_.BroadcastsInDim S16x16x128 (![] : Fin 0 → Fin S16x16x128.rank)
  reducesTo_S16x16x128_S_d0_1_2 : S16x16x128.ReducesTo [0, 1, 2] S_
  bcast_S_S4x8192x16 : S_.BroadcastsInDim S4x8192x16 (![] : Fin 0 → Fin S4x8192x16.rank)
  reducesTo_S4x8192x16_S_d0_1_2 : S4x8192x16.ReducesTo [0, 1, 2] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg6 : FVec F S16x16 .f32) (main_v13 : IVec S_ 1) (main_v16 : IVec S4x8192x16 1) : IVec S_ 1 :=
  let main_c_5 : IVec S_ 1 := constantI S_ 1 1#1
  let main_v17 : IVec S_ 1 := (fun x v => Host.reduce IntOp.andi x v reducesTo_S4x8192x16_S_d0_1_2 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  main_v23

def fn {F : FTy → Type} [FloatOps F] (main_arg0 : FVec F S4x8192x16x128 .f32) (main_arg1 : FVec F S4x8192x16x128 .f32) (main_arg2 : FVec F S4x8192x16x128 .f32) (main_arg3 : FVec F S16x16x128 .f32) (main_arg4 : FVec F S16x16x128 .f32) (main_arg5 : FVec F S4x8192x16 .f32) (main_arg6 : FVec F S16x16 .f32) : IVec S_ 1 :=
  let main_v0 : FVec F S4x8192x16x128 .f32 := Host.absf main_arg0
  let main_cst : FVec F S_ .f32 := constant S_ .f32 0x7F800000#32
  let main_v1 : FVec F S4x8192x16x128 .f32 := broadcastInDim S4x8192x16x128 ![] bcast_S_S4x8192x16x128 main_cst
  let main_v2 : IVec S4x8192x16x128 1 := cmpf .olt main_v0 main_v1
  let main_c : IVec S_ 1 := constantI S_ 1 1#1
  let main_v3 : IVec S_ 1 := (fun x v => Host.reduce IntOp.andi x v reducesTo_S4x8192x16x128_S_d0_1_2_3 h_S_) main_v2 main_c
  let main_v4 : FVec F S4x8192x16x128 .f32 := Host.absf main_arg1
  let main_cst_0 : FVec F S_ .f32 := constant S_ .f32 0x7F800000#32
  let main_v5 : FVec F S4x8192x16x128 .f32 := broadcastInDim S4x8192x16x128 ![] bcast_S_S4x8192x16x128 main_cst_0
  let main_v6 : IVec S4x8192x16x128 1 := cmpf .olt main_v4 main_v5
  let main_c_1 : IVec S_ 1 := constantI S_ 1 1#1
  let main_v7 : IVec S_ 1 := (fun x v => Host.reduce IntOp.andi x v reducesTo_S4x8192x16x128_S_d0_1_2_3 h_S_) main_v6 main_c_1
  let main_v8 : IVec S_ 1 := andi main_v3 main_v7
  let main_v9 : FVec F S16x16x128 .f32 := Host.absf main_arg3
  let main_cst_2 : FVec F S_ .f32 := constant S_ .f32 0x7F800000#32
  let main_v10 : FVec F S16x16x128 .f32 := broadcastInDim S16x16x128 ![] bcast_S_S16x16x128 main_cst_2
  let main_v11 : IVec S16x16x128 1 := cmpf .olt main_v9 main_v10
  let main_c_3 : IVec S_ 1 := constantI S_ 1 1#1
  let main_v12 : IVec S_ 1 := (fun x v => Host.reduce IntOp.andi x v reducesTo_S16x16x128_S_d0_1_2 h_S_) main_v11 main_c_3
  let main_v13 : IVec S_ 1 := andi main_v8 main_v12
  let main_v14 : FVec F S4x8192x16 .f32 := Host.absf main_arg5
  let main_cst_4 : FVec F S_ .f32 := constant S_ .f32 0x7F800000#32
  let main_v15 : FVec F S4x8192x16 .f32 := broadcastInDim S4x8192x16 ![] bcast_S_S4x8192x16 main_cst_4
  let main_v16 : IVec S4x8192x16 1 := cmpf .olt main_v14 main_v15
  fn_part1 (F := F) main_arg6 main_v13 main_v16
-- ==== Pre_gates_below_infinity.lean ====
abbrev S4x8192x16 : Shape := ⟨3, ![4, 8192, 16]⟩
abbrev S16x16 : Shape := ⟨2, ![16, 16]⟩
abbrev S_ : Shape := ⟨0, ![]⟩

class Facts : Prop where
  bcast_S_S4x8192x16 : S_.BroadcastsInDim S4x8192x16 (![] : Fin 0 → Fin S4x8192x16.rank)
  reducesTo_S4x8192x16_S_d0_1_2 : S4x8192x16.ReducesTo [0, 1, 2] S_
  h_S_ : 0 < S_.numel
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S4x8192x16 .f32) (main_arg1 : FVec F S16x16 .f32) : IVec S_ 1 :=
  let main_cst : FVec F S_ .f32 := constant S_ .f32 0x7F800000#32
  let main_v0 : FVec F S4x8192x16 .f32 := broadcastInDim S4x8192x16 ![] bcast_S_S4x8192x16 main_cst
  let main_v1 : IVec S4x8192x16 1 := cmpf .olt main_arg0 main_v0
  let main_c : IVec S_ 1 := constantI S_ 1 1#1
  let main_v2 : IVec S_ 1 := (fun x v => Host.reduce IntOp.andi x v reducesTo_S4x8192x16_S_d0_1_2 h_S_) main_v1 main_c
  let main_cst_0 : FVec F S_ .f32 := constant S_ .f32 0x7F800000#32
  let main_v3 : FVec F S16x16 .f32 := broadcastInDim S16x16 ![] bcast_S_S16x16 main_cst_0
  let main_v4 : IVec S16x16 1 := cmpf .olt main_arg1 main_v3
  let main_c_1 : IVec S_ 1 := constantI S_ 1 1#1
  let main_v5 : IVec S_ 1 := (fun x v => Host.reduce IntOp.andi x v reducesTo_S16x16_S_d0_1 h_S_) main_v4 main_c_1
  let main_v6 : IVec S_ 1 := andi main_v2 main_v5
  main_v6
-- ==== Kernel.lean ====
abbrev S4x8192x16x128 : Shape := ⟨4, ![4, 8192, 16, 128]⟩
abbrev S16x16x128 : Shape := ⟨3, ![16, 16, 128]⟩
abbrev S4x8192x16 : Shape := ⟨3, ![4, 8192, 16]⟩
abbrev S16x16 : Shape := ⟨2, ![16, 16]⟩
abbrev S_ : Shape := ⟨0, ![]⟩
abbrev S32768x16x128 : Shape := ⟨3, ![32768, 16, 128]⟩
abbrev S16x32768x128 : Shape := ⟨3, ![16, 32768, 128]⟩
abbrev S48x32768x128 : Shape := ⟨3, ![48, 32768, 128]⟩
abbrev S32x16x128 : Shape := ⟨3, ![32, 16, 128]⟩
abbrev S48x16x128 : Shape := ⟨3, ![48, 16, 128]⟩
abbrev S32768x16 : Shape := ⟨2, ![32768, 16]⟩
abbrev S16x32768 : Shape := ⟨2, ![16, 32768]⟩
abbrev S16x128 : Shape := ⟨2, ![16, 128]⟩
abbrev S128 : Shape := ⟨1, ![128]⟩
abbrev S1x128 : Shape := ⟨2, ![1, 128]⟩
abbrev S48x128x128 : Shape := ⟨3, ![48, 128, 128]⟩
abbrev S16x1x32768 : Shape := ⟨3, ![16, 1, 32768]⟩
abbrev S16x1x128 : Shape := ⟨3, ![16, 1, 128]⟩
abbrev S32768x2048 : Shape := ⟨2, ![32768, 2048]⟩
abbrev S1x512x128 : Shape := ⟨3, ![1, 512, 128]⟩
abbrev S1x8192x128 : Shape := ⟨3, ![1, 8192, 128]⟩
abbrev S1x128x128 : Shape := ⟨3, ![1, 128, 128]⟩
abbrev S1x1x8192 : Shape := ⟨3, ![1, 1, 8192]⟩
abbrev S1x1x128 : Shape := ⟨3, ![1, 1, 128]⟩
abbrev S512x128 : Shape := ⟨2, ![512, 128]⟩
abbrev S1x1 : Shape := ⟨2, ![1, 1]⟩
abbrev S128x128 : Shape := ⟨2, ![128, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩

abbrev nBuf : Space → Nat
  | .hbm => 53
  | .vmem => 16
  | .smem => 0
  | _ => 0

abbrev bufTy : (tb : Table) → Fin (tcTables nBuf tb) → BufTy
  | .hbm, ⟨0, _⟩ => ⟨S4x8192x16x128, .f32⟩
  | .hbm, ⟨1, _⟩ => ⟨S4x8192x16x128, .f32⟩
  | .hbm, ⟨2, _⟩ => ⟨S4x8192x16x128, .f32⟩
  | .hbm, ⟨3, _⟩ => ⟨S16x16x128, .f32⟩
  | .hbm, ⟨4, _⟩ => ⟨S16x16x128, .f32⟩
  | .hbm, ⟨5, _⟩ => ⟨S4x8192x16, .f32⟩
  | .hbm, ⟨6, _⟩ => ⟨S16x16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32768x16x128, .f32⟩
  | .hbm, ⟨15, _⟩ => ⟨S16x32768x128, .f32⟩
  | .hbm, ⟨16, _⟩ => ⟨S16x32768x128, .f32⟩
  | .hbm, ⟨17, _⟩ => ⟨S16x32768x128, .f32⟩
  | .hbm, ⟨18, _⟩ => ⟨S32768x16x128, .f32⟩
  | .hbm, ⟨19, _⟩ => ⟨S16x32768x128, .f32⟩
  | .hbm, ⟨20, _⟩ => ⟨S32768x16x128, .f32⟩
  | .hbm, ⟨21, _⟩ => ⟨S16x32768x128, .f32⟩
  | .hbm, ⟨22, _⟩ => ⟨S48x32768x128, .f32⟩
  | .hbm, ⟨23, _⟩ => ⟨S48x32768x128, .bf16⟩
  | .hbm, ⟨24, _⟩ => ⟨S16x16x128, .f32⟩
  | .hbm, ⟨25, _⟩ => ⟨S16x16x128, .f32⟩
  | .hbm, ⟨26, _⟩ => ⟨S32x16x128, .f32⟩
  | .hbm, ⟨27, _⟩ => ⟨S_, .f32⟩
  | .hbm, ⟨28, _⟩ => ⟨S16x16x128, .f32⟩
  | .hbm, ⟨29, _⟩ => ⟨S48x16x128, .f32⟩
  | .hbm, ⟨30, _⟩ => ⟨S48x16x128, .bf16⟩
  | .hbm, ⟨31, _⟩ => ⟨S32768x16, .f32⟩
  | .hbm, ⟨32, _⟩ => ⟨S16x32768, .f32⟩
  | .hbm, ⟨33, _⟩ => ⟨S16x16, .f32⟩
  | .hbm, ⟨34, _⟩ => ⟨S_, .i32⟩
  | .hbm, ⟨35, _⟩ => ⟨S_, .f32⟩
  | .hbm, ⟨36, _⟩ => ⟨S16x128, .f32⟩
  | .hbm, ⟨37, _⟩ => ⟨S128, .i32⟩
  | .hbm, ⟨38, _⟩ => ⟨S1x128, .i32⟩
  | .hbm, ⟨39, _⟩ => ⟨S_, .i32⟩
  | .hbm, ⟨40, _⟩ => ⟨S1x128, .i32⟩
  | .hbm, ⟨41, _⟩ => ⟨S1x128, .i1⟩
  | .hbm, ⟨42, _⟩ => ⟨S_, .f32⟩
  | .hbm, ⟨43, _⟩ => ⟨S_, .f32⟩
  | .hbm, ⟨44, _⟩ => ⟨S16x128, .i1⟩
  | .hbm, ⟨45, _⟩ => ⟨S16x128, .f32⟩
  | .hbm, ⟨46, _⟩ => ⟨S16x128, .f32⟩
  | .hbm, ⟨47, _⟩ => ⟨S_, .i32⟩
  | .hbm, ⟨48, _⟩ => ⟨S_, .bf16⟩
  | .hbm, ⟨49, _⟩ => ⟨S48x128x128, .bf16⟩
  | .hbm, ⟨50, _⟩ => ⟨S16x1x32768, .f32⟩
  | .hbm, ⟨51, _⟩ => ⟨S16x1x128, .f32⟩
  | .hbm, ⟨52, _⟩ => ⟨S32768x2048, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x1x8192, .f32⟩
  | .local _ .vmem, ⟨11, _⟩ => ⟨S1x1x8192, .f32⟩
  | .local _ .vmem, ⟨12, _⟩ => ⟨S1x1x128, .f32⟩
  | .local _ .vmem, ⟨13, _⟩ => ⟨S1x1x128, .f32⟩
  | .local _ .vmem, ⟨14, _⟩ => ⟨S512x128, .bf16⟩
  | .local _ .vmem, ⟨15, _⟩ => ⟨S512x128, .bf16⟩
  | _, _ => ⟨S4x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v28 : Ref sig .tc := ⟨.hbm, 46, rfl⟩
abbrev main_c_5 : Ref sig .tc := ⟨.hbm, 47, rfl⟩
abbrev main_call2_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 16, 16], ![false, false, false]⟩

def k0_mult1 (i : grid0.Coords) : BitVec 32 :=
  let arg2 : BitVec 32 := BitVec.ofNat 32 (i 2).val
  let c512_i32 : BitVec 32 := 512#32
  let v2 : BitVec 32 := Scalar.muli arg2 c512_i32
  v2
def k0_off1 (i : grid0.Coords) : Fin 3 → Nat :=
  let c0_2 : Index := 0#32
  let c0_3 : Index := 0#32
  let arg2 : BitVec 32 := BitVec.ofNat 32 (i 2).val
  let c512_i32 : BitVec 32 := 512#32
  let v2 : BitVec 32 := Scalar.muli arg2 c512_i32
  let v3 : BitVec 32 := v2
  let v4 : Index := Scalar.indexCast v3
  ![0, 0, v4.toNat]
@[reducible] def k0_t1_loop (i : grid0.Coords) : Scf.Loop 32 :=
  let c0_i32_21 : BitVec 32 := 0#32
  let arg2 : BitVec 32 := BitVec.ofNat 32 (i 2).val
  let c0_i32 : BitVec 32 := 0#32
  let v31 : BitVec 1 := Scalar.cmpi .sgt arg2 c0_i32
  let v32 : BitVec 32 := Scalar.extui v31
  let c0_i32_17 : BitVec 32 := 0#32
  let v33 : BitVec 1 := Scalar.cmpi .slt arg2 c0_i32_17
  let v34 : BitVec 32 := Scalar.extui v33
  let v35 : BitVec 32 := Scalar.subi v32 v34
  let c4_i32 : BitVec 32 := 4#32
  let c0_i32_18 : BitVec 32 := 0#32
  let v36 : BitVec 1 := Scalar.cmpi .sgt c4_i32 c0_i32_18
  let v37 : BitVec 32 := Scalar.extui v36
  let c0_i32_19 : BitVec 32 := 0#32
  let v38 : BitVec 1 := Scalar.cmpi .slt c4_i32 c0_i32_19
  let v39 : BitVec 32 := Scalar.extui v38
  let v40 : BitVec 32 := Scalar.subi v37 v39
  let v41 : BitVec 1 := Scalar.cmpi .ne v35 v40
  let v42 : BitVec 32 := Scalar.remsi arg2 c4_i32
  let c0_i32_20 : BitVec 32 := 0#32
  let v43 : BitVec 1 := Scalar.cmpi .ne v42 c0_i32_20
  let v44 : BitVec 1 := Scalar.andi v41 v43
  let v30 : BitVec 32 := Scalar.divsi arg2 c4_i32
  let c1_i32 : BitVec 32 := 1#32
  let v45 : BitVec 32 := Scalar.subi v30 c1_i32
  let v46 : BitVec 32 := Scalar.select v44 v45 v30
  let v47 : BitVec 32 := Scalar.subi v46 c0_i32_21
  let c1_i32_22 : BitVec 32 := 1#32
  let v49 : BitVec 32 := Scalar.divsi v47 c1_i32_22
  let v50 : BitVec 32 := Scalar.muli v49 c1_i32_22
  let v51 : BitVec 32 := Scalar.addi c0_i32_21 v50
  let c1_i32_23 : BitVec 32 := 1#32
  ⟨c0_i32_21, v51, c1_i32_23⟩
def k0_mult2 (i : grid0.Coords) (k0_t1 : Fin (k0_t1_loop i).trips) : BitVec 32 :=
  let c4_i32_35 : BitVec 32 := 4#32
  let c0_i32_21 : BitVec 32 := 0#32
  let c1_i32_23 : BitVec 32 := 1#32
  let arg11 : BitVec 32 := Scf.iv c0_i32_21 c1_i32_23 k0_t1
  let v72 : BitVec 32 := Scalar.muli c4_i32_35 arg11
  let c512_i32_36 : BitVec 32 := 512#32
  let v73 : BitVec 32 := Scalar.muli v72 c512_i32_36
  v73
def k0_off2 (i : grid0.Coords) (k0_t1 : Fin (k0_t1_loop i).trips) (c0_i32_37 : BitVec 32) : Fin 3 → Nat :=
  let c0_39 : Index := 0#32
  let c0_40 : Index := 0#32
  let c4_i32_35 : BitVec 32 := 4#32
  let c0_i32_21 : BitVec 32 := 0#32
  let c1_i32_23 : BitVec 32 := 1#32
  let arg11 : BitVec 32 := Scf.iv c0_i32_21 c1_i32_23 k0_t1
  let v72 : BitVec 32 := Scalar.muli c4_i32_35 arg11
  let c512_i32_36 : BitVec 32 := 512#32
  let v73 : BitVec 32 := Scalar.muli v72 c512_i32_36
  let v74 : BitVec 32 := v73
  let v75 : BitVec 32 := Scalar.addi v74 c0_i32_37
  let v79 : Index := Scalar.indexCast v75
  ![0, 0, v79.toNat]
def k0_off3 (i : grid0.Coords) (k0_t1 : Fin (k0_t1_loop i).trips) (c0_i32_37 : BitVec 32) : Fin 3 → Nat :=
  let c0_42 : Index := 0#32
  let c4_i32_35 : BitVec 32 := 4#32
  let c0_i32_21 : BitVec 32 := 0#32
  let c1_i32_23 : BitVec 32 := 1#32
  let arg11 : BitVec 32 := Scf.iv c0_i32_21 c1_i32_23 k0_t1
  let v72 : BitVec 32 := Scalar.muli c4_i32_35 arg11
  let c512_i32_36 : BitVec 32 := 512#32
  let v73 : BitVec 32 := Scalar.muli v72 c512_i32_36
  let v74 : BitVec 32 := v73
  let v75 : BitVec 32 := Scalar.addi v74 c0_i32_37
  let v86 : Index := Scalar.indexCast v75
  let c0_43 : Index := 0#32
  ![0, v86.toNat, 0]
@[reducible] def k0_t2_loop (i : grid0.Coords) : Scf.Loop 32 :=
  let c0_i32_21 : BitVec 32 := 0#32
  let arg2 : BitVec 32 := BitVec.ofNat 32 (i 2).val
  let c0_i32 : BitVec 32 := 0#32
  let v31 : BitVec 1 := Scalar.cmpi .sgt arg2 c0_i32
  let v32 : BitVec 32 := Scalar.extui v31
  let c0_i32_17 : BitVec 32 := 0#32
  let v33 : BitVec 1 := Scalar.cmpi .slt arg2 c0_i32_17
  let v34 : BitVec 32 := Scalar.extui v33
  let v35 : BitVec 32 := Scalar.subi v32 v34
  let c4_i32 : BitVec 32 := 4#32
  let c0_i32_18 : BitVec 32 := 0#32
  let v36 : BitVec 1 := Scalar.cmpi .sgt c4_i32 c0_i32_18
  let v37 : BitVec 32 := Scalar.extui v36
  let c0_i32_19 : BitVec 32 := 0#32
  let v38 : BitVec 1 := Scalar.cmpi .slt c4_i32 c0_i32_19
  let v39 : BitVec 32 := Scalar.extui v38
  let v40 : BitVec 32 := Scalar.subi v37 v39
  let v41 : BitVec 1 := Scalar.cmpi .ne v35 v40
  let v42 : BitVec 32 := Scalar.remsi arg2 c4_i32
  let c0_i32_20 : BitVec 32 := 0#32
  let v43 : BitVec 1 := Scalar.cmpi .ne v42 c0_i32_20
  let v44 : BitVec 1 := Scalar.andi v41 v43
  let v30 : BitVec 32 := Scalar.divsi arg2 c4_i32
  let c1_i32 : BitVec 32 := 1#32
  let v45 : BitVec 32 := Scalar.subi v30 c1_i32
  let v46 : BitVec 32 := Scalar.select v44 v45 v30
  let v47 : BitVec 32 := Scalar.subi v46 c0_i32_21
  let c1_i32_22 : BitVec 32 := 1#32
  let v49 : BitVec 32 := Scalar.divsi v47 c1_i32_22
  let v50 : BitVec 32 := Scalar.muli v49 c1_i32_22
  let v51 : BitVec 32 := Scalar.addi c0_i32_21 v50
  let v48 : BitVec 32 := Scalar.addi c0_i32_21 v47
  let c1_i32_24 : BitVec 32 := 1#32
  ⟨v51, v48, c1_i32_24⟩
def k0_mult3 (i : grid0.Coords) (k0_t2 : Fin (k0_t2_loop i).trips) : BitVec 32 :=
  let c4_i32_35 : BitVec 32 := 4#32
  let c0_i32_21 : BitVec 32 := 0#32
  let arg2 : BitVec 32 := BitVec.ofNat 32 (i 2).val
  let c0_i32 : BitVec 32 := 0#32
  let v31 : BitVec 1 := Scalar.cmpi .sgt arg2 c0_i32
  let v32 : BitVec 32 := Scalar.extui v31
  let c0_i32_17 : BitVec 32 := 0#32
  let v33 : BitVec 1 := Scalar.cmpi .slt arg2 c0_i32_17
  let v34 : BitVec 32 := Scalar.extui v33
  let v35 : BitVec 32 := Scalar.subi v32 v34
  let c4_i32 : BitVec 32 := 4#32
  let c0_i32_18 : BitVec 32 := 0#32
  let v36 : BitVec 1 := Scalar.cmpi .sgt c4_i32 c0_i32_18
  let v37 : BitVec 32 := Scalar.extui v36
  let c0_i32_19 : BitVec 32 := 0#32
  let v38 : BitVec 1 := Scalar.cmpi .slt c4_i32 c0_i32_19
  let v39 : BitVec 32 := Scalar.extui v38
  let v40 : BitVec 32 := Scalar.subi v37 v39
  let v41 : BitVec 1 := Scalar.cmpi .ne v35 v40
  let v42 : BitVec 32 := Scalar.remsi arg2 c4_i32
  let c0_i32_20 : BitVec 32 := 0#32
  let v43 : BitVec 1 := Scalar.cmpi .ne v42 c0_i32_20
  let v44 : BitVec 1 := Scalar.andi v41 v43
  let v30 : BitVec 32 := Scalar.divsi arg2 c4_i32
  let c1_i32 : BitVec 32 := 1#32
  let v45 : BitVec 32 := Scalar.subi v30 c1_i32
  let v46 : BitVec 32 := Scalar.select v44 v45 v30
  let v47 : BitVec 32 := Scalar.subi v46 c0_i32_21
  let c1_i32_22 : BitVec 32 := 1#32
  let v49 : BitVec 32 := Scalar.divsi v47 c1_i32_22
  let v50 : BitVec 32 := Scalar.muli v49 c1_i32_22
  let v51 : BitVec 32 := Scalar.addi c0_i32_21 v50
  let c1_i32_24 : BitVec 32 := 1#32
  let arg11 : BitVec 32 := Scf.iv v51 c1_i32_24 k0_t2
  let v72 : BitVec 32 := Scalar.muli c4_i32_35 arg11
  let c512_i32_36 : BitVec 32 := 512#32
  let v73 : BitVec 32 := Scalar.muli v72 c512_i32_36
  v73
def k0_off4 (i : grid0.Coords) (k0_t2 : Fin (k0_t2_loop i).trips) (c0_i32_37 : BitVec 32) : Fin 3 → Nat :=
  let c0_39 : Index := 0#32
  let c0_40 : Index := 0#32
  let c4_i32_35 : BitVec 32 := 4#32
  let c0_i32_21 : BitVec 32 := 0#32
  let arg2 : BitVec 32 := BitVec.ofNat 32 (i 2).val
  let c0_i32 : BitVec 32 := 0#32
  let v31 : BitVec 1 := Scalar.cmpi .sgt arg2 c0_i32
  let v32 : BitVec 32 := Scalar.extui v31
  let c0_i32_17 : BitVec 32 := 0#32
  let v33 : BitVec 1 := Scalar.cmpi .slt arg2 c0_i32_17
  let v34 : BitVec 32 := Scalar.extui v33
  let v35 : BitVec 32 := Scalar.subi v32 v34
  let c4_i32 : BitVec 32 := 4#32
  let c0_i32_18 : BitVec 32 := 0#32
  let v36 : BitVec 1 := Scalar.cmpi .sgt c4_i32 c0_i32_18
  let v37 : BitVec 32 := Scalar.extui v36
  let c0_i32_19 : BitVec 32 := 0#32
  let v38 : BitVec 1 := Scalar.cmpi .slt c4_i32 c0_i32_19
  let v39 : BitVec 32 := Scalar.extui v38
  let v40 : BitVec 32 := Scalar.subi v37 v39
  let v41 : BitVec 1 := Scalar.cmpi .ne v35 v40
  let v42 : BitVec 32 := Scalar.remsi arg2 c4_i32
  let c0_i32_20 : BitVec 32 := 0#32
  let v43 : BitVec 1 := Scalar.cmpi .ne v42 c0_i32_20
  let v44 : BitVec 1 := Scalar.andi v41 v43
  let v30 : BitVec 32 := Scalar.divsi arg2 c4_i32
  let c1_i32 : BitVec 32 := 1#32
  let v45 : BitVec 32 := Scalar.subi v30 c1_i32
  let v46 : BitVec 32 := Scalar.select v44 v45 v30
  let v47 : BitVec 32 := Scalar.subi v46 c0_i32_21
  let c1_i32_22 : BitVec 32 := 1#32
  let v49 : BitVec 32 := Scalar.divsi v47 c1_i32_22
  let v50 : BitVec 32 := Scalar.muli v49 c1_i32_22
  let v51 : BitVec 32 := Scalar.addi c0_i32_21 v50
  let c1_i32_24 : BitVec 32 := 1#32
  let arg11 : BitVec 32 := Scf.iv v51 c1_i32_24 k0_t2
  let v72 : BitVec 32 := Scalar.muli c4_i32_35 arg11
  let c512_i32_36 : BitVec 32 := 512#32
  let v73 : BitVec 32 := Scalar.muli v72 c512_i32_36
  let v74 : BitVec 32 := v73
  let v75 : BitVec 32 := Scalar.addi v74 c0_i32_37
  let v79 : Index := Scalar.indexCast v75
  ![0, 0, v79.toNat]
def k0_off5 (i : grid0.Coords) (k0_t2 : Fin (k0_t2_loop i).trips) (c0_i32_37 : BitVec 32) : Fin 3 → Nat :=
  let c0_42 : Index := 0#32
  let c4_i32_35 : BitVec 32 := 4#32
  let c0_i32_21 : BitVec 32 := 0#32
  let arg2 : BitVec 32 := BitVec.ofNat 32 (i 2).val
  let c0_i32 : BitVec 32 := 0#32
  let v31 : BitVec 1 := Scalar.cmpi .sgt arg2 c0_i32
  let v32 : BitVec 32 := Scalar.extui v31
  let c0_i32_17 : BitVec 32 := 0#32
  let v33 : BitVec 1 := Scalar.cmpi .slt arg2 c0_i32_17
  let v34 : BitVec 32 := Scalar.extui v33
  let v35 : BitVec 32 := Scalar.subi v32 v34
  let c4_i32 : BitVec 32 := 4#32
  let c0_i32_18 : BitVec 32 := 0#32
  let v36 : BitVec 1 := Scalar.cmpi .sgt c4_i32 c0_i32_18
  let v37 : BitVec 32 := Scalar.extui v36
  let c0_i32_19 : BitVec 32 := 0#32
  let v38 : BitVec 1 := Scalar.cmpi .slt c4_i32 c0_i32_19
  let v39 : BitVec 32 := Scalar.extui v38
  let v40 : BitVec 32 := Scalar.subi v37 v39
  let v41 : BitVec 1 := Scalar.cmpi .ne v35 v40
  let v42 : BitVec 32 := Scalar.remsi arg2 c4_i32
  let c0_i32_20 : BitVec 32 := 0#32
  let v43 : BitVec 1 := Scalar.cmpi .ne v42 c0_i32_20
  let v44 : BitVec 1 := Scalar.andi v41 v43
  let v30 : BitVec 32 := Scalar.divsi arg2 c4_i32
  let c1_i32 : BitVec 32 := 1#32
  let v45 : BitVec 32 := Scalar.subi v30 c1_i32
  let v46 : BitVec 32 := Scalar.select v44 v45 v30
  let v47 : BitVec 32 := Scalar.subi v46 c0_i32_21
  let c1_i32_22 : BitVec 32 := 1#32
  let v49 : BitVec 32 := Scalar.divsi v47 c1_i32_22
  let v50 : BitVec 32 := Scalar.muli v49 c1_i32_22
  let v51 : BitVec 32 := Scalar.addi c0_i32_21 v50
  let c1_i32_24 : BitVec 32 := 1#32
  let arg11 : BitVec 32 := Scf.iv v51 c1_i32_24 k0_t2
  let v72 : BitVec 32 := Scalar.muli c4_i32_35 arg11
  let c512_i32_36 : BitVec 32 := 512#32
  let v73 : BitVec 32 := Scalar.muli v72 c512_i32_36
  let v74 : BitVec 32 := v73
  let v75 : BitVec 32 := Scalar.addi v74 c0_i32_37
  let v86 : Index := Scalar.indexCast v75
  let c0_43 : Index := 0#32
  ![0, v86.toNat, 0]
def k0_cond1 (i : grid0.Coords) : BitVec 1 :=
  let arg2 : BitVec 32 := BitVec.ofNat 32 (i 2).val
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi arg2 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let c0_i32_31 : BitVec 32 := 0#32
  let v64 : BitVec 32 := Scalar.maxsi v63 c0_i32_31
  let c3_i32 : BitVec 32 := 3#32
  let v65 : BitVec 32 := Scalar.minsi v64 c3_i32
  let c0_i32_32 : BitVec 32 := 0#32
  let v66 : BitVec 1 := Scalar.cmpi .ne v65 c0_i32_32
  v66

def k0_cond2 (i : grid0.Coords) : BitVec 1 :=
  let arg2 : BitVec 32 := BitVec.ofNat 32 (i 2).val
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi arg2 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let c0_i32_31 : BitVec 32 := 0#32
  let v64 : BitVec 32 := Scalar.maxsi v63 c0_i32_31
  let c3_i32 : BitVec 32 := 3#32
  let v65 : BitVec 32 := Scalar.minsi v64 c3_i32
  let c1_i32_35 : BitVec 32 := 1#32
  let v72 : BitVec 32 := Scalar.subi v65 c1_i32_35
  let c0_i32_36 : BitVec 32 := 0#32
  let v73 : BitVec 1 := Scalar.cmpi .ne v72 c0_i32_36
  v73

def k0_cond3 (i : grid0.Coords) : BitVec 1 :=
  let arg2 : BitVec 32 := BitVec.ofNat 32 (i 2).val
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi arg2 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let c0_i32_31 : BitVec 32 := 0#32
  let v64 : BitVec 32 := Scalar.maxsi v63 c0_i32_31
  let c3_i32 : BitVec 32 := 3#32
  let v65 : BitVec 32 := Scalar.minsi v64 c3_i32
  let c1_i32_35 : BitVec 32 := 1#32
  let v72 : BitVec 32 := Scalar.subi v65 c1_i32_35
  let c1_i32_37 : BitVec 32 := 1#32
  let v75 : BitVec 32 := Scalar.subi v72 c1_i32_37
  let c0_i32_38 : BitVec 32 := 0#32
  let v76 : BitVec 1 := Scalar.cmpi .ne v75 c0_i32_38
  v76

def k0_mult4 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c1536_i32 : BitVec 32 := 1536#32
  let v78 : BitVec 32 := Scalar.subi v3 c1536_i32
  v78
def k0_mult5 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c1024_i32 : BitVec 32 := 1024#32
  let v80 : BitVec 32 := Scalar.subi v3 c1024_i32
  v80
def k0_mult6 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c512_i32_39 : BitVec 32 := 512#32
  let v82 : BitVec 32 := Scalar.subi v3 c512_i32_39
  v82
def k0_mult7 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c0_i32_40 : BitVec 32 := 0#32
  let v84 : BitVec 32 := Scalar.subi v3 c0_i32_40
  v84
def k0_off6 (i : grid0.Coords) (c1536_i32 : BitVec 32) : Fin 3 → Nat :=
  let c0_41 : Index := 0#32
  let c0_42 : Index := 0#32
  let arg2 : BitVec 32 := BitVec.ofNat 32 (i 2).val
  let c512_i32 : BitVec 32 := 512#32
  let v2 : BitVec 32 := Scalar.muli arg2 c512_i32
  let v3 : BitVec 32 := v2
  let v78 : BitVec 32 := Scalar.subi v3 c1536_i32
  let v79 : BitVec 32 := v78
  let v86 : Index := Scalar.indexCast v79
  ![0, 0, v86.toNat]
def k0_off7 (i : grid0.Coords) (c1536_i32 : BitVec 32) : Fin 3 → Nat :=
  let c0_44 : Index := 0#32
  let arg2 : BitVec 32 := BitVec.ofNat 32 (i 2).val
  let c512_i32 : BitVec 32 := 512#32
  let v2 : BitVec 32 := Scalar.muli arg2 c512_i32
  let v3 : BitVec 32 := v2
  let v78 : BitVec 32 := Scalar.subi v3 c1536_i32
  let v79 : BitVec 32 := v78
  let v93 : Index := Scalar.indexCast v79
  let c0_45 : Index := 0#32
  ![0, v93.toNat, 0]
def k0_mult8 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c1024_i32 : BitVec 32 := 1024#32
  let v78 : BitVec 32 := Scalar.subi v3 c1024_i32
  v78
def k0_mult9 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c512_i32_39 : BitVec 32 := 512#32
  let v80 : BitVec 32 := Scalar.subi v3 c512_i32_39
  v80
def k0_mult10 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c0_i32_40 : BitVec 32 := 0#32
  let v82 : BitVec 32 := Scalar.subi v3 c0_i32_40
  v82
def k0_off8 (i : grid0.Coords) (c1024_i32 : BitVec 32) : Fin 3 → Nat :=
  let c0_41 : Index := 0#32
  let c0_42 : Index := 0#32
  let arg2 : BitVec 32 := BitVec.ofNat 32 (i 2).val
  let c512_i32 : BitVec 32 := 512#32
  let v2 : BitVec 32 := Scalar.muli arg2 c512_i32
  let v3 : BitVec 32 := v2
  let v78 : BitVec 32 := Scalar.subi v3 c1024_i32
  let v79 : BitVec 32 := v78
  let v84 : Index := Scalar.indexCast v79
  ![0, 0, v84.toNat]
def k0_off9 (i : grid0.Coords) (c1024_i32 : BitVec 32) : Fin 3 → Nat :=
  let c0_44 : Index := 0#32
  let arg2 : BitVec 32 := BitVec.ofNat 32 (i 2).val
  let c512_i32 : BitVec 32 := 512#32
  let v2 : BitVec 32 := Scalar.muli arg2 c512_i32
  let v3 : BitVec 32 := v2
  let v78 : BitVec 32 := Scalar.subi v3 c1024_i32
  let v79 : BitVec 32 := v78
  let v91 : Index := Scalar.indexCast v79
  let c0_45 : Index := 0#32
  ![0, v91.toNat, 0]
def k0_mult11 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c512_i32_37 : BitVec 32 := 512#32
  let v75 : BitVec 32 := Scalar.subi v3 c512_i32_37
  v75
def k0_mult12 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c0_i32_38 : BitVec 32 := 0#32
  let v77 : BitVec 32 := Scalar.subi v3 c0_i32_38
  v77
def k0_off10 (i : grid0.Coords) (c512_i32_37 : BitVec 32) : Fin 3 → Nat :=
  let c0_39 : Index := 0#32
  let c0_40 : Index := 0#32
  let arg2 : BitVec 32 := BitVec.ofNat 32 (i 2).val
  let c512_i32 : BitVec 32 := 512#32
  let v2 : BitVec 32 := Scalar.muli arg2 c512_i32
  let v3 : BitVec 32 := v2
  let v75 : BitVec 32 := Scalar.subi v3 c512_i32_37
  let v76 : BitVec 32 := v75
  let v79 : Index := Scalar.indexCast v76
  ![0, 0, v79.toNat]
def k0_off11 (i : grid0.Coords) (c512_i32_37 : BitVec 32) : Fin 3 → Nat :=
  let c0_42 : Index := 0#32
  let arg2 : BitVec 32 := BitVec.ofNat 32 (i 2).val
  let c512_i32 : BitVec 32 := 512#32
  let v2 : BitVec 32 := Scalar.muli arg2 c512_i32
  let v3 : BitVec 32 := v2
  let v75 : BitVec 32 := Scalar.subi v3 c512_i32_37
  let v76 : BitVec 32 := v75
  let v86 : Index := Scalar.indexCast v76
  let c0_43 : Index := 0#32
  ![0, v86.toNat, 0]
def k0_mult13 (i : grid0.Coords) : BitVec 32 :=
  let arg2 : BitVec 32 := BitVec.ofNat 32 (i 2).val
  let c512_i32 : BitVec 32 := 512#32
  let v2 : BitVec 32 := Scalar.muli arg2 c512_i32
  let v3 : BitVec 32 := v2
  let c0_i32_35 : BitVec 32 := 0#32
  let v72 : BitVec 32 := Scalar.subi v3 c0_i32_35
  v72
def k0_off12 (i : grid0.Coords) : Fin 3 → Nat :=
  let c0_36 : Index := 0#32
  let c0_37 : Index := 0#32
  let arg2 : BitVec 32 := BitVec.ofNat 32 (i 2).val
  let c512_i32 : BitVec 32 := 512#32
  let v2 : BitVec 32 := Scalar.muli arg2 c512_i32
  let v3 : BitVec 32 := v2
  let c0_i32_35 : BitVec 32 := 0#32
  let v72 : BitVec 32 := Scalar.subi v3 c0_i32_35
  let v73 : BitVec 32 := v72
  let v74 : Index := Scalar.indexCast v73
  ![0, 0, v74.toNat]
def k0_off13 (i : grid0.Coords) : Fin 3 → Nat :=
  let c0_39 : Index := 0#32
  let arg2 : BitVec 32 := BitVec.ofNat 32 (i 2).val
  let c512_i32 : BitVec 32 := 512#32
  let v2 : BitVec 32 := Scalar.muli arg2 c512_i32
  let v3 : BitVec 32 := v2
  let c0_i32_35 : BitVec 32 := 0#32
  let v72 : BitVec 32 := Scalar.subi v3 c0_i32_35
  let v73 : BitVec 32 := v72
  let v81 : Index := Scalar.indexCast v73
  let c0_40 : Index := 0#32
  ![0, v81.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x8192x16x128 : Shape := ⟨4, ![4, 8192, 16, 128]⟩
abbrev S16x16x128 : Shape := ⟨3, ![16, 16, 128]⟩
abbrev S4x8192x16 : Shape := ⟨3, ![4, 8192, 16]⟩
abbrev S16x16 : Shape := ⟨2, ![16, 16]⟩
abbrev S1x16x16x128 : Shape := ⟨4, ![1, 16, 16, 128]⟩
abbrev S4x16x16x128 : Shape := ⟨4, ![4, 16, 16, 128]⟩
abbrev S4x8208x16x128 : Shape := ⟨4, ![4, 8208, 16, 128]⟩
abbrev S1x16x16 : Shape := ⟨3, ![1, 16, 16]⟩
abbrev S4x16x16 : Shape := ⟨3, ![4, 16, 16]⟩
abbrev S4x8208x16 : Shape := ⟨3, ![4, 8208, 16]⟩
abbrev S4x16x8208 : Shape := ⟨3, ![4, 16, 8208]⟩
abbrev S8208 : Shape := ⟨1, ![8208]⟩
abbrev S8192 : Shape := ⟨1, ![8192]⟩
abbrev S_ : Shape := ⟨0, ![]⟩
abbrev S4x16x8192x8208 : Shape := ⟨4, ![4, 16, 8192, 8208]⟩
abbrev S4x16x8192 : Shape := ⟨3, ![4, 16, 8192]⟩
abbrev S4x16x8192x1 : Shape := ⟨4, ![4, 16, 8192, 1]⟩
abbrev S4x16x1x8208 : Shape := ⟨4, ![4, 16, 1, 8208]⟩
abbrev S1x1x1x8208 : Shape := ⟨4, ![1, 1, 1, 8208]⟩
abbrev S1x1x8192x1 : Shape := ⟨4, ![1, 1, 8192, 1]⟩
abbrev S1x1x8192x8208 : Shape := ⟨4, ![1, 1, 8192, 8208]⟩
abbrev S4x16x128x8192 : Shape := ⟨4, ![4, 16, 128, 8192]⟩
abbrev S32768x2048 : Shape := ⟨2, ![32768, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x16x128, .f32⟩
  | .hbm, ⟨1, _⟩ => ⟨S4x8192x16x128, .f32⟩
  | .hbm, ⟨2, _⟩ => ⟨S4x8192x16x128, .f32⟩
  | .hbm, ⟨3, _⟩ => ⟨S16x16x128, .f32⟩
  | .hbm, ⟨4, _⟩ => ⟨S16x16x128, .f32⟩
  | .hbm, ⟨5, _⟩ => ⟨S4x8192x16, .f32⟩
  | .hbm, ⟨6, _⟩ => ⟨S16x16, .f32⟩
  | .hbm, ⟨7, _⟩ => ⟨S1x16x16x128, .f32⟩
  | .hbm, ⟨8, _⟩ => ⟨S4x16x16x128, .f32⟩
  | .hbm, ⟨9, _⟩ => ⟨S4x8208x16x128, .f32⟩
  | .hbm, ⟨10, _⟩ => ⟨S1x16x16x128, .f32⟩
  | .hbm, ⟨11, _⟩ => ⟨S4x16x16x128, .f32⟩
  | .hbm, ⟨12, _⟩ => ⟨S4x8208x16x128, .f32⟩
  | .hbm, ⟨13, _⟩ => ⟨S1x16x16, .f32⟩
  | .hbm, ⟨14, _⟩ => ⟨S4x16x16, .f32⟩
  | .hbm, ⟨15, _⟩ => ⟨S4x8208x16, .f32⟩
  | .hbm, ⟨16, _⟩ => ⟨S4x16x8208, .f32⟩
  | .hbm, ⟨17, _⟩ => ⟨S8208, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S4x16x8192x8208, .f32⟩
  | .hbm, ⟨23, _⟩ => ⟨S_, .f32⟩
  | .hbm, ⟨24, _⟩ => ⟨S_, .f32⟩
  | .hbm, ⟨25, _⟩ => ⟨S4x16x8192x8208, .f32⟩
  | .hbm, ⟨26, _⟩ => ⟨S4x16x8192x8208, .f32⟩
  | .hbm, ⟨27, _⟩ => ⟨S4x16x8192, .f32⟩
  | .hbm, ⟨28, _⟩ => ⟨S4x16x8192x1, .f32⟩
  | .hbm, ⟨29, _⟩ => ⟨S4x16x1x8208, .f32⟩
  | .hbm, ⟨30, _⟩ => ⟨S4x16x8192x8208, .f32⟩
  | .hbm, ⟨31, _⟩ => ⟨S4x16x8192x8208, .f32⟩
  | .hbm, ⟨32, _⟩ => ⟨S4x16x8192x8208, .f32⟩
  | .hbm, ⟨33, _⟩ => ⟨S4x16x8192x8208, .f32⟩
  | .hbm, ⟨34, _⟩ => ⟨S1x1x1x8208, .i32⟩
  | .hbm, ⟨35, _⟩ => ⟨S1x1x8192x1, .i32⟩
  | .hbm, ⟨36, _⟩ => ⟨S1x1x8192x8208, .i32⟩
  | .hbm, ⟨37, _⟩ => ⟨S1x1x8192x8208, .i32⟩
  | .hbm, ⟨38, _⟩ => ⟨S1x1x8192x8208, .i1⟩
  | .hbm, ⟨39, _⟩ => ⟨S_, .f32⟩
  | .hbm, ⟨40, _⟩ => ⟨S_, .f32⟩
  | .hbm, ⟨41, _⟩ => ⟨S4x16x8192x8208, .i1⟩
  | .hbm, ⟨42, _⟩ => ⟨S4x16x8192x8208, .f32⟩
  | .hbm, ⟨43, _⟩ => ⟨S4x16x8192x8208, .f32⟩
  | .hbm, ⟨44, _⟩ => ⟨S_, .f32⟩
  | .hbm, ⟨45, _⟩ => ⟨S4x16x8192, .f32⟩
  | .hbm, ⟨46, _⟩ => ⟨S_, .f32⟩
  | .hbm, ⟨47, _⟩ => ⟨S4x16x8192, .f32⟩
  | .hbm, ⟨48, _⟩ => ⟨S4x16x8192, .f32⟩
  | .hbm, ⟨49, _⟩ => ⟨S4x16x8192x1, .f32⟩
  | .hbm, ⟨50, _⟩ => ⟨S4x16x8192x8208, .f32⟩
  | .hbm, ⟨51, _⟩ => ⟨S4x16x8192x8208, .f32⟩
  | .hbm, ⟨52, _⟩ => ⟨S4x16x8192x8208, .f32⟩
  | .hbm, ⟨53, _⟩ => ⟨S_, .f32⟩
  | .hbm, ⟨54, _⟩ => ⟨S4x16x8192, .f32⟩
  | .hbm, ⟨55, _⟩ => ⟨S4x16x8192x1, .f32⟩
  | .hbm, ⟨56, _⟩ => ⟨S4x16x8192x8208, .f32⟩
  | .hbm, ⟨57, _⟩ => ⟨S4x16x8192x8208, .f32⟩
  | .hbm, ⟨58, _⟩ => ⟨S4x16x128x8192, .f32⟩
  | .hbm, ⟨59, _⟩ => ⟨S4x8192x16x128, .f32⟩
  | .hbm, ⟨60, _⟩ => ⟨S32768x2048, .f32⟩
  | .hbm, ⟨61, _⟩ => ⟨S32768x2048, .bf16⟩
  | _, _ => ⟨S4x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Qkv.lean ====
abbrev S32768x2048 : Shape := ⟨2, ![32768, 2048]⟩
abbrev S1x2048x14352 : Shape := ⟨3, ![1, 2048, 14352]⟩
abbrev S1x14352 : Shape := ⟨2, ![1, 14352]⟩
abbrev S6144 : Shape := ⟨1, ![6144]⟩
abbrev S2048x14352 : Shape := ⟨2, ![2048, 14352]⟩
abbrev S2048x10240 : Shape := ⟨2, ![2048, 10240]⟩
abbrev S14352 : Shape := ⟨1, ![14352]⟩
abbrev S10240 : Shape := ⟨1, ![10240]⟩
abbrev S1x10240 : Shape := ⟨2, ![1, 10240]⟩
abbrev S1x6144 : Shape := ⟨2, ![1, 6144]⟩
abbrev S48x32768x128 : Shape := ⟨3, ![48, 32768, 128]⟩
abbrev S1024x2048 : Shape := ⟨2, ![1024, 2048]⟩
abbrev S2048x512 : Shape := ⟨2, ![2048, 512]⟩
abbrev S1x512 : Shape := ⟨2, ![1, 512]⟩
abbrev S4x1024x128 : Shape := ⟨3, ![4, 1024, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 13
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048x14352, .f32⟩
  | .hbm, ⟨2, _⟩ => ⟨S1x14352, .f32⟩
  | .hbm, ⟨3, _⟩ => ⟨S6144, .f32⟩
  | .hbm, ⟨4, _⟩ => ⟨S2048x14352, .f32⟩
  | .hbm, ⟨5, _⟩ => ⟨S2048x10240, .f32⟩
  | .hbm, ⟨6, _⟩ => ⟨S2048x10240, .bf16⟩
  | .hbm, ⟨7, _⟩ => ⟨S14352, .f32⟩
  | .hbm, ⟨8, _⟩ => ⟨S10240, .f32⟩
  | .hbm, ⟨9, _⟩ => ⟨S1x10240, .f32⟩
  | .hbm, ⟨10, _⟩ => ⟨S32768x2048, .bf16⟩
  | .hbm, ⟨11, _⟩ => ⟨S1x6144, .f32⟩
  | .hbm, ⟨12, _⟩ => ⟨S48x32768x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x1024x128, .bf16⟩
  | .local _ .vmem, ⟨9, _⟩ => ⟨S4x1024x128, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvReferenceIdeal.lean ====
abbrev S32768x2048 : Shape := ⟨2, ![32768, 2048]⟩
abbrev S1x2048x14352 : Shape := ⟨3, ![1, 2048, 14352]⟩
abbrev S1x14352 : Shape := ⟨2, ![1, 14352]⟩
abbrev S6144 : Shape := ⟨1, ![6144]⟩
abbrev S2048x14352 : Shape := ⟨2, ![2048, 14352]⟩
abbrev S32768x14352 : Shape := ⟨2, ![32768, 14352]⟩
abbrev S14352 : Shape := ⟨1, ![14352]⟩
abbrev S32768x6144 : Shape := ⟨2, ![32768, 6144]⟩
abbrev S1x6144 : Shape := ⟨2, ![1, 6144]⟩
abbrev S32768x48x128 : Shape := ⟨3, ![32768, 48, 128]⟩
abbrev S48x32768x128 : Shape := ⟨3, ![48, 32768, 128]⟩

abbrev nBuf : Space → Nat
  | .hbm => 17
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x14352, .f32⟩
  | .hbm, ⟨2, _⟩ => ⟨S1x14352, .f32⟩
  | .hbm, ⟨3, _⟩ => ⟨S6144, .f32⟩
  | .hbm, ⟨4, _⟩ => ⟨S2048x14352, .f32⟩
  | .hbm, ⟨5, _⟩ => ⟨S32768x14352, .f32⟩
  | .hbm, ⟨6, _⟩ => ⟨S14352, .f32⟩
  | .hbm, ⟨7, _⟩ => ⟨S1x14352, .f32⟩
  | .hbm, ⟨8, _⟩ => ⟨S32768x14352, .f32⟩
  | .hbm, ⟨9, _⟩ => ⟨S32768x14352, .f32⟩
  | .hbm, ⟨10, _⟩ => ⟨S32768x6144, .f32⟩
  | .hbm, ⟨11, _⟩ => ⟨S1x6144, .f32⟩
  | .hbm, ⟨12, _⟩ => ⟨S32768x6144, .f32⟩
  | .hbm, ⟨13, _⟩ => ⟨S32768x6144, .f32⟩
  | .hbm, ⟨14, _⟩ => ⟨S32768x48x128, .f32⟩
  | .hbm, ⟨15, _⟩ => ⟨S48x32768x128, .f32⟩
  | .hbm, ⟨16, _⟩ => ⟨S48x32768x128, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Glu.lean ====
abbrev S32768x2048 : Shape := ⟨2, ![32768, 2048]⟩
abbrev S1x2048x14352 : Shape := ⟨3, ![1, 2048, 14352]⟩
abbrev S1x14352 : Shape := ⟨2, ![1, 14352]⟩
abbrev S2048x14352 : Shape := ⟨2, ![2048, 14352]⟩
abbrev S2048x10240 : Shape := ⟨2, ![2048, 10240]⟩
abbrev S14352 : Shape := ⟨1, ![14352]⟩
abbrev S10240 : Shape := ⟨1, ![10240]⟩
abbrev S1x10240 : Shape := ⟨2, ![1, 10240]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S2048x10240, .f32⟩
  | .hbm, ⟨5, _⟩ => ⟨S2048x10240, .bf16⟩
  | .hbm, ⟨6, _⟩ => ⟨S14352, .f32⟩
  | .hbm, ⟨7, _⟩ => ⟨S10240, .f32⟩
  | .hbm, ⟨8, _⟩ => ⟨S1x10240, .f32⟩
  | .hbm, ⟨9, _⟩ => ⟨S32768x2048, .bf16⟩
  | .hbm, ⟨10, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluReferenceIdeal.lean ====
abbrev S32768x2048 : Shape := ⟨2, ![32768, 2048]⟩
abbrev S1x2048x14352 : Shape := ⟨3, ![1, 2048, 14352]⟩
abbrev S1x14352 : Shape := ⟨2, ![1, 14352]⟩
abbrev S2048x14352 : Shape := ⟨2, ![2048, 14352]⟩
abbrev S32768x14352 : Shape := ⟨2, ![32768, 14352]⟩
abbrev S14352 : Shape := ⟨1, ![14352]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S32768x14352, .f32⟩
  | .hbm, ⟨5, _⟩ => ⟨S14352, .f32⟩
  | .hbm, ⟨6, _⟩ => ⟨S1x14352, .f32⟩
  | .hbm, ⟨7, _⟩ => ⟨S32768x14352, .f32⟩
  | .hbm, ⟨8, _⟩ => ⟨S32768x14352, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Gates.lean ====
abbrev S32768x2048 : Shape := ⟨2, ![32768, 2048]⟩
abbrev S1x2048x14352 : Shape := ⟨3, ![1, 2048, 14352]⟩
abbrev S1x14352 : Shape := ⟨2, ![1, 14352]⟩
abbrev S2048x14352 : Shape := ⟨2, ![2048, 14352]⟩
abbrev S2048x4096 : Shape := ⟨2, ![2048, 4096]⟩
abbrev S14352 : Shape := ⟨1, ![14352]⟩
abbrev S4096 : Shape := ⟨1, ![4096]⟩
abbrev S1x4096 : Shape := ⟨2, ![1, 4096]⟩
abbrev S32768x4096 : Shape := ⟨2, ![32768, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 11
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S2048x4096, .f32⟩
  | .hbm, ⟨5, _⟩ => ⟨S2048x4096, .bf16⟩
  | .hbm, ⟨6, _⟩ => ⟨S14352, .f32⟩
  | .hbm, ⟨7, _⟩ => ⟨S4096, .f32⟩
  | .hbm, ⟨8, _⟩ => ⟨S1x4096, .f32⟩
  | .hbm, ⟨9, _⟩ => ⟨S32768x2048, .bf16⟩
  | .hbm, ⟨10, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesReferenceIdeal.lean ====
abbrev S32768x2048 : Shape := ⟨2, ![32768, 2048]⟩
abbrev S1x2048x14352 : Shape := ⟨3, ![1, 2048, 14352]⟩
abbrev S1x14352 : Shape := ⟨2, ![1, 14352]⟩
abbrev S2048x14352 : Shape := ⟨2, ![2048, 14352]⟩
abbrev S32768x14352 : Shape := ⟨2, ![32768, 14352]⟩
abbrev S14352 : Shape := ⟨1, ![14352]⟩
abbrev S32768x4096 : Shape := ⟨2, ![32768, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S32768x14352, .f32⟩
  | .hbm, ⟨5, _⟩ => ⟨S14352, .f32⟩
  | .hbm, ⟨6, _⟩ => ⟨S1x14352, .f32⟩
  | .hbm, ⟨7, _⟩ => ⟨S32768x14352, .f32⟩
  | .hbm, ⟨8, _⟩ => ⟨S32768x14352, .f32⟩
  | .hbm, ⟨9, _⟩ => ⟨S32768x4096, .f32⟩
  | .hbm, ⟨10, _⟩ => ⟨S32768x4096, .f32⟩
  | .hbm, ⟨11, _⟩ => ⟨S32768x4096, .f32⟩
  | .hbm, ⟨12, _⟩ => ⟨S_, .f32⟩
  | .hbm, ⟨13, _⟩ => ⟨S32768x4096, .f32⟩
  | .hbm, ⟨14, _⟩ => ⟨S32768x4096, .f32⟩
  | .hbm, ⟨15, _⟩ => ⟨S_, .f32⟩
  | .hbm, ⟨16, _⟩ => ⟨S32768x4096, .f32⟩
  | .hbm, ⟨17, _⟩ => ⟨S32768x4096, .f32⟩
  | .hbm, ⟨18, _⟩ => ⟨S32768x4096, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Out.lean ====
abbrev S32768x2048 : Shape := ⟨2, ![32768, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S1x2048x2048, .f32⟩
  | .hbm, ⟨2, _⟩ => ⟨S32768x2048, .bf16⟩
  | .hbm, ⟨3, _⟩ => ⟨S2048x2048, .f32⟩
  | .hbm, ⟨4, _⟩ => ⟨S2048x2048, .bf16⟩
  | .hbm, ⟨5, _⟩ => ⟨S_, .f32⟩
  | .hbm, ⟨6, _⟩ => ⟨S1x2048, .f32⟩
  | .hbm, ⟨7, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S32768x2048 : Shape := ⟨2, ![32768, 2048]⟩
abbrev S1x2048x2048 : Shape := ⟨3, ![1, 2048, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x2048, .f32⟩
  | .hbm, ⟨2, _⟩ => ⟨S2048x2048, .f32⟩
  | .hbm, ⟨3, _⟩ => ⟨S32768x2048, .f32⟩
  | .hbm, ⟨4, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S32768x2048 : Shape := ⟨2, ![32768, 2048]⟩
abbrev S32768x4096 : Shape := ⟨2, ![32768, 4096]⟩
abbrev S2048 : Shape := ⟨1, ![2048]⟩
abbrev S1x2048x2048 : Shape := ⟨3, ![1, 2048, 2048]⟩
abbrev S1x2048 : Shape := ⟨2, ![1, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 22
  | .vmem => 19
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x4096, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S32768x2048, .bf16⟩
  | .hbm, ⟨10, _⟩ => ⟨S32768x2048, .bf16⟩
  | .hbm, ⟨11, _⟩ => ⟨S32768x4096, .bf16⟩
  | .hbm, ⟨12, _⟩ => ⟨S1x2048, .f32⟩
  | .hbm, ⟨13, _⟩ => ⟨S1x2048, .f32⟩
  | .hbm, ⟨14, _⟩ => ⟨S2048x2048, .f32⟩
  | .hbm, ⟨15, _⟩ => ⟨S2048x2048, .bf16⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S32768x2048, .f32⟩
  | .hbm, ⟨21, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixReferenceIdeal.lean ====
abbrev S32768x2048 : Shape := ⟨2, ![32768, 2048]⟩
abbrev S32768x4096 : Shape := ⟨2, ![32768, 4096]⟩
abbrev S2048 : Shape := ⟨1, ![2048]⟩
abbrev S1x2048x2048 : Shape := ⟨3, ![1, 2048, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x2048 : Shape := ⟨2, ![2048, 2048]⟩

abbrev nBuf : Space → Nat
  | .hbm => 81
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x4096, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x2048, .f32⟩
  | .hbm, ⟨31, _⟩ => ⟨S32768x2048, .f32⟩
  | .hbm, ⟨32, _⟩ => ⟨S1x2048, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S2048x2048, .f32⟩
  | .hbm, ⟨44, _⟩ => ⟨S32768x2048, .f32⟩
  | .hbm, ⟨45, _⟩ => ⟨S_, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S2048, .f32⟩
  | .hbm, ⟨50, _⟩ => ⟨S2048, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x2048, .f32⟩
  | .hbm, ⟨58, _⟩ => ⟨S32768x2048, .f32⟩
  | .hbm, ⟨59, _⟩ => ⟨S32768x2048, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x2048, .f32⟩
  | .hbm, ⟨67, _⟩ => ⟨S32768x2048, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x2048, .f32⟩
  | .hbm, ⟨73, _⟩ => ⟨S32768x2048, .f32⟩
  | .hbm, ⟨74, _⟩ => ⟨S1x2048, .f32⟩
  | .hbm, ⟨75, _⟩ => ⟨S32768x2048, .f32⟩
  | .hbm, ⟨76, _⟩ => ⟨S32768x2048, .f32⟩
  | .hbm, ⟨77, _⟩ => ⟨S1x2048, .f32⟩
  | .hbm, ⟨78, _⟩ => ⟨S32768x2048, .f32⟩
  | .hbm, ⟨79, _⟩ => ⟨S32768x2048, .f32⟩
  | .hbm, ⟨80, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Conv.lean ====
abbrev S32768x2048 : Shape := ⟨2, ![32768, 2048]⟩
abbrev S16x2048 : Shape := ⟨2, ![16, 2048]⟩
abbrev S1x31x2048 : Shape := ⟨3, ![1, 31, 2048]⟩
abbrev S1x2048 : Shape := ⟨2, ![1, 2048]⟩
abbrev S1x2048x2048 : Shape := ⟨3, ![1, 2048, 2048]⟩
abbrev S31x2048 : Shape := ⟨2, ![31, 2048]⟩
abbrev S2048 : Shape := ⟨1, ![2048]⟩
abbrev S2048x2048 : Shape := ⟨2, ![2048, 2048]⟩
abbrev S256x2048 : Shape := ⟨2, ![256, 2048]⟩
abbrev S32x2048 : Shape := ⟨2, ![32, 2048]⟩
abbrev S288x2048 : Shape := ⟨2, ![288, 2048]⟩
abbrev S64x256 : Shape := ⟨2, ![64, 256]⟩
abbrev S32x256 : Shape := ⟨2, ![32, 256]⟩
abbrev S1x256 : Shape := ⟨2, ![1, 256]⟩
abbrev S256 : Shape := ⟨1, ![256]⟩
abbrev S256x1 : Shape := ⟨2, ![256, 1]⟩

abbrev nBuf : Space → Nat
  | .hbm => 17
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S16x2048, .f32⟩
  | .hbm, ⟨2, _⟩ => ⟨S1x31x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048x2048, .f32⟩
  | .hbm, ⟨7, _⟩ => ⟨S31x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048x2048, .f32⟩
  | .hbm, ⟨15, _⟩ => ⟨S2048x2048, .bf16⟩
  | .hbm, ⟨16, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S32x2048, .f32⟩
  | .local _ .vmem, ⟨3, _⟩ => ⟨S32x2048, .f32⟩
  | .local _ .vmem, ⟨4, _⟩ => ⟨S16x2048, .f32⟩
  | .local _ .vmem, ⟨5, _⟩ => ⟨S31x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S2048x2048, .bf16⟩
  | .local _ .vmem, ⟨10, _⟩ => ⟨S256x2048, .bf16⟩
  | .local _ .vmem, ⟨11, _⟩ => ⟨S256x2048, .bf16⟩
  | .local _ .vmem, ⟨12, _⟩ => ⟨S288x2048, .f32⟩
  | .local _ .vmem, ⟨13, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32_5 : BitVec 32 := 0#32
  let c8_i32 : BitVec 32 := 8#32
  let v10 : BitVec 32 := Scalar.addi c0_i32_5 c8_i32
  let c1_i32 : BitVec 32 := 1#32
  ⟨c0_i32_5, v10, c1_i32⟩
def k0_mult1 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  v50
def k0_off1 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v52 : Index := Scalar.indexCast v51
  let c0_25 : Index := 0#32
  ![v52.toNat, 0]
def k0_off2 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v252 : Index := Scalar.indexCast v51
  let c0_61 : Index := 0#32
  ![v252.toNat, 0]
def k0_off3 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v256 : Index := Scalar.indexCast v51
  let c256 : Index := 256#32
  ![v256.toNat, 256]
def k0_off4 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v456 : Index := Scalar.indexCast v51
  let c256_134 : Index := 256#32
  ![v456.toNat, 256]
def k0_off5 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v460 : Index := Scalar.indexCast v51
  let c512 : Index := 512#32
  ![v460.toNat, 512]
def k0_off6 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v660 : Index := Scalar.indexCast v51
  let c512_207 : Index := 512#32
  ![v660.toNat, 512]
def k0_off7 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v664 : Index := Scalar.indexCast v51
  let c768 : Index := 768#32
  ![v664.toNat, 768]
def k0_off8 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v864 : Index := Scalar.indexCast v51
  let c768_280 : Index := 768#32
  ![v864.toNat, 768]
def k0_off9 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v868 : Index := Scalar.indexCast v51
  let c1024 : Index := 1024#32
  ![v868.toNat, 1024]
def k0_off10 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v1068 : Index := Scalar.indexCast v51
  let c1024_353 : Index := 1024#32
  ![v1068.toNat, 1024]
def k0_off11 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v1072 : Index := Scalar.indexCast v51
  let c1280 : Index := 1280#32
  ![v1072.toNat, 1280]
def k0_off12 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v1272 : Index := Scalar.indexCast v51
  let c1280_426 : Index := 1280#32
  ![v1272.toNat, 1280]
def k0_off13 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v1276 : Index := Scalar.indexCast v51
  let c1536 : Index := 1536#32
  ![v1276.toNat, 1536]
def k0_off14 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v1476 : Index := Scalar.indexCast v51
  let c1536_499 : Index := 1536#32
  ![v1476.toNat, 1536]
def k0_off15 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v1480 : Index := Scalar.indexCast v51
  let c1792 : Index := 1792#32
  ![v1480.toNat, 1792]
def k0_off16 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v50 : BitVec 32 := Scalar.muli arg13 c32_i32
  let v51 : BitVec 32 := v50
  let v1680 : Index := Scalar.indexCast v51
  let c1792_572 : Index := 1792#32
  ![v1680.toNat, 1792]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvReferenceIdeal.lean ====
abbrev S32768x2048 : Shape := ⟨2, ![32768, 2048]⟩
abbrev S16x2048 : Shape := ⟨2, ![16, 2048]⟩
abbrev S1x31x2048 : Shape := ⟨3, ![1, 31, 2048]⟩
abbrev S1x2048 : Shape := ⟨2, ![1, 2048]⟩
abbrev S1x2048x2048 : Shape := ⟨3, ![1, 2048, 2048]⟩
abbrev S4x8192x2048 : Shape := ⟨3, ![4, 8192, 2048]⟩
abbrev S1x16x2048 : Shape := ⟨3, ![1, 16, 2048]⟩
abbrev S4x16x2048 : Shape := ⟨3, ![4, 16, 2048]⟩
abbrev S4x8208x2048 : Shape := ⟨3, ![4, 8208, 2048]⟩
abbrev S_ : Shape := ⟨0, ![]⟩
abbrev S4x8238x2048 : Shape := ⟨3, ![4, 8238, 2048]⟩
abbrev S31x2048 : Shape := ⟨2, ![31, 2048]⟩
abbrev S2048 : Shape := ⟨1, ![2048]⟩
abbrev S1x1x2048 : Shape := ⟨3, ![1, 1, 2048]⟩
abbrev S4x8192 : Shape := ⟨2, ![4, 8192]⟩
abbrev S4x8192x1 : Shape := ⟨3, ![4, 8192, 1]⟩
abbrev S2048x2048 : Shape := ⟨2, ![2048, 2048]⟩

abbrev nBuf : Space → Nat
  | .hbm => 282
  | .vmem => 0
  | .smem => 0
  | _ => 0

abbrev hbmTy0_0 (i : Nat) : BufTy := match i % 128 with
  | 0 => ⟨S32768x2048, .f32⟩
  | 1 => ⟨S16x2048, .f32⟩
  | 2 => ⟨S1x31x2048, .f32⟩
  | 3 => ⟨S1x2048, .f32⟩
  | 4 => ⟨S1x2048, .f32⟩
  | 5 => ⟨S1x2048, .f32⟩
  | 6 => ⟨S1x2048x2048, .f32⟩
  | 7 => ⟨S4x8192x2048, .f32⟩
  | 8 => ⟨S1x16x2048, .f32⟩
  | 9 => ⟨S4x16x2048, .f32⟩
  | 10 => ⟨S4x8208x2048, .f32⟩
  | 11 => ⟨S_, .i32⟩
  | 12 => ⟨S_, .f32⟩
  | 13 => ⟨S4x8238x2048, .f32⟩
  | 14 => ⟨S31x2048, .f32⟩
  | 15 => ⟨S4x8192x2048, .f32⟩
  | 16 => ⟨S1x2048, .f32⟩
  | 17 => ⟨S2048, .f32⟩
  | 18 => ⟨S1x1x2048, .f32⟩
  | 19 => ⟨S4x8192x2048, .f32⟩
  | 20 => ⟨S4x8192x2048, .f32⟩
  | 21 => ⟨S_, .f32⟩
  | 22 => ⟨S4x8192x2048, .f32⟩
  | 23 => ⟨S4x8192x2048, .f32⟩
  | 24 => ⟨S4x8192x2048, .f32⟩
  | 25 => ⟨S1x2048, .f32⟩
  | 26 => ⟨S2048, .f32⟩
  | 27 => ⟨S1x1x2048, .f32⟩
  | 28 => ⟨S4x8192x2048, .f32⟩
  | 29 => ⟨S4x8192x2048, .f32⟩
  | 30 => ⟨S4x8192x2048, .f32⟩
  | 31 => ⟨S4x8192x2048, .f32⟩
  | 32 => ⟨S1x2048, .f32⟩
  | 33 => ⟨S2048, .f32⟩
  | 34 => ⟨S1x1x2048, .f32⟩
  | 35 => ⟨S4x8192x2048, .f32⟩
  | 36 => ⟨S4x8192x2048, .f32⟩
  | 37 => ⟨S4x8192x2048, .f32⟩
  | 38 => ⟨S4x8192x2048, .f32⟩
  | 39 => ⟨S1x2048, .f32⟩
  | 40 => ⟨S2048, .f32⟩
  | 41 => ⟨S1x1x2048, .f32⟩
  | 42 => ⟨S4x8192x2048, .f32⟩
  | 43 => ⟨S4x8192x2048, .f32⟩
  | 44 => ⟨S4x8192x2048, .f32⟩
  | 45 => ⟨S4x8192x2048, .f32⟩
  | 46 => ⟨S1x2048, .f32⟩
  | 47 => ⟨S2048, .f32⟩
  | 48 => ⟨S1x1x2048, .f32⟩
  | 49 => ⟨S4x8192x2048, .f32⟩
  | 50 => ⟨S4x8192x2048, .f32⟩
  | 51 => ⟨S4x8192x2048, .f32⟩
  | 52 => ⟨S4x8192x2048, .f32⟩
  | 53 => ⟨S1x2048, .f32⟩
  | 54 => ⟨S2048, .f32⟩
  | 55 => ⟨S1x1x2048, .f32⟩
  | 56 => ⟨S4x8192x2048, .f32⟩
  | 57 => ⟨S4x8192x2048, .f32⟩
  | 58 => ⟨S4x8192x2048, .f32⟩
  | 59 => ⟨S4x8192x2048, .f32⟩
  | 60 => ⟨S1x2048, .f32⟩
  | 61 => ⟨S2048, .f32⟩
  | 62 => ⟨S1x1x2048, .f32⟩
  | 63 => ⟨S4x8192x2048, .f32⟩
  | 64 => ⟨S4x8192x2048, .f32⟩
  | 65 => ⟨S4x8192x2048, .f32⟩
  | 66 => ⟨S4x8192x2048, .f32⟩
  | 67 => ⟨S1x2048, .f32⟩
  | 68 => ⟨S2048, .f32⟩
  | 69 => ⟨S1x1x2048, .f32⟩
  | 70 => ⟨S4x8192x2048, .f32⟩
  | 71 => ⟨S4x8192x2048, .f32⟩
  | 72 => ⟨S4x8192x2048, .f32⟩
  | 73 => ⟨S4x8192x2048, .f32⟩
  | 74 => ⟨S1x2048, .f32⟩
  | 75 => ⟨S2048, .f32⟩
  | 76 => ⟨S1x1x2048, .f32⟩
  | 77 => ⟨S4x8192x2048, .f32⟩
  | 78 => ⟨S4x8192x2048, .f32⟩
  | 79 => ⟨S4x8192x2048, .f32⟩
  | 80 => ⟨S4x8192x2048, .f32⟩
  | 81 => ⟨S1x2048, .f32⟩
  | 82 => ⟨S2048, .f32⟩
  | 83 => ⟨S1x1x2048, .f32⟩
  | 84 => ⟨S4x8192x2048, .f32⟩
  | 85 => ⟨S4x8192x2048, .f32⟩
  | 86 => ⟨S4x8192x2048, .f32⟩
  | 87 => ⟨S4x8192x2048, .f32⟩
  | 88 => ⟨S1x2048, .f32⟩
  | 89 => ⟨S2048, .f32⟩
  | 90 => ⟨S1x1x2048, .f32⟩
  | 91 => ⟨S4x8192x2048, .f32⟩
  | 92 => ⟨S4x8192x2048, .f32⟩
  | 93 => ⟨S4x8192x2048, .f32⟩
  | 94 => ⟨S4x8192x2048, .f32⟩
  | 95 => ⟨S1x2048, .f32⟩
  | 96 => ⟨S2048, .f32⟩
  | 97 => ⟨S1x1x2048, .f32⟩
  | 98 => ⟨S4x8192x2048, .f32⟩
  | 99 => ⟨S4x8192x2048, .f32⟩
  | 100 => ⟨S4x8192x2048, .f32⟩
  | 101 => ⟨S4x8192x2048, .f32⟩
  | 102 => ⟨S1x2048, .f32⟩
  | 103 => ⟨S2048, .f32⟩
  | 104 => ⟨S1x1x2048, .f32⟩
  | 105 => ⟨S4x8192x2048, .f32⟩
  | 106 => ⟨S4x8192x2048, .f32⟩
  | 107 => ⟨S4x8192x2048, .f32⟩
  | 108 => ⟨S4x8192x2048, .f32⟩
  | 109 => ⟨S1x2048, .f32⟩
  | 110 => ⟨S2048, .f32⟩
  | 111 => ⟨S1x1x2048, .f32⟩
  | 112 => ⟨S4x8192x2048, .f32⟩
  | 113 => ⟨S4x8192x2048, .f32⟩
  | 114 => ⟨S4x8192x2048, .f32⟩
  | 115 => ⟨S4x8192x2048, .f32⟩
  | 116 => ⟨S1x2048, .f32⟩
  | 117 => ⟨S2048, .f32⟩
  | 118 => ⟨S1x1x2048, .f32⟩
  | 119 => ⟨S4x8192x2048, .f32⟩
  | 120 => ⟨S4x8192x2048, .f32⟩
  | 121 => ⟨S4x8192x2048, .f32⟩
  | 122 => ⟨S4x8192x2048, .f32⟩
  | 123 => ⟨S1x2048, .f32⟩
  | 124 => ⟨S2048, .f32⟩
  | 125 => ⟨S1x1x2048, .f32⟩
  | 126 => ⟨S4x8192x2048, .f32⟩
  | 127 => ⟨S4x8192x2048, .f32⟩
  | _ => ⟨S32768x2048, .f32⟩

abbrev hbmTy0_1 (i : Nat) : BufTy := match i % 128 with
  | 0 => ⟨S4x8192x2048, .f32⟩
  | 1 => ⟨S4x8192x2048, .f32⟩
  | 2 => ⟨S1x2048, .f32⟩
  | 3 => ⟨S2048, .f32⟩
  | 4 => ⟨S1x1x2048, .f32⟩
  | 5 => ⟨S4x8192x2048, .f32⟩
  | 6 => ⟨S4x8192x2048, .f32⟩
  | 7 => ⟨S4x8192x2048, .f32⟩
  | 8 => ⟨S4x8192x2048, .f32⟩
  | 9 => ⟨S1x2048, .f32⟩
  | 10 => ⟨S2048, .f32⟩
  | 11 => ⟨S1x1x2048, .f32⟩
  | 12 => ⟨S4x8192x2048, .f32⟩
  | 13 => ⟨S4x8192x2048, .f32⟩
  | 14 => ⟨S4x8192x2048, .f32⟩
  | 15 => ⟨S4x8192x2048, .f32⟩
  | 16 => ⟨S1x2048, .f32⟩
  | 17 => ⟨S2048, .f32⟩
  | 18 => ⟨S1x1x2048, .f32⟩
  | 19 => ⟨S4x8192x2048, .f32⟩
  | 20 => ⟨S4x8192x2048, .f32⟩
  | 21 => ⟨S4x8192x2048, .f32⟩
  | 22 => ⟨S4x8192x2048, .f32⟩
  | 23 => ⟨S1x2048, .f32⟩
  | 24 => ⟨S2048, .f32⟩
  | 25 => ⟨S1x1x2048, .f32⟩
  | 26 => ⟨S4x8192x2048, .f32⟩
  | 27 => ⟨S4x8192x2048, .f32⟩
  | 28 => ⟨S4x8192x2048, .f32⟩
  | 29 => ⟨S4x8192x2048, .f32⟩
  | 30 => ⟨S1x2048, .f32⟩
  | 31 => ⟨S2048, .f32⟩
  | 32 => ⟨S1x1x2048, .f32⟩
  | 33 => ⟨S4x8192x2048, .f32⟩
  | 34 => ⟨S4x8192x2048, .f32⟩
  | 35 => ⟨S4x8192x2048, .f32⟩
  | 36 => ⟨S4x8192x2048, .f32⟩
  | 37 => ⟨S1x2048, .f32⟩
  | 38 => ⟨S2048, .f32⟩
  | 39 => ⟨S1x1x2048, .f32⟩
  | 40 => ⟨S4x8192x2048, .f32⟩
  | 41 => ⟨S4x8192x2048, .f32⟩
  | 42 => ⟨S4x8192x2048, .f32⟩
  | 43 => ⟨S4x8192x2048, .f32⟩
  | 44 => ⟨S1x2048, .f32⟩
  | 45 => ⟨S2048, .f32⟩
  | 46 => ⟨S1x1x2048, .f32⟩
  | 47 => ⟨S4x8192x2048, .f32⟩
  | 48 => ⟨S4x8192x2048, .f32⟩
  | 49 => ⟨S4x8192x2048, .f32⟩
  | 50 => ⟨S4x8192x2048, .f32⟩
  | 51 => ⟨S1x2048, .f32⟩
  | 52 => ⟨S2048, .f32⟩
  | 53 => ⟨S1x1x2048, .f32⟩
  | 54 => ⟨S4x8192x2048, .f32⟩
  | 55 => ⟨S4x8192x2048, .f32⟩
  | 56 => ⟨S4x8192x2048, .f32⟩
  | 57 => ⟨S4x8192x2048, .f32⟩
  | 58 => ⟨S1x2048, .f32⟩
  | 59 => ⟨S2048, .f32⟩
  | 60 => ⟨S1x1x2048, .f32⟩
  | 61 => ⟨S4x8192x2048, .f32⟩
  | 62 => ⟨S4x8192x2048, .f32⟩
  | 63 => ⟨S4x8192x2048, .f32⟩
  | 64 => ⟨S4x8192x2048, .f32⟩
  | 65 => ⟨S1x2048, .f32⟩
  | 66 => ⟨S2048, .f32⟩
  | 67 => ⟨S1x1x2048, .f32⟩
  | 68 => ⟨S4x8192x2048, .f32⟩
  | 69 => ⟨S4x8192x2048, .f32⟩
  | 70 => ⟨S4x8192x2048, .f32⟩
  | 71 => ⟨S4x8192x2048, .f32⟩
  | 72 => ⟨S1x2048, .f32⟩
  | 73 => ⟨S2048, .f32⟩
  | 74 => ⟨S1x1x2048, .f32⟩
  | 75 => ⟨S4x8192x2048, .f32⟩
  | 76 => ⟨S4x8192x2048, .f32⟩
  | 77 => ⟨S4x8192x2048, .f32⟩
  | 78 => ⟨S4x8192x2048, .f32⟩
  | 79 => ⟨S1x2048, .f32⟩
  | 80 => ⟨S2048, .f32⟩
  | 81 => ⟨S1x1x2048, .f32⟩
  | 82 => ⟨S4x8192x2048, .f32⟩
  | 83 => ⟨S4x8192x2048, .f32⟩
  | 84 => ⟨S4x8192x2048, .f32⟩
  | 85 => ⟨S4x8192x2048, .f32⟩
  | 86 => ⟨S1x2048, .f32⟩
  | 87 => ⟨S2048, .f32⟩
  | 88 => ⟨S1x1x2048, .f32⟩
  | 89 => ⟨S4x8192x2048, .f32⟩
  | 90 => ⟨S4x8192x2048, .f32⟩
  | 91 => ⟨S4x8192x2048, .f32⟩
  | 92 => ⟨S4x8192x2048, .f32⟩
  | 93 => ⟨S1x2048, .f32⟩
  | 94 => ⟨S2048, .f32⟩
  | 95 => ⟨S1x1x2048, .f32⟩
  | 96 => ⟨S4x8192x2048, .f32⟩
  | 97 => ⟨S4x8192x2048, .f32⟩
  | 98 => ⟨S4x8192x2048, .f32⟩
  | 99 => ⟨S4x8192x2048, .f32⟩
  | 100 => ⟨S1x2048, .f32⟩
  | 101 => ⟨S2048, .f32⟩
  | 102 => ⟨S1x1x2048, .f32⟩
  | 103 => ⟨S4x8192x2048, .f32⟩
  | 104 => ⟨S4x8192x2048, .f32⟩
  | 105 => ⟨S4x8192x2048, .f32⟩
  | 106 => ⟨S2048, .f32⟩
  | 107 => ⟨S1x1x2048, .f32⟩
  | 108 => ⟨S4x8192x2048, .f32⟩
  | 109 => ⟨S4x8192x2048, .f32⟩
  | 110 => ⟨S2048, .f32⟩
  | 111 => ⟨S2048, .f32⟩
  | 112 => ⟨S_, .f32⟩
  | 113 => ⟨S4x8192, .f32⟩
  | 114 => ⟨S4x8192x1, .f32⟩
  | 115 => ⟨S_, .f32⟩
  | 116 => ⟨S4x8192x1, .f32⟩
  | 117 => ⟨S4x8192x1, .f32⟩
  | 118 => ⟨S4x8192x2048, .f32⟩
  | 119 => ⟨S4x8192x2048, .f32⟩
  | 120 => ⟨S4x8192x2048, .f32⟩
  | 121 => ⟨S_, .f32⟩
  | 122 => ⟨S4x8192, .f32⟩
  | 123 => ⟨S4x8192x1, .f32⟩
  | 124 => ⟨S_, .f32⟩
  | 125 => ⟨S4x8192x1, .f32⟩
  | 126 => ⟨S4x8192x1, .f32⟩
  | 127 => ⟨S4x8192x2048, .f32⟩
  | _ => ⟨S32768x2048, .f32⟩

abbrev hbmTy0_2 (i : Nat) : BufTy := match i % 128 with
  | 0 => ⟨S4x8192x2048, .f32⟩
  | 1 => ⟨S_, .f32⟩
  | 2 => ⟨S4x8192x1, .f32⟩
  | 3 => ⟨S4x8192x1, .f32⟩
  | 4 => ⟨S4x8192x1, .f32⟩
  | 5 => ⟨S4x8192x2048, .f32⟩
  | 6 => ⟨S4x8192x2048, .f32⟩
  | 7 => ⟨S1x1x2048, .f32⟩
  | 8 => ⟨S4x8192x2048, .f32⟩
  | 9 => ⟨S4x8192x2048, .f32⟩
  | 10 => ⟨S1x1x2048, .f32⟩
  | 11 => ⟨S4x8192x2048, .f32⟩
  | 12 => ⟨S4x8192x2048, .f32⟩
  | 13 => ⟨S4x8192x2048, .f32⟩
  | 14 => ⟨S4x8192x2048, .f32⟩
  | 15 => ⟨S_, .f32⟩
  | 16 => ⟨S4x8192x2048, .f32⟩
  | 17 => ⟨S4x8192x2048, .f32⟩
  | 18 => ⟨S_, .f32⟩
  | 19 => ⟨S4x8192x2048, .f32⟩
  | 20 => ⟨S4x8192x2048, .f32⟩
  | 21 => ⟨S4x8192x2048, .f32⟩
  | 22 => ⟨S2048x2048, .f32⟩
  | 23 => ⟨S4x8192x2048, .f32⟩
  | 24 => ⟨S4x8192x2048, .bf16⟩
  | 25 => ⟨S32768x2048, .bf16⟩
  | _ => ⟨S32768x2048, .f32⟩

abbrev hbmTy (i : Nat) : BufTy := match i / 128 with
  | 0 => hbmTy0_0 i
  | 1 => hbmTy0_1 i
  | 2 => hbmTy0_2 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_cst_0 : Ref sig .tc := ⟨.hbm, 240, rfl⟩
abbrev main_v230 : Ref sig .tc := ⟨.hbm, 241, rfl⟩
abbrev main_v231 : Ref sig .tc := ⟨.hbm, 242, rfl⟩
abbrev main_cst_1 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_cst_2 : Ref sig .tc := ⟨.hbm, 249, rfl⟩
abbrev main_v237 : Ref sig .tc := ⟨.hbm, 250, rfl⟩
abbrev main_v238 : Ref sig .tc := ⟨.hbm, 251, rfl⟩
abbrev main_cst_3 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_cst_4 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_cst_5 : Ref sig .tc := ⟨.hbm, 271, rfl⟩
abbrev main_v256 : Ref sig .tc := ⟨.hbm, 272, rfl⟩
abbrev main_v257 : Ref sig .tc := ⟨.hbm, 273, rfl⟩
abbrev main_cst_6 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩

abbrev nD : Nat := 1
abbrev τ : Topo := Topo.v7x

variable {F : FTy → Type} [FloatOps F]
-- ==== Norm.lean ====
abbrev S4x8192x2048 : Shape := ⟨3, ![4, 8192, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048, .f32⟩
  | .hbm, ⟨3, _⟩ => ⟨S32768x2048, .f32⟩
  | .hbm, ⟨4, _⟩ => ⟨S1x2048, .f32⟩
  | .hbm, ⟨5, _⟩ => ⟨S1x2048, .f32⟩
  | .hbm, ⟨6, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x2048, .f32⟩
  | .hbm, ⟨19, _⟩ => ⟨S4x8192x2048, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x2048, .f32⟩
  | .hbm, ⟨25, _⟩ => ⟨S4x8192x2048, .f32⟩
  | .hbm, ⟨26, _⟩ => ⟨S1x1x2048, .f32⟩
  | .hbm, ⟨27, _⟩ => ⟨S4x8192x2048, .f32⟩
  | .hbm, ⟨28, _⟩ => ⟨S4x8192x2048, .f32⟩
  | .hbm, ⟨29, _⟩ => ⟨S1x1x2048, .f32⟩
  | .hbm, ⟨30, _⟩ => ⟨S4x8192x2048, .f32⟩
  | .hbm, ⟨31, _⟩ => ⟨S4x8192x2048, .f32⟩
  | .hbm, ⟨32, _⟩ => ⟨S4x8192x2048, .bf16⟩
  | .hbm, ⟨33, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Forget.lean ====
abbrev S32768x2048 : Shape := ⟨2, ![32768, 2048]⟩
abbrev S1x2048x14352 : Shape := ⟨3, ![1, 2048, 14352]⟩
abbrev S1x14352 : Shape := ⟨2, ![1, 14352]⟩
abbrev S2048x14352 : Shape := ⟨2, ![2048, 14352]⟩
abbrev S2048x16 : Shape := ⟨2, ![2048, 16]⟩
abbrev S16x2048 : Shape := ⟨2, ![16, 2048]⟩
abbrev S14352 : Shape := ⟨1, ![14352]⟩
abbrev S16 : Shape := ⟨1, ![16]⟩
abbrev S16x1 : Shape := ⟨2, ![16, 1]⟩
abbrev S16x32768 : Shape := ⟨2, ![16, 32768]⟩
abbrev S512x2048 : Shape := ⟨2, ![512, 2048]⟩
abbrev S16x512 : Shape := ⟨2, ![16, 512]⟩

abbrev nBuf : Space → Nat
  | .hbm => 12
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S2048x16, .f32⟩
  | .hbm, ⟨5, _⟩ => ⟨S16x2048, .f32⟩
  | .hbm, ⟨6, _⟩ => ⟨S16x2048, .bf16⟩
  | .hbm, ⟨7, _⟩ => ⟨S14352, .f32⟩
  | .hbm, ⟨8, _⟩ => ⟨S16, .f32⟩
  | .hbm, ⟨9, _⟩ => ⟨S16x1, .f32⟩
  | .hbm, ⟨10, _⟩ => ⟨S32768x2048, .bf16⟩
  | .hbm, ⟨11, _⟩ => ⟨S16x32768, .f32⟩
  | .local _ .vmem, ⟨0, _⟩ => ⟨S16x2048, .bf16⟩
  | .local _ .vmem, ⟨1, _⟩ => ⟨S512x2048, .bf16⟩
  | .local _ .vmem, ⟨2, _⟩ => ⟨S512x2048, .bf16⟩
  | .local _ .vmem, ⟨3, _⟩ => ⟨S16x1, .f32⟩
  | .local _ .vmem, ⟨4, _⟩ => ⟨S16x512, .f32⟩
  | .local _ .vmem, ⟨5, _⟩ => ⟨S16x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ForgetReferenceIdeal.lean ====
abbrev S32768x2048 : Shape := ⟨2, ![32768, 2048]⟩
abbrev S1x2048x14352 : Shape := ⟨3, ![1, 2048, 14352]⟩
abbrev S1x14352 : Shape := ⟨2, ![1, 14352]⟩
abbrev S2048x14352 : Shape := ⟨2, ![2048, 14352]⟩
abbrev S32768x14352 : Shape := ⟨2, ![32768, 14352]⟩
abbrev S14352 : Shape := ⟨1, ![14352]⟩
abbrev S32768x16 : Shape := ⟨2, ![32768, 16]⟩
abbrev S_ : Shape := ⟨0, ![]⟩
abbrev S16x32768 : Shape := ⟨2, ![16, 32768]⟩

abbrev nBuf : Space → Nat
  | .hbm => 27
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S32768x14352, .f32⟩
  | .hbm, ⟨5, _⟩ => ⟨S14352, .f32⟩
  | .hbm, ⟨6, _⟩ => ⟨S1x14352, .f32⟩
  | .hbm, ⟨7, _⟩ => ⟨S32768x14352, .f32⟩
  | .hbm, ⟨8, _⟩ => ⟨S32768x14352, .f32⟩
  | .hbm, ⟨9, _⟩ => ⟨S32768x16, .f32⟩
  | .hbm, ⟨10, _⟩ => ⟨S32768x16, .f32⟩
  | .hbm, ⟨11, _⟩ => ⟨S_, .f32⟩
  | .hbm, ⟨12, _⟩ => ⟨S32768x16, .f32⟩
  | .hbm, ⟨13, _⟩ => ⟨S32768x16, .f32⟩
  | .hbm, ⟨14, _⟩ => ⟨S32768x16, .f32⟩
  | .hbm, ⟨15, _⟩ => ⟨S32768x16, .f32⟩
  | .hbm, ⟨16, _⟩ => ⟨S32768x16, .i1⟩
  | .hbm, ⟨17, _⟩ => ⟨S32768x16, .f32⟩
  | .hbm, ⟨18, _⟩ => ⟨S32768x16, .f32⟩
  | .hbm, ⟨19, _⟩ => ⟨S32768x16, .f32⟩
  | .hbm, ⟨20, _⟩ => ⟨S32768x16, .f32⟩
  | .hbm, ⟨21, _⟩ => ⟨S32768x16, .f32⟩
  | .hbm, ⟨22, _⟩ => ⟨S32768x16, .f32⟩
  | .hbm, ⟨23, _⟩ => ⟨S32768x16, .f32⟩
  | .hbm, ⟨24, _⟩ => ⟨S32768x16, .f32⟩
  | .hbm, ⟨25, _⟩ => ⟨S32768x16, .f32⟩
  | .hbm, ⟨26, _⟩ => ⟨S16x32768, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== Cumsum.lean ====
abbrev S4x8192x16 : Shape := ⟨3, ![4, 8192, 16]⟩
abbrev S16x16 : Shape := ⟨2, ![16, 16]⟩
abbrev S_ : Shape := ⟨0, ![]⟩
abbrev S16x128 : Shape := ⟨2, ![16, 128]⟩
abbrev S32768x16 : Shape := ⟨2, ![32768, 16]⟩
abbrev S16x32768 : Shape := ⟨2, ![16, 32768]⟩
abbrev S512x512 : Shape := ⟨2, ![512, 512]⟩
abbrev S16x512 : Shape := ⟨2, ![16, 512]⟩
abbrev S16x1 : Shape := ⟨2, ![16, 1]⟩
abbrev S128x128 : Shape := ⟨2, ![128, 128]⟩

abbrev nBuf : Space → Nat
  | .hbm => 14
  | .vmem => 8
  | .smem => 0
  | _ => 0

abbrev bufTy : (tb : Table) → Fin (tcTables nBuf tb) → BufTy
  | .hbm, ⟨0, _⟩ => ⟨S4x8192x16, .f32⟩
  | .hbm, ⟨1, _⟩ => ⟨S16x16, .f32⟩
  | .hbm, ⟨2, _⟩ => ⟨S16x16, .f32⟩
  | .hbm, ⟨3, _⟩ => ⟨S_, .i32⟩
  | .hbm, ⟨4, _⟩ => ⟨S_, .f32⟩
  | .hbm, ⟨5, _⟩ => ⟨S16x128, .f32⟩
  | .hbm, ⟨6, _⟩ => ⟨S32768x16, .f32⟩
  | .hbm, ⟨7, _⟩ => ⟨S16x32768, .f32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .bf16⟩
  | .hbm, ⟨12, _⟩ => ⟨S16x32768, .f32⟩
  | .hbm, ⟨13, _⟩ => ⟨S16x128, .f32⟩
  | .local _ .vmem, ⟨0, _⟩ => ⟨S16x512, .f32⟩
  | .local _ .vmem, ⟨1, _⟩ => ⟨S16x512, .f32⟩
  | .local _ .vmem, ⟨2, _⟩ => ⟨S16x128, .f32⟩
  | .local _ .vmem, ⟨3, _⟩ => ⟨S512x512, .bf16⟩
  | .local _ .vmem, ⟨4, _⟩ => ⟨S16x512, .f32⟩
  | .local _ .vmem, ⟨5, _⟩ => ⟨S16x512, .f32⟩
  | .local _ .vmem, ⟨6, _⟩ => ⟨S16x128, .f32⟩
  | .local _ .vmem, ⟨7, _⟩ => ⟨S16x1, .f32⟩
  | _, _ => ⟨S4x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== CumsumReferenceIdeal.lean ====
abbrev S4x8192x16 : Shape := ⟨3, ![4, 8192, 16]⟩
abbrev S16x16 : Shape := ⟨2, ![16, 16]⟩
abbrev S1x16x16 : Shape := ⟨3, ![1, 16, 16]⟩
abbrev S4x16x16 : Shape := ⟨3, ![4, 16, 16]⟩
abbrev S4x8208x16 : Shape := ⟨3, ![4, 8208, 16]⟩
abbrev S_ : Shape := ⟨0, ![]⟩
abbrev S128x16 : Shape := ⟨2, ![128, 16]⟩
abbrev S32768x16 : Shape := ⟨2, ![32768, 16]⟩
abbrev S16x32768 : Shape := ⟨2, ![16, 32768]⟩
abbrev S16x128 : Shape := ⟨2, ![16, 128]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x16, .f32⟩
  | .hbm, ⟨1, _⟩ => ⟨S16x16, .f32⟩
  | .hbm, ⟨2, _⟩ => ⟨S1x16x16, .f32⟩
  | .hbm, ⟨3, _⟩ => ⟨S4x16x16, .f32⟩
  | .hbm, ⟨4, _⟩ => ⟨S4x8208x16, .f32⟩
  | .hbm, ⟨5, _⟩ => ⟨S_, .f32⟩
  | .hbm, ⟨6, _⟩ => ⟨S_, .f32⟩
  | .hbm, ⟨7, _⟩ => ⟨S4x8208x16, .f32⟩
  | .hbm, ⟨8, _⟩ => ⟨S_, .i32⟩
  | .hbm, ⟨9, _⟩ => ⟨S_, .f32⟩
  | .hbm, ⟨10, _⟩ => ⟨S128x16, .f32⟩
  | .hbm, ⟨11, _⟩ => ⟨S_, .f32⟩
  | .hbm, ⟨12, _⟩ => ⟨S_, .f32⟩
  | .hbm, ⟨13, _⟩ => ⟨S128x16, .f32⟩
  | .hbm, ⟨14, _⟩ => ⟨S4x8192x16, .f32⟩
  | .hbm, ⟨15, _⟩ => ⟨S32768x16, .f32⟩
  | .hbm, ⟨16, _⟩ => ⟨S16x32768, .f32⟩
  | .hbm, ⟨17, _⟩ => ⟨S16x128, .f32⟩
  | _, _ => ⟨S4x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_call0_cst : Ref sig .tc := ⟨.hbm, 5, rfl⟩
abbrev main_call0_call0_v0 : Ref sig .tc := ⟨.hbm, 6, rfl⟩
abbrev main_v3 : Ref sig .tc := ⟨.hbm, 7, rfl⟩
abbrev main_c : Ref sig .tc := ⟨.hbm, 8, rfl⟩
abbrev main_call1_v0 : Ref sig .tc := ⟨.hbm, 9, rfl⟩
abbrev main_v4 : Ref sig .tc := ⟨.hbm, 10, rfl⟩
abbrev main_call2_call0_cst : Ref sig .tc := ⟨.hbm, 11, rfl⟩
abbrev main_call2_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== QkvMeta.lean ====
abbrev S16x2048 : Shape := ⟨2, ![16, 2048]⟩
abbrev S1x2048x14352 : Shape := ⟨3, ![1, 2048, 14352]⟩
abbrev S1x14352 : Shape := ⟨2, ![1, 14352]⟩
abbrev S6144 : Shape := ⟨1, ![6144]⟩
abbrev S2048x14352 : Shape := ⟨2, ![2048, 14352]⟩
abbrev S2048x10240 : Shape := ⟨2, ![2048, 10240]⟩
abbrev S14352 : Shape := ⟨1, ![14352]⟩
abbrev S10240 : Shape := ⟨1, ![10240]⟩
abbrev S1x10240 : Shape := ⟨2, ![1, 10240]⟩
abbrev S1x6144 : Shape := ⟨2, ![1, 6144]⟩
abbrev S48x16x128 : Shape := ⟨3, ![48, 16, 128]⟩
abbrev S2048x512 : Shape := ⟨2, ![2048, 512]⟩
abbrev S1x512 : Shape := ⟨2, ![1, 512]⟩
abbrev S4x16x128 : Shape := ⟨3, ![4, 16, 128]⟩
abbrev S16x512 : Shape := ⟨2, ![16, 512]⟩
abbrev S16x128 : Shape := ⟨2, ![16, 128]⟩
abbrev S1x16x128 : Shape := ⟨3, ![1, 16, 128]⟩

abbrev nBuf : Space → Nat
  | .hbm => 13
  | .vmem => 9
  | .smem => 0
  | _ => 0

abbrev bufTy : (tb : Table) → Fin (tcTables nBuf tb) → BufTy
  | .hbm, ⟨0, _⟩ => ⟨S16x2048, .f32⟩
  | .hbm, ⟨1, _⟩ => ⟨S1x2048x14352, .f32⟩
  | .hbm, ⟨2, _⟩ => ⟨S1x14352, .f32⟩
  | .hbm, ⟨3, _⟩ => ⟨S6144, .f32⟩
  | .hbm, ⟨4, _⟩ => ⟨S2048x14352, .f32⟩
  | .hbm, ⟨5, _⟩ => ⟨S2048x10240, .f32⟩
  | .hbm, ⟨6, _⟩ => ⟨S2048x10240, .bf16⟩
  | .hbm, ⟨7, _⟩ => ⟨S14352, .f32⟩
  | .hbm, ⟨8, _⟩ => ⟨S10240, .f32⟩
  | .hbm, ⟨9, _⟩ => ⟨S1x10240, .f32⟩
  | .hbm, ⟨10, _⟩ => ⟨S16x2048, .bf16⟩
  | .hbm, ⟨11, _⟩ => ⟨S1x6144, .f32⟩
  | .hbm, ⟨12, _⟩ => ⟨S48x16x128, .bf16⟩
  | .local _ .vmem, ⟨0, _⟩ => ⟨S16x2048, .bf16⟩
  | .local _ .vmem, ⟨1, _⟩ => ⟨S2048x512, .bf16⟩
  | .local _ .vmem, ⟨2, _⟩ => ⟨S2048x512, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S4x16x128, .bf16⟩
  | .local _ .vmem, ⟨8, _⟩ => ⟨S4x16x128, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvMetaReferenceIdeal.lean ====
abbrev S16x2048 : Shape := ⟨2, ![16, 2048]⟩
abbrev S1x2048x14352 : Shape := ⟨3, ![1, 2048, 14352]⟩
abbrev S1x14352 : Shape := ⟨2, ![1, 14352]⟩
abbrev S6144 : Shape := ⟨1, ![6144]⟩
abbrev S2048x14352 : Shape := ⟨2, ![2048, 14352]⟩
abbrev S16x14352 : Shape := ⟨2, ![16, 14352]⟩
abbrev S14352 : Shape := ⟨1, ![14352]⟩
abbrev S16x6144 : Shape := ⟨2, ![16, 6144]⟩
abbrev S1x6144 : Shape := ⟨2, ![1, 6144]⟩
abbrev S16x48x128 : Shape := ⟨3, ![16, 48, 128]⟩
abbrev S48x16x128 : Shape := ⟨3, ![48, 16, 128]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x14352, .f32⟩
  | .hbm, ⟨2, _⟩ => ⟨S1x14352, .f32⟩
  | .hbm, ⟨3, _⟩ => ⟨S6144, .f32⟩
  | .hbm, ⟨4, _⟩ => ⟨S2048x14352, .f32⟩
  | .hbm, ⟨5, _⟩ => ⟨S16x14352, .f32⟩
  | .hbm, ⟨6, _⟩ => ⟨S14352, .f32⟩
  | .hbm, ⟨7, _⟩ => ⟨S1x14352, .f32⟩
  | .hbm, ⟨8, _⟩ => ⟨S16x14352, .f32⟩
  | .hbm, ⟨9, _⟩ => ⟨S16x14352, .f32⟩
  | .hbm, ⟨10, _⟩ => ⟨S16x6144, .f32⟩
  | .hbm, ⟨11, _⟩ => ⟨S1x6144, .f32⟩
  | .hbm, ⟨12, _⟩ => ⟨S16x6144, .f32⟩
  | .hbm, ⟨13, _⟩ => ⟨S16x6144, .f32⟩
  | .hbm, ⟨14, _⟩ => ⟨S16x48x128, .f32⟩
  | .hbm, ⟨15, _⟩ => ⟨S48x16x128, .f32⟩
  | .hbm, ⟨16, _⟩ => ⟨S48x16x128, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== GluMeta.lean ====
abbrev S16x2048 : Shape := ⟨2, ![16, 2048]⟩
abbrev S1x2048x14352 : Shape := ⟨3, ![1, 2048, 14352]⟩
abbrev S1x14352 : Shape := ⟨2, ![1, 14352]⟩
abbrev S2048x14352 : Shape := ⟨2, ![2048, 14352]⟩
abbrev S2048x10240 : Shape := ⟨2, ![2048, 10240]⟩
abbrev S14352 : Shape := ⟨1, ![14352]⟩
abbrev S10240 : Shape := ⟨1, ![10240]⟩
abbrev S1x10240 : Shape := ⟨2, ![1, 10240]⟩
abbrev S2048x512 : Shape := ⟨2, ![2048, 512]⟩
abbrev S1x512 : Shape := ⟨2, ![1, 512]⟩
abbrev S16x512 : Shape := ⟨2, ![16, 512]⟩

abbrev nBuf : Space → Nat
  | .hbm => 11
  | .vmem => 11
  | .smem => 0
  | _ => 0

abbrev bufTy : (tb : Table) → Fin (tcTables nBuf tb) → BufTy
  | .hbm, ⟨0, _⟩ => ⟨S16x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S2048x10240, .f32⟩
  | .hbm, ⟨5, _⟩ => ⟨S2048x10240, .bf16⟩
  | .hbm, ⟨6, _⟩ => ⟨S14352, .f32⟩
  | .hbm, ⟨7, _⟩ => ⟨S10240, .f32⟩
  | .hbm, ⟨8, _⟩ => ⟨S1x10240, .f32⟩
  | .hbm, ⟨9, _⟩ => ⟨S16x2048, .bf16⟩
  | .hbm, ⟨10, _⟩ => ⟨S16x2048, .f32⟩
  | .local _ .vmem, ⟨0, _⟩ => ⟨S16x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S16x512, .f32⟩
  | .local _ .vmem, ⟨10, _⟩ => ⟨S16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluMetaReferenceIdeal.lean ====
abbrev S16x2048 : Shape := ⟨2, ![16, 2048]⟩
abbrev S1x2048x14352 : Shape := ⟨3, ![1, 2048, 14352]⟩
abbrev S1x14352 : Shape := ⟨2, ![1, 14352]⟩
abbrev S2048x14352 : Shape := ⟨2, ![2048, 14352]⟩
abbrev S16x14352 : Shape := ⟨2, ![16, 14352]⟩
abbrev S14352 : Shape := ⟨1, ![14352]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S16x14352, .f32⟩
  | .hbm, ⟨5, _⟩ => ⟨S14352, .f32⟩
  | .hbm, ⟨6, _⟩ => ⟨S1x14352, .f32⟩
  | .hbm, ⟨7, _⟩ => ⟨S16x14352, .f32⟩
  | .hbm, ⟨8, _⟩ => ⟨S16x14352, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ForgetMeta.lean ====
abbrev S16x2048 : Shape := ⟨2, ![16, 2048]⟩
abbrev S1x2048x14352 : Shape := ⟨3, ![1, 2048, 14352]⟩
abbrev S1x14352 : Shape := ⟨2, ![1, 14352]⟩
abbrev S2048x14352 : Shape := ⟨2, ![2048, 14352]⟩
abbrev S2048x16 : Shape := ⟨2, ![2048, 16]⟩
abbrev S14352 : Shape := ⟨1, ![14352]⟩
abbrev S16 : Shape := ⟨1, ![16]⟩
abbrev S16x1 : Shape := ⟨2, ![16, 1]⟩
abbrev S16x16 : Shape := ⟨2, ![16, 16]⟩

abbrev nBuf : Space → Nat
  | .hbm => 12
  | .vmem => 4
  | .smem => 0
  | _ => 0

abbrev bufTy : (tb : Table) → Fin (tcTables nBuf tb) → BufTy
  | .hbm, ⟨0, _⟩ => ⟨S16x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S2048x16, .f32⟩
  | .hbm, ⟨5, _⟩ => ⟨S16x2048, .f32⟩
  | .hbm, ⟨6, _⟩ => ⟨S16x2048, .bf16⟩
  | .hbm, ⟨7, _⟩ => ⟨S14352, .f32⟩
  | .hbm, ⟨8, _⟩ => ⟨S16, .f32⟩
  | .hbm, ⟨9, _⟩ => ⟨S16x1, .f32⟩
  | .hbm, ⟨10, _⟩ => ⟨S16x2048, .bf16⟩
  | .hbm, ⟨11, _⟩ => ⟨S16x16, .f32⟩
  | .local _ .vmem, ⟨0, _⟩ => ⟨S16x2048, .bf16⟩
  | .local _ .vmem, ⟨1, _⟩ => ⟨S16x2048, .bf16⟩
  | .local _ .vmem, ⟨2, _⟩ => ⟨S16x1, .f32⟩
  | .local _ .vmem, ⟨3, _⟩ => ⟨S16x16, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== ForgetMetaReferenceIdeal.lean ====
abbrev S16x2048 : Shape := ⟨2, ![16, 2048]⟩
abbrev S1x2048x14352 : Shape := ⟨3, ![1, 2048, 14352]⟩
abbrev S1x14352 : Shape := ⟨2, ![1, 14352]⟩
abbrev S2048x14352 : Shape := ⟨2, ![2048, 14352]⟩
abbrev S16x14352 : Shape := ⟨2, ![16, 14352]⟩
abbrev S14352 : Shape := ⟨1, ![14352]⟩
abbrev S16x16 : Shape := ⟨2, ![16, 16]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x14352, .f32⟩
  | .hbm, ⟨2, _⟩ => ⟨S1x14352, .f32⟩
  | .hbm, ⟨3, _⟩ => ⟨S2048x14352, .f32⟩
  | .hbm, ⟨4, _⟩ => ⟨S16x14352, .f32⟩
  | .hbm, ⟨5, _⟩ => ⟨S14352, .f32⟩
  | .hbm, ⟨6, _⟩ => ⟨S1x14352, .f32⟩
  | .hbm, ⟨7, _⟩ => ⟨S16x14352, .f32⟩
  | .hbm, ⟨8, _⟩ => ⟨S16x14352, .f32⟩
  | .hbm, ⟨9, _⟩ => ⟨S16x16, .f32⟩
  | .hbm, ⟨10, _⟩ => ⟨S16x16, .f32⟩
  | .hbm, ⟨11, _⟩ => ⟨S_, .f32⟩
  | .hbm, ⟨12, _⟩ => ⟨S16x16, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S16x16, .i1⟩
  | .hbm, ⟨17, _⟩ => ⟨S16x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S16x16, .f32⟩
  | .hbm, ⟨26, _⟩ => ⟨S16x16, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== NormMeta.lean ====
abbrev S16x2048 : Shape := ⟨2, ![16, 2048]⟩
abbrev S2048 : Shape := ⟨1, ![2048]⟩
abbrev S1x2048 : Shape := ⟨2, ![1, 2048]⟩
abbrev S16 : Shape := ⟨1, ![16]⟩
abbrev S16x1 : Shape := ⟨2, ![16, 1]⟩

abbrev nBuf : Space → Nat
  | .hbm => 6
  | .vmem => 4
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S16x2048, .bf16⟩
  | .local _ .vmem, ⟨0, _⟩ => ⟨S16x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== NormMetaReferenceIdeal.lean ====
abbrev S16x2048 : Shape := ⟨2, ![16, 2048]⟩
abbrev S2048 : Shape := ⟨1, ![2048]⟩
abbrev S_ : Shape := ⟨0, ![]⟩
abbrev S16 : Shape := ⟨1, ![16]⟩
abbrev S16x1 : Shape := ⟨2, ![16, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S16, .f32⟩
  | .hbm, ⟨5, _⟩ => ⟨S16x1, .f32⟩
  | .hbm, ⟨6, _⟩ => ⟨S_, .f32⟩
  | .hbm, ⟨7, _⟩ => ⟨S16x1, .f32⟩
  | .hbm, ⟨8, _⟩ => ⟨S16x1, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16, .f32⟩
  | .hbm, ⟨14, _⟩ => ⟨S16x1, .f32⟩
  | .hbm, ⟨15, _⟩ => ⟨S_, .f32⟩
  | .hbm, ⟨16, _⟩ => ⟨S16x1, .f32⟩
  | .hbm, ⟨17, _⟩ => ⟨S16x1, .f32⟩
  | .hbm, ⟨18, _⟩ => ⟨S16x2048, .f32⟩
  | .hbm, ⟨19, _⟩ => ⟨S16x2048, .f32⟩
  | .hbm, ⟨20, _⟩ => ⟨S_, .f32⟩
  | .hbm, ⟨21, _⟩ => ⟨S16x1, .f32⟩
  | .hbm, ⟨22, _⟩ => ⟨S16x1, .f32⟩
  | .hbm, ⟨23, _⟩ => ⟨S16x1, .f32⟩
  | .hbm, ⟨24, _⟩ => ⟨S16x2048, .f32⟩
  | .hbm, ⟨25, _⟩ => ⟨S16x2048, .f32⟩
  | .hbm, ⟨26, _⟩ => ⟨S1x2048, .f32⟩
  | .hbm, ⟨27, _⟩ => ⟨S16x2048, .f32⟩
  | .hbm, ⟨28, _⟩ => ⟨S16x2048, .f32⟩
  | .hbm, ⟨29, _⟩ => ⟨S1x2048, .f32⟩
  | .hbm, ⟨30, _⟩ => ⟨S16x2048, .f32⟩
  | .hbm, ⟨31, _⟩ => ⟨S16x2048, .f32⟩
  | .hbm, ⟨32, _⟩ => ⟨S16x2048, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Block.lean ====
/- What one grid point of the attention computes, stated apart from the program that computes it: the scores of a
   block of keys, the online softmax step that absorbs a block, the walk over the blocks before the query's own, and
   the block of the output that the walk ends in. -/
module

public import proofs.«01_k».proof.Proof.Gen.KernelIdeal.Skeleton
public import proofs.«01_k».proof.Proof.Gen.KernelIdeal
public import Idealize.ShloMosaic.Lib.Pipeline.FrameBody
public import Idealize.ShloMosaic.Lib.ValueIdxCore

@[expose] public section

set_option maxRecDepth 16384

noncomputable section

namespace Cert.KernelIdeal.Attn

open Idealize.ShloMosaic Idealize.ShloMosaic.TcCoe
open Idealize.ShloMosaic.ValueIdx
open Cert.KernelIdeal.Gen

variable {F : FTy → Type} [FloatOps F] [Named F]

/-- What is carried along the keys: each row's running maximum, running sum of weights, and weighted sum of values. -/
abbrev Carry (F : FTy → Type) [FloatOps F] : Type :=
  FVec F S512x1 .f32 × FVec F S512x1 .f32 × FVec F S512x128 .f32

/-- Block `n` of 512 gate entries out of a head's 8192. -/
def gateBlk (x : Vec F S1x1x8192 .f32) (n : ℕ) : Vec F S1x1x512 .f32 :=
  fun y => x (ix3 0 0 ⟨(512 * n + (y 2).val) % 8192, Nat.mod_lt _ (by norm_num)⟩)

/-- The 128 gate entries that begin at block `n`. -/
def gateHead (x : Vec F S1x1x8192 .f32) (n : ℕ) : Vec F S1x1x128 .f32 :=
  fun y => x (ix3 0 0 ⟨(512 * n + (y 2).val) % 8192, Nat.mod_lt _ (by norm_num)⟩)

/-- Block `n` of 512 keys (or values) out of a head's 8192. -/
def rowBlk (x : Vec F S1x8192x128 .bf16) (n : ℕ) : Vec F S1x512x128 .bf16 :=
  fun y => x (ix3 0 ⟨(512 * n + (y 1).val) % 8192, Nat.mod_lt _ (by norm_num)⟩ (y 2))

/-- The query block as a matrix. -/
def queries (x : Vec F S1x512x128 .bf16) : FVec F S512x128 .bf16 :=
  shapeCast S512x128 x shapeCasts_S1x512x128_S512x128

/-- The gate entry of the query block's first row. -/
def gate0 (x : Vec F S1x1x128 .f32) : FVec F S1x1 .f32 :=
  extractStridedSlice S1x1 ![0, 0] (shapeCast S1x128 x shapeCasts_S1x1x128_S1x128) slices_S1x128_o0_0_S1x1

/-- The scores of a block of 512 keys, in base two: products of queries and keys, plus the gate bias of each key
    relative to the query block's first row. -/
def scores (q : FVec F S512x128 .bf16) (g : FVec F S1x1 .f32) (cb : Vec F S1x1x512 .f32) (kb : Vec F S1x512x128 .bf16) :
    FVec F S512x512 .f32 :=
  addf
    (matmul dot_S512x128_S512x128_S512x512_1_1_0_0_n_n none q (shapeCast S512x128 kb shapeCasts_S1x512x128_S512x128)
      (constant S512x512 .f32 0x00000000#32))
    (broadcastTo S512x512
      (mulf (subf (broadcastTo S1x512 g broadcasts_S1x1_S1x512) (shapeCast S1x512 cb shapeCasts_S1x1x512_S1x512))
        (broadcast S1x512 (Named.named κ "log2e" 0x3FB8AA3B#32 : F .f32)))
      broadcasts_S1x512_S512x512)

/-- The scores of the meta block of 128 keys. -/
def scoresM (q : FVec F S512x128 .bf16) (g : FVec F S1x1 .f32) (cb : Vec F S1x1x128 .f32) (kb : Vec F S1x128x128 .bf16) :
    FVec F S512x128 .f32 :=
  addf
    (matmul dot_S512x128_S128x128_S512x128_1_1_0_0_n_n none q (shapeCast S128x128 kb shapeCasts_S1x128x128_S128x128)
      (constant S512x128 .f32 0x00000000#32))
    (broadcastTo S512x128
      (mulf (subf (broadcastTo S1x128 g broadcasts_S1x1_S1x128) (shapeCast S1x128 cb shapeCasts_S1x1x128_S1x128))
        (broadcast S1x128 (Named.named κ "log2e" 0x3FB8AA3B#32 : F .f32)))
      broadcasts_S1x128_S512x128)

/-- The scores of the query's own block: a key after the query is masked away. -/
def causal (s : FVec F S512x512 .f32) : FVec F S512x512 .f32 :=
  select (cmpi .sle (iota .tc S512x512 32 [1] iota_S512x512_d1_w32) (iota .tc S512x512 32 [0] iota_S512x512_d0_w32)) s
    (broadcast S512x512 (Scalar.ofBits .f32 0xFF800000#32 : F .f32))

/-- The maximum after a block. -/
def newMax (m : FVec F S512x1 .f32) (s : FVec F S512x512 .f32) : FVec F S512x1 .f32 :=
  maximumf m (shapeCast S512x1 (multiReduction .maximumf [1] S512 s 0xFF800000#32 reduces_S512x512_S512 (.inl rfl) rfl)
    shapeCasts_S512_S512x1)

/-- The weights of a block at the maximum `m`. -/
def weights (m : FVec F S512x1 .f32) (s : FVec F S512x512 .f32) : FVec F S512x512 .f32 :=
  exp2 (subf s (broadcastTo S512x512 m broadcasts_S512x1_S512x512))

/-- The factor by which sums taken at the maximum `m` are brought to the maximum `m'`. -/
def shrink (m m' : FVec F S512x1 .f32) : FVec F S512x1 .f32 := exp2 (subf m m')

/-- The online softmax step: a block with scores `s` and values `vb` absorbed into what is carried. -/
def absorb (a : Carry F) (s : FVec F S512x512 .f32) (vb : Vec F S1x512x128 .bf16) : Carry F :=
  (newMax a.1 s,
    addf (mulf (shrink a.1 (newMax a.1 s)) a.2.1)
      (shapeCast S512x1 (multiReduction .add [1] S512 (weights (newMax a.1 s) s) 0x00000000#32 reduces_S512x512_S512 (.inl rfl) rfl)
        shapeCasts_S512_S512x1),
    addf (mulf (broadcastTo S512x128 (shrink a.1 (newMax a.1 s)) broadcasts_S512x1_S512x128) a.2.2)
      (matmul dot_S512x512_S512x128_S512x128_1_0_0_1_n_n none (truncf .bf16 (weights (newMax a.1 s) s) bitsLt_bf16_f32)
        (shapeCast S512x128 vb shapeCasts_S1x512x128_S512x128) (constant S512x128 .f32 0x00000000#32)))

/-- The meta block's row maximum. -/
def startMax (s : FVec F S512x128 .f32) : FVec F S512x1 .f32 :=
  shapeCast S512x1 (multiReduction .maximumf [1] S512 s 0xFF800000#32 reduces_S512x128_S512 (.inl rfl) rfl) shapeCasts_S512_S512x1

/-- The meta block's weights. -/
def startWeights (s : FVec F S512x128 .f32) : FVec F S512x128 .f32 :=
  exp2 (subf s (broadcastTo S512x128 (startMax s) broadcasts_S512x1_S512x128))

/-- What is carried after the meta block, the first one met. -/
def start (s : FVec F S512x128 .f32) (vb : Vec F S1x128x128 .bf16) : Carry F :=
  (startMax s,
    shapeCast S512x1 (multiReduction .add [1] S512 (startWeights s) 0x00000000#32 reduces_S512x128_S512 (.inl rfl) rfl)
      shapeCasts_S512_S512x1,
    matmul dot_S512x128_S128x128_S512x128_1_0_0_1_n_n none (truncf .bf16 (startWeights s) bitsLt_bf16_f32)
      (shapeCast S128x128 vb shapeCasts_S1x128x128_S128x128) (constant S512x128 .f32 0x00000000#32))

/-- The block of the output: the weighted sum of values over the sum of weights. -/
def finish (a : Carry F) : FVec F S512x128 .bf16 :=
  truncf .bf16 (divf a.2.2 (broadcastTo S512x128 a.2.1 broadcasts_S512x1_S512x128)) bitsLt_bf16_f32

/-- The carry `a` after block `n` of keys, values and gate entries, none of them masked. -/
def stepAt (q : FVec F S512x128 .bf16) (g : FVec F S1x1 .f32) (xk xv : Vec F S1x8192x128 .bf16) (xc : Vec F S1x1x8192 .f32)
    (n : ℕ) (a : Carry F) : Carry F :=
  absorb a (scores q g (gateBlk xc n) (rowBlk xk n)) (rowBlk xv n)

/-- The carry after the first `n` blocks, from `a`. -/
def walk (q : FVec F S512x128 .bf16) (g : FVec F S1x1 .f32) (xk xv : Vec F S1x8192x128 .bf16) (xc : Vec F S1x1x8192 .f32)
    (a : Carry F) : ℕ → Carry F
  | 0 => a
  | n + 1 => stepAt q g xk xv xc n (walk q g xk xv xc a n)

/-- The query's own block, absorbed with its mask, and the output block that results. -/
def lastAt (q : FVec F S512x128 .bf16) (g : FVec F S1x1 .f32) (xk xv : Vec F S1x8192x128 .bf16) (xc : Vec F S1x1x8192 .f32)
    (n : ℕ) (a : Carry F) : FVec F S512x128 .bf16 :=
  finish (absorb a (causal (scores q g (gateBlk xc n) (rowBlk xk n))) (rowBlk xv n))

/-- The output block of query block `n`: the meta block, the `n` blocks before the query's own, and its own. -/
def attnBlk (n : ℕ) (xq : Vec F S1x512x128 .bf16) (xk xv : Vec F S1x8192x128 .bf16) (xkm xvm : Vec F S1x128x128 .bf16)
    (xc : Vec F S1x1x8192 .f32) (xcm : Vec F S1x1x128 .f32) : FVec F S512x128 .bf16 :=
  lastAt (queries xq) (gate0 (gateHead xc n)) xk xv xc n
    (walk (queries xq) (gate0 (gateHead xc n)) xk xv xc
      (start (scoresM (queries xq) (gate0 (gateHead xc n)) xcm xkm) xvm) n)

/-! ## Loads at the blocks -/

/-- A load of 512 gate entries at the offset of block `n` is block `n`. -/
theorem ld_gateBlk (x : Vec F S1x1x8192 .f32) (off : Fin 3 → ℕ) (n : ℕ) (hoff : off = ![0, 0, 512 * n]) (hn : n < 16)
    (inb : ∀ a, off a + S1x1x512.size a ≤ S1x1x8192.size a) :
    View.ld x (Rect.unit (s := S1x1x8192) off S1x1x512.size inb) = gateBlk x n := by
  subst hoff
  funext y
  have h0 : (y 0).val < 1 := (y 0).isLt
  have h1 : (y 1).val < 1 := (y 1).isLt
  have hy : (y 2).val < 512 := (y 2).isLt
  refine congrArg x (funext fun a => Fin.ext ?_)
  fin_cases a
  · show 0 + 1 * (y 0).val = 0; omega
  · show 0 + 1 * (y 1).val = 0; omega
  · show 512 * n + 1 * (y 2).val = (512 * n + (y 2).val) % 8192; omega

/-- A load of 128 gate entries at the offset of block `n`. -/
theorem ld_gateHead (x : Vec F S1x1x8192 .f32) (off : Fin 3 → ℕ) (n : ℕ) (hoff : off = ![0, 0, 512 * n]) (hn : n < 16)
    (inb : ∀ a, off a + S1x1x128.size a ≤ S1x1x8192.size a) :
    View.ld x (Rect.unit (s := S1x1x8192) off S1x1x128.size inb) = gateHead x n := by
  subst hoff
  funext y
  have h0 : (y 0).val < 1 := (y 0).isLt
  have h1 : (y 1).val < 1 := (y 1).isLt
  have hy : (y 2).val < 128 := (y 2).isLt
  refine congrArg x (funext fun a => Fin.ext ?_)
  fin_cases a
  · show 0 + 1 * (y 0).val = 0; omega
  · show 0 + 1 * (y 1).val = 0; omega
  · show 512 * n + 1 * (y 2).val = (512 * n + (y 2).val) % 8192; omega

/-- A load of 512 keys or values at the offset of block `n` is block `n`. -/
theorem ld_rowBlk (x : Vec F S1x8192x128 .bf16) (off : Fin 3 → ℕ) (n : ℕ) (hoff : off = ![0, 512 * n, 0]) (hn : n < 16)
    (inb : ∀ a, off a + S1x512x128.size a ≤ S1x8192x128.size a) :
    View.ld x (Rect.unit (s := S1x8192x128) off S1x512x128.size inb) = rowBlk x n := by
  subst hoff
  funext y
  have h0 : (y 0).val < 1 := (y 0).isLt
  have hy : (y 1).val < 512 := (y 1).isLt
  refine congrArg x (funext fun a => Fin.ext ?_)
  fin_cases a
  · show 0 + 1 * (y 0).val = 0; omega
  · show 512 * n + 1 * (y 1).val = (512 * n + (y 1).val) % 8192; omega
  · show 0 + 1 * (y 2).val = (y 2).val; omega

end Cert.KernelIdeal.Attn

end
-- ==== Proof.Offsets.lean ====
/- The kernel's word arithmetic in closed form: how many groups of four blocks the loop takes, which branch of the switch
   a query block takes, and where each load begins, all by the number `i 2` of the query block. -/
module

public import proofs.«01_k».proof.Proof.Gen.KernelIdeal.Skeleton
public import proofs.«01_k».proof.Proof.Gen.KernelIdeal

@[expose] public section

set_option maxRecDepth 16384

namespace Cert.KernelIdeal.Attn

open Idealize.ShloMosaic Idealize.ShloMosaic.TcCoe
open Cert.KernelIdeal.Gen

/-! ## The program's offsets, loop bound and branches -/

theorem trips_eq : ∀ i : grid0.Coords, (k0_t1_loop i).trips = (i 2).val / 4 := by decide +kernel

theorem off1_eq : ∀ i : grid0.Coords, k0_off1 i = ![0, 0, 512 * (i 2).val] := by decide +kernel

theorem cond1_eq : ∀ i : grid0.Coords, k0_cond1 i = 1#1 ↔ (i 2).val % 4 ≠ 0 := by decide +kernel
theorem cond2_eq : ∀ i : grid0.Coords, k0_cond1 i = 1#1 → (k0_cond2 i = 1#1 ↔ (i 2).val % 4 ≠ 1) := by decide +kernel
theorem cond3_eq : ∀ i : grid0.Coords, k0_cond1 i = 1#1 → k0_cond2 i = 1#1 → (k0_cond3 i = 1#1 ↔ (i 2).val % 4 = 3) := by
  decide +kernel

theorem off6_eq : ∀ i : grid0.Coords, (i 2).val % 4 = 3 → ∀ r : Fin 4,
    k0_off6 i (BitVec.ofNat 32 (512 * r.val)) = ![0, 0, 512 * ((i 2).val - r.val)] := by decide +kernel
theorem off7_eq : ∀ i : grid0.Coords, (i 2).val % 4 = 3 → ∀ r : Fin 4,
    k0_off7 i (BitVec.ofNat 32 (512 * r.val)) = ![0, 512 * ((i 2).val - r.val), 0] := by decide +kernel
theorem off8_eq : ∀ i : grid0.Coords, (i 2).val % 4 = 2 → ∀ r : Fin 3,
    k0_off8 i (BitVec.ofNat 32 (512 * r.val)) = ![0, 0, 512 * ((i 2).val - r.val)] := by decide +kernel
theorem off9_eq : ∀ i : grid0.Coords, (i 2).val % 4 = 2 → ∀ r : Fin 3,
    k0_off9 i (BitVec.ofNat 32 (512 * r.val)) = ![0, 512 * ((i 2).val - r.val), 0] := by decide +kernel
theorem off10_eq : ∀ i : grid0.Coords, (i 2).val % 4 = 1 → ∀ r : Fin 2,
    k0_off10 i (BitVec.ofNat 32 (512 * r.val)) = ![0, 0, 512 * ((i 2).val - r.val)] := by decide +kernel
theorem off11_eq : ∀ i : grid0.Coords, (i 2).val % 4 = 1 → ∀ r : Fin 2,
    k0_off11 i (BitVec.ofNat 32 (512 * r.val)) = ![0, 512 * ((i 2).val - r.val), 0] := by decide +kernel
theorem off12_eq : ∀ i : grid0.Coords, k0_off12 i = ![0, 0, 512 * (i 2).val] := by decide +kernel
theorem off13_eq : ∀ i : grid0.Coords, k0_off13 i = ![0, 512 * (i 2).val, 0] := by decide +kernel

theorem off2_eq : ∀ (i : grid0.Coords) (k : Fin (k0_t1_loop i).trips) (r : Fin 4),
    k0_off2 i k (BitVec.ofNat 32 (512 * r.val)) = ![0, 0, 512 * (4 * k.val + r.val)] := by decide +kernel
theorem off3_eq : ∀ (i : grid0.Coords) (k : Fin (k0_t1_loop i).trips) (r : Fin 4),
    k0_off3 i k (BitVec.ofNat 32 (512 * r.val)) = ![0, 512 * (4 * k.val + r.val), 0] := by decide +kernel

end Cert.KernelIdeal.Attn
-- ==== Proof.Trip.lean ====
/- The counted loop of the attention: its trip absorbs four blocks in order, so that after `k` trips what is carried is
   the walk over the first `4 k` blocks. -/
module

public import proofs.«01_k».proof.Proof.Gen.KernelIdeal.Frame
public import proofs.«01_k».proof.Proof.Gen.KernelIdeal.Loops
public import proofs.«01_k».proof.Proof.Block
public import proofs.«01_k».proof.Proof.Offsets

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open Idealize.SL.Sem
open Cert.KernelIdeal.Gen

variable {F : FTy → Type} [FloatOps F] [Named F]

theorem trips_le (i : grid0.Coords) (k : Fin (k0_t1_loop i).trips) : 4 * k.val + 3 < 16 := by
  have h1 := k.isLt
  have h2 := trips_eq i
  have h3 : (i 2).val < 16 := (i 2).isLt
  omega

section
variable (𝒱 : Variants) (c : Dev nD) (bd : Option 𝒱.V) (i : grid0.Coords)
  (arg3 : Memref sig .tc .vmem S1x512x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x128x128 .bf16) (harg6 : arg6.IsWhole)
  (arg7 : Memref sig .tc .vmem S1x128x128 .bf16) (harg7 : arg7.IsWhole) (arg8 : Memref sig .tc .vmem S1x1x8192 .f32) (harg8 : arg8.IsWhole)
  (arg9 : Memref sig .tc .vmem S1x1x128 .f32) (harg9 : arg9.IsWhole) (arg10 : Memref sig .tc .vmem S512x128 .bf16) (harg10 : arg10.IsWhole)
  (v1 : FVec F S512x128 .bf16) (v7 : FVec F S1x1 .f32)
  (f4 : BufTy.Contents (Elt F) arg4.view.ty) (f5 : BufTy.Contents (Elt F) arg5.view.ty) (f8 : BufTy.Contents (Elt F) arg8.view.ty)

/-- One trip absorbs blocks `4 k` to `4 k + 3`, in order. -/
theorem tripR_eq (k : Fin (k0_t1_loop i).trips) (acc : Carry F) :
    tripR_k0_t1 (F := F) 𝒱 c bd i arg3 harg3 arg4 harg4 arg5 harg5 arg6 harg6 arg7 harg7 arg8 harg8 arg9 harg9 arg10 harg10 v1 v7 f4 f5 f8 k acc
      = stepAt v1 v7 (arg4.view.read (Elt F) f4) (arg5.view.read (Elt F) f5) (arg8.view.read (Elt F) f8) (4 * k.val + 3)
          (stepAt v1 v7 (arg4.view.read (Elt F) f4) (arg5.view.read (Elt F) f5) (arg8.view.read (Elt F) f8) (4 * k.val + 2)
            (stepAt v1 v7 (arg4.view.read (Elt F) f4) (arg5.view.read (Elt F) f5) (arg8.view.read (Elt F) f8) (4 * k.val + 1)
              (stepAt v1 v7 (arg4.view.read (Elt F) f4) (arg5.view.read (Elt F) f5) (arg8.view.read (Elt F) f8) (4 * k.val) acc))) := by
  have hk := trips_le i k
  unfold tripR_k0_t1 trip_k0_t1
  dsimp only
  unfold stepAt
  rw [← ld_gateBlk (arg8.view.read (Elt F) f8) (k0_off2 i k 0#32) (4 * k.val) (off2_eq i k 0) (by omega) (k0_off2_inb i k 0),
    ← ld_gateBlk (arg8.view.read (Elt F) f8) (k0_off2 i k 512#32) (4 * k.val + 1) (off2_eq i k 1) (by omega) (k0_off2_inb i k 1),
    ← ld_gateBlk (arg8.view.read (Elt F) f8) (k0_off2 i k 1024#32) (4 * k.val + 2) (off2_eq i k 2) (by omega) (k0_off2_inb i k 2),
    ← ld_gateBlk (arg8.view.read (Elt F) f8) (k0_off2 i k 1536#32) (4 * k.val + 3) (off2_eq i k 3) (by omega) (k0_off2_inb i k 3),
    ← ld_rowBlk (arg4.view.read (Elt F) f4) (k0_off3 i k 0#32) (4 * k.val) (off3_eq i k 0) (by omega) (k0_off3_inb i k 0),
    ← ld_rowBlk (arg4.view.read (Elt F) f4) (k0_off3 i k 512#32) (4 * k.val + 1) (off3_eq i k 1) (by omega) (k0_off3_inb i k 1),
    ← ld_rowBlk (arg4.view.read (Elt F) f4) (k0_off3 i k 1024#32) (4 * k.val + 2) (off3_eq i k 2) (by omega) (k0_off3_inb i k 2),
    ← ld_rowBlk (arg4.view.read (Elt F) f4) (k0_off3 i k 1536#32) (4 * k.val + 3) (off3_eq i k 3) (by omega) (k0_off3_inb i k 3),
    ← ld_rowBlk (arg5.view.read (Elt F) f5) (k0_off3 i k 0#32) (4 * k.val) (off3_eq i k 0) (by omega) (k0_off3_inb i k 0),
    ← ld_rowBlk (arg5.view.read (Elt F) f5) (k0_off3 i k 512#32) (4 * k.val + 1) (off3_eq i k 1) (by omega) (k0_off3_inb i k 1),
    ← ld_rowBlk (arg5.view.read (Elt F) f5) (k0_off3 i k 1024#32) (4 * k.val + 2) (off3_eq i k 2) (by omega) (k0_off3_inb i k 2),
    ← ld_rowBlk (arg5.view.read (Elt F) f5) (k0_off3 i k 1536#32) (4 * k.val + 3) (off3_eq i k 3) (by omega) (k0_off3_inb i k 3)]
  obtain ⟨m, l, a⟩ := acc
  rfl

/-- After `n` trips the carry is the walk over the first `4 n` blocks. -/
theorem st_eq (init : Carry F) : ∀ n : ℕ, n ≤ (k0_t1_loop i).trips →
    st_k0_t1 (F := F) 𝒱 c bd i arg3 harg3 arg4 harg4 arg5 harg5 arg6 harg6 arg7 harg7 arg8 harg8 arg9 harg9 arg10 harg10 v1 v7 f4 f5 f8 init n
      = walk v1 v7 (arg4.view.read (Elt F) f4) (arg5.view.read (Elt F) f5) (arg8.view.read (Elt F) f8) init (4 * n) := by
  intro n
  induction n with
  | zero => intro _; exact st_k0_t1_zero ..
  | succ n ih =>
    intro hn
    have h := st_k0_t1_succ (F := F) 𝒱 c bd i arg3 harg3 arg4 harg4 arg5 harg5 arg6 harg6 arg7 harg7 arg8 harg8 arg9 harg9 arg10 harg10 v1 v7 f4 f5 f8 init ⟨n, hn⟩
    rw [h, tripR_eq]
    simp only [ih (Nat.le_of_succ_le hn)]
    rfl

/-- After the loop: the walk over the blocks of all full groups. -/
theorem st_trips (init : Carry F) :
    st_k0_t1 (F := F) 𝒱 c bd i arg3 harg3 arg4 harg4 arg5 harg5 arg6 harg6 arg7 harg7 arg8 harg8 arg9 harg9 arg10 harg10 v1 v7 f4 f5 f8 init
        (Scf.trips (k0_t1_loop i).lb (k0_t1_loop i).ub (k0_t1_loop i).st)
      = walk v1 v7 (arg4.view.read (Elt F) f4) (arg5.view.read (Elt F) f5) (arg8.view.read (Elt F) f8) init (4 * ((i 2).val / 4)) := by
  have h := st_eq 𝒱 c bd i arg3 harg3 arg4 harg4 arg5 harg5 arg6 harg6 arg7 harg7 arg8 harg8 arg9 harg9 arg10 harg10 v1 v7 f4 f5 f8 init (k0_t1_loop i).trips le_rfl
  rw [← trips_eq i]
  exact h
end

end Cert.KernelIdeal.Attn

end
-- ==== Proof.Body.lean ====
/- The attention kernel's body at a grid point: from whole staging buffers holding a point's blocks, it runs to the output
   buffer holding `attnBlk` of them. One run for each branch of the switch. -/
module

public import proofs.«01_k».proof.Proof.Trip
public import Idealize.ShloMosaic.Lib.LoopRemainder
public import Idealize.ShloMosaic.Lib.Pipeline.Value
public import Idealize.ShloMosaic.Lib.Tactic.Stretches

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The output buffer's one store covers it. -/
theorem cover_out (p : Vec F S512x128 .bf16) (y : S512x128.Idx) :
    ∃ pc ∈ ([⟨Rect.unit (s := S512x128) ![0, 0] S512x128.size inb_S512x128_S512x128_0_0, p⟩] : List (View.Piece (Elt F) S512x128 .bf16)),
      y ∈ pc.1.set :=
  View.cover_of_tiled _ S512x128.size (by rfl) y

/-- Reading the output buffer after that store. -/
theorem canon_out (p : Vec F S512x128 .bf16) :
    View.canon [(⟨Rect.unit (s := S512x128) ![0, 0] S512x128.size inb_S512x128_S512x128_0_0, p⟩ : View.Piece (Elt F) S512x128 .bf16)] = p :=
  View.canon_unit_zero (S := S512x128) (by funext a; fin_cases a <;> rfl) _ _

set_option maxHeartbeats 4000000 in
/-- The body at a query block whose number is 0 modulo 4. -/
theorem sound_0 (c : Dev nD) (E : Set ℕ) (i : grid0.Coords)
  (arg3 : Memref sig .tc .vmem S1x512x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x128x128 .bf16) (harg6 : arg6.IsWhole)
  (arg7 : Memref sig .tc .vmem S1x128x128 .bf16) (harg7 : arg7.IsWhole) (arg8 : Memref sig .tc .vmem S1x1x8192 .f32) (harg8 : arg8.IsWhole)
  (arg9 : Memref sig .tc .vmem S1x1x128 .f32) (harg9 : arg9.IsWhole) (arg10 : Memref sig .tc .vmem S512x128 .bf16) (harg10 : arg10.IsWhole)
  (x3 : Vec F S1x512x128 .bf16) (x4 x5 : Vec F S1x8192x128 .bf16) (x6 x7 : Vec F S1x128x128 .bf16)
  (x8 : Vec F S1x1x8192 .f32) (x9 : Vec F S1x1x128 .f32) (K : PUnit → sProp 𝕄)
    (hr : (i 2).val % 4 = 0) :
    iprop(owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ owns (c : Thread nD τ) arg9 fullShare x9 ∗ (∃ d, owns (c : Thread nD τ) arg10 fullShare d)
      ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare (attnBlk (i 2).val x3 x4 x5 x6 x7 x8 x9)) -∗ K ⟨⟩))
      ⊢ wp frame (wpE (defs₀ (F := F)) Variants.none c none) E (cc0_fox_attention i arg3 harg3 arg4 harg4 arg5 harg5 arg6 harg6 arg7 harg7 arg8 harg8 arg9 harg9 arg10 harg10) K := by
  have h16 : (i 2).val < 16 := (i 2).isLt
  have hc1 : ¬ k0_cond1 i = 1#1 := fun h => (cond1_eq i).mp h hr
  simp only [cc0_fox_attention_eq_skeleton]; unfold cc0_fox_attention_skel
  simp only [k0_part13_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf3 hf4 hf5 hf6 hf7 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover_out _)).trans ((canon_out _).trans ?_)
  have hw : ∀ q g (init : Carry F), walk q g (arg4.view.read (Elt F) f4) (arg5.view.read (Elt F) f5) (arg8.view.read (Elt F) f8) init (i 2).val
        = walk q g (arg4.view.read (Elt F) f4) (arg5.view.read (Elt F) f5) (arg8.view.read (Elt F) f8) init (4 * ((i 2).val / 4)) := by
    intro q g init; congr 1; omega
  unfold attnBlk
  rw [hw]
  unfold lastAt
  rw [← ld_gateBlk (arg8.view.read (Elt F) f8) (k0_off12 i) (i 2).val (off12_eq i) h16 (k0_off12_inb i hc1),
      ← ld_rowBlk (arg4.view.read (Elt F) f4) (k0_off13 i) (i 2).val (off13_eq i) h16 (k0_off13_inb i hc1),
      ← ld_rowBlk (arg5.view.read (Elt F) f5) (k0_off13 i) (i 2).val (off13_eq i) h16 (k0_off13_inb i hc1),
      ← ld_gateHead (arg8.view.read (Elt F) f8) (k0_off1 i) (i 2).val (off1_eq i) h16 (k0_off1_inb i)]
  have z3 : (![0, 0, 0] : Fin 3 → ℕ) = fun _ => 0 := by funext a; fin_cases a <;> rfl
  rw [← View.ld_unit_zero z3 inb_S1x512x128_S1x512x128_0_0_0 (arg3.view.read (Elt F) f3),
    ← View.ld_unit_zero z3 inb_S1x1x128_S1x1x128_0_0_0 (arg9.view.read (Elt F) f9),
    ← View.ld_unit_zero z3 inb_S1x128x128_S1x128x128_0_0_0 (arg6.view.read (Elt F) f6),
    ← View.ld_unit_zero z3 inb_S1x128x128_S1x128x128_0_0_0 (arg7.view.read (Elt F) f7)]
  sl_open_run
  rw [st_trips]
  rfl

set_option maxHeartbeats 4000000 in
/-- The body at a query block whose number is 1 modulo 4. -/
theorem sound_1 (c : Dev nD) (E : Set ℕ) (i : grid0.Coords)
  (arg3 : Memref sig .tc .vmem S1x512x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x128x128 .bf16) (harg6 : arg6.IsWhole)
  (arg7 : Memref sig .tc .vmem S1x128x128 .bf16) (harg7 : arg7.IsWhole) (arg8 : Memref sig .tc .vmem S1x1x8192 .f32) (harg8 : arg8.IsWhole)
  (arg9 : Memref sig .tc .vmem S1x1x128 .f32) (harg9 : arg9.IsWhole) (arg10 : Memref sig .tc .vmem S512x128 .bf16) (harg10 : arg10.IsWhole)
  (x3 : Vec F S1x512x128 .bf16) (x4 x5 : Vec F S1x8192x128 .bf16) (x6 x7 : Vec F S1x128x128 .bf16)
  (x8 : Vec F S1x1x8192 .f32) (x9 : Vec F S1x1x128 .f32) (K : PUnit → sProp 𝕄)
    (hr : (i 2).val % 4 = 1) :
    iprop(owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ owns (c : Thread nD τ) arg9 fullShare x9 ∗ (∃ d, owns (c : Thread nD τ) arg10 fullShare d)
      ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare (attnBlk (i 2).val x3 x4 x5 x6 x7 x8 x9)) -∗ K ⟨⟩))
      ⊢ wp frame (wpE (defs₀ (F := F)) Variants.none c none) E (cc0_fox_attention i arg3 harg3 arg4 harg4 arg5 harg5 arg6 harg6 arg7 harg7 arg8 harg8 arg9 harg9 arg10 harg10) K := by
  have h16 : (i 2).val < 16 := (i 2).isLt
  have hc1 : k0_cond1 i = 1#1 := (cond1_eq i).mpr (by omega)
  have hc2 : ¬ k0_cond2 i = 1#1 := fun h => (cond2_eq i hc1).mp h hr
  simp only [cc0_fox_attention_eq_skeleton]; unfold cc0_fox_attention_skel
  simp only [k0_part12_eq_skeleton, k0_part13_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf3 hf4 hf5 hf6 hf7 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover_out _)).trans ((canon_out _).trans ?_)
  have hw : ∀ q g (init : Carry F), walk q g (arg4.view.read (Elt F) f4) (arg5.view.read (Elt F) f5) (arg8.view.read (Elt F) f8) init (i 2).val
        = (stepAt q g (arg4.view.read (Elt F) f4) (arg5.view.read (Elt F) f5) (arg8.view.read (Elt F) f8) ((i 2).val - 1)
            (walk q g (arg4.view.read (Elt F) f4) (arg5.view.read (Elt F) f5) (arg8.view.read (Elt F) f8) init (4 * ((i 2).val / 4)))) := by
    intro q g init
    obtain ⟨b, hb⟩ : ∃ b, (i 2).val = 4 * b + 1 := ⟨(i 2).val / 4, by omega⟩
    rw [hb]
    have hd : (4 * b + 1) / 4 = b := by omega
    rw [hd]
    rfl
  unfold attnBlk
  rw [hw]
  unfold lastAt stepAt
  rw [← ld_gateBlk (arg8.view.read (Elt F) f8) (k0_off10 i 512#32) ((i 2).val - 1) (off10_eq i hr 1) (by omega) (k0_off10_inb i hc1 hc2 1),
      ← ld_rowBlk (arg4.view.read (Elt F) f4) (k0_off11 i 512#32) ((i 2).val - 1) (off11_eq i hr 1) (by omega) (k0_off11_inb i hc1 hc2 1),
      ← ld_rowBlk (arg5.view.read (Elt F) f5) (k0_off11 i 512#32) ((i 2).val - 1) (off11_eq i hr 1) (by omega) (k0_off11_inb i hc1 hc2 1),
      ← ld_gateBlk (arg8.view.read (Elt F) f8) (k0_off10 i 0#32) (i 2).val (off10_eq i hr 0) (by omega) (k0_off10_inb i hc1 hc2 0),
      ← ld_rowBlk (arg4.view.read (Elt F) f4) (k0_off11 i 0#32) (i 2).val (off11_eq i hr 0) (by omega) (k0_off11_inb i hc1 hc2 0),
      ← ld_rowBlk (arg5.view.read (Elt F) f5) (k0_off11 i 0#32) (i 2).val (off11_eq i hr 0) (by omega) (k0_off11_inb i hc1 hc2 0),
      ← ld_gateHead (arg8.view.read (Elt F) f8) (k0_off1 i) (i 2).val (off1_eq i) h16 (k0_off1_inb i)]
  have z3 : (![0, 0, 0] : Fin 3 → ℕ) = fun _ => 0 := by funext a; fin_cases a <;> rfl
  rw [← View.ld_unit_zero z3 inb_S1x512x128_S1x512x128_0_0_0 (arg3.view.read (Elt F) f3),
    ← View.ld_unit_zero z3 inb_S1x1x128_S1x1x128_0_0_0 (arg9.view.read (Elt F) f9),
    ← View.ld_unit_zero z3 inb_S1x128x128_S1x128x128_0_0_0 (arg6.view.read (Elt F) f6),
    ← View.ld_unit_zero z3 inb_S1x128x128_S1x128x128_0_0_0 (arg7.view.read (Elt F) f7)]
  sl_open_run
  rw [st_trips]
  rfl

set_option maxHeartbeats 4000000 in
/-- The body at a query block whose number is 2 modulo 4. -/
theorem sound_2 (c : Dev nD) (E : Set ℕ) (i : grid0.Coords)
  (arg3 : Memref sig .tc .vmem S1x512x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x128x128 .bf16) (harg6 : arg6.IsWhole)
  (arg7 : Memref sig .tc .vmem S1x128x128 .bf16) (harg7 : arg7.IsWhole) (arg8 : Memref sig .tc .vmem S1x1x8192 .f32) (harg8 : arg8.IsWhole)
  (arg9 : Memref sig .tc .vmem S1x1x128 .f32) (harg9 : arg9.IsWhole) (arg10 : Memref sig .tc .vmem S512x128 .bf16) (harg10 : arg10.IsWhole)
  (x3 : Vec F S1x512x128 .bf16) (x4 x5 : Vec F S1x8192x128 .bf16) (x6 x7 : Vec F S1x128x128 .bf16)
  (x8 : Vec F S1x1x8192 .f32) (x9 : Vec F S1x1x128 .f32) (K : PUnit → sProp 𝕄)
    (hr : (i 2).val % 4 = 2) :
    iprop(owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ owns (c : Thread nD τ) arg9 fullShare x9 ∗ (∃ d, owns (c : Thread nD τ) arg10 fullShare d)
      ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare (attnBlk (i 2).val x3 x4 x5 x6 x7 x8 x9)) -∗ K ⟨⟩))
      ⊢ wp frame (wpE (defs₀ (F := F)) Variants.none c none) E (cc0_fox_attention i arg3 harg3 arg4 harg4 arg5 harg5 arg6 harg6 arg7 harg7 arg8 harg8 arg9 harg9 arg10 harg10) K := by
  have h16 : (i 2).val < 16 := (i 2).isLt
  have hc1 : k0_cond1 i = 1#1 := (cond1_eq i).mpr (by omega)
  have hc2 : k0_cond2 i = 1#1 := (cond2_eq i hc1).mpr (by omega)
  have hc3 : ¬ k0_cond3 i = 1#1 := fun h => by have := (cond3_eq i hc1 hc2).mp h; omega
  simp only [cc0_fox_attention_eq_skeleton]; unfold cc0_fox_attention_skel
  simp only [k0_part10_eq_skeleton, k0_part11_eq_skeleton, k0_part13_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf3 hf4 hf5 hf6 hf7 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover_out _)).trans ((canon_out _).trans ?_)
  have hw : ∀ q g (init : Carry F), walk q g (arg4.view.read (Elt F) f4) (arg5.view.read (Elt F) f5) (arg8.view.read (Elt F) f8) init (i 2).val
        = (stepAt q g (arg4.view.read (Elt F) f4) (arg5.view.read (Elt F) f5) (arg8.view.read (Elt F) f8) ((i 2).val - 1)
            (stepAt q g (arg4.view.read (Elt F) f4) (arg5.view.read (Elt F) f5) (arg8.view.read (Elt F) f8) ((i 2).val - 2)
            (walk q g (arg4.view.read (Elt F) f4) (arg5.view.read (Elt F) f5) (arg8.view.read (Elt F) f8) init (4 * ((i 2).val / 4))))) := by
    intro q g init
    obtain ⟨b, hb⟩ : ∃ b, (i 2).val = 4 * b + 2 := ⟨(i 2).val / 4, by omega⟩
    rw [hb]
    have hd : (4 * b + 2) / 4 = b := by omega
    rw [hd]
    rfl
  unfold attnBlk
  rw [hw]
  unfold lastAt stepAt
  rw [← ld_gateBlk (arg8.view.read (Elt F) f8) (k0_off8 i 1024#32) ((i 2).val - 2) (off8_eq i hr 2) (by omega) (k0_off8_inb i hc1 hc2 hc3 2),
      ← ld_rowBlk (arg4.view.read (Elt F) f4) (k0_off9 i 1024#32) ((i 2).val - 2) (off9_eq i hr 2) (by omega) (k0_off9_inb i hc1 hc2 hc3 2),
      ← ld_rowBlk (arg5.view.read (Elt F) f5) (k0_off9 i 1024#32) ((i 2).val - 2) (off9_eq i hr 2) (by omega) (k0_off9_inb i hc1 hc2 hc3 2),
      ← ld_gateBlk (arg8.view.read (Elt F) f8) (k0_off8 i 512#32) ((i 2).val - 1) (off8_eq i hr 1) (by omega) (k0_off8_inb i hc1 hc2 hc3 1),
      ← ld_rowBlk (arg4.view.read (Elt F) f4) (k0_off9 i 512#32) ((i 2).val - 1) (off9_eq i hr 1) (by omega) (k0_off9_inb i hc1 hc2 hc3 1),
      ← ld_rowBlk (arg5.view.read (Elt F) f5) (k0_off9 i 512#32) ((i 2).val - 1) (off9_eq i hr 1) (by omega) (k0_off9_inb i hc1 hc2 hc3 1),
      ← ld_gateBlk (arg8.view.read (Elt F) f8) (k0_off8 i 0#32) (i 2).val (off8_eq i hr 0) (by omega) (k0_off8_inb i hc1 hc2 hc3 0),
      ← ld_rowBlk (arg4.view.read (Elt F) f4) (k0_off9 i 0#32) (i 2).val (off9_eq i hr 0) (by omega) (k0_off9_inb i hc1 hc2 hc3 0),
      ← ld_rowBlk (arg5.view.read (Elt F) f5) (k0_off9 i 0#32) (i 2).val (off9_eq i hr 0) (by omega) (k0_off9_inb i hc1 hc2 hc3 0),
      ← ld_gateHead (arg8.view.read (Elt F) f8) (k0_off1 i) (i 2).val (off1_eq i) h16 (k0_off1_inb i)]
  have z3 : (![0, 0, 0] : Fin 3 → ℕ) = fun _ => 0 := by funext a; fin_cases a <;> rfl
  rw [← View.ld_unit_zero z3 inb_S1x512x128_S1x512x128_0_0_0 (arg3.view.read (Elt F) f3),
    ← View.ld_unit_zero z3 inb_S1x1x128_S1x1x128_0_0_0 (arg9.view.read (Elt F) f9),
    ← View.ld_unit_zero z3 inb_S1x128x128_S1x128x128_0_0_0 (arg6.view.read (Elt F) f6),
    ← View.ld_unit_zero z3 inb_S1x128x128_S1x128x128_0_0_0 (arg7.view.read (Elt F) f7)]
  sl_open_run
  rw [st_trips]
  rfl

set_option maxHeartbeats 4000000 in
/-- The body at a query block whose number is 3 modulo 4. -/
theorem sound_3 (c : Dev nD) (E : Set ℕ) (i : grid0.Coords)
  (arg3 : Memref sig .tc .vmem S1x512x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x128x128 .bf16) (harg6 : arg6.IsWhole)
  (arg7 : Memref sig .tc .vmem S1x128x128 .bf16) (harg7 : arg7.IsWhole) (arg8 : Memref sig .tc .vmem S1x1x8192 .f32) (harg8 : arg8.IsWhole)
  (arg9 : Memref sig .tc .vmem S1x1x128 .f32) (harg9 : arg9.IsWhole) (arg10 : Memref sig .tc .vmem S512x128 .bf16) (harg10 : arg10.IsWhole)
  (x3 : Vec F S1x512x128 .bf16) (x4 x5 : Vec F S1x8192x128 .bf16) (x6 x7 : Vec F S1x128x128 .bf16)
  (x8 : Vec F S1x1x8192 .f32) (x9 : Vec F S1x1x128 .f32) (K : PUnit → sProp 𝕄)
    (hr : (i 2).val % 4 = 3) :
    iprop(owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ owns (c : Thread nD τ) arg9 fullShare x9 ∗ (∃ d, owns (c : Thread nD τ) arg10 fullShare d)
      ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare (attnBlk (i 2).val x3 x4 x5 x6 x7 x8 x9)) -∗ K ⟨⟩))
      ⊢ wp frame (wpE (defs₀ (F := F)) Variants.none c none) E (cc0_fox_attention i arg3 harg3 arg4 harg4 arg5 harg5 arg6 harg6 arg7 harg7 arg8 harg8 arg9 harg9 arg10 harg10) K := by
  have h16 : (i 2).val < 16 := (i 2).isLt
  have hc1 : k0_cond1 i = 1#1 := (cond1_eq i).mpr (by omega)
  have hc2 : k0_cond2 i = 1#1 := (cond2_eq i hc1).mpr (by omega)
  have hc3 : k0_cond3 i = 1#1 := (cond3_eq i hc1 hc2).mpr hr
  simp only [cc0_fox_attention_eq_skeleton]; unfold cc0_fox_attention_skel
  simp only [k0_part7_eq_skeleton, k0_part8_eq_skeleton, k0_part9_eq_skeleton, k0_part13_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf3 hf4 hf5 hf6 hf7 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover_out _)).trans ((canon_out _).trans ?_)
  have hw : ∀ q g (init : Carry F), walk q g (arg4.view.read (Elt F) f4) (arg5.view.read (Elt F) f5) (arg8.view.read (Elt F) f8) init (i 2).val
        = (stepAt q g (arg4.view.read (Elt F) f4) (arg5.view.read (Elt F) f5) (arg8.view.read (Elt F) f8) ((i 2).val - 1)
            (stepAt q g (arg4.view.read (Elt F) f4) (arg5.view.read (Elt F) f5) (arg8.view.read (Elt F) f8) ((i 2).val - 2)
            (stepAt q g (arg4.view.read (Elt F) f4) (arg5.view.read (Elt F) f5) (arg8.view.read (Elt F) f8) ((i 2).val - 3)
            (walk q g (arg4.view.read (Elt F) f4) (arg5.view.read (Elt F) f5) (arg8.view.read (Elt F) f8) init (4 * ((i 2).val / 4)))))) := by
    intro q g init
    obtain ⟨b, hb⟩ : ∃ b, (i 2).val = 4 * b + 3 := ⟨(i 2).val / 4, by omega⟩
    rw [hb]
    have hd : (4 * b + 3) / 4 = b := by omega
    rw [hd]
    rfl
  unfold attnBlk
  rw [hw]
  unfold lastAt stepAt
  rw [← ld_gateBlk (arg8.view.read (Elt F) f8) (k0_off6 i 1536#32) ((i 2).val - 3) (off6_eq i hr 3) (by omega) (k0_off6_inb i hc1 hc2 hc3 3),
      ← ld_rowBlk (arg4.view.read (Elt F) f4) (k0_off7 i 1536#32) ((i 2).val - 3) (off7_eq i hr 3) (by omega) (k0_off7_inb i hc1 hc2 hc3 3),
      ← ld_rowBlk (arg5.view.read (Elt F) f5) (k0_off7 i 1536#32) ((i 2).val - 3) (off7_eq i hr 3) (by omega) (k0_off7_inb i hc1 hc2 hc3 3),
      ← ld_gateBlk (arg8.view.read (Elt F) f8) (k0_off6 i 1024#32) ((i 2).val - 2) (off6_eq i hr 2) (by omega) (k0_off6_inb i hc1 hc2 hc3 2),
      ← ld_rowBlk (arg4.view.read (Elt F) f4) (k0_off7 i 1024#32) ((i 2).val - 2) (off7_eq i hr 2) (by omega) (k0_off7_inb i hc1 hc2 hc3 2),
      ← ld_rowBlk (arg5.view.read (Elt F) f5) (k0_off7 i 1024#32) ((i 2).val - 2) (off7_eq i hr 2) (by omega) (k0_off7_inb i hc1 hc2 hc3 2),
      ← ld_gateBlk (arg8.view.read (Elt F) f8) (k0_off6 i 512#32) ((i 2).val - 1) (off6_eq i hr 1) (by omega) (k0_off6_inb i hc1 hc2 hc3 1),
      ← ld_rowBlk (arg4.view.read (Elt F) f4) (k0_off7 i 512#32) ((i 2).val - 1) (off7_eq i hr 1) (by omega) (k0_off7_inb i hc1 hc2 hc3 1),
      ← ld_rowBlk (arg5.view.read (Elt F) f5) (k0_off7 i 512#32) ((i 2).val - 1) (off7_eq i hr 1) (by omega) (k0_off7_inb i hc1 hc2 hc3 1),
      ← ld_gateBlk (arg8.view.read (Elt F) f8) (k0_off6 i 0#32) (i 2).val (off6_eq i hr 0) (by omega) (k0_off6_inb i hc1 hc2 hc3 0),
      ← ld_rowBlk (arg4.view.read (Elt F) f4) (k0_off7 i 0#32) (i 2).val (off7_eq i hr 0) (by omega) (k0_off7_inb i hc1 hc2 hc3 0),
      ← ld_rowBlk (arg5.view.read (Elt F) f5) (k0_off7 i 0#32) (i 2).val (off7_eq i hr 0) (by omega) (k0_off7_inb i hc1 hc2 hc3 0),
      ← ld_gateHead (arg8.view.read (Elt F) f8) (k0_off1 i) (i 2).val (off1_eq i) h16 (k0_off1_inb i)]
  have z3 : (![0, 0, 0] : Fin 3 → ℕ) = fun _ => 0 := by funext a; fin_cases a <;> rfl
  rw [← View.ld_unit_zero z3 inb_S1x512x128_S1x512x128_0_0_0 (arg3.view.read (Elt F) f3),
    ← View.ld_unit_zero z3 inb_S1x1x128_S1x1x128_0_0_0 (arg9.view.read (Elt F) f9),
    ← View.ld_unit_zero z3 inb_S1x128x128_S1x128x128_0_0_0 (arg6.view.read (Elt F) f6),
    ← View.ld_unit_zero z3 inb_S1x128x128_S1x128x128_0_0_0 (arg7.view.read (Elt F) f7)]
  sl_open_run
  rw [st_trips]
  rfl

end Cert.KernelIdeal.Attn

end
-- ==== Proof.Run.lean ====
/- The attention program's run: the body's triple at every grid point, the proof data of the one region, and what every
   final state holds. -/
module

public import proofs.«01_k».proof.Proof.Body

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body at any query block. -/
theorem sound_kernel (c : Dev nD) (E : Set ℕ) (i : grid0.Coords)
  (arg3 : Memref sig .tc .vmem S1x512x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x128x128 .bf16) (harg6 : arg6.IsWhole)
  (arg7 : Memref sig .tc .vmem S1x128x128 .bf16) (harg7 : arg7.IsWhole) (arg8 : Memref sig .tc .vmem S1x1x8192 .f32) (harg8 : arg8.IsWhole)
  (arg9 : Memref sig .tc .vmem S1x1x128 .f32) (harg9 : arg9.IsWhole) (arg10 : Memref sig .tc .vmem S512x128 .bf16) (harg10 : arg10.IsWhole)
  (x3 : Vec F S1x512x128 .bf16) (x4 x5 : Vec F S1x8192x128 .bf16) (x6 x7 : Vec F S1x128x128 .bf16)
  (x8 : Vec F S1x1x8192 .f32) (x9 : Vec F S1x1x128 .f32) (K : PUnit → sProp 𝕄) :
    iprop(owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ owns (c : Thread nD τ) arg9 fullShare x9 ∗ (∃ d, owns (c : Thread nD τ) arg10 fullShare d)
      ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare (attnBlk (i 2).val x3 x4 x5 x6 x7 x8 x9)) -∗ K ⟨⟩))
      ⊢ wp frame (wpE (defs₀ (F := F)) Variants.none c none) E (cc0_fox_attention i arg3 harg3 arg4 harg4 arg5 harg5 arg6 harg6 arg7 harg7 arg8 harg8 arg9 harg9 arg10 harg10) K := by
  have h : (i 2).val % 4 < 4 := Nat.mod_lt _ (by decide)
  rcases (by omega : (i 2).val % 4 = 0 ∨ (i 2).val % 4 = 1 ∨ (i 2).val % 4 = 2 ∨ (i 2).val % 4 = 3) with hr | hr | hr | hr
  · exact sound_0 c E i arg3 harg3 arg4 harg4 arg5 harg5 arg6 harg6 arg7 harg7 arg8 harg8 arg9 harg9 arg10 harg10 x3 x4 x5 x6 x7 x8 x9 K hr
  · exact sound_1 c E i arg3 harg3 arg4 harg4 arg5 harg5 arg6 harg6 arg7 harg7 arg8 harg8 arg9 harg9 arg10 harg10 x3 x4 x5 x6 x7 x8 x9 K hr
  · exact sound_2 c E i arg3 harg3 arg4 harg4 arg5 harg5 arg6 harg6 arg7 harg7 arg8 harg8 arg9 harg9 arg10 harg10 x3 x4 x5 x6 x7 x8 x9 K hr
  · exact sound_3 c E i arg3 harg3 arg4 harg4 arg5 harg5 arg6 harg6 arg7 harg7 arg8 harg8 arg9 harg9 arg10 harg10 x3 x4 x5 x6 x7 x8 x9 K hr

variable (m : (ℓ : Loc nD τ sig) → Buf (Elt F) ℓ) (ρ : Dev nD → PrngReg)

/-- The proof data of the region: the arrays as the region finds them; at each point the inputs' buffers at their blocks
    and the output's at the attention's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => attnBlk (grid0.coords t 2).val (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = attnBlk (grid0.coords t 2).val (iblk m c 0 t) (iblk m c 1 t) (iblk m c 2 t) (iblk m c 3 t) (iblk m c 4 t) (iblk m c 5 t) (iblk m c 6 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is given at a point. -/
def bodyPre (c : Dev nD) (t : Fin cfg0.N) : sProp 𝕄 :=
  iprop((dats (F := F) m 0 c).Φ t.castSucc ∗ (dats (F := F) m 0 c).owesAt () t.castSucc
    ∗ (∃ d, owns (c : Thread nD τ) (st0_0 t) fullShare ((dats (F := F) m 0 c).before 0 t d))
    ∗ (∃ d, owns (c : Thread nD τ) (st0_1 t) fullShare ((dats (F := F) m 0 c).before 1 t d))
    ∗ (∃ d, owns (c : Thread nD τ) (st0_2 t) fullShare ((dats (F := F) m 0 c).before 2 t d))
    ∗ (∃ d, owns (c : Thread nD τ) (st0_3 t) fullShare ((dats (F := F) m 0 c).before 3 t d))
    ∗ (∃ d, owns (c : Thread nD τ) (st0_4 t) fullShare ((dats (F := F) m 0 c).before 4 t d))
    ∗ (∃ d, owns (c : Thread nD τ) (st0_5 t) fullShare ((dats (F := F) m 0 c).before 5 t d))
    ∗ (∃ d, owns (c : Thread nD τ) (st0_6 t) fullShare ((dats (F := F) m 0 c).before 6 t d))
    ∗ (∃ d, owns (c : Thread nD τ) (st0_7 t) fullShare ((dats (F := F) m 0 c).before 7 t d)))

/-- What it leaves. -/
def bodyPost (c : Dev nD) (t : Fin cfg0.N) : sProp 𝕄 :=
  iprop((dats (F := F) m 0 c).Φ t.succ ∗ (dats (F := F) m 0 c).owesAt () t.succ
    ∗ owns (c : Thread nD τ) (st0_0 t) fullShare ((dats (F := F) m 0 c).after 0 t)
    ∗ owns (c : Thread nD τ) (st0_1 t) fullShare ((dats (F := F) m 0 c).after 1 t)
    ∗ owns (c : Thread nD τ) (st0_2 t) fullShare ((dats (F := F) m 0 c).after 2 t)
    ∗ owns (c : Thread nD τ) (st0_3 t) fullShare ((dats (F := F) m 0 c).after 3 t)
    ∗ owns (c : Thread nD τ) (st0_4 t) fullShare ((dats (F := F) m 0 c).after 4 t)
    ∗ owns (c : Thread nD τ) (st0_5 t) fullShare ((dats (F := F) m 0 c).after 5 t)
    ∗ owns (c : Thread nD τ) (st0_6 t) fullShare ((dats (F := F) m 0 c).after 6 t)
    ∗ owns (c : Thread nD τ) (st0_7 t) fullShare ((dats (F := F) m 0 c).after 7 t))

/-- The body at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _  (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's buffers. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
/-- From any memory with zero counters every weakly fair execution terminates, each array of the region at what the proof
    data computes, everything else as the region found it, the counters at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hΦ := fun _ _ => rfl)
    (Q' := fun r => Pipeline.FramePost cfgs (dats m) 0 (V m) r ∧ r.2.sem = fun _ => 0) (hQ' := fun _ h => h)

/-- The arguments in such a final state are as launched. -/
theorem unchanged {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The frame: arguments unchanged and counters at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => unchanged m h.1 c, h.2⟩) (run_main m ρ)

end Cert.KernelIdeal.Attn

end
-- ==== Proof.Same.lean ====
module
public import proofs.«01_k».proof.Proof.Gen.Kernel
public import proofs.«01_k».proof.Proof.Gen.KernelIdeal
public import Idealize.ShloMosaic.Adequacy
public import proofs.«01_k».proof.Defs
public import Idealize.ShloMosaic.Init
@[expose] public section
set_option maxRecDepth 16384
noncomputable section
namespace Cert.Proof
open Idealize.ShloMosaic Idealize.SL.Sem
/-- At bit patterns a named constant is its bit pattern. -/
local instance namedBits : Named Bits where
  named _ _ {φ} bits := FloatOps.ofBits φ bits
section
open Cert.Kernel

/-- The body is the same text as the idealization's. -/
theorem body_same (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1x8192 .f32) (harg8 : arg8.IsWhole) (arg9 : Memref sig .tc .vmem S1x1x128 .f32) (harg9 : arg9.IsWhole) (arg10 : Memref sig .tc .vmem S512x128 .bf16) (harg10 : arg10.IsWhole) :
    Cert.Kernel.cc0_fox_attention (F := Bits) i arg3 harg3 arg4 harg4 arg5 harg5 arg6 harg6 arg7 harg7 arg8 harg8 arg9 harg9 arg10 harg10 = Cert.KernelIdeal.cc0_fox_attention (F := Bits) i arg3 harg3 arg4 harg4 arg5 harg5 arg6 harg6 arg7 harg7 arg8 harg8 arg9 harg9 arg10 harg10 := rfl

set_option maxHeartbeats 4000000 in
/-- So are the body tables. -/
theorem defs₀_same : Cert.Kernel.defs₀ (F := Bits) = Cert.KernelIdeal.defs₀ (F := Bits) := by
  unfold Cert.Kernel.defs₀ Cert.KernelIdeal.defs₀
  congr 1
  funext l a
  match l, a with
  | ⟨0, _⟩, (t, s) => exact body_same (grid0.coords t) (win0_0.stage (s 0)) _ (win0_1.stage (s 1)) _ (win0_2.stage (s 2)) _ (win0_3.stage (s 3)) _ (win0_4.stage (s 4)) _ (win0_5.stage (s 5)) _ (win0_6.stage (s 6)) _ (win0_7.stage (s 7)) _
  | ⟨_ + 1, h⟩, _ => exact absurd h (Nat.not_lt.2 (Nat.le_add_left _ _))

end

set_option maxHeartbeats 4000000 in
/-- And the main functions. -/
theorem main_same : Cert.Kernel.main (F := Bits) = Cert.KernelIdeal.main (F := Bits) := rfl

theorem defs_same : Cert.Kernel.defs (F := Bits) = Cert.KernelIdeal.defs (F := Bits) := by
  unfold Cert.Kernel.defs Cert.KernelIdeal.defs
  exact congrArg (Pipeline.defs (Cert.KernelIdeal.pcfgs (F := Bits))) defs₀_same

end Cert.Proof
end
-- ==== Proof.Soft.lean ====
/- The mathematics of a softmax taken block by block, on extended reals: sums of weights kept at a running maximum, and
   their quotient. -/
module

public import Idealize.ShloMosaic.PureOps.Ideal
public import Mathlib.Analysis.SpecialFunctions.Pow.Real

@[expose] public section

noncomputable section

namespace Cert.Soft

open Idealize.ShloMosaic
open Finset (range sum_range_succ)

/-! ## Weights -/

/-- The weight of the score `x` at the maximum `M`, in base two; a score of `-∞` weighs nothing. -/
def wt (M : ℝ) (x : EReal) : ℝ := if x = ⊥ then 0 else (2 : ℝ) ^ (x.toReal - M)

theorem wt_nonneg (M : ℝ) (x : EReal) : 0 ≤ wt M x := by
  unfold wt; split <;> positivity

theorem wt_pos (M : ℝ) {x : EReal} (h : x ≠ ⊥) : 0 < wt M x := by
  unfold wt; rw [if_neg h]; positivity

theorem wt_bot (M : ℝ) : wt M ⊥ = 0 := if_pos rfl

/-- The weight is the exponential of the difference. -/
theorem exp2_sub {x : EReal} (hx : x ≠ ⊤) (M : ℝ) : Ideal.exp2 (x - (M : EReal)) = (wt M x : EReal) := by
  induction x with
  | bot => rw [wt_bot, EReal.bot_sub]; simp
  | coe r =>
    unfold wt
    rw [if_neg (EReal.coe_ne_bot r), ← EReal.coe_sub, EReal.toReal_coe, Ideal.exp2_coe]; rfl
  | top => exact absurd rfl hx

/-- Weights move from one maximum to another by one factor. -/
theorem wt_shift (M M' : ℝ) (x : EReal) : (2 : ℝ) ^ (M - M') * wt M x = wt M' x := by
  unfold wt
  split
  · simp
  · rw [← Real.rpow_add (by norm_num)]; congr 1; ring

/-! ## Sums over the meta block and the blocks met so far -/

/-- The sum over the 128 meta places and the first `n` blocks of 512. -/
def upto (n : ℕ) (g₀ : Fin 128 → EReal) (g : ℕ → Fin 512 → EReal) : EReal := ∑ t, g₀ t + ∑ k ∈ range n, ∑ t, g k t

theorem upto_succ (n : ℕ) (g₀ : Fin 128 → EReal) (g : ℕ → Fin 512 → EReal) :
    upto (n + 1) g₀ g = upto n g₀ g + ∑ t, g n t := by
  unfold upto; rw [sum_range_succ _ n, add_assoc]

theorem mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem mul_upto {c : ℝ} (hc : 0 ≤ c) (n : ℕ) (g₀ : Fin 128 → EReal) (g : ℕ → Fin 512 → EReal) :
    (c : EReal) * upto n g₀ g = upto n (fun t => (c : EReal) * g₀ t) (fun k t => (c : EReal) * g k t) := by
  unfold upto
  rw [EReal.left_distrib_of_nonneg_of_ne_top (EReal.coe_nonneg.mpr hc) (EReal.coe_ne_top c), mul_sum _ hc, mul_sum _ hc]
  refine congrArg₂ (· + ·) rfl ?_
  exact Finset.sum_congr rfl fun k _ => mul_sum _ hc _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of real weights is the real sum. -/
theorem upto_coe (n : ℕ) (g₀ : Fin 128 → ℝ) (g : ℕ → Fin 512 → ℝ) :
    upto n (fun t => (g₀ t : EReal)) (fun k t => (g k t : EReal)) = ((∑ t, g₀ t + ∑ k ∈ range n, ∑ t, g k t : ℝ) : EReal) := by
  unfold upto
  rw [EReal.coe_add, coe_sum, coe_sum]
  refine congrArg₂ (· + ·) rfl ?_
  exact Finset.sum_congr rfl fun k _ => (coe_sum _ _).symm

/-! ## The maximum of a block -/

theorem foldMax_ne_top {ι : Type} (s : Finset ι) (f : ι → EReal) (h : ∀ i, f i ≠ ⊤) : s.fold max ⊥ f ≠ ⊤ := by
  have : s.fold max ⊥ f < ⊤ := by
    rw [Finset.fold_max_lt]; exact ⟨bot_lt_top, fun i _ => lt_top_iff_ne_top.mpr (h i)⟩
  exact this.ne

theorem foldMax_ne_bot {ι : Type} (s : Finset ι) (f : ι → EReal) {i : ι} (hi : i ∈ s) (h : f i ≠ ⊥) : s.fold max ⊥ f ≠ ⊥ := by
  have : f i ≤ s.fold max ⊥ f := by
    rw [Finset.le_fold_max]; exact .inr ⟨i, hi, le_rfl⟩
  exact fun e => h (le_bot_iff.mp (e ▸ this))

theorem exists_coe {x : EReal} (h₁ : x ≠ ⊥) (h₂ : x ≠ ⊤) : ∃ r : ℝ, x = r := ⟨x.toReal, (EReal.coe_toReal h₂ h₁).symm⟩

/-! ## What is carried -/

/-- What is carried after the meta block and `n` blocks: a real maximum, the sum of weights at it, and the sum of the
    weighted values. -/
def Inv (n : ℕ) (s₀ v₀ : Fin 128 → EReal) (s v : ℕ → Fin 512 → EReal) (m l a : EReal) : Prop :=
  ∃ M : ℝ, m = M ∧ l = upto n (fun t => (wt M (s₀ t) : EReal)) (fun k t => (wt M (s k t) : EReal))
    ∧ a = upto n (fun t => (wt M (s₀ t) : EReal) * v₀ t) (fun k t => (wt M (s k t) : EReal) * v k t)

/-- After the meta block alone. -/
theorem Inv.start {s₀ v₀ : Fin 128 → EReal} {s v : ℕ → Fin 512 → EReal} (h : ∀ t, s₀ t ≠ ⊤) {t₀ : Fin 128} (h₀ : s₀ t₀ ≠ ⊥) :
    Inv 0 s₀ v₀ s v (Finset.univ.fold max ⊥ s₀) (∑ t, Ideal.exp2 (s₀ t - Finset.univ.fold max ⊥ s₀))
      (∑ t, Ideal.exp2 (s₀ t - Finset.univ.fold max ⊥ s₀) * v₀ t) := by
  obtain ⟨M, hM⟩ := exists_coe (foldMax_ne_bot Finset.univ s₀ (Finset.mem_univ t₀) h₀) (foldMax_ne_top Finset.univ s₀ h)
  refine ⟨M, hM, ?_, ?_⟩ <;> rw [hM] <;> unfold upto <;> rw [Finset.range_zero, Finset.sum_empty, add_zero]
  · exact Finset.sum_congr rfl fun t _ => exp2_sub (h t) M
  · exact Finset.sum_congr rfl fun t _ => by rw [exp2_sub (h t) M]

/-- One more block. -/
theorem Inv.step {n : ℕ} {s₀ v₀ : Fin 128 → EReal} {s v : ℕ → Fin 512 → EReal} {m l a : EReal} (h : Inv n s₀ v₀ s v m l a)
    (hs : ∀ t, s n t ≠ ⊤) {m' : EReal} (hm' : m' = max m (Finset.univ.fold max ⊥ (s n))) :
    Inv (n + 1) s₀ v₀ s v m' (Ideal.exp2 (m - m') * l + ∑ t, Ideal.exp2 (s n t - m'))
      (Ideal.exp2 (m - m') * a + ∑ t, Ideal.exp2 (s n t - m') * v n t) := by
  obtain ⟨M, rfl, rfl, rfl⟩ := h
  have hb : m' ≠ ⊥ := by
    rw [hm']; exact fun e => EReal.coe_ne_bot M (le_bot_iff.mp (e ▸ le_max_left _ _))
  have ht : m' ≠ ⊤ := by
    rw [hm']
    rcases max_choice (M : EReal) (Finset.univ.fold max ⊥ (s n)) with e | e <;> rw [e]
    · exact EReal.coe_ne_top M
    · exact foldMax_ne_top _ _ hs
  obtain ⟨M', e⟩ := exists_coe hb ht
  have hf : Ideal.exp2 ((M : EReal) - m') = (((2 : ℝ) ^ (M - M') : ℝ) : EReal) := by
    rw [e, ← EReal.coe_sub, Ideal.exp2_coe]; rfl
  have hp : (0 : ℝ) ≤ (2 : ℝ) ^ (M - M') := by positivity
  refine ⟨M', e, ?_, ?_⟩ <;> rw [hf, mul_upto hp, upto_succ, e]
  · refine congrArg₂ (· + ·) ?_ ?_
    · simp only [← EReal.coe_mul, wt_shift]
    · exact Finset.sum_congr rfl fun t _ => exp2_sub (hs t) M'
  · refine congrArg₂ (· + ·) ?_ ?_
    · simp only [← mul_assoc, ← EReal.coe_mul, wt_shift]
    · exact Finset.sum_congr rfl fun t _ => by rw [exp2_sub (hs t) M']

/-! ## The same sums along the whole row of keys -/

theorem sum_blocks (H : ℕ → EReal) (N : ℕ) : ∑ i ∈ range (512 * N), H i = ∑ k ∈ range N, ∑ t : Fin 512, H (512 * k + t.val) := by
  induction N with
  | zero => simp
  | succ N ih =>
    rw [Nat.mul_succ, Finset.sum_range_add, ih, sum_range_succ _ N]
    refine congrArg₂ (· + ·) rfl ?_
    exact (Fin.sum_univ_eq_sum_range (fun t => H (512 * N + t)) 512).symm

/-- A sum over the 8208 keys of a row, of which only the 16 meta keys and the first `n` blocks count. -/
theorem sum_eq_upto (g : Fin 8208 → EReal) (g₀ : Fin 128 → EReal) (gb : ℕ → Fin 512 → EReal) (n : ℕ) (hn : n ≤ 16)
    (h₀ : ∀ t : Fin 128, (h : t.val < 16) → g₀ t = g ⟨t.val, by omega⟩) (h₁ : ∀ t : Fin 128, 16 ≤ t.val → g₀ t = 0)
    (hb : ∀ k, (hk : k < n) → ∀ t : Fin 512, gb k t = g ⟨16 + (512 * k + t.val), by omega⟩)
    (hz : ∀ j : Fin 8208, 16 + 512 * n ≤ j.val → g j = 0) : ∑ j, g j = upto n g₀ gb := by
  let G : ℕ → EReal := fun i => if h : i < 8208 then g ⟨i, h⟩ else 0
  have hG : ∀ j : Fin 8208, g j = G j.val := fun j => by
    show g j = dite _ _ _; rw [dif_pos j.isLt]
  have e1 : ∑ j, g j = ∑ i ∈ range (16 + 512 * 16), G i := by
    rw [Finset.sum_congr rfl fun j _ => hG j]
    exact Fin.sum_univ_eq_sum_range G 8208
  rw [e1, Finset.sum_range_add]
  unfold upto
  refine congrArg₂ (· + ·) ?_ ?_
  · have e2 : ∑ t, g₀ t = ∑ i ∈ range 128, (fun i => if i < 16 then G i else 0) i := by
      rw [← Fin.sum_univ_eq_sum_range]
      refine Finset.sum_congr rfl fun t _ => ?_
      by_cases h : t.val < 16
      · rw [h₀ t h, if_pos h, hG]
      · rw [h₁ t (by omega), if_neg h]
    rw [e2, show 128 = 16 + 112 from rfl, Finset.sum_range_add]
    have e3 : ∑ x ∈ range 112, (fun i => if i < 16 then G i else 0) (16 + x) = 0 :=
      Finset.sum_eq_zero fun x _ => if_neg (by omega)
    rw [e3, add_zero]
    exact Finset.sum_congr rfl fun i hi => (if_pos (Finset.mem_range.mp hi)).symm
  · rw [sum_blocks (fun i => G (16 + i)) 16]
    obtain ⟨d, hd⟩ : ∃ d, 16 = n + d := ⟨16 - n, by omega⟩
    have e4 : ∑ k ∈ range 16, ∑ t : Fin 512, G (16 + (512 * k + t.val)) = ∑ k ∈ range (n + d), ∑ t : Fin 512, G (16 + (512 * k + t.val)) := by
      rw [← hd]
    rw [e4, Finset.sum_range_add]
    have e5 : ∑ x ∈ range d, ∑ t : Fin 512, G (16 + (512 * (n + x) + t.val)) = 0 :=
      Finset.sum_eq_zero fun x hx => Finset.sum_eq_zero fun t _ => by
        have := Finset.mem_range.mp hx
        have hlt : 16 + (512 * (n + x) + t.val) < 8208 := by omega
        show dite _ _ _ = _
        rw [dif_pos hlt, hz _ (by show _ ≤ 16 + (512 * (n + x) + t.val); omega)]
    rw [e5, add_zero]
    refine Finset.sum_congr rfl fun k hk => Finset.sum_congr rfl fun t _ => ?_
    have := Finset.mem_range.mp hk
    rw [hb k this t, hG]

/-! ## The quotient -/

/-- A row of the attention: what is carried at the end gives, divided, the row of values weighted by the softmax of scores
    whose exponentials are the weights up to a common factor. `w` is the weight of each of the 8208 keys. -/
theorem Inv.quotient {n : ℕ} (hn : n ≤ 16) {s₀ v₀ : Fin 128 → EReal} {s v : ℕ → Fin 512 → EReal} {m l a : EReal}
    (h : Inv n s₀ v₀ s v m l a) {t₀ : Fin 128} (hpos : s₀ t₀ ≠ ⊥)
    (S V : Fin 8208 → EReal) (X : EReal)
    -- the exponentials of the row are, up to a positive factor, the weights
    (hX : ∀ M : ℝ, ∃ K : ℝ, 0 < K ∧ (∀ t : Fin 128, (ht : t.val < 16) → Ideal.exp (S ⟨t.val, by omega⟩ - X) = ((K * wt M (s₀ t) : ℝ) : EReal))
      ∧ (∀ k, (hk : k < n) → ∀ t : Fin 512, Ideal.exp (S ⟨16 + (512 * k + t.val), by omega⟩ - X) = ((K * wt M (s k t) : ℝ) : EReal)))
    (hpad : ∀ t : Fin 128, 16 ≤ t.val → s₀ t = ⊥)
    (hmask : ∀ j : Fin 8208, 16 + 512 * n ≤ j.val → Ideal.exp (S j - X) = 0)
    (hv₀ : ∀ t : Fin 128, (ht : t.val < 16) → v₀ t = V ⟨t.val, by omega⟩)
    (hv : ∀ k, (hk : k < n) → ∀ t : Fin 512, v k t = V ⟨16 + (512 * k + t.val), by omega⟩) :
    Ideal.div a l = ∑ j, V j * Ideal.div (Ideal.exp (S j - X)) (∑ i, Ideal.exp (S i - X)) := by
  obtain ⟨M, rfl, rfl, rfl⟩ := h
  obtain ⟨K, hK, hs₀, hs⟩ := hX M
  -- the sum of weights, a positive real
  obtain ⟨L, hL⟩ : ∃ L : ℝ, L = ∑ t, wt M (s₀ t) + ∑ k ∈ range n, ∑ t, wt M (s k t) := ⟨_, rfl⟩
  have hLpos : 0 < L := by
    rw [hL]
    have h1 : 0 < ∑ t, wt M (s₀ t) :=
      Finset.sum_pos' (fun t _ => wt_nonneg M _) ⟨t₀, Finset.mem_univ _, wt_pos M hpos⟩
    have h2 : 0 ≤ ∑ k ∈ range n, ∑ t, wt M (s k t) :=
      Finset.sum_nonneg fun k _ => Finset.sum_nonneg fun t _ => wt_nonneg M _
    linarith
  have hl : upto n (fun t => (wt M (s₀ t) : EReal)) (fun k t => (wt M (s k t) : EReal)) = (L : EReal) := by
    rw [upto_coe, ← hL]
  -- the reference's denominator
  have hden : ∑ i, Ideal.exp (S i - X) = ((K * L : ℝ) : EReal) := by
    have e := sum_eq_upto (fun j => Ideal.exp (S j - X)) (fun t => ((K * wt M (s₀ t) : ℝ) : EReal))
      (fun k t => ((K * wt M (s k t) : ℝ) : EReal)) n hn (fun t ht => (hs₀ t ht).symm)
      (fun t ht => by show ((K * wt M (s₀ t) : ℝ) : EReal) = 0; rw [hpad t ht, wt_bot, mul_zero]; rfl)
      (fun k hk t => (hs k hk t).symm) hmask
    rw [e, upto_coe, hL, mul_add, Finset.mul_sum, Finset.mul_sum]
    simp only [Finset.mul_sum]
  have hKL : K * L ≠ 0 := (mul_pos hK hLpos).ne'
  rw [hl, hden, Ideal.div_coe hLpos.ne', mul_comm, mul_upto (by positivity)]
  symm
  have hq : ∀ w : ℝ, Ideal.div ((K * w : ℝ) : EReal) ((K * L : ℝ) : EReal) = ((1 / L * w : ℝ) : EReal) := fun w => by
    rw [Ideal.div_coe hKL, ← EReal.coe_mul]; exact congrArg _ (by field_simp)
  refine sum_eq_upto _ _ _ n hn (fun t ht => ?_) (fun t ht => ?_) (fun k hk t => ?_) (fun j hj => ?_)
  · rw [hs₀ t ht, hq, hv₀ t ht, EReal.coe_mul, ← mul_assoc, mul_comm]
  · rw [hpad t ht, wt_bot, EReal.coe_zero, zero_mul, mul_zero]
  · rw [hs k hk t, hq, hv k hk t, EReal.coe_mul, ← mul_assoc, mul_comm]
  · rw [hmask j hj, Ideal.div_coe hKL, zero_mul, mul_zero]

end Cert.Soft

end
-- ==== Proof.Row.lean ====
/- One row of the attention's block at the extended reals: the operations read at a row and a column, and the walk over
   the blocks as the carried sums of `Cert.Soft`. -/
module

public import proofs.«01_k».proof.Proof.Block
public import proofs.«01_k».proof.Proof.Soft
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe
open Cert.KernelIdeal.Gen

/-- The logarithm of `e` in base two. -/
def log2e : ℝ := (Real.log 2)⁻¹

theorem ofBits_ninf : Ideal.ofBits .f32 0xFF800000#32 = ⊥ := by simp [Ideal.ofBits, Ideal.ieee]

theorem named_log2e : (Named.named κ "log2e" 0x3FB8AA3B#32 : Ideal .f32) = (log2e : EReal) := rfl

/-- The score of a key: the product of query and key, and the gate's bias. -/
def score1 (xq xk : Fin 128 → EReal) (g c : EReal) : EReal := ∑ e, xq e * xk e + (g - c) * (log2e : EReal)

theorem scoresM_apply (q : FVec Ideal S512x128 .bf16) (g : FVec Ideal S1x1 .f32) (cb : Vec Ideal S1x1x128 .f32)
    (kb : Vec Ideal S1x128x128 .bf16) (r : Fin 512) (t : Fin 128) :
    scoresM q g cb kb (ix2 r t) = score1 (fun e => q (ix2 r e)) (fun e => kb (ix3 0 t e)) (g (ix2 0 0)) (cb (ix3 0 0 t)) := by
  unfold score1
  rw [← named_log2e]
  pointwise [scoresM]

theorem scores_apply (q : FVec Ideal S512x128 .bf16) (g : FVec Ideal S1x1 .f32) (cb : Vec Ideal S1x1x512 .f32)
    (kb : Vec Ideal S1x512x128 .bf16) (r t : Fin 512) :
    scores q g cb kb (ix2 r t) = score1 (fun e => q (ix2 r e)) (fun e => kb (ix3 0 t e)) (g (ix2 0 0)) (cb (ix3 0 0 t)) := by
  unfold score1
  rw [← named_log2e]
  pointwise [scores]

theorem causal_apply (s : FVec Ideal S512x512 .f32) (r t : Fin 512) :
    causal s (ix2 r t) = if t.val ≤ r.val then s (ix2 r t) else ⊥ := by
  have hr := r.isLt
  have ht := t.isLt
  rw [← ofBits_ninf]
  pointwise [causal]
  rw [WordCmp.cmpi_sle_ofNat (by omega) (by omega), WordCmp.select_ofBool]
  simp only [decide_eq_true_eq]

theorem queries_apply (x : Vec Ideal S1x512x128 .bf16) (r : Fin 512) (e : Fin 128) : queries x (ix2 r e) = x (ix3 0 r e) := by
  pointwise [queries]

theorem gate0_apply (x : Vec Ideal S1x1x128 .f32) : gate0 x (ix2 0 0) = x (ix3 0 0 0) := by
  pointwise [gate0]

theorem absorb_max (a : Carry Ideal) (s : FVec Ideal S512x512 .f32) (vb : Vec Ideal S1x512x128 .bf16) (r : Fin 512) :
    (absorb a s vb).1 (ix2 r 0) = max (a.1 (ix2 r 0)) (Finset.univ.fold max ⊥ fun t : Fin 512 => s (ix2 r t)) := by
  rw [← ofBits_ninf]
  pointwise [absorb, newMax]

theorem absorb_sum (a : Carry Ideal) (s : FVec Ideal S512x512 .f32) (vb : Vec Ideal S1x512x128 .bf16) (r : Fin 512) :
    (absorb a s vb).2.1 (ix2 r 0) = Ideal.exp2 (a.1 (ix2 r 0) - (absorb a s vb).1 (ix2 r 0)) * a.2.1 (ix2 r 0)
      + ∑ t : Fin 512, Ideal.exp2 (s (ix2 r t) - (absorb a s vb).1 (ix2 r 0)) := by
  unfold absorb
  generalize newMax a.1 s = M
  pointwise [weights, shrink]
  rfl

theorem absorb_val (a : Carry Ideal) (s : FVec Ideal S512x512 .f32) (vb : Vec Ideal S1x512x128 .bf16) (r : Fin 512) (d : Fin 128) :
    (absorb a s vb).2.2 (ix2 r d) = Ideal.exp2 (a.1 (ix2 r 0) - (absorb a s vb).1 (ix2 r 0)) * a.2.2 (ix2 r d)
      + ∑ t : Fin 512, Ideal.exp2 (s (ix2 r t) - (absorb a s vb).1 (ix2 r 0)) * vb (ix3 0 t d) := by
  unfold absorb
  generalize newMax a.1 s = M
  pointwise [weights, shrink]
  rfl

theorem start_max (s : FVec Ideal S512x128 .f32) (vb : Vec Ideal S1x128x128 .bf16) (r : Fin 512) :
    (start s vb).1 (ix2 r 0) = Finset.univ.fold max ⊥ fun t : Fin 128 => s (ix2 r t) := by
  rw [← ofBits_ninf]
  pointwise [start, startMax]

theorem start_sum (s : FVec Ideal S512x128 .f32) (vb : Vec Ideal S1x128x128 .bf16) (r : Fin 512) :
    (start s vb).2.1 (ix2 r 0) = ∑ t : Fin 128, Ideal.exp2 (s (ix2 r t) - (start s vb).1 (ix2 r 0)) := by
  unfold start startWeights
  generalize startMax s = M
  pointwise
  rfl

theorem start_val (s : FVec Ideal S512x128 .f32) (vb : Vec Ideal S1x128x128 .bf16) (r : Fin 512) (d : Fin 128) :
    (start s vb).2.2 (ix2 r d) = ∑ t : Fin 128, Ideal.exp2 (s (ix2 r t) - (start s vb).1 (ix2 r 0)) * vb (ix3 0 t d) := by
  unfold start startWeights
  generalize startMax s = M
  pointwise
  rfl

theorem finish_apply (a : Carry Ideal) (r : Fin 512) (d : Fin 128) :
    finish a (ix2 r d) = Ideal.div (a.2.2 (ix2 r d)) (a.2.1 (ix2 r 0)) := by
  pointwise [finish]

/-! ## The walk, a row of it -/

/-- The place of key `t` of block `k` among a head's 8192. -/
def place (k : ℕ) (t : Fin 512) : Fin 8192 := ⟨(512 * k + t.val) % 8192, Nat.mod_lt _ (by norm_num)⟩

section Row

variable (n : ℕ) (xq : Vec Ideal S1x512x128 .bf16) (xk xv : Vec Ideal S1x8192x128 .bf16) (xkm xvm : Vec Ideal S1x128x128 .bf16)
  (xc : Vec Ideal S1x1x8192 .f32) (xcm : Vec Ideal S1x1x128 .f32) (r : Fin 512) (d : Fin 128)

/-- The score of meta key `t`. -/
def metaScore (t : Fin 128) : EReal :=
  score1 (fun e => xq (ix3 0 r e)) (fun e => xkm (ix3 0 t e)) (xc (ix3 0 0 (place n 0))) (xcm (ix3 0 0 t))

/-- The score of key `t` of block `k`, not masked. -/
def keyScore (k : ℕ) (t : Fin 512) : EReal :=
  score1 (fun e => xq (ix3 0 r e)) (fun e => xk (ix3 0 (place k t) e)) (xc (ix3 0 0 (place n 0))) (xc (ix3 0 0 (place k t)))

/-- The score of key `t` of block `k`, masked in the query's own block. -/
def maskedScore (k : ℕ) (t : Fin 512) : EReal :=
  if k = n ∧ ¬ t.val ≤ r.val then ⊥ else keyScore n xq xk xc r k t

end Row

theorem gateHead_apply (xc : Vec Ideal S1x1x8192 .f32) (n : ℕ) : gateHead xc n (ix3 0 0 0) = xc (ix3 0 0 (place n 0)) := rfl

theorem gateBlk_apply (xc : Vec Ideal S1x1x8192 .f32) (k : ℕ) (t : Fin 512) : gateBlk xc k (ix3 0 0 t) = xc (ix3 0 0 (place k t)) := rfl

theorem rowBlk_apply (xk : Vec Ideal S1x8192x128 .bf16) (k : ℕ) (t : Fin 512) (e : Fin 128) :
    rowBlk xk k (ix3 0 t e) = xk (ix3 0 (place k t) e) := rfl

theorem absorb_inv {k : ℕ} {s₀ v₀ : Fin 128 → EReal} {s v : ℕ → Fin 512 → EReal} (a : Carry Ideal) (S : FVec Ideal S512x512 .f32)
    (vb : Vec Ideal S1x512x128 .bf16) (r : Fin 512) (d : Fin 128)
    (h : Soft.Inv k s₀ v₀ s v (a.1 (ix2 r 0)) (a.2.1 (ix2 r 0)) (a.2.2 (ix2 r d)))
    (hS : ∀ t, S (ix2 r t) = s k t) (hv : ∀ t, vb (ix3 0 t d) = v k t) (ht : ∀ t, s k t ≠ ⊤) :
    Soft.Inv (k + 1) s₀ v₀ s v ((absorb a S vb).1 (ix2 r 0)) ((absorb a S vb).2.1 (ix2 r 0)) ((absorb a S vb).2.2 (ix2 r d)) := by
  rw [absorb_sum, absorb_val]
  have := h.step ht (m' := (absorb a S vb).1 (ix2 r 0)) (by rw [absorb_max]; simp only [hS])
  simpa only [hS, hv] using this

theorem attnBlk_inv (n : ℕ) (xq : Vec Ideal S1x512x128 .bf16) (xk xv : Vec Ideal S1x8192x128 .bf16) (xkm xvm : Vec Ideal S1x128x128 .bf16)
    (xc : Vec Ideal S1x1x8192 .f32) (xcm : Vec Ideal S1x1x128 .f32) (r : Fin 512) (d : Fin 128)
    (h₀ : ∀ t, metaScore n xq xkm xc xcm r t ≠ ⊤) (h₁ : metaScore n xq xkm xc xcm r 0 ≠ ⊥)
    (hs : ∀ k ≤ n, ∀ t, maskedScore n xq xk xc r k t ≠ ⊤) :
    ∃ m l a, Soft.Inv (n + 1) (metaScore n xq xkm xc xcm r) (fun t => xvm (ix3 0 t d)) (maskedScore n xq xk xc r)
        (fun k t => xv (ix3 0 (place k t) d)) m l a
      ∧ attnBlk n xq xk xv xkm xvm xc xcm (ix2 r d) = Ideal.div a l := by
  have hm : ∀ t, scoresM (queries xq) (gate0 (gateHead xc n)) xcm xkm (ix2 r t) = metaScore n xq xkm xc xcm r t := fun t => by
    rw [scoresM_apply]; simp only [queries_apply, gate0_apply, gateHead_apply]; rfl
  have hk : ∀ k t, scores (queries xq) (gate0 (gateHead xc n)) (gateBlk xc k) (rowBlk xk k) (ix2 r t) = keyScore n xq xk xc r k t := fun k t => by
    rw [scores_apply]; simp only [queries_apply, gate0_apply, gateHead_apply, gateBlk_apply, rowBlk_apply]; rfl
  have hw : ∀ k ≤ n, ∀ w, w = walk (queries xq) (gate0 (gateHead xc n)) xk xv xc (start (scoresM (queries xq) (gate0 (gateHead xc n)) xcm xkm) xvm) k →
      Soft.Inv k (metaScore n xq xkm xc xcm r) (fun t => xvm (ix3 0 t d)) (maskedScore n xq xk xc r)
        (fun k t => xv (ix3 0 (place k t) d)) (w.1 (ix2 r 0)) (w.2.1 (ix2 r 0)) (w.2.2 (ix2 r d)) := by
    intro k
    induction k with
    | zero =>
      intro _ w hw
      subst hw
      show Soft.Inv 0 _ _ _ _ ((start _ xvm).1 _) ((start _ xvm).2.1 _) ((start _ xvm).2.2 _)
      rw [start_sum, start_val, start_max]
      simp only [hm]
      exact Soft.Inv.start h₀ h₁
    | succ k ih =>
      intro hkn w hw
      subst hw
      exact absorb_inv _ _ _ r d (ih (by omega) _ rfl)
        (fun t => by rw [hk, maskedScore, if_neg (by omega)]) (fun t => rfl) (hs k (by omega))
  refine ⟨_, _, _, absorb_inv _ (causal (scores (queries xq) (gate0 (gateHead xc n)) (gateBlk xc n) (rowBlk xk n))) (rowBlk xv n) r d
    (hw n le_rfl _ rfl) (fun t => ?_) (fun t => rfl) (hs n le_rfl), ?_⟩
  · rw [causal_apply, hk, maskedScore]
    by_cases h : t.val ≤ r.val
    · rw [if_pos h, if_neg (by tauto)]
    · rw [if_neg h, if_pos ⟨rfl, h⟩]
  · exact finish_apply _ r d

end Cert.KernelIdeal.Attn

end
-- ==== Proof.Ref.lean ====
/- The reference read at an element: the masked score of a query and a key, and the softmax-weighted row of values. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read

/-- The reference's key at place `j` of the row of 16 meta keys and 8192 keys. -/
def key (k : FVec Ideal S4x8192x16x128 .f32) (km : FVec Ideal S16x16x128 .f32) (b : Fin 4) (h : Fin 16) (j : Fin 8208) (e : Fin 128) : EReal :=
  if hj : j.val < 16 then km (ix3 ⟨j.val, hj⟩ h e) else k (ix4 b ⟨j.val - 16, by omega⟩ h e)

/-- The cumulative gate at place `j`. -/
def gate (c : FVec Ideal S4x8192x16 .f32) (cm : FVec Ideal S16x16 .f32) (b : Fin 4) (h : Fin 16) (j : Fin 8208) : EReal :=
  if hj : j.val < 16 then cm (ix2 ⟨j.val, hj⟩ h) else c (ix3 b ⟨j.val - 16, by omega⟩ h)

theorem v2_apply (x1 : FVec Ideal S4x8192x16x128 .f32) (x3 : FVec Ideal S16x16x128 .f32) (b : Fin 4) (h : Fin 16) (j : Fin 8208) (e : Fin 128) :
    val_main_v2 (F := Ideal) x1 x3 (ix4 b j h e) = key x1 x3 b h j e := by
  pointwise [val_main_v2, val_main_v1, val_main_v0, key]

theorem v5_apply (x1 : FVec Ideal S4x8192x16x128 .f32) (x3 : FVec Ideal S16x16x128 .f32) (b : Fin 4) (h : Fin 16) (j : Fin 8208) (e : Fin 128) :
    val_main_v5 (F := Ideal) x1 x3 (ix4 b j h e) = key x1 x3 b h j e := by
  pointwise [val_main_v5, val_main_v4, val_main_v3, key]

theorem v8_apply (x5 : FVec Ideal S4x8192x16 .f32) (x6 : FVec Ideal S16x16 .f32) (b : Fin 4) (h : Fin 16) (j : Fin 8208) :
    val_main_v8 (F := Ideal) x5 x6 (ix3 b j h) = gate x5 x6 b h j := by
  pointwise [val_main_v8, val_main_v7, val_main_v6, gate]

theorem ofBits_ninf : Ideal.ofBits .f32 0xFF800000#32 = ⊥ := by simp [Ideal.ofBits, Ideal.ieee]

theorem ofBits_128 : Ideal.ofBits .f32 0x43000000#32 = ((128 : ℝ) : EReal) := by
  simp [Ideal.ofBits, Ideal.ieee]; rw [← EReal.coe_mul]; norm_num

theorem sqrt_128 : Ideal.sqrt (Ideal.ofBits .f32 0x43000000#32) = ((Real.sqrt 128 : ℝ) : EReal) := by
  rw [ofBits_128, Ideal.sqrt_coe, if_neg (by norm_num)]

theorem add_word {i : ℕ} : IntOp.addi 16#32 (BitVec.ofNat 32 i) = BitVec.ofNat 32 (16 + i) := by
  rw [BitVec.ofNat_add]; rfl

/-- The reference's masked score of query `i` and key `j`. -/
def score (q k : FVec Ideal S4x8192x16x128 .f32) (km : FVec Ideal S16x16x128 .f32) (c : FVec Ideal S4x8192x16 .f32) (cm : FVec Ideal S16x16 .f32)
    (b : Fin 4) (h : Fin 16) (i : Fin 8192) (j : Fin 8208) : EReal :=
  if j.val ≤ 16 + i.val then
    Ideal.div (∑ e : Fin 128, q (ix4 b i h e) * key k km b h j e) ((Real.sqrt 128 : ℝ) : EReal)
      + (c (ix3 b i h) - gate c cm b h j)
  else ⊥

theorem score_apply (x0 x1 : FVec Ideal S4x8192x16x128 .f32) (x3 : FVec Ideal S16x16x128 .f32) (x5 : FVec Ideal S4x8192x16 .f32)
    (x6 : FVec Ideal S16x16 .f32) (b : Fin 4) (h : Fin 16) (i : Fin 8192) (j : Fin 8208) :
    val_main_v30 (F := Ideal) x0 x1 x3 x5 x6 (ix4 b h i j) = score x0 x1 x3 x5 x6 b h i j := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_call0_v2, val_main_call0_v1, val_main_call0_v0, val_main_v29, val_main_v28, val_main_v27,
    val_main_v26, val_main_v25, val_main_v13, val_main_v12, val_main_v11, val_main_v10, val_main_cst, val_main_cst_0, val_main_c, score]
  simp only [v2_apply, v8_apply, ofBits_ninf, sqrt_128]
  rw [add_word, WordCmp.cmpi_sle_ofNat (by omega) (by omega), WordCmp.select_ofBool]
  simp only [decide_eq_true_eq]
  have e : (id (constant S_ .f32 0xFF800000#32) ix0 : Ideal .f32) = ⊥ := ofBits_ninf
  rw [e]

/-- The maximum of a row as the reference takes it. -/
def rowMax (S : Fin 8208 → EReal) : EReal := max ⊥ (Finset.univ.fold max ⊥ S)

theorem max_read (y : FVec Ideal S4x16x8192x8208 .f32) (init : FVec Ideal S_ .f32) (b : Fin 4) (h : Fin 16) (i : Fin 8192) :
    Host.reduce (FloatOps.maximumf (F := Ideal) (φ := .f32)) y init reducesTo_S4x16x8192x8208_S4x16x8192_d3 h_S_ (ix3 b h i)
      = Finset.univ.fold max (init (Shape.Idx.first h_S_)) fun j : Fin 8208 => y (ix4 b h i j) := by
  have hr : S4x16x8192x8208.Reduces [3] S4x16x8192 := by decide
  rw [Host.reduce_eq_fold_single (FloatOps.maximumf (F := Ideal) (φ := .f32)) y init _ hr]
  have hf : (y ∘ hr.lift (ix3 b h i)) = fun j : Fin 8208 => y (ix4 b h i j) :=
    funext fun j => congrArg y (funext fun a => Fin.ext (by fin_cases a <;> rfl))
  exact congrArg (fun f => Finset.fold max (init (Shape.Idx.first h_S_)) f (Finset.univ : Finset (Fin 8208))) hf

theorem max_apply (x0 x1 : FVec Ideal S4x8192x16x128 .f32) (x3 : FVec Ideal S16x16x128 .f32) (x5 : FVec Ideal S4x8192x16 .f32)
    (x6 : FVec Ideal S16x16 .f32) (b : Fin 4) (h : Fin 16) (i : Fin 8192) :
    val_main_v33 (F := Ideal) x0 x1 x3 x5 x6 (ix3 b h i) = rowMax (fun j => val_main_v30 (F := Ideal) x0 x1 x3 x5 x6 (ix4 b h i j)) := by
  rw [val_main_v33_apply, val_main_v32_apply]
  unfold val_main_v31
  generalize val_main_v30 (F := Ideal) x0 x1 x3 x5 x6 = y
  refine (congrArg (fun z => max (Ideal.ofBits .f32 0xFF800000#32) z) (max_read y (val_main_cst_1 (F := Ideal)) b h i)).trans ?_
  show max (Ideal.ofBits .f32 0xFF800000#32) (Finset.univ.fold max (Ideal.ofBits .f32 0xFF800000#32) _) = _
  rw [ofBits_ninf]; rfl

/-- The row of values weighted by the softmax of the scores `S`. -/
def softRow (S V : Fin 8208 → EReal) : EReal :=
  ∑ j, V j * Ideal.div (Ideal.exp (S j - rowMax S)) (∑ i, Ideal.exp (S i - rowMax S))

theorem row_apply (x0 x1 x2 : FVec Ideal S4x8192x16x128 .f32) (x3 x4 : FVec Ideal S16x16x128 .f32) (x5 : FVec Ideal S4x8192x16 .f32)
    (x6 : FVec Ideal S16x16 .f32) (b : Fin 4) (h : Fin 16) (i : Fin 8192) (d : Fin 128) :
    val_main_v42 (F := Ideal) x0 x1 x2 x3 x4 x5 x6 (ix4 b h d i)
      = softRow (score x0 x1 x3 x5 x6 b h i) (fun j => key x2 x4 b h j d) := by
  pointwise [val_main_v42, val_main_v41, val_main_v40, val_main_v39, val_main_v38, val_main_v37, val_main_v36, val_main_v35,
    val_main_v34, val_main_cst_3]
  rw [max_apply]
  simp only [score_apply, v5_apply]
  rfl

theorem out_apply (x0 x1 x2 : FVec Ideal S4x8192x16x128 .f32) (x3 x4 : FVec Ideal S16x16x128 .f32) (x5 : FVec Ideal S4x8192x16 .f32)
    (x6 : FVec Ideal S16x16 .f32) (r : Fin 32768) (d : Fin 2048) :
    val_main_v45 (F := Ideal) x0 x1 x2 x3 x4 x5 x6 (ix2 r d)
      = softRow (score x0 x1 x3 x5 x6 ⟨r.val / 8192, by omega⟩ ⟨d.val / 128, by omega⟩ ⟨r.val % 8192, by omega⟩)
          (fun j => key x2 x4 ⟨r.val / 8192, by omega⟩ ⟨d.val / 128, by omega⟩ j ⟨d.val % 128, by omega⟩) := by
  rw [← row_apply]
  pointwise [val_main_v45, val_main_v44, val_main_v43]

end Cert.ReferenceIdeal.Attn

end
-- ==== Proof.Link.lean ====
/- One row of the attention's block is the reference's row: the scores agree up to a shift and a factor, which the softmax
   does not see. -/
module

public import proofs.«01_k».proof.Proof.Row
public import proofs.«01_k».proof.Proof.Ref

@[expose] public section

set_option maxRecDepth 16384

noncomputable section

namespace Cert.KernelIdeal.Attn

open Idealize.ShloMosaic Idealize.ShloMosaic.TcCoe
open Cert.KernelIdeal Cert.KernelIdeal.Gen
open Cert.ReferenceIdeal.Attn (key gate score rowMax softRow)

/-- The factor on the queries: the scale of the scores, and the change from base `e` to base two. -/
def qScale : ℝ := 1 / (Real.log 2 * Real.sqrt 128)

theorem qScale_eq : qScale = 1 / Real.sqrt 128 * log2e := by
  unfold qScale log2e; rw [one_div, one_div, mul_inv, mul_comm]

/-- The exponential of a reference's score is, up to a factor, the weight of the kernel's. -/
theorem exp_eq_wt (σ δ M X : ℝ) : Ideal.exp ((σ : EReal) - (X : EReal))
    = ((Real.exp (δ + M * Real.log 2 - X) * Soft.wt M (((σ - δ) * log2e : ℝ) : EReal) : ℝ) : EReal) := by
  have hl : Real.log 2 ≠ 0 := (Real.log_pos (by norm_num)).ne'
  unfold Soft.wt
  rw [if_neg (EReal.coe_ne_bot _), EReal.toReal_coe, ← EReal.coe_sub, Ideal.exp_coe, Real.rpow_def_of_pos (by norm_num), ← Real.exp_add]
  refine congrArg (fun x : ℝ => ((Real.exp x : ℝ) : EReal)) ?_
  unfold log2e; field_simp; ring

theorem place_eq {k : ℕ} (hk : k < 16) (t : Fin 512) : place k t = ⟨512 * k + t.val, by omega⟩ :=
  Fin.ext (Nat.mod_eq_of_lt (by omega))

/-- A score of real entries is real. -/
theorem score1_coe (a k : Fin 128 → ℝ) (g c : ℝ) :
    score1 (fun e => (a e : EReal)) (fun e => (k e : EReal)) (g : EReal) (c : EReal) = ((∑ e, a e * k e + (g - c) * log2e : ℝ) : EReal) := by
  unfold score1
  rw [EReal.coe_add, Soft.coe_sum, EReal.coe_mul, EReal.coe_sub]
  simp only [EReal.coe_mul]

theorem row_eq (n : ℕ) (hn : n < 16) (r : Fin 512) (i : Fin 8192) (hi : i.val = 512 * n + r.val)
    (q k v : FVec Ideal S4x8192x16x128 .f32) (km vm : FVec Ideal S16x16x128 .f32) (c : FVec Ideal S4x8192x16 .f32) (cm : FVec Ideal S16x16 .f32)
    (b : Fin 4) (h : Fin 16) (d : Fin 128)
    (xq : Vec Ideal S1x512x128 .bf16) (xk xv : Vec Ideal S1x8192x128 .bf16) (xkm xvm : Vec Ideal S1x128x128 .bf16)
    (xc : Vec Ideal S1x1x8192 .f32) (xcm : Vec Ideal S1x1x128 .f32)
    (hxq : ∀ e, xq (ix3 0 r e) = q (ix4 b i h e) * (qScale : EReal))
    (hxk : ∀ p e, xk (ix3 0 p e) = k (ix4 b p h e)) (hxv : ∀ p, xv (ix3 0 p d) = v (ix4 b p h d))
    (hxkm : ∀ t e, xkm (ix3 0 t e) = if ht : t.val < 16 then km (ix3 ⟨t.val, ht⟩ h e) else 0)
    (hxvm : ∀ t, (ht : t.val < 16) → xvm (ix3 0 t d) = vm (ix3 ⟨t.val, ht⟩ h d))
    (hxc : ∀ p, xc (ix3 0 0 p) = c (ix3 b p h))
    (hxcm : ∀ t, xcm (ix3 0 0 t) = if ht : t.val < 16 then cm (ix2 ⟨t.val, ht⟩ h) else ⊤)
    (hq : ∀ e, ∃ x : ℝ, q (ix4 b i h e) = (x : EReal)) (hk : ∀ p e, ∃ x : ℝ, k (ix4 b p h e) = (x : EReal))
    (hkm : ∀ t e, ∃ x : ℝ, km (ix3 t h e) = (x : EReal))
    (hc : ∀ p, ∃ x : ℝ, c (ix3 b p h) = (x : EReal)) (hcm : ∀ t, ∃ x : ℝ, cm (ix2 t h) = (x : EReal)) :
    attnBlk n xq xk xv xkm xvm xc xcm (ix2 r d) = softRow (score q k km c cm b h i) (fun j => key v vm b h j d) := by
  choose Q hQ using hq
  choose K hK using hk
  choose KM hKM using hkm
  choose C hC using hc
  choose CM hCM using hcm
  have hsq : Real.sqrt 128 ≠ 0 := (Real.sqrt_pos.mpr (by norm_num)).ne'
  -- the row of keys and gates, as reals
  let Kj : Fin 8208 → Fin 128 → ℝ := fun j e => if hj : j.val < 16 then KM ⟨j.val, hj⟩ e else K ⟨j.val - 16, by omega⟩ e
  let Gj : Fin 8208 → ℝ := fun j => if hj : j.val < 16 then CM ⟨j.val, hj⟩ else C ⟨j.val - 16, by omega⟩
  have hkey : ∀ j e, key k km b h j e = (Kj j e : EReal) := fun j e => by
    unfold key
    by_cases hj : j.val < 16
    · rw [dif_pos hj, hKM]; show _ = ((dite _ _ _ : ℝ) : EReal); rw [dif_pos hj]
    · rw [dif_neg hj, hK]; show _ = ((dite _ _ _ : ℝ) : EReal); rw [dif_neg hj]
  have hgate : ∀ j, gate c cm b h j = (Gj j : EReal) := fun j => by
    unfold gate
    by_cases hj : j.val < 16
    · rw [dif_pos hj, hCM]; show _ = ((dite _ _ _ : ℝ) : EReal); rw [dif_pos hj]
    · rw [dif_neg hj, hC]; show _ = ((dite _ _ _ : ℝ) : EReal); rw [dif_neg hj]
  let σ : Fin 8208 → ℝ := fun j => (∑ e, Q e * Kj j e) * (1 / Real.sqrt 128) + (C i - Gj j)
  let δ : ℝ := C i - C (place n 0)
  have hscore : ∀ j : Fin 8208, j.val ≤ 16 + i.val → score q k km c cm b h i j = (σ j : EReal) := fun j hj => by
    unfold score
    rw [if_pos hj, Ideal.div_coe hsq, hgate, hC]
    simp only [hQ, hkey]
    show _ = (((∑ e, Q e * Kj j e) * (1 / Real.sqrt 128) + (C i - Gj j) : ℝ) : EReal)
    rw [EReal.coe_add, EReal.coe_mul, EReal.coe_sub, Soft.coe_sum]
    simp only [EReal.coe_mul]
  have hbot : ∀ j : Fin 8208, ¬ j.val ≤ 16 + i.val → score q k km c cm b h i j = ⊥ := fun j hj => if_neg hj
  -- the kernel's scores are the reference's, shifted and in base two
  have hreal : ∀ j : Fin 8208, score1 (fun e => xq (ix3 0 r e)) (fun e => (Kj j e : EReal)) (xc (ix3 0 0 (place n 0))) (Gj j : EReal)
      = (((σ j - δ) * log2e : ℝ) : EReal) := fun j => by
    have e1 : (fun e => xq (ix3 0 r e)) = fun e => ((Q e * qScale : ℝ) : EReal) := funext fun e => by rw [hxq, hQ, EReal.coe_mul]
    rw [e1, hxc, hC, score1_coe]
    refine congrArg _ ?_
    show _ = ((∑ e, Q e * Kj j e) * (1 / Real.sqrt 128) + (C i - Gj j) - (C i - C (place n 0))) * log2e
    have e2 : ∑ e, Q e * qScale * Kj j e = (∑ e, Q e * Kj j e) * qScale := by
      rw [Finset.sum_mul]; exact Finset.sum_congr rfl fun e _ => by ring
    rw [e2, qScale_eq]; ring
  have hmeta : ∀ t : Fin 128, (ht : t.val < 16) → metaScore n xq xkm xc xcm r t = (((σ ⟨t.val, by omega⟩ - δ) * log2e : ℝ) : EReal) := fun t ht => by
    rw [← hreal]
    unfold metaScore
    have e1 : (fun e => xkm (ix3 0 t e)) = fun e => (Kj ⟨t.val, by omega⟩ e : EReal) := funext fun e => by
      rw [hxkm, dif_pos ht, hKM]; show _ = ((dite _ _ _ : ℝ) : EReal); rw [dif_pos ht]
    have e2 : xcm (ix3 0 0 t) = (Gj ⟨t.val, by omega⟩ : EReal) := by
      rw [hxcm, dif_pos ht, hCM]; show _ = ((dite _ _ _ : ℝ) : EReal); rw [dif_pos ht]
    rw [e1, e2]
  have hpad : ∀ t : Fin 128, 16 ≤ t.val → metaScore n xq xkm xc xcm r t = ⊥ := fun t ht => by
    unfold metaScore score1
    rw [hxcm, dif_neg (by omega), hxc, hC, sub_eq_add_neg, EReal.neg_top, EReal.add_bot, EReal.bot_mul_coe_of_pos]
    · exact EReal.add_bot _
    · unfold log2e; exact inv_pos.mpr (Real.log_pos (by norm_num))
  have hblk : ∀ k', (hk' : k' ≤ n) → ∀ t : Fin 512, keyScore n xq xk xc r k' t
      = (((σ ⟨16 + (512 * k' + t.val), by omega⟩ - δ) * log2e : ℝ) : EReal) := fun k' hk' t => by
    rw [← hreal]
    unfold keyScore
    rw [place_eq (by omega : k' < 16) t]
    have hj : ¬ 16 + (512 * k' + t.val) < 16 := by omega
    have e0 : (⟨16 + (512 * k' + t.val) - 16, by omega⟩ : Fin 8192) = ⟨512 * k' + t.val, by omega⟩ := Fin.ext (by show 16 + (512 * k' + t.val) - 16 = 512 * k' + t.val; omega)
    have e1 : (fun e => xk (ix3 0 ⟨512 * k' + t.val, by omega⟩ e)) = fun e => (Kj ⟨16 + (512 * k' + t.val), by omega⟩ e : EReal) := funext fun e => by
      rw [hxk, hK]; show _ = ((dite _ _ _ : ℝ) : EReal); rw [dif_neg hj, e0]
    have e2 : xc (ix3 0 0 ⟨512 * k' + t.val, by omega⟩) = (Gj ⟨16 + (512 * k' + t.val), by omega⟩ : EReal) := by
      rw [hxc, hC]; show _ = ((dite _ _ _ : ℝ) : EReal); rw [dif_neg hj, e0]
    rw [e1, e2]
  -- the maximum of the reference's row is real
  have hfin : ∀ j, score q k km c cm b h i j ≠ ⊤ := fun j => by
    by_cases hj : j.val ≤ 16 + i.val
    · rw [hscore j hj]; exact EReal.coe_ne_top _
    · rw [hbot j hj]; exact bot_ne_top
  obtain ⟨X, hX⟩ : ∃ X : ℝ, rowMax (score q k km c cm b h i) = X := by
    unfold rowMax
    rw [max_eq_right bot_le]
    refine Soft.exists_coe (Soft.foldMax_ne_bot _ _ (Finset.mem_univ (0 : Fin 8208)) ?_) (Soft.foldMax_ne_top _ _ hfin)
    rw [hscore 0 (by show 0 ≤ _; omega)]; exact EReal.coe_ne_bot _
  have hm0 : metaScore n xq xkm xc xcm r 0 ≠ ⊥ := by rw [hmeta 0 (by show 0 < 16; omega)]; exact EReal.coe_ne_bot _
  obtain ⟨m, l, a, hinv, hval⟩ := attnBlk_inv n xq xk xv xkm xvm xc xcm r d
    (fun t => by
      by_cases ht : t.val < 16
      · rw [hmeta t ht]; exact EReal.coe_ne_top _
      · rw [hpad t (by omega)]; exact bot_ne_top)
    hm0
    (fun k' hk' t => by
      unfold maskedScore; split
      · exact bot_ne_top
      · rw [hblk k' hk' t]; exact EReal.coe_ne_top _)
  rw [hval]
  unfold softRow
  refine hinv.quotient (by omega) hm0 _ (fun j => key v vm b h j d) _ (fun M => ?_) hpad (fun j hj => ?_) (fun t ht => ?_) (fun k' hk' t => ?_)
  · refine ⟨Real.exp (δ + M * Real.log 2 - X), Real.exp_pos _, fun t ht => ?_, fun k' hk' t => ?_⟩
    · rw [hscore _ (by show t.val ≤ _; omega), hX, hmeta t ht, exp_eq_wt _ δ M X]
    · unfold maskedScore
      split
      next hm =>
        rw [hbot _ (by show ¬ 16 + (512 * k' + t.val) ≤ _; omega), EReal.bot_sub, Soft.wt_bot, mul_zero, Ideal.exp_bot]; rfl
      next hm =>
        rw [hscore _ (by show 16 + (512 * k' + t.val) ≤ _; omega), hX, hblk k' (by omega) t, exp_eq_wt _ δ M X]
  · rw [hbot j (by omega), EReal.bot_sub, Ideal.exp_bot]
  · show xvm (ix3 0 t d) = key v vm b h ⟨t.val, by omega⟩ d
    unfold key; rw [dif_pos ht, hxvm t ht]
  · show xv (ix3 0 (place k' t) d) = key v vm b h ⟨16 + (512 * k' + t.val), by omega⟩ d
    unfold key
    rw [dif_neg (by show ¬ 16 + (512 * k' + t.val) < 16; omega), place_eq (by omega : k' < 16) t, hxv]
    refine congrArg v (congrArg (fun p => ix4 b p h d) (Fin.ext ?_))
    show 512 * k' + t.val = 16 + (512 * k' + t.val) - 16
    omega

end Cert.KernelIdeal.Attn

end
-- ==== Proof.Host.lean ====
/- The arrays the attention reads, as the program's arguments give them: queries, keys and values by head, the meta block,
   and the gates. -/
module

public import proofs.«01_k».proof.Proof.Link
public import proofs.«01_k».proof.Proof.Run
public import Idealize.ShloMosaic.Lib.Claim

@[expose] public section

set_option maxRecDepth 16384

noncomputable section

namespace Cert.KernelIdeal.Attn

open Idealize.ShloMosaic Idealize.ShloMosaic.TcCoe
open Cert.KernelIdeal Cert.KernelIdeal.Gen

/-- The factor the queries are multiplied by. -/
def scaleOf : FVec Ideal S_ .f32 :=
  Host.divf (constant S_ .f32 0x3F800000#32)
    (mulf (Host.log (constant S_ .f32 0x40000000#32)) (Host.sqrt (constant S_ .f32 0x43000000#32)))

/-- An argument by head. -/
def byHead (x : FVec Ideal S4x8192x16x128 .f32) : FVec Ideal S16x32768x128 .f32 :=
  transpose S16x32768x128 [1, 0, 2] (shapeCast S32768x16x128 x shapeCasts_S4x8192x16x128_S32768x16x128)
    transposes_S32768x16x128_S16x32768x128_1_0_2

/-- Queries, keys and values, one array. -/
def qkvOf (x0 x1 x2 : FVec Ideal S4x8192x16x128 .f32) : FVec Ideal S48x32768x128 .bf16 :=
  truncf .bf16 (concatenate S48x32768x128 0
    [⟨S16x32768x128, mulf (byHead x0) (broadcastInDim S16x32768x128 ![] bcast_S_S16x32768x128 scaleOf)⟩,
      ⟨S16x32768x128, byHead x1⟩, ⟨S16x32768x128, byHead x2⟩]
    concatenates_S16x32768x128_S16x32768x128_S16x32768x128_S48x32768x128_d0) bitsLt_bf16_f32

/-- The meta block's keys and values, padded to 128 rows. -/
def metaOf (x3 x4 : FVec Ideal S16x16x128 .f32) : FVec Ideal S48x128x128 .bf16 :=
  pad S48x128x128 ![0, 0, 0] ![0, 112, 0] ![0, 0, 0]
    (truncf .bf16 (concatenate S48x16x128 0
      [⟨S16x16x128, broadcastInDim S16x16x128 ![] bcast_S_S16x16x128 (constant S_ .f32 0x00000000#32)⟩,
        ⟨S32x16x128, concatenate S32x16x128 0
          [⟨S16x16x128, transpose S16x16x128 [1, 0, 2] x3 transposes_S16x16x128_S16x16x128_1_0_2⟩,
            ⟨S16x16x128, transpose S16x16x128 [1, 0, 2] x4 transposes_S16x16x128_S16x16x128_1_0_2⟩]
          concatenates_S16x16x128_S16x16x128_S32x16x128_d0⟩]
      concatenates_S16x16x128_S32x16x128_S48x16x128_d0) bitsLt_bf16_f32)
    (sitofp .bf16 (constantI S_ 32 0#32)) pads_S48x16x128_S48x128x128_000_01120_000 h_S_

/-- The gates by head. -/
def gatesOf (x5 : FVec Ideal S4x8192x16 .f32) : FVec Ideal S16x1x32768 .f32 :=
  shapeCast S16x1x32768 (transpose S16x32768 [1, 0] (shapeCast S32768x16 x5 shapeCasts_S4x8192x16_S32768x16)
    transposes_S32768x16_S16x32768_1_0) shapeCasts_S16x32768_S16x1x32768

/-- The meta tokens' gates, padded to 128 with infinity. -/
def metaGatesOf (x6 : FVec Ideal S16x16 .f32) : FVec Ideal S16x1x128 .f32 :=
  shapeCast S16x1x128
    (select (broadcastInDim S16x128 ![0, 1] bcast_S1x128_S16x128_0_1
        (cmpi .slt (broadcastInDim S1x128 ![1] bcast_S128_S1x128_1 (iotaInDim S128 32 0))
          (broadcastInDim S1x128 ![] bcast_S_S1x128 (constantI S_ 32 16#32))))
      (pad S16x128 ![0, 0] ![0, 112] ![0, 0] (transpose S16x16 [1, 0] x6 transposes_S16x16_S16x16_1_0)
        (sitofp .f32 (constantI S_ 32 0#32)) pads_S16x16_S16x128_000_01120 h_S_)
      (broadcastInDim S16x128 ![] bcast_S_S16x128 (constant S_ .f32 0x7F800000#32)))
    shapeCasts_S16x128_S16x1x128

section Entry

variable (m : (ℓ : Loc nD τ sig) → Buf (Elt Ideal) ℓ) (c : Dev nD)

theorem V_qkv : V m c main_v13 = qkvOf (m ((c.tc : Thread nD τ).loc main_arg0)) (m ((c.tc : Thread nD τ).loc main_arg1))
    (m ((c.tc : Thread nD τ).loc main_arg2)) := by
  entry_read
  rfl

theorem V_meta : V m c main_v29 = metaOf (m ((c.tc : Thread nD τ).loc main_arg3)) (m ((c.tc : Thread nD τ).loc main_arg4)) := by
  entry_read
  rfl

theorem V_gates : V m c main_v30 = gatesOf (m ((c.tc : Thread nD τ).loc main_arg5)) := by
  entry_read
  rfl

theorem V_metaGates : V m c main_v31 = metaGatesOf (m ((c.tc : Thread nD τ).loc main_arg6)) := by
  entry_read
  rfl

end Entry

end Cert.KernelIdeal.Attn

end
-- ==== Proof.HostAt.lean ====
/- The arrays the attention reads, read at an element. -/
module

public import proofs.«01_k».proof.Proof.Host
public import Idealize.ShloMosaic.Lib.WordCmp

@[expose] public section

set_option maxRecDepth 16384

noncomputable section

namespace Cert.KernelIdeal.Attn

open Idealize.ShloMosaic Idealize.ShloMosaic.TcCoe
open Cert.KernelIdeal Cert.KernelIdeal.Gen

theorem ofBits_one : Ideal.ofBits .f32 0x3F800000#32 = ((1 : ℝ) : EReal) := by
  simp [Ideal.ofBits, Ideal.ieee]; try (rw [← EReal.coe_mul]; norm_num)

theorem ofBits_two : Ideal.ofBits .f32 0x40000000#32 = ((2 : ℝ) : EReal) := by
  simp [Ideal.ofBits, Ideal.ieee]; try (rw [← EReal.coe_mul]; norm_num)

theorem ofBits_inf : Ideal.ofBits .f32 0x7F800000#32 = ⊤ := by simp [Ideal.ofBits, Ideal.ieee]

theorem scaleOf_eq (j : S_.Idx) : scaleOf j = (qScale : EReal) := by
  show Ideal.div (Ideal.ofBits .f32 0x3F800000#32)
    (Ideal.log (Ideal.ofBits .f32 0x40000000#32) * Ideal.sqrt (Ideal.ofBits .f32 0x43000000#32)) = _
  have hl : (0 : ℝ) < Real.log 2 := Real.log_pos (by norm_num)
  have hs : (0 : ℝ) < Real.sqrt 128 := Real.sqrt_pos.mpr (by norm_num)
  rw [Cert.ReferenceIdeal.Attn.sqrt_128, ofBits_one, ofBits_two, Ideal.log_coe, if_neg (by norm_num), ← EReal.coe_mul,
    Ideal.div_coe (mul_pos hl hs).ne', ← EReal.coe_mul]
  exact congrArg _ (one_mul _)

theorem byHead_apply (x : FVec Ideal S4x8192x16x128 .f32) (h : Fin 16) (T : Fin 32768) (e : Fin 128) :
    byHead x (ix3 h T e) = x (ix4 ⟨T.val / 8192, by omega⟩ ⟨T.val % 8192, by omega⟩ h e) := by
  pointwise [byHead]

theorem qkv_q (x0 x1 x2 : FVec Ideal S4x8192x16x128 .f32) (h : Fin 16) (T : Fin 32768) (e : Fin 128) :
    qkvOf x0 x1 x2 (ix3 ⟨h.val, by omega⟩ T e) = x0 (ix4 ⟨T.val / 8192, by omega⟩ ⟨T.val % 8192, by omega⟩ h e) * (qScale : EReal) := by
  rw [← byHead_apply x0, ← scaleOf_eq ix0]
  pointwise [qkvOf]

theorem qkv_k (x0 x1 x2 : FVec Ideal S4x8192x16x128 .f32) (h : Fin 16) (T : Fin 32768) (e : Fin 128) :
    qkvOf x0 x1 x2 (ix3 ⟨16 + h.val, by omega⟩ T e) = x1 (ix4 ⟨T.val / 8192, by omega⟩ ⟨T.val % 8192, by omega⟩ h e) := by
  rw [← byHead_apply x1]
  pointwise [qkvOf]

theorem qkv_v (x0 x1 x2 : FVec Ideal S4x8192x16x128 .f32) (h : Fin 16) (T : Fin 32768) (e : Fin 128) :
    qkvOf x0 x1 x2 (ix3 ⟨32 + h.val, by omega⟩ T e) = x2 (ix4 ⟨T.val / 8192, by omega⟩ ⟨T.val % 8192, by omega⟩ h e) := by
  rw [← byHead_apply x2]
  pointwise [qkvOf]
  rw [dif_neg (by omega), dif_neg (by omega)]
  exact congrArg (byHead x2) (congrArg (fun a => ix3 a _ _) (Fin.ext (by simp; omega)))

theorem meta_k (x3 x4 : FVec Ideal S16x16x128 .f32) (h : Fin 16) (t e : Fin 128) :
    metaOf x3 x4 (ix3 ⟨16 + h.val, by omega⟩ t e) = if ht : t.val < 16 then x3 (ix3 ⟨t.val, ht⟩ h e) else 0 := by
  pointwise [metaOf]
  have h0 : (FloatOps.sitofp (F := Ideal) FTy.bf16 0#32 : EReal) = 0 := by
    show (((0#32 : BitVec 32).toInt : ℝ) : EReal) = 0
    norm_num
  by_cases ht : t.val < 16
  · rw [dif_pos ⟨by omega, ht⟩, dif_pos ht]
  · rw [dif_neg (fun h' => ht h'.2), dif_neg ht, h0]

theorem meta_v (x3 x4 : FVec Ideal S16x16x128 .f32) (h : Fin 16) (t e : Fin 128) (ht : t.val < 16) :
    metaOf x3 x4 (ix3 ⟨32 + h.val, by omega⟩ t e) = x4 (ix3 ⟨t.val, ht⟩ h e) := by
  pointwise [metaOf]
  rw [dif_pos ⟨by omega, ht⟩, dif_neg (by omega), dif_neg (by omega)]
  exact congrArg x4 (congrArg (fun a => ix3 _ a _) (Fin.ext (by simp; omega)))

theorem gates_apply (x5 : FVec Ideal S4x8192x16 .f32) (h : Fin 16) (T : Fin 32768) :
    gatesOf x5 (ix3 h 0 T) = x5 (ix3 ⟨T.val / 8192, by omega⟩ ⟨T.val % 8192, by omega⟩ h) := by
  pointwise [gatesOf]

theorem metaGates_apply (x6 : FVec Ideal S16x16 .f32) (h : Fin 16) (t : Fin 128) :
    metaGatesOf x6 (ix3 h 0 t) = if ht : t.val < 16 then x6 (ix2 ⟨t.val, ht⟩ h) else ⊤ := by
  pointwise [metaGatesOf]
  rw [WordCmp.cmpi_slt_ofNat (by omega) (by omega), WordCmp.select_ofBool]
  by_cases ht : t.val < 16
  · simp [ht]
  · simp only [ht, decide_false, dif_neg, not_false_eq_true, Bool.false_eq_true, if_false]
    exact ofBits_inf

end Cert.KernelIdeal.Attn

end
-- ==== Proof.Index.lean ====
/- Which block of its array each window reads or writes at a grid point. -/
module

public import proofs.«01_k».proof.Proof.Gen.KernelIdeal.Frame

@[expose] public section

set_option maxRecDepth 16384

noncomputable section

namespace Cert.KernelIdeal.Attn

open Idealize.ShloMosaic Idealize.ShloMosaic.TcCoe
open Cert.KernelIdeal Cert.KernelIdeal.Gen

/-- The block of each window at a grid point, by the point's sequence, head and query block. -/
theorem idx : ∀ t : Fin cfg0.N,
    (win0_0.index t = ![(grid0.coords t 1).val, (grid0.coords t 0).val * 16 + (grid0.coords t 2).val, 0]
    ∧ win0_1.index t = ![16 + (grid0.coords t 1).val, (grid0.coords t 0).val, 0]
    ∧ win0_2.index t = ![32 + (grid0.coords t 1).val, (grid0.coords t 0).val, 0]
    ∧ win0_3.index t = ![16 + (grid0.coords t 1).val, 0, 0])
    ∧ (win0_4.index t = ![32 + (grid0.coords t 1).val, 0, 0]
    ∧ win0_5.index t = ![(grid0.coords t 1).val, 0, (grid0.coords t 0).val]
    ∧ win0_6.index t = ![(grid0.coords t 1).val, 0, 0]
    ∧ win0_7.index t = ![(grid0.coords t 0).val * 16 + (grid0.coords t 2).val, (grid0.coords t 1).val]) :=
  (by decide +kernel : ∀ t : Fin grid0.N, _)

end Cert.KernelIdeal.Attn

end
-- ==== Proof.Array.lean ====
/- The attention's array when the run ends: the reference's, of the same arguments. -/
module

public import proofs.«01_k».proof.Proof.HostAt
public import proofs.«01_k».proof.Proof.Index
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen

variable (m : (ℓ : Loc nD τ sig) → Buf (Elt Ideal) ℓ) (c : Dev nD) (t : Fin cfg0.N)

/-- The sequence of a grid point. -/
def seqOf : Fin 4 := grid0.coords t 0
/-- The head of a grid point. -/
def headOf : Fin 16 := grid0.coords t 1
/-- The query block of a grid point. -/
def blockOf : Fin 16 := grid0.coords t 2

/-- A row of a block of queries among the sequence's positions. -/
def posOf (r : Fin 512) : Fin 8192 := ⟨512 * (blockOf t).val + r.val, by omega⟩

/-- A position among the rows of all sequences. -/
def rowOf (p : Fin 8192) : Fin 32768 := ⟨(seqOf t).val * 8192 + p.val, by omega⟩

theorem read_q (r : Fin 512) (e : Fin 128) :
    iblk m c 0 t (ix3 0 r e) = V m c main_v13 (ix3 ⟨(headOf t).val, by omega⟩ (rowOf t (posOf t r)) e) := by
  have h := (idx t).1.1
  blk_simp [iblk]
  blk_ext [h]
  all_goals first | (simp only [headOf, seqOf, blockOf, rowOf, posOf]; done) | (simp only [headOf, seqOf, blockOf, rowOf, posOf]; omega)

theorem read_k (p : Fin 8192) (e : Fin 128) :
    iblk m c 1 t (ix3 0 p e) = V m c main_v13 (ix3 ⟨16 + (headOf t).val, by omega⟩ (rowOf t p) e) := by
  have h := (idx t).1.2.1
  blk_simp [iblk]
  blk_ext [h]
  all_goals first | (simp only [headOf, seqOf, blockOf, rowOf, posOf]; done) | (simp only [headOf, seqOf, blockOf, rowOf, posOf]; omega)

theorem read_v (p : Fin 8192) (e : Fin 128) :
    iblk m c 2 t (ix3 0 p e) = V m c main_v13 (ix3 ⟨32 + (headOf t).val, by omega⟩ (rowOf t p) e) := by
  have h := (idx t).1.2.2.1
  blk_simp [iblk]
  blk_ext [h]
  all_goals first | (simp only [headOf, seqOf, blockOf, rowOf, posOf]; done) | (simp only [headOf, seqOf, blockOf, rowOf, posOf]; omega)

theorem read_km (p e : Fin 128) :
    iblk m c 3 t (ix3 0 p e) = V m c main_v29 (ix3 ⟨16 + (headOf t).val, by omega⟩ p e) := by
  have h := (idx t).1.2.2.2
  blk_simp [iblk]
  blk_ext [h]
  all_goals first | (simp only [headOf]; done) | (simp only [headOf]; omega)

theorem read_vm (p e : Fin 128) :
    iblk m c 4 t (ix3 0 p e) = V m c main_v29 (ix3 ⟨32 + (headOf t).val, by omega⟩ p e) := by
  have h := (idx t).2.1
  blk_simp [iblk]
  blk_ext [h]
  all_goals first | (simp only [headOf]; done) | (simp only [headOf]; omega)

theorem read_c (p : Fin 8192) : iblk m c 5 t (ix3 0 0 p) = V m c main_v30 (ix3 (headOf t) 0 (rowOf t p)) := by
  have h := (idx t).2.2.1
  blk_simp [iblk]
  blk_ext [h]
  all_goals first | (simp only [headOf, seqOf, rowOf]; done) | (simp only [headOf, seqOf, rowOf]; omega)

theorem read_cm (p : Fin 128) : iblk m c 6 t (ix3 0 0 p) = V m c main_v31 (ix3 (headOf t) 0 p) := by
  have h := (idx t).2.2.2.1
  blk_simp [iblk]
  blk_ext [h]
  all_goals first | (simp only [headOf]; done) | (simp only [headOf]; omega)

theorem row_div (p : Fin 8192) (h : (rowOf t p).val / 8192 < 4) : (⟨(rowOf t p).val / 8192, h⟩ : Fin 4) = seqOf t :=
  Fin.ext (by simp only [rowOf]; omega)

theorem row_mod (p : Fin 8192) (h : (rowOf t p).val % 8192 < 8192) : (⟨(rowOf t p).val % 8192, h⟩ : Fin 8192) = p :=
  Fin.ext (by simp only [rowOf]; omega)

/-- The precondition's fact of an array: its elements are real numbers. -/
def AllReal {s : Shape} (x : FVec Ideal s .f32) : Prop := ∀ i, ∃ r : ℝ, x i = (r : EReal)

/-- The block the body leaves, at an element. -/
theorem block_apply (x0 x1 x2 : FVec Ideal S4x8192x16x128 .f32) (x3 x4 : FVec Ideal S16x16x128 .f32) (x5 : FVec Ideal S4x8192x16 .f32)
    (x6 : FVec Ideal S16x16 .f32)
    (e0 : m ((c.tc : Thread nD τ).loc main_arg0) = x0) (e1 : m ((c.tc : Thread nD τ).loc main_arg1) = x1)
    (e2 : m ((c.tc : Thread nD τ).loc main_arg2) = x2) (e3 : m ((c.tc : Thread nD τ).loc main_arg3) = x3)
    (e4 : m ((c.tc : Thread nD τ).loc main_arg4) = x4) (e5 : m ((c.tc : Thread nD τ).loc main_arg5) = x5)
    (e6 : m ((c.tc : Thread nD τ).loc main_arg6) = x6)
    (h0 : AllReal x0) (h1 : AllReal x1) (h3 : AllReal x3) (h5 : AllReal x5) (h6 : AllReal x6) (r : Fin 512) (d : Fin 128) :
    attnBlk (grid0.coords t 2).val (iblk m c 0 t) (iblk m c 1 t) (iblk m c 2 t) (iblk m c 3 t) (iblk m c 4 t) (iblk m c 5 t)
        (iblk m c 6 t) (ix2 r d)
      = Cert.ReferenceIdeal.Attn.softRow (Cert.ReferenceIdeal.Attn.score x0 x1 x3 x5 x6 (seqOf t) (headOf t) (posOf t r))
          (fun j => Cert.ReferenceIdeal.Attn.key x2 x4 (seqOf t) (headOf t) j d) := by
  have hqkv := V_qkv m c
  have hmeta := V_meta m c
  have hg := V_gates m c
  have hgm := V_metaGates m c
  rw [e0, e1, e2] at hqkv
  rw [e3, e4] at hmeta
  rw [e5] at hg
  rw [e6] at hgm
  refine row_eq (blockOf t).val (blockOf t).isLt r (posOf t r) rfl x0 x1 x2 x3 x4 x5 x6 (seqOf t) (headOf t) d _ _ _ _ _ _ _
    (fun e => ?_) (fun p e => ?_) (fun p => ?_) (fun p e => ?_) (fun p hp => ?_) (fun p => ?_) (fun p => ?_)
    (fun e => h0 _) (fun p e => h1 _) (fun p e => h3 _) (fun p => h5 _) (fun p => h6 _)
  · rw [read_q, hqkv, qkv_q, row_div, row_mod]
  · rw [read_k, hqkv, qkv_k, row_div, row_mod]
  · rw [read_v, hqkv, qkv_v, row_div, row_mod]
  · rw [read_km, hmeta, meta_k]
  · rw [read_vm, hmeta, meta_v _ _ _ _ _ hp]
  · rw [read_c, hg, gates_apply, row_div, row_mod]
  · rw [read_cm, hgm, metaGates_apply]

/-- The array when the run ends. -/
theorem array_eq (x0 x1 x2 : FVec Ideal S4x8192x16x128 .f32) (x3 x4 : FVec Ideal S16x16x128 .f32) (x5 : FVec Ideal S4x8192x16 .f32)
    (x6 : FVec Ideal S16x16 .f32)
    (e0 : m ((c.tc : Thread nD τ).loc main_arg0) = x0) (e1 : m ((c.tc : Thread nD τ).loc main_arg1) = x1)
    (e2 : m ((c.tc : Thread nD τ).loc main_arg2) = x2) (e3 : m ((c.tc : Thread nD τ).loc main_arg3) = x3)
    (e4 : m ((c.tc : Thread nD τ).loc main_arg4) = x4) (e5 : m ((c.tc : Thread nD τ).loc main_arg5) = x5)
    (e6 : m ((c.tc : Thread nD τ).loc main_arg6) = x6)
    (h0 : AllReal x0) (h1 : AllReal x1) (h3 : AllReal x3) (h5 : AllReal x5) (h6 : AllReal x6) :
    (dats m 0 c).arrAt 7 cfg0.N = Cert.ReferenceIdeal.Read.val_main_v45 (F := Ideal) x0 x1 x2 x3 x4 x5 x6 := by
  refine (dats m 0 c).arrAt_eq_of_covers 7 _ (by decide +kernel) fun t hf y => ?_
  rw [after0_7]
  blk_simp
  obtain ⟨r, d, rfl⟩ : ∃ (r : Fin 512) (d : Fin 128), y = ix2 r d := ⟨y 0, y 1, by ext a; fin_cases a <;> rfl⟩
  refine (block_apply m c t x0 x1 x2 x3 x4 x5 x6 e0 e1 e2 e3 e4 e5 e6 h0 h1 h3 h5 h6 r d).trans ?_
  have h := (idx t).2.2.2.2
  have hrow : (win0_7.blk t).view.emb (ix2 r d) = ix2 (rowOf t (posOf t r)) ⟨(headOf t).val * 128 + d.val, by omega⟩ := by
    blk_ext [h]
    all_goals first | (simp only [headOf, seqOf, blockOf, rowOf, posOf]; done) | (simp only [headOf, seqOf, blockOf, rowOf, posOf]; omega)
  have hdiv (hlt : ((headOf t).val * 128 + d.val) / 128 < 16) : (⟨((headOf t).val * 128 + d.val) / 128, hlt⟩ : Fin 16) = headOf t :=
    Fin.ext (by simp only; omega)
  have hmod (hlt : ((headOf t).val * 128 + d.val) % 128 < 128) : (⟨((headOf t).val * 128 + d.val) % 128, hlt⟩ : Fin 128) = d :=
    Fin.ext (by simp only; omega)
  rw [hrow, Cert.ReferenceIdeal.Attn.out_apply, row_div, row_mod, hdiv]
  simp only [hmod]

end Cert.KernelIdeal.Attn

end
-- ==== Proof.Finite.lean ====
/- The precondition, read at an element: the queries, keys and gates are real numbers. -/
module

public import proofs.«01_k».proof.Pre_finite_scores
public import proofs.«01_k».proof.Proof.Soft
public import Idealize.ShloMosaic.Lib.ReduceAll
public import Idealize.ShloMosaic.Lib.Pointwise

@[expose] public section

set_option maxRecDepth 16384

noncomputable section

namespace Cert.Pre_finite_scores

open Idealize.ShloMosaic Idealize.ShloMosaic.TcCoe

variable [Facts]
open Facts

/-- Absolute value below infinity: a real number. -/
theorem real_of_lt (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  refine Cert.Soft.exists_coe ?_ ?_ <;> rintro rfl <;> simp at hlt

/-- `all` of the comparisons: every element is a real number. -/
theorem real_of_all {s : Shape} {axes : List (Fin s.rank)} (x : FVec Ideal s .f32) (hb : S_.BroadcastsInDim s (![] : Fin 0 → Fin s.rank))
    (h : s.ReducesTo axes S_) (hu : 0 < S_.numel) (init : IVec S_ 1) (j : S_.Idx)
    (e : Host.reduce IntOp.andi (cmpf .olt (Host.absf x) (broadcastInDim s ![] hb (constant S_ .f32 0x7F800000#32))) init h hu j = 1#1)
    (i : s.Idx) : ∃ r : ℝ, x i = (r : EReal) :=
  haveI : Subsingleton S_.Idx := ⟨fun a b => funext fun k => k.elim0⟩
  real_of_lt (x i) (Host.reduce_andi_all _ init h hu j e i)

theorem and_one {a b : BitVec 1} (h : IntOp.andi a b = 1#1) : a = 1#1 ∧ b = 1#1 := by
  revert h; revert a b; decide

/-- What the precondition says of the five arrays. -/
theorem finite_of_pre (x0 x1 x2 : FVec Ideal S4x8192x16x128 .f32) (x3 x4 : FVec Ideal S16x16x128 .f32) (x5 : FVec Ideal S4x8192x16 .f32)
    (x6 : FVec Ideal S16x16 .f32) (h : fn (F := Ideal) x0 x1 x2 x3 x4 x5 x6 = fun _ => 1#1) :
    ((∀ i, ∃ r : ℝ, x0 i = (r : EReal)) ∧ ∀ i, ∃ r : ℝ, x1 i = (r : EReal)) ∧ (∀ i, ∃ r : ℝ, x3 i = (r : EReal))
      ∧ (∀ i, ∃ r : ℝ, x5 i = (r : EReal)) ∧ ∀ i, ∃ r : ℝ, x6 i = (r : EReal) := by
  have e := congrFun h ix0
  obtain ⟨e, h6⟩ := and_one e
  obtain ⟨e, h5⟩ := and_one e
  obtain ⟨e, h3⟩ := and_one e
  obtain ⟨h0, h1⟩ := and_one e
  exact ⟨⟨real_of_all x0 _ _ _ _ _ h0, real_of_all x1 _ _ _ _ _ h1⟩, real_of_all x3 _ _ _ _ _ h3, real_of_all x5 _ _ _ _ _ h5,
    real_of_all x6 _ _ _ _ _ h6⟩

end Cert.Pre_finite_scores

end
-- ==== Proof.Linear.lean ====
/- The combined input projection at an element, and the sigmoid. -/
module

public import Idealize.ShloMosaic.Lib.Pointwise

@[expose] public section

noncomputable section

namespace Cert.Linear

open Idealize.ShloMosaic

/-- A row of the stream against a column of the weights, and the column's bias. -/
def affine (x : FVec Ideal ⟨2, ![32768, 2048]⟩ .f32) (w : FVec Ideal ⟨3, ![1, 2048, 14352]⟩ .f32)
    (b : FVec Ideal ⟨2, ![1, 14352]⟩ .f32) (i : Fin 32768) (j : Fin 14352) : EReal :=
  (∑ k : Fin 2048, x (ix2 i k) * w (ix3 0 k j)) + b (ix2 0 j)

/-- The float word of one. -/
def one : EReal := Ideal.ofBits .f32 0x3F800000#32

/-- The sigmoid. -/
def sigmoid (y : EReal) : EReal := Ideal.div one (one + Ideal.exp (-y))

/-- The sigmoid with its negation written as a difference. -/
theorem sigmoid_sub (y : EReal) : Ideal.div one (one + Ideal.exp (Ideal.ofBits .f32 0x00000000#32 - y)) = sigmoid y := by
  have h : Ideal.ofBits .f32 0x00000000#32 = 0 := by simp [Ideal.ofBits, Ideal.ieee]
  rw [h, zero_sub]
  rfl

end Cert.Linear

end
-- ==== Proof.QkvProj.lean ====
/- Queries, keys and values, scaled by column and split by head: the array the call leaves is the reference's. -/
module

public import proofs.«01_k».proof.Proof.Gen.QkvIdeal.Frame
public import proofs.«01_k».proof.Proof.Gen.QkvReferenceIdeal
public import proofs.«01_k».proof.Proof.Linear
public import Idealize.ShloMosaic.Lib.Claim
public import Idealize.ShloMosaic.Lib.Pipeline.ValueKit

@[expose] public section

set_option maxRecDepth 16384

noncomputable section

namespace Cert.QkvIdeal.Product

open Idealize.ShloMosaic Idealize.ShloMosaic.TcCoe
open Cert.QkvIdeal Cert.QkvIdeal.Gen
open Cert.Linear

/-- The combined projection of the reference. -/
def combined (x : FVec Ideal S32768x2048 .f32) (w : FVec Ideal S1x2048x14352 .f32) (b : FVec Ideal S1x14352 .f32) :
    FVec Ideal Cert.QkvReferenceIdeal.S32768x14352 .f32 :=
  addf (Host.dotGeneral (F := Ideal) (so := Cert.QkvReferenceIdeal.S32768x14352) (φ₁ := .f32) (φ₂ := .f32) Cert.QkvReferenceIdeal.dot_S32768x2048_S2048x14352_S32768x14352_1_0_0_1_n_n none x
      (shapeCast _ w Cert.QkvReferenceIdeal.Gen.shapeCasts_S1x2048x14352_S2048x14352))
    (broadcastInDim Cert.QkvReferenceIdeal.S32768x14352 ![0, 1] Cert.QkvReferenceIdeal.Gen.bcast_S1x14352_S32768x14352_0_1
      (broadcastInDim Cert.QkvReferenceIdeal.S1x14352 ![1] Cert.QkvReferenceIdeal.Gen.bcast_S14352_S1x14352_1
        (shapeCast _ b Cert.QkvReferenceIdeal.Gen.shapeCasts_S1x14352_S14352)))

theorem combined_apply (x : FVec Ideal S32768x2048 .f32) (w : FVec Ideal S1x2048x14352 .f32) (b : FVec Ideal S1x14352 .f32)
    (i : Fin 32768) (j : Fin 14352) : combined x w b (ix2 i j) = affine x w b i j := by
  pointwise [combined, affine]

/-- The reference's queries, keys and values by head. -/
def refQkv (x : FVec Ideal S32768x2048 .f32) (w : FVec Ideal S1x2048x14352 .f32) (b : FVec Ideal S1x14352 .f32) (s : FVec Ideal S6144 .f32) :
    FVec Ideal S48x32768x128 .bf16 :=
  truncf .bf16 (transpose Cert.QkvReferenceIdeal.S48x32768x128 [1, 0, 2]
    (shapeCast Cert.QkvReferenceIdeal.S32768x48x128
      (mulf (extractStridedSlice Cert.QkvReferenceIdeal.S32768x6144 ![0, 4096] (combined x w b) Cert.QkvReferenceIdeal.Gen.slices_S32768x14352_S32768x6144_0_4096)
        (broadcastInDim Cert.QkvReferenceIdeal.S32768x6144 ![0, 1] Cert.QkvReferenceIdeal.Gen.bcast_S1x6144_S32768x6144_0_1
          (broadcastInDim Cert.QkvReferenceIdeal.S1x6144 ![1] Cert.QkvReferenceIdeal.Gen.bcast_S6144_S1x6144_1 s)))
      Cert.QkvReferenceIdeal.Gen.shapeCasts_S32768x6144_S32768x48x128)
    Cert.QkvReferenceIdeal.Gen.transposes_S32768x48x128_S48x32768x128_1_0_2) Cert.QkvReferenceIdeal.Gen.bitsLt_bf16_f32

theorem refQkv_apply (x : FVec Ideal S32768x2048 .f32) (w : FVec Ideal S1x2048x14352 .f32) (b : FVec Ideal S1x14352 .f32) (s : FVec Ideal S6144 .f32)
    (a : Fin 48) (i : Fin 32768) (d : Fin 128) :
    refQkv x w b s (ix3 a i d) = affine x w b i ⟨4096 + (a.val * 128 + d.val), by omega⟩ * s (ix1 ⟨a.val * 128 + d.val, by omega⟩) := by
  rw [← combined_apply]
  pointwise [refQkv]
  blk_ext

theorem refQkv_col (x : FVec Ideal S32768x2048 .f32) (w : FVec Ideal S1x2048x14352 .f32) (b : FVec Ideal S1x14352 .f32) (s : FVec Ideal S6144 .f32)
    (a : Fin 48) (i : Fin 32768) (d : Fin 128) (j : Fin 6144) (h : j.val = a.val * 128 + d.val) :
    refQkv x w b s (ix3 a i d) = affine x w b i ⟨4096 + j.val, by omega⟩ * s (ix1 j) := by
  obtain ⟨n, hn⟩ := j
  dsimp only at h
  subst h
  exact refQkv_apply x w b s a i d

/-- The tile the body computes, at an element. -/
theorem tile_apply (x : Vec Ideal S1024x2048 .bf16) (w : Vec Ideal S2048x512 .bf16) (b s : Vec Ideal S1x512 .f32) (r : Fin 1024) (j : Fin 512) :
    k0_pay1 x w b s (ix2 r j) = ((∑ k : Fin 2048, x (ix2 r k) * w (ix2 k j)) + b (ix2 0 j)) * s (ix2 0 j) := by
  pointwise [k0_pay1]

/-- The block the body leaves: the tile, its columns split by head. -/
theorem block_eq (x : Vec Ideal S1024x2048 .bf16) (w : Vec Ideal S2048x512 .bf16) (b s : Vec Ideal S1x512 .f32)
    (y : S4x1024x128.Idx) (i : S1024x512.Idx) (hi0 : (i 0 : ℕ) = y 1) (hi1 : (i 1 : ℕ) = (y 0 : ℕ) * 128 + y 2) :
    out0_4 x w b s y = k0_pay1 x w b s i := by
  unfold out0_4
  canon_tiles x h
  all_goals (open_payloads; pointwise; blk_ext)

/-- Which block each window is at. -/
theorem idx : ∀ t : Fin cfg0.N, win0_0.index t = ![(grid0.coords t 0).val, 0] ∧ win0_1.index t = ![0, 8 + (grid0.coords t 1).val]
    ∧ win0_2.index t = ![0, 8 + (grid0.coords t 1).val] ∧ win0_3.index t = ![0, (grid0.coords t 1).val]
    ∧ win0_4.index t = ![(grid0.coords t 1).val, (grid0.coords t 0).val, 0] :=
  (by decide +kernel : ∀ t : Fin grid0.N, _)

/-- The rows the call reads. -/
def rounded (x : FVec Ideal S32768x2048 .f32) : FVec Ideal S32768x2048 .bf16 := truncf .bf16 x bitsLt_bf16_f32

/-- The columns of the weights the call reads. -/
def weights (w : FVec Ideal S1x2048x14352 .f32) : FVec Ideal S2048x10240 .bf16 :=
  truncf .bf16 (extractStridedSlice S2048x10240 ![0, 0] (shapeCast S2048x14352 w shapeCasts_S1x2048x14352_S2048x14352)
    slices_S2048x14352_S2048x10240_0_0) bitsLt_bf16_f32

/-- Their biases. -/
def biases (b : FVec Ideal S1x14352 .f32) : FVec Ideal S1x10240 .f32 :=
  shapeCast S1x10240 (extractStridedSlice S10240 ![0] (shapeCast S14352 b shapeCasts_S1x14352_S14352) slices_S14352_S10240_0)
    shapeCasts_S10240_S1x10240

theorem weights_apply (w : FVec Ideal S1x2048x14352 .f32) (k : Fin 2048) (j : Fin 10240) (j' : Fin 14352) (h : j'.val = 0 + j.val) :
    weights w (ix2 k j) = w (ix3 0 k j') := by
  obtain ⟨n, hn⟩ := j'
  dsimp only at h
  subst h
  pointwise [weights]

theorem biases_apply (b : FVec Ideal S1x14352 .f32) (j : Fin 10240) (j' : Fin 14352) (h : j'.val = 0 + j.val) :
    biases b (ix2 0 j) = b (ix2 0 j') := by
  obtain ⟨n, hn⟩ := j'
  dsimp only at h
  subst h
  pointwise [biases]

variable (m : (ℓ : Loc nD τ sig) → Buf (Elt Ideal) ℓ) (c : Dev nD) (t : Fin cfg0.N)

/-- A row of the point's block, among all rows. -/
def rowOf (r : Fin 1024) : Fin 32768 := ⟨(grid0.coords t 0).val * 1024 + r.val, by
  have h : (grid0.coords t 0).val < 32 := (grid0.coords t 0).isLt
  omega⟩

/-- A column of the point's block, among all columns of the result. -/
def colOf (j : Fin 512) : Fin 6144 := ⟨(grid0.coords t 1).val * 512 + j.val, by
  have h : (grid0.coords t 1).val < 12 := (grid0.coords t 1).isLt
  omega⟩

theorem V_x : V m c main_v6 = rounded (m ((c.tc : Thread nD τ).loc main_arg0)) := by
  entry_read
  rfl

theorem V_w : V m c main_v2 = weights (m ((c.tc : Thread nD τ).loc main_arg1)) := by
  entry_read
  rfl

theorem V_b : V m c main_v5 = biases (m ((c.tc : Thread nD τ).loc main_arg2)) := by
  entry_read
  rfl

theorem read_x (r : Fin 1024) (k : Fin 2048) : iblk m c 0 t (ix2 r k) = m ((c.tc : Thread nD τ).loc main_arg0) (ix2 (rowOf t r) k) := by
  have h := (idx t).1
  have e : iblk m c 0 t (ix2 r k) = V m c main_v6 (ix2 (rowOf t r) k) := by
    blk_simp [iblk]
    blk_ext [h]
    all_goals rfl
  rw [e, V_x]
  rfl

theorem read_w (k : Fin 2048) (j : Fin 512) (j' : Fin 14352) (h' : j'.val = 4096 + (colOf t j).val) :
    iblk m c 1 t (ix2 k j) = m ((c.tc : Thread nD τ).loc main_arg1) (ix3 0 k j') := by
  have h := (idx t).2.1
  have e : iblk m c 1 t (ix2 k j) = V m c main_v2 (ix2 k ⟨4096 + (colOf t j).val, by omega⟩) := by
    blk_simp [iblk]
    blk_ext [h]
    all_goals (simp only [colOf] <;> omega)
  rw [e, V_w]
  exact weights_apply _ _ _ _ (by simp only; omega)

theorem read_b (j : Fin 512) (j' : Fin 14352) (h' : j'.val = 4096 + (colOf t j).val) :
    iblk m c 2 t (ix2 0 j) = m ((c.tc : Thread nD τ).loc main_arg2) (ix2 0 j') := by
  have h := (idx t).2.2.1
  have e : iblk m c 2 t (ix2 0 j) = V m c main_v5 (ix2 0 ⟨4096 + (colOf t j).val, by omega⟩) := by
    blk_simp [iblk]
    blk_ext [h]
    all_goals (simp only [colOf] <;> omega)
  rw [e, V_b]
  exact biases_apply _ _ _ (by simp only; omega)

/-- The scales of the columns, as the call reads them. -/
def scales (s : FVec Ideal S6144 .f32) : FVec Ideal S1x6144 .f32 := shapeCast S1x6144 s shapeCasts_S6144_S1x6144

theorem scales_apply (s : FVec Ideal S6144 .f32) (j : Fin 6144) : scales s (ix2 0 j) = s (ix1 j) := by
  pointwise [scales]

theorem V_s : V m c main_v7 = scales (m ((c.tc : Thread nD τ).loc main_arg3)) := by
  entry_read
  rfl

theorem read_s (j : Fin 512) : iblk m c 3 t (ix2 0 j) = m ((c.tc : Thread nD τ).loc main_arg3) (ix1 (colOf t j)) := by
  have h := (idx t).2.2.2.1
  have e : iblk m c 3 t (ix2 0 j) = V m c main_v7 (ix2 0 (colOf t j)) := by
    blk_simp [iblk]
    blk_ext [h]
    all_goals rfl
  rw [e, V_s]
  exact scales_apply _ _

/-- A head of the point's block, among all heads. -/
def headOf (a : Fin 4) : Fin 48 := ⟨(grid0.coords t 1).val * 4 + a.val, by
  have h : (grid0.coords t 1).val < 12 := (grid0.coords t 1).isLt
  omega⟩

/-- Where an element of the point's block lies in the array. -/
theorem emb_out (a : Fin 4) (r : Fin 1024) (d : Fin 128) : (win0_4.blk t).view.emb (ix3 a r d) = ix3 (headOf t a) (rowOf t r) d := by
  have h := (idx t).2.2.2.2
  blk_ext [h]
  all_goals rfl

theorem point (a : Fin 4) (r : Fin 1024) (d : Fin 128) (j : Fin 512) (hj : j.val = a.val * 128 + d.val) :
    out0_4 (iblk m c 0 t) (iblk m c 1 t) (iblk m c 2 t) (iblk m c 3 t) (ix3 a r d)
      = refQkv (m ((c.tc : Thread nD τ).loc main_arg0)) (m ((c.tc : Thread nD τ).loc main_arg1))
        (m ((c.tc : Thread nD τ).loc main_arg2)) (m ((c.tc : Thread nD τ).loc main_arg3)) (ix3 (headOf t a) (rowOf t r) d) := by
  have hc : (colOf t j).val = (headOf t a).val * 128 + d.val := by
    simp only [headOf, colOf]
    omega
  rw [refQkv_col _ _ _ _ _ _ _ _ hc]
  refine (block_eq _ _ _ _ (ix3 a r d) (ix2 r j) rfl hj).trans ((tile_apply _ _ _ _ r j).trans ?_)
  refine congrArg₂ (· * ·) (congrArg₂ (· + ·) (Finset.sum_congr rfl fun k _ => ?_)
    (read_b m c t j ⟨4096 + (colOf t j).val, by omega⟩ rfl)) (read_s m c t j)
  rw [read_x, read_w m c t k j ⟨4096 + (colOf t j).val, by omega⟩ rfl]

/-- The array when the run ends. -/
theorem array_eq : (dats m 0 c).arrAt 4 cfg0.N = refQkv (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ (by decide +kernel) fun t hf y => ?_
  rw [after0_4]
  blk_simp
  obtain ⟨a, r, d, rfl⟩ : ∃ (a : Fin 4) (r : Fin 1024) (d : Fin 128), y = ix3 a r d := ⟨y 0, y 1, y 2, by ext b; fin_cases b <;> rfl⟩
  rw [emb_out]
  exact point m c t a r d ⟨a.val * 128 + d.val, by omega⟩ rfl

end Cert.QkvIdeal.Product

end
-- ==== Proof.GluProj.lean ====
/- The gated linear unit before the convolution: the array the call leaves is the reference's. -/
module

public import proofs.«01_k».proof.Proof.Gen.GluIdeal.Frame
public import proofs.«01_k».proof.Proof.Gen.GluReferenceIdeal
public import proofs.«01_k».proof.Proof.Linear
public import Idealize.ShloMosaic.Lib.Claim
public import Idealize.ShloMosaic.Lib.Pipeline.ValueKit

@[expose] public section

set_option maxRecDepth 16384

noncomputable section

namespace Cert.GluIdeal.Product

open Idealize.ShloMosaic Idealize.ShloMosaic.TcCoe
open Cert.GluIdeal Cert.GluIdeal.Gen
open Cert.Linear

/-- The combined projection of the reference. -/
def combined (x : FVec Ideal S32768x2048 .f32) (w : FVec Ideal S1x2048x14352 .f32) (b : FVec Ideal S1x14352 .f32) :
    FVec Ideal Cert.GluReferenceIdeal.S32768x14352 .f32 :=
  addf (Host.dotGeneral (F := Ideal) (so := Cert.GluReferenceIdeal.S32768x14352) (φ₁ := .f32) (φ₂ := .f32) Cert.GluReferenceIdeal.dot_S32768x2048_S2048x14352_S32768x14352_1_0_0_1_n_n none x
      (shapeCast _ w Cert.GluReferenceIdeal.Gen.shapeCasts_S1x2048x14352_S2048x14352))
    (broadcastInDim Cert.GluReferenceIdeal.S32768x14352 ![0, 1] Cert.GluReferenceIdeal.Gen.bcast_S1x14352_S32768x14352_0_1
      (broadcastInDim Cert.GluReferenceIdeal.S1x14352 ![1] Cert.GluReferenceIdeal.Gen.bcast_S14352_S1x14352_1
        (shapeCast _ b Cert.GluReferenceIdeal.Gen.shapeCasts_S1x14352_S14352)))

theorem combined_apply (x : FVec Ideal S32768x2048 .f32) (w : FVec Ideal S1x2048x14352 .f32) (b : FVec Ideal S1x14352 .f32)
    (i : Fin 32768) (j : Fin 14352) : combined x w b (ix2 i j) = affine x w b i j := by
  pointwise [combined, affine]

/-- The reference's gated linear unit. -/
def refGlu (x : FVec Ideal S32768x2048 .f32) (w : FVec Ideal S1x2048x14352 .f32) (b : FVec Ideal S1x14352 .f32) :
    FVec Ideal S32768x2048 .f32 :=
  mulf (extractStridedSlice Cert.GluReferenceIdeal.S32768x2048 ![0, 0] (combined x w b) Cert.GluReferenceIdeal.Gen.slices_S32768x14352_S32768x2048_0_0)
    (Host.divf
      (broadcastInDim Cert.GluReferenceIdeal.S32768x2048 ![] Cert.GluReferenceIdeal.Gen.bcast_S_S32768x2048 (constant Cert.GluReferenceIdeal.S_ .f32 0x3F800000#32))
      (addf (broadcastInDim Cert.GluReferenceIdeal.S32768x2048 ![] Cert.GluReferenceIdeal.Gen.bcast_S_S32768x2048 (constant Cert.GluReferenceIdeal.S_ .f32 0x3F800000#32))
        (Host.exp (Host.negf (extractStridedSlice Cert.GluReferenceIdeal.S32768x2048 ![0, 2048] (combined x w b)
          Cert.GluReferenceIdeal.Gen.slices_S32768x14352_S32768x2048_0_2048)))))

theorem refGlu_apply (x : FVec Ideal S32768x2048 .f32) (w : FVec Ideal S1x2048x14352 .f32) (b : FVec Ideal S1x14352 .f32)
    (i : Fin 32768) (j : Fin 2048) :
    refGlu x w b (ix2 i j) = affine x w b i ⟨0 + j.val, by omega⟩ * sigmoid (affine x w b i ⟨2048 + j.val, by omega⟩) := by
  rw [← combined_apply, ← combined_apply]
  pointwise [refGlu, sigmoid, one]

/-- The block the body leaves, at an element. -/
theorem block_apply (x : Vec Ideal S1024x2048 .bf16) (w : Vec Ideal S2048x512 .bf16) (b : Vec Ideal S1x512 .f32)
    (w' : Vec Ideal S2048x512 .bf16) (b' : Vec Ideal S1x512 .f32) (r : Fin 1024) (j : Fin 512) :
    k0_pay1 x w b w' b' (ix2 r j) = ((∑ k : Fin 2048, x (ix2 r k) * w (ix2 k j)) + b (ix2 0 j))
      * sigmoid ((∑ k : Fin 2048, x (ix2 r k) * w' (ix2 k j)) + b' (ix2 0 j)) := by
  rw [← sigmoid_sub]
  pointwise [k0_pay1, one]

/-- Which block each window is at. -/
theorem idx : ∀ t : Fin cfg0.N, win0_0.index t = ![(grid0.coords t 0).val, 0] ∧ win0_1.index t = ![0, (grid0.coords t 1).val]
    ∧ win0_2.index t = ![0, 4 + (grid0.coords t 1).val] ∧ win0_3.index t = ![0, (grid0.coords t 1).val]
    ∧ win0_4.index t = ![0, 4 + (grid0.coords t 1).val] ∧ win0_5.index t = ![(grid0.coords t 0).val, (grid0.coords t 1).val] :=
  (by decide +kernel : ∀ t : Fin grid0.N, _)

/-- The rows the call reads. -/
def rounded (x : FVec Ideal S32768x2048 .f32) : FVec Ideal S32768x2048 .bf16 := truncf .bf16 x bitsLt_bf16_f32

/-- The columns of the weights the call reads. -/
def weights (w : FVec Ideal S1x2048x14352 .f32) : FVec Ideal S2048x10240 .bf16 :=
  truncf .bf16 (extractStridedSlice S2048x10240 ![0, 0] (shapeCast S2048x14352 w shapeCasts_S1x2048x14352_S2048x14352)
    slices_S2048x14352_S2048x10240_0_0) bitsLt_bf16_f32

/-- Their biases. -/
def biases (b : FVec Ideal S1x14352 .f32) : FVec Ideal S1x10240 .f32 :=
  shapeCast S1x10240 (extractStridedSlice S10240 ![0] (shapeCast S14352 b shapeCasts_S1x14352_S14352) slices_S14352_S10240_0)
    shapeCasts_S10240_S1x10240

theorem weights_apply (w : FVec Ideal S1x2048x14352 .f32) (k : Fin 2048) (j : Fin 10240) (j' : Fin 14352) (h : j'.val = 0 + j.val) :
    weights w (ix2 k j) = w (ix3 0 k j') := by
  obtain ⟨n, hn⟩ := j'
  dsimp only at h
  subst h
  pointwise [weights]

theorem biases_apply (b : FVec Ideal S1x14352 .f32) (j : Fin 10240) (j' : Fin 14352) (h : j'.val = 0 + j.val) :
    biases b (ix2 0 j) = b (ix2 0 j') := by
  obtain ⟨n, hn⟩ := j'
  dsimp only at h
  subst h
  pointwise [biases]

variable (m : (ℓ : Loc nD τ sig) → Buf (Elt Ideal) ℓ) (c : Dev nD) (t : Fin cfg0.N)

/-- A row of the point's block, among all rows. -/
def rowOf (r : Fin 1024) : Fin 32768 := ⟨(grid0.coords t 0).val * 1024 + r.val, by
  have h : (grid0.coords t 0).val < 32 := (grid0.coords t 0).isLt
  omega⟩

/-- A column of the point's block, among all columns of the result. -/
def colOf (j : Fin 512) : Fin 2048 := ⟨(grid0.coords t 1).val * 512 + j.val, by
  have h : (grid0.coords t 1).val < 4 := (grid0.coords t 1).isLt
  omega⟩

theorem V_x : V m c main_v6 = rounded (m ((c.tc : Thread nD τ).loc main_arg0)) := by
  entry_read
  rfl

theorem V_w : V m c main_v2 = weights (m ((c.tc : Thread nD τ).loc main_arg1)) := by
  entry_read
  rfl

theorem V_b : V m c main_v5 = biases (m ((c.tc : Thread nD τ).loc main_arg2)) := by
  entry_read
  rfl

theorem read_x (r : Fin 1024) (k : Fin 2048) : iblk m c 0 t (ix2 r k) = m ((c.tc : Thread nD τ).loc main_arg0) (ix2 (rowOf t r) k) := by
  have h := (idx t).1
  have e : iblk m c 0 t (ix2 r k) = V m c main_v6 (ix2 (rowOf t r) k) := by
    blk_simp [iblk]
    blk_ext [h]
    all_goals rfl
  rw [e, V_x]
  rfl

theorem read_w (k : Fin 2048) (j : Fin 512) (j' : Fin 14352) (h' : j'.val = 0 + (colOf t j).val) :
    iblk m c 1 t (ix2 k j) = m ((c.tc : Thread nD τ).loc main_arg1) (ix3 0 k j') := by
  have h := (idx t).2.1
  have e : iblk m c 1 t (ix2 k j) = V m c main_v2 (ix2 k ⟨0 + (colOf t j).val, by omega⟩) := by
    blk_simp [iblk]
    blk_ext [h]
    all_goals (simp only [colOf] <;> omega)
  rw [e, V_w]
  exact weights_apply _ _ _ _ (by simp only; omega)

theorem read_wg (k : Fin 2048) (j : Fin 512) (j' : Fin 14352) (h' : j'.val = 2048 + (colOf t j).val) :
    iblk m c 2 t (ix2 k j) = m ((c.tc : Thread nD τ).loc main_arg1) (ix3 0 k j') := by
  have h := (idx t).2.2.1
  have e : iblk m c 2 t (ix2 k j) = V m c main_v2 (ix2 k ⟨2048 + (colOf t j).val, by omega⟩) := by
    blk_simp [iblk]
    blk_ext [h]
    all_goals (simp only [colOf] <;> omega)
  rw [e, V_w]
  exact weights_apply _ _ _ _ (by simp only; omega)

theorem read_b (j : Fin 512) (j' : Fin 14352) (h' : j'.val = 0 + (colOf t j).val) :
    iblk m c 3 t (ix2 0 j) = m ((c.tc : Thread nD τ).loc main_arg2) (ix2 0 j') := by
  have h := (idx t).2.2.2.1
  have e : iblk m c 3 t (ix2 0 j) = V m c main_v5 (ix2 0 ⟨0 + (colOf t j).val, by omega⟩) := by
    blk_simp [iblk]
    blk_ext [h]
    all_goals (simp only [colOf] <;> omega)
  rw [e, V_b]
  exact biases_apply _ _ _ (by simp only; omega)

theorem read_bg (j : Fin 512) (j' : Fin 14352) (h' : j'.val = 2048 + (colOf t j).val) :
    iblk m c 4 t (ix2 0 j) = m ((c.tc : Thread nD τ).loc main_arg2) (ix2 0 j') := by
  have h := (idx t).2.2.2.2.1
  have e : iblk m c 4 t (ix2 0 j) = V m c main_v5 (ix2 0 ⟨2048 + (colOf t j).val, by omega⟩) := by
    blk_simp [iblk]
    blk_ext [h]
    all_goals (simp only [colOf] <;> omega)
  rw [e, V_b]
  exact biases_apply _ _ _ (by simp only; omega)

/-- The array when the run ends. -/
theorem array_eq : (dats m 0 c).arrAt 5 cfg0.N = refGlu (m ((c.tc : Thread nD τ).loc main_arg0)) (m ((c.tc : Thread nD τ).loc main_arg1))
    (m ((c.tc : Thread nD τ).loc main_arg2)) := by
  refine (dats m 0 c).arrAt_eq_of_covers 5 _ (by decide +kernel) fun t hf y => ?_
  rw [after0_5]
  blk_simp
  frame_out
  obtain ⟨r, j, rfl⟩ : ∃ (r : Fin 1024) (j : Fin 512), y = ix2 r j := ⟨y 0, y 1, by ext a; fin_cases a <;> rfl⟩
  have h := (idx t).2.2.2.2.2
  have hout : (win0_5.blk t).view.emb (ix2 r j) = ix2 (rowOf t r) (colOf t j) := by
    blk_ext [h]
    all_goals rfl
  rw [hout, refGlu_apply]
  refine (block_apply _ _ _ _ _ r j).trans (congrArg₂ (fun a b => a * sigmoid b) ?_ ?_)
  · refine congrArg₂ (· + ·) (Finset.sum_congr rfl fun k _ => ?_) (read_b m c t j ⟨0 + (colOf t j).val, by omega⟩ rfl)
    rw [read_x, read_w m c t k j ⟨0 + (colOf t j).val, by omega⟩ rfl]
  · refine congrArg₂ (· + ·) (Finset.sum_congr rfl fun k _ => ?_) (read_bg m c t j ⟨2048 + (colOf t j).val, by omega⟩ rfl)
    rw [read_x, read_wg m c t k j ⟨2048 + (colOf t j).val, by omega⟩ rfl]

end Cert.GluIdeal.Product

end
-- ==== Proof.GatesProj.lean ====
/- The gates of the two branches: the array the call leaves is the reference's. -/
module

public import proofs.«01_k».proof.Proof.Gen.GatesIdeal.Frame
public import proofs.«01_k».proof.Proof.Gen.GatesReferenceIdeal
public import proofs.«01_k».proof.Proof.Linear
public import Idealize.ShloMosaic.Lib.Claim
public import Idealize.ShloMosaic.Lib.Pipeline.ValueKit

@[expose] public section

set_option maxRecDepth 16384

noncomputable section

namespace Cert.GatesIdeal.Product

open Idealize.ShloMosaic Idealize.ShloMosaic.TcCoe
open Cert.GatesIdeal Cert.GatesIdeal.Gen
open Cert.Linear

/-- The combined projection of the reference. -/
def combined (x : FVec Ideal S32768x2048 .f32) (w : FVec Ideal S1x2048x14352 .f32) (b : FVec Ideal S1x14352 .f32) :
    FVec Ideal Cert.GatesReferenceIdeal.S32768x14352 .f32 :=
  addf (Host.dotGeneral (F := Ideal) (so := Cert.GatesReferenceIdeal.S32768x14352) (φ₁ := .f32) (φ₂ := .f32) Cert.GatesReferenceIdeal.dot_S32768x2048_S2048x14352_S32768x14352_1_0_0_1_n_n none x
      (shapeCast _ w Cert.GatesReferenceIdeal.Gen.shapeCasts_S1x2048x14352_S2048x14352))
    (broadcastInDim Cert.GatesReferenceIdeal.S32768x14352 ![0, 1] Cert.GatesReferenceIdeal.Gen.bcast_S1x14352_S32768x14352_0_1
      (broadcastInDim Cert.GatesReferenceIdeal.S1x14352 ![1] Cert.GatesReferenceIdeal.Gen.bcast_S14352_S1x14352_1
        (shapeCast _ b Cert.GatesReferenceIdeal.Gen.shapeCasts_S1x14352_S14352)))

theorem combined_apply (x : FVec Ideal S32768x2048 .f32) (w : FVec Ideal S1x2048x14352 .f32) (b : FVec Ideal S1x14352 .f32)
    (i : Fin 32768) (j : Fin 14352) : combined x w b (ix2 i j) = affine x w b i j := by
  pointwise [combined, affine]

/-- The reference's gates. -/
def refGates (x : FVec Ideal S32768x2048 .f32) (w : FVec Ideal S1x2048x14352 .f32) (b : FVec Ideal S1x14352 .f32) :
    FVec Ideal S32768x4096 .bf16 :=
  truncf .bf16 (Host.divf
      (broadcastInDim Cert.GatesReferenceIdeal.S32768x4096 ![] Cert.GatesReferenceIdeal.Gen.bcast_S_S32768x4096 (constant Cert.GatesReferenceIdeal.S_ .f32 0x3F800000#32))
      (addf (broadcastInDim Cert.GatesReferenceIdeal.S32768x4096 ![] Cert.GatesReferenceIdeal.Gen.bcast_S_S32768x4096 (constant Cert.GatesReferenceIdeal.S_ .f32 0x3F800000#32))
        (Host.exp (Host.negf (extractStridedSlice Cert.GatesReferenceIdeal.S32768x4096 ![0, 10256] (combined x w b)
          Cert.GatesReferenceIdeal.Gen.slices_S32768x14352_S32768x4096_0_10256)))))
    Cert.GatesReferenceIdeal.Gen.bitsLt_bf16_f32

theorem refGates_apply (x : FVec Ideal S32768x2048 .f32) (w : FVec Ideal S1x2048x14352 .f32) (b : FVec Ideal S1x14352 .f32)
    (i : Fin 32768) (j : Fin 4096) : refGates x w b (ix2 i j) = sigmoid (affine x w b i ⟨10256 + j.val, by omega⟩) := by
  rw [← combined_apply]
  pointwise [refGates, sigmoid, one]

/-- The block the body leaves, at an element. -/
theorem block_apply (x : Vec Ideal S1024x2048 .bf16) (w : Vec Ideal S2048x512 .bf16) (b : Vec Ideal S1x512 .f32) (r : Fin 1024)
    (j : Fin 512) : k0_pay1 x w b (ix2 r j) = sigmoid ((∑ k : Fin 2048, x (ix2 r k) * w (ix2 k j)) + b (ix2 0 j)) := by
  rw [← sigmoid_sub]
  pointwise [k0_pay1, one]

/-- Which block each window is at. -/
theorem idx : ∀ t : Fin cfg0.N, win0_0.index t = ![(grid0.coords t 0).val, 0] ∧ win0_1.index t = ![0, (grid0.coords t 1).val]
    ∧ win0_2.index t = ![0, (grid0.coords t 1).val] ∧ win0_3.index t = ![(grid0.coords t 0).val, (grid0.coords t 1).val] :=
  (by decide +kernel : ∀ t : Fin grid0.N, _)

/-- The rows the call reads. -/
def rounded (x : FVec Ideal S32768x2048 .f32) : FVec Ideal S32768x2048 .bf16 := truncf .bf16 x bitsLt_bf16_f32

/-- The columns of the weights the call reads. -/
def weights (w : FVec Ideal S1x2048x14352 .f32) : FVec Ideal S2048x4096 .bf16 :=
  truncf .bf16 (extractStridedSlice S2048x4096 ![0, 10256] (shapeCast S2048x14352 w shapeCasts_S1x2048x14352_S2048x14352)
    slices_S2048x14352_S2048x4096_0_10256) bitsLt_bf16_f32

/-- Their biases. -/
def biases (b : FVec Ideal S1x14352 .f32) : FVec Ideal S1x4096 .f32 :=
  shapeCast S1x4096 (extractStridedSlice S4096 ![10256] (shapeCast S14352 b shapeCasts_S1x14352_S14352) slices_S14352_S4096_10256)
    shapeCasts_S4096_S1x4096

theorem weights_apply (w : FVec Ideal S1x2048x14352 .f32) (k : Fin 2048) (j : Fin 4096) (j' : Fin 14352) (h : j'.val = 10256 + j.val) :
    weights w (ix2 k j) = w (ix3 0 k j') := by
  obtain ⟨n, hn⟩ := j'
  dsimp only at h
  subst h
  pointwise [weights]

theorem biases_apply (b : FVec Ideal S1x14352 .f32) (j : Fin 4096) (j' : Fin 14352) (h : j'.val = 10256 + j.val) :
    biases b (ix2 0 j) = b (ix2 0 j') := by
  obtain ⟨n, hn⟩ := j'
  dsimp only at h
  subst h
  pointwise [biases]

variable (m : (ℓ : Loc nD τ sig) → Buf (Elt Ideal) ℓ) (c : Dev nD) (t : Fin cfg0.N)

/-- A row of the point's block, among all rows. -/
def rowOf (r : Fin 1024) : Fin 32768 := ⟨(grid0.coords t 0).val * 1024 + r.val, by
  have h : (grid0.coords t 0).val < 32 := (grid0.coords t 0).isLt
  omega⟩

/-- A column of the point's block, among all columns of the result. -/
def colOf (j : Fin 512) : Fin 4096 := ⟨(grid0.coords t 1).val * 512 + j.val, by
  have h : (grid0.coords t 1).val < 8 := (grid0.coords t 1).isLt
  omega⟩

theorem V_x : V m c main_v6 = rounded (m ((c.tc : Thread nD τ).loc main_arg0)) := by
  entry_read
  rfl

theorem V_w : V m c main_v2 = weights (m ((c.tc : Thread nD τ).loc main_arg1)) := by
  entry_read
  rfl

theorem V_b : V m c main_v5 = biases (m ((c.tc : Thread nD τ).loc main_arg2)) := by
  entry_read
  rfl

theorem read_x (r : Fin 1024) (k : Fin 2048) : iblk m c 0 t (ix2 r k) = m ((c.tc : Thread nD τ).loc main_arg0) (ix2 (rowOf t r) k) := by
  have h := (idx t).1
  have e : iblk m c 0 t (ix2 r k) = V m c main_v6 (ix2 (rowOf t r) k) := by
    blk_simp [iblk]
    blk_ext [h]
    all_goals rfl
  rw [e, V_x]
  rfl

theorem read_w (k : Fin 2048) (j : Fin 512) (j' : Fin 14352) (h' : j'.val = 10256 + (colOf t j).val) :
    iblk m c 1 t (ix2 k j) = m ((c.tc : Thread nD τ).loc main_arg1) (ix3 0 k j') := by
  have h := (idx t).2.1
  have e : iblk m c 1 t (ix2 k j) = V m c main_v2 (ix2 k ⟨0 + (colOf t j).val, by omega⟩) := by
    blk_simp [iblk]
    blk_ext [h]
    all_goals (simp only [colOf] <;> omega)
  rw [e, V_w]
  exact weights_apply _ _ _ _ (by simp only; omega)

theorem read_b (j : Fin 512) (j' : Fin 14352) (h' : j'.val = 10256 + (colOf t j).val) :
    iblk m c 2 t (ix2 0 j) = m ((c.tc : Thread nD τ).loc main_arg2) (ix2 0 j') := by
  have h := (idx t).2.2.1
  have e : iblk m c 2 t (ix2 0 j) = V m c main_v5 (ix2 0 ⟨0 + (colOf t j).val, by omega⟩) := by
    blk_simp [iblk]
    blk_ext [h]
    all_goals (simp only [colOf] <;> omega)
  rw [e, V_b]
  exact biases_apply _ _ _ (by simp only; omega)

/-- The array when the run ends. -/
theorem array_eq : (dats m 0 c).arrAt 3 cfg0.N = refGates (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  rw [after0_3]
  blk_simp
  frame_out
  obtain ⟨r, j, rfl⟩ : ∃ (r : Fin 1024) (j : Fin 512), y = ix2 r j := ⟨y 0, y 1, by ext a; fin_cases a <;> rfl⟩
  have h := (idx t).2.2.2
  have hout : (win0_3.blk t).view.emb (ix2 r j) = ix2 (rowOf t r) (colOf t j) := by
    blk_ext [h]
    all_goals rfl
  rw [hout, refGates_apply]
  refine (block_apply _ _ _ r j).trans (congrArg sigmoid ?_)
  refine congrArg₂ (· + ·) (Finset.sum_congr rfl fun k _ => ?_) (read_b m c t j ⟨10256 + (colOf t j).val, by omega⟩ rfl)
  rw [read_x, read_w m c t k j ⟨10256 + (colOf t j).val, by omega⟩ rfl]

end Cert.GatesIdeal.Product

end
-- ==== Proof.OutProj.lean ====
/- The product with a square weight matrix (the attention's output projection, the retrieval queries): the array it leaves is
   the reference's. -/
module

public import proofs.«01_k».proof.Proof.Gen.OutIdeal.Frame
public import proofs.«01_k».proof.Proof.Gen.OutReferenceIdeal
public import Idealize.ShloMosaic.Lib.Claim
public import Idealize.ShloMosaic.Lib.Pointwise
public import Idealize.ShloMosaic.Lib.Pipeline.ValueKit

@[expose] public section

set_option maxRecDepth 16384

noncomputable section

namespace Cert.OutIdeal.Product

open Idealize.ShloMosaic Idealize.ShloMosaic.TcCoe
open Cert.OutIdeal Cert.OutIdeal.Gen

/-- The reference's product. -/
def refOut (o : FVec Ideal S32768x2048 .f32) (w : FVec Ideal S1x2048x2048 .f32) : FVec Ideal S32768x2048 .bf16 :=
  truncf .bf16 (Host.dotGeneral Cert.OutReferenceIdeal.dot_S32768x2048_S2048x2048_S32768x2048_1_0_0_1_n_n none o
    (shapeCast _ w Cert.OutReferenceIdeal.Gen.shapeCasts_S1x2048x2048_S2048x2048)) Cert.OutReferenceIdeal.Gen.bitsLt_bf16_f32

theorem refOut_apply (o : FVec Ideal S32768x2048 .f32) (w : FVec Ideal S1x2048x2048 .f32) (i : Fin 32768) (j : Fin 2048) :
    refOut o w (ix2 i j) = ∑ k : Fin 2048, o (ix2 i k) * w (ix3 0 k j) := by
  pointwise [refOut]

theorem block_apply (x : Vec Ideal S1024x2048 .bf16) (w : Vec Ideal S2048x512 .bf16) (b : Vec Ideal S1x512 .f32) (r : Fin 1024)
    (j : Fin 512) : k0_pay1 x w b (ix2 r j) = (∑ k : Fin 2048, x (ix2 r k) * w (ix2 k j)) + b (ix2 0 j) := by
  pointwise [k0_pay1]

/-- The rows the call reads. -/
def rounded (x : FVec Ideal S32768x2048 .f32) : FVec Ideal S32768x2048 .bf16 := truncf .bf16 x bitsLt_bf16_f32

/-- The weights the call reads. -/
def weights (w : FVec Ideal S1x2048x2048 .f32) : FVec Ideal S2048x2048 .bf16 :=
  truncf .bf16 (shapeCast S2048x2048 w shapeCasts_S1x2048x2048_S2048x2048) bitsLt_bf16_f32

/-- The bias the call reads: none. -/
def noBias : FVec Ideal S1x2048 .f32 := broadcastInDim S1x2048 ![] bcast_S_S1x2048 (constant S_ .f32 0x00000000#32)

theorem weights_apply (w : FVec Ideal S1x2048x2048 .f32) (k j : Fin 2048) : weights w (ix2 k j) = w (ix3 0 k j) := by
  pointwise [weights]

theorem noBias_apply (j : Fin 2048) : noBias (ix2 0 j) = (0 : EReal) := by
  pointwise [noBias]

/-- Which block each window is at. -/
theorem idx : ∀ t : Fin cfg0.N, win0_0.index t = ![(grid0.coords t 0).val, 0] ∧ win0_1.index t = ![0, (grid0.coords t 1).val]
    ∧ win0_2.index t = ![0, (grid0.coords t 1).val] ∧ win0_3.index t = ![(grid0.coords t 0).val, (grid0.coords t 1).val] :=
  (by decide +kernel : ∀ t : Fin grid0.N, _)

variable (m : (ℓ : Loc nD τ sig) → Buf (Elt Ideal) ℓ) (c : Dev nD) (t : Fin cfg0.N)

/-- A row of the point's block, among all rows. -/
def rowOf (r : Fin 1024) : Fin 32768 := ⟨(grid0.coords t 0).val * 1024 + r.val, by
  have h : (grid0.coords t 0).val < 32 := (grid0.coords t 0).isLt
  omega⟩

/-- A column of the point's block, among all columns. -/
def colOf (j : Fin 512) : Fin 2048 := ⟨(grid0.coords t 1).val * 512 + j.val, by
  have h : (grid0.coords t 1).val < 4 := (grid0.coords t 1).isLt
  omega⟩

theorem V_x : V m c main_v0 = rounded (m ((c.tc : Thread nD τ).loc main_arg0)) := by
  entry_read
  rfl

theorem V_w : V m c main_v2 = weights (m ((c.tc : Thread nD τ).loc main_arg1)) := by
  entry_read
  rfl

theorem V_b : V m c main_v3 = noBias := by
  entry_read
  rfl

theorem read_x (r : Fin 1024) (k : Fin 2048) : iblk m c 0 t (ix2 r k) = m ((c.tc : Thread nD τ).loc main_arg0) (ix2 (rowOf t r) k) := by
  have h := (idx t).1
  have e : iblk m c 0 t (ix2 r k) = V m c main_v0 (ix2 (rowOf t r) k) := by
    blk_simp [iblk]
    blk_ext [h]
    all_goals rfl
  rw [e, V_x]
  rfl

theorem read_w (k : Fin 2048) (j : Fin 512) : iblk m c 1 t (ix2 k j) = m ((c.tc : Thread nD τ).loc main_arg1) (ix3 0 k (colOf t j)) := by
  have h := (idx t).2.1
  have e : iblk m c 1 t (ix2 k j) = V m c main_v2 (ix2 k (colOf t j)) := by
    blk_simp [iblk]
    blk_ext [h]
    all_goals rfl
  rw [e, V_w, weights_apply]

theorem read_b (j : Fin 512) : iblk m c 2 t (ix2 0 j) = (0 : EReal) := by
  have h := (idx t).2.2.1
  have e : iblk m c 2 t (ix2 0 j) = V m c main_v3 (ix2 0 (colOf t j)) := by
    blk_simp [iblk]
    blk_ext [h]
    all_goals rfl
  rw [e, V_b, noBias_apply]

/-- The array when the run ends. -/
theorem array_eq : (dats m 0 c).arrAt 3 cfg0.N = refOut (m ((c.tc : Thread nD τ).loc main_arg0)) (m ((c.tc : Thread nD τ).loc main_arg1)) := by
  refine (dats m 0 c).arrAt_eq_of_covers 3 _ (by decide +kernel) fun t hf y => ?_
  rw [after0_3]
  blk_simp
  frame_out
  obtain ⟨r, j, rfl⟩ : ∃ (r : Fin 1024) (j : Fin 512), y = ix2 r j := ⟨y 0, y 1, by ext a; fin_cases a <;> rfl⟩
  have h := (idx t).2.2.2
  have hout : (win0_3.blk t).view.emb (ix2 r j) = ix2 (rowOf t r) (colOf t j) := by
    blk_ext [h]
    all_goals rfl
  rw [hout, refOut_apply]
  refine (block_apply _ _ _ r j).trans ?_
  rw [read_b, add_zero]
  exact Finset.sum_congr rfl fun k _ => by rw [read_x, read_w]

end Cert.OutIdeal.Product

end
-- ==== Proof.MixProj.lean ====
/- The merge of the two branches, their projection and the two layer norms: the arrays the call leaves are the reference's. -/
module

public import proofs.«01_k».proof.Proof.Gen.MixIdeal.Frame
public import proofs.«01_k».proof.Proof.Gen.MixReferenceIdeal
public import Idealize.ShloMosaic.Lib.Claim
public import Idealize.ShloMosaic.Lib.Pointwise
public import Idealize.ShloMosaic.Lib.Pipeline.ValueKit

@[expose] public section

set_option maxRecDepth 16384

noncomputable section

namespace Cert.MixIdeal.Product

open Idealize.ShloMosaic Idealize.ShloMosaic.TcCoe
open Cert.MixIdeal Cert.MixIdeal.Gen

/-- The mean of a row. -/
def mean (f : Fin 2048 → EReal) : EReal := Ideal.div (∑ k, f k) (Ideal.ofBits .f32 0x45000000#32)

/-- An element less its row's mean. -/
def dev (f : Fin 2048 → EReal) (j : Fin 2048) : EReal := f j - mean f

/-- The variance of a row, and the small constant. -/
def spread (f : Fin 2048 → EReal) : EReal :=
  Ideal.div (∑ k, dev f k * dev f k) (Ideal.ofBits .f32 0x45000000#32) + Ideal.ofBits .f32 0x3727C5AC#32

/-- The layer norm of a row. -/
def norm (f g b : Fin 2048 → EReal) (j : Fin 2048) : EReal := dev f j * Ideal.rsqrt (spread f) * g j + b j

/-- The row the second layer norm reads: the stream's norm times the residual weight, and the projected mix. -/
def mixed (y0 y1 g0 g1 x g b : Fin 2048 → EReal) (w : Fin 2048 → Fin 2048 → EReal) (j : Fin 2048) : EReal :=
  Ideal.ofBits .f32 0x3F9837F0#32 * norm x g b j + ∑ k, (g0 k * y0 k + g1 k * y1 k) * w k j

/-- The reference's layer norm. -/
def refNorm (x : FVec Ideal S32768x2048 .f32) (g b : FVec Ideal S2048 .f32) : FVec Ideal S32768x2048 .f32 :=
  addf (mulf (mulf
      (subf x (broadcastInDim Cert.MixReferenceIdeal.S32768x2048 ![0, 1] Cert.MixReferenceIdeal.Gen.bcast_S32768x1_S32768x2048_0_1
        (Host.divf (broadcastInDim Cert.MixReferenceIdeal.S32768x1 ![0] Cert.MixReferenceIdeal.Gen.bcast_S32768_S32768x1_0
            (Host.reduceAdd x (constant Cert.MixReferenceIdeal.S_ .f32 0x00000000#32) Cert.MixReferenceIdeal.Gen.reducesTo_S32768x2048_S32768_d1 Cert.MixReferenceIdeal.Gen.h_S_))
          (broadcastInDim Cert.MixReferenceIdeal.S32768x1 ![] Cert.MixReferenceIdeal.Gen.bcast_S_S32768x1 (constant Cert.MixReferenceIdeal.S_ .f32 0x45000000#32)))))
      (broadcastInDim Cert.MixReferenceIdeal.S32768x2048 ![0, 1] Cert.MixReferenceIdeal.Gen.bcast_S32768x1_S32768x2048_0_1
        (Host.rsqrt (addf (Host.divf (broadcastInDim Cert.MixReferenceIdeal.S32768x1 ![0] Cert.MixReferenceIdeal.Gen.bcast_S32768_S32768x1_0
            (Host.reduceAdd (mulf
                (subf x (broadcastInDim Cert.MixReferenceIdeal.S32768x2048 ![0, 1] Cert.MixReferenceIdeal.Gen.bcast_S32768x1_S32768x2048_0_1
                  (Host.divf (broadcastInDim Cert.MixReferenceIdeal.S32768x1 ![0] Cert.MixReferenceIdeal.Gen.bcast_S32768_S32768x1_0
                      (Host.reduceAdd x (constant Cert.MixReferenceIdeal.S_ .f32 0x00000000#32) Cert.MixReferenceIdeal.Gen.reducesTo_S32768x2048_S32768_d1 Cert.MixReferenceIdeal.Gen.h_S_))
                    (broadcastInDim Cert.MixReferenceIdeal.S32768x1 ![] Cert.MixReferenceIdeal.Gen.bcast_S_S32768x1 (constant Cert.MixReferenceIdeal.S_ .f32 0x45000000#32)))))
                (subf x (broadcastInDim Cert.MixReferenceIdeal.S32768x2048 ![0, 1] Cert.MixReferenceIdeal.Gen.bcast_S32768x1_S32768x2048_0_1
                  (Host.divf (broadcastInDim Cert.MixReferenceIdeal.S32768x1 ![0] Cert.MixReferenceIdeal.Gen.bcast_S32768_S32768x1_0
                      (Host.reduceAdd x (constant Cert.MixReferenceIdeal.S_ .f32 0x00000000#32) Cert.MixReferenceIdeal.Gen.reducesTo_S32768x2048_S32768_d1 Cert.MixReferenceIdeal.Gen.h_S_))
                    (broadcastInDim Cert.MixReferenceIdeal.S32768x1 ![] Cert.MixReferenceIdeal.Gen.bcast_S_S32768x1 (constant Cert.MixReferenceIdeal.S_ .f32 0x45000000#32))))))
              (constant Cert.MixReferenceIdeal.S_ .f32 0x00000000#32) Cert.MixReferenceIdeal.Gen.reducesTo_S32768x2048_S32768_d1 Cert.MixReferenceIdeal.Gen.h_S_))
            (broadcastInDim Cert.MixReferenceIdeal.S32768x1 ![] Cert.MixReferenceIdeal.Gen.bcast_S_S32768x1 (constant Cert.MixReferenceIdeal.S_ .f32 0x45000000#32)))
          (broadcastInDim Cert.MixReferenceIdeal.S32768x1 ![] Cert.MixReferenceIdeal.Gen.bcast_S_S32768x1 (constant Cert.MixReferenceIdeal.S_ .f32 0x3727C5AC#32))))))
      (broadcastInDim Cert.MixReferenceIdeal.S32768x2048 ![0, 1] Cert.MixReferenceIdeal.Gen.bcast_S1x2048_S32768x2048_0_1
        (broadcastInDim Cert.MixReferenceIdeal.S1x2048 ![1] Cert.MixReferenceIdeal.Gen.bcast_S2048_S1x2048_1 g)))
    (broadcastInDim Cert.MixReferenceIdeal.S32768x2048 ![0, 1] Cert.MixReferenceIdeal.Gen.bcast_S1x2048_S32768x2048_0_1
      (broadcastInDim Cert.MixReferenceIdeal.S1x2048 ![1] Cert.MixReferenceIdeal.Gen.bcast_S2048_S1x2048_1 b))

theorem refNorm_apply (x : FVec Ideal S32768x2048 .f32) (g b : FVec Ideal S2048 .f32) (i : Fin 32768) (j : Fin 2048) :
    refNorm x g b (ix2 i j) = norm (fun k => x (ix2 i k)) (fun k => g (ix1 k)) (fun k => b (ix1 k)) j := by
  pointwise [refNorm, norm, spread, dev, mean]

/-- What the reference's second layer norm reads. -/
def refMixed (y0 y1 : FVec Ideal S32768x2048 .f32) (gt : FVec Ideal S32768x4096 .f32) (x : FVec Ideal S32768x2048 .f32) (g b : FVec Ideal S2048 .f32)
    (w : FVec Ideal S1x2048x2048 .f32) : FVec Ideal S32768x2048 .f32 :=
  addf (mulf (broadcastInDim Cert.MixReferenceIdeal.S32768x2048 ![] Cert.MixReferenceIdeal.Gen.bcast_S_S32768x2048 (constant Cert.MixReferenceIdeal.S_ .f32 0x3F9837F0#32))
      (refNorm x g b))
    (Host.dotGeneral Cert.MixReferenceIdeal.dot_S32768x2048_S2048x2048_S32768x2048_1_0_0_1_n_n none
      (addf (mulf (extractStridedSlice Cert.MixReferenceIdeal.S32768x2048 ![0, 0] gt Cert.MixReferenceIdeal.Gen.slices_S32768x4096_S32768x2048_0_0) y0)
        (mulf (extractStridedSlice Cert.MixReferenceIdeal.S32768x2048 ![0, 2048] gt Cert.MixReferenceIdeal.Gen.slices_S32768x4096_S32768x2048_0_2048) y1))
      (shapeCast _ w Cert.MixReferenceIdeal.Gen.shapeCasts_S1x2048x2048_S2048x2048))

theorem refMixed_apply (y0 y1 : FVec Ideal S32768x2048 .f32) (gt : FVec Ideal S32768x4096 .f32) (x : FVec Ideal S32768x2048 .f32)
    (g b : FVec Ideal S2048 .f32) (w : FVec Ideal S1x2048x2048 .f32) (i : Fin 32768) (j : Fin 2048) :
    refMixed y0 y1 gt x g b w (ix2 i j) = mixed (fun k => y0 (ix2 i k)) (fun k => y1 (ix2 i k)) (fun k => gt (ix2 i ⟨k.val, by omega⟩))
      (fun k => gt (ix2 i ⟨2048 + k.val, by omega⟩)) (fun k => x (ix2 i k)) (fun k => g (ix1 k)) (fun k => b (ix1 k)) (fun k l => w (ix3 0 k l)) j := by
  unfold mixed
  rw [← refNorm_apply]
  pointwise [refMixed]

/-- The reference's first result. -/
def refOut (y0 y1 : FVec Ideal S32768x2048 .f32) (gt : FVec Ideal S32768x4096 .f32) (x : FVec Ideal S32768x2048 .f32) (g b : FVec Ideal S2048 .f32)
    (w : FVec Ideal S1x2048x2048 .f32) (g' b' : FVec Ideal S1x2048 .f32) : FVec Ideal S32768x2048 .f32 :=
  refNorm (refMixed y0 y1 gt x g b w) (shapeCast _ g' Cert.MixReferenceIdeal.Gen.shapeCasts_S1x2048_S2048)
    (shapeCast _ b' Cert.MixReferenceIdeal.Gen.shapeCasts_S1x2048_S2048)

/-- The second result: the first, rounded. -/
def refOut' (y0 y1 : FVec Ideal S32768x2048 .f32) (gt : FVec Ideal S32768x4096 .f32) (x : FVec Ideal S32768x2048 .f32) (g b : FVec Ideal S2048 .f32)
    (w : FVec Ideal S1x2048x2048 .f32) (g' b' : FVec Ideal S1x2048 .f32) : FVec Ideal S32768x2048 .bf16 :=
  truncf .bf16 (refOut y0 y1 gt x g b w g' b') Cert.MixReferenceIdeal.Gen.bitsLt_bf16_f32

theorem row_apply (g : FVec Ideal S1x2048 .f32) (j : Fin 2048) :
    (shapeCast S2048 g Cert.MixReferenceIdeal.Gen.shapeCasts_S1x2048_S2048 : FVec Ideal S2048 .f32) (ix1 j) = g (ix2 0 j) := by
  pointwise

theorem refOut_apply (y0 y1 : FVec Ideal S32768x2048 .f32) (gt : FVec Ideal S32768x4096 .f32) (x : FVec Ideal S32768x2048 .f32)
    (g b : FVec Ideal S2048 .f32) (w : FVec Ideal S1x2048x2048 .f32) (g' b' : FVec Ideal S1x2048 .f32) (i : Fin 32768) (j : Fin 2048) :
    refOut y0 y1 gt x g b w g' b' (ix2 i j) = norm (mixed (fun k => y0 (ix2 i k)) (fun k => y1 (ix2 i k)) (fun k => gt (ix2 i ⟨k.val, by omega⟩))
      (fun k => gt (ix2 i ⟨2048 + k.val, by omega⟩)) (fun k => x (ix2 i k)) (fun k => g (ix1 k)) (fun k => b (ix1 k)) (fun k l => w (ix3 0 k l)))
      (fun k => g' (ix2 0 k)) (fun k => b' (ix2 0 k)) j := by
  unfold refOut
  rw [refNorm_apply, funext fun k => refMixed_apply y0 y1 gt x g b w i k, funext fun k => row_apply g' k, funext fun k => row_apply b' k]

/-- The block the body leaves, at an element. -/
theorem block_apply (x0 x1 x2 x3 : Vec Ideal S512x2048 .bf16) (x4 : Vec Ideal S512x2048 .f32) (x5 x6 : Vec Ideal S1x2048 .f32)
    (x7 : Vec Ideal S2048x2048 .bf16) (x8 x9 : Vec Ideal S1x2048 .f32) (r : Fin 512) (j : Fin 2048) :
    k0_pay1 (k0_pay3 x2 x0 x3 x1 x7) (k0_pay4 x5) (k0_pay5 x6) (k0_pay6 x4) (k0_pay7 x4) x8 x9 (ix2 r j)
      = norm (mixed (fun k => x0 (ix2 r k)) (fun k => x1 (ix2 r k)) (fun k => x2 (ix2 r k)) (fun k => x3 (ix2 r k)) (fun k => x4 (ix2 r k))
        (fun k => x5 (ix2 0 k)) (fun k => x6 (ix2 0 k)) (fun k l => x7 (ix2 k l))) (fun k => x8 (ix2 0 k)) (fun k => x9 (ix2 0 k)) j := by
  pointwise [k0_pay1, k0_pay3, k0_pay4, k0_pay5, k0_pay6, k0_pay7, norm, spread, dev, mean, mixed]

/-- Which block each window is at. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 1] ∧ win0_4.index t = ![(grid0.coords t 0).val, 0]
    ∧ win0_5.index t = ![0, 0] ∧ win0_6.index t = ![0, 0] ∧ win0_7.index t = ![0, 0] ∧ win0_8.index t = ![0, 0] ∧ win0_9.index t = ![0, 0]
    ∧ win0_10.index t = ![(grid0.coords t 0).val, 0] ∧ win0_11.index t = ![(grid0.coords t 0).val, 0] :=
  (by decide +kernel : ∀ t : Fin grid0.N, _)

/-- An array of rows as the call reads it. -/
def rounded (x : FVec Ideal S32768x2048 .f32) : FVec Ideal S32768x2048 .bf16 := truncf .bf16 x bitsLt_bf16_f32

/-- The gates as the call reads them. -/
def gated (x : FVec Ideal S32768x4096 .f32) : FVec Ideal S32768x4096 .bf16 := truncf .bf16 x bitsLt_bf16_f32

/-- The output weights as the call reads them. -/
def weights (w : FVec Ideal S1x2048x2048 .f32) : FVec Ideal S2048x2048 .bf16 :=
  truncf .bf16 (shapeCast S2048x2048 w shapeCasts_S1x2048x2048_S2048x2048) bitsLt_bf16_f32

/-- A vector as the call reads it. -/
def flat (g : FVec Ideal S2048 .f32) : FVec Ideal S1x2048 .f32 := shapeCast S1x2048 g shapeCasts_S2048_S1x2048

/-- A row as the call reads it. -/
def row (g : FVec Ideal S1x2048 .f32) : FVec Ideal S1x2048 .f32 :=
  shapeCast S1x2048 (shapeCast S2048 g shapeCasts_S1x2048_S2048) shapeCasts_S2048_S1x2048

theorem weights_apply (w : FVec Ideal S1x2048x2048 .f32) (k j : Fin 2048) : weights w (ix2 k j) = w (ix3 0 k j) := by
  pointwise [weights]

theorem flat_apply (g : FVec Ideal S2048 .f32) (j : Fin 2048) : flat g (ix2 0 j) = g (ix1 j) := by
  pointwise [flat]

theorem row_at (g : FVec Ideal S1x2048 .f32) (j : Fin 2048) : row g (ix2 0 j) = g (ix2 0 j) := by
  pointwise [row]

variable (m : (ℓ : Loc nD τ sig) → Buf (Elt Ideal) ℓ) (c : Dev nD) (t : Fin cfg0.N)

/-- A row of the point's block, among all rows. -/
def rowOf (r : Fin 512) : Fin 32768 := ⟨(grid0.coords t 0).val * 512 + r.val, by
  have h : (grid0.coords t 0).val < 64 := (grid0.coords t 0).isLt
  omega⟩

theorem V_0 : V m c main_v0 = rounded (m ((c.tc : Thread nD τ).loc main_arg0)) := by
  entry_read
  rfl

theorem V_1 : V m c main_v1 = rounded (m ((c.tc : Thread nD τ).loc main_arg1)) := by
  entry_read
  rfl

theorem V_2 : V m c main_v2 = gated (m ((c.tc : Thread nD τ).loc main_arg2)) := by
  entry_read
  rfl

theorem V_5 : V m c main_v3 = flat (m ((c.tc : Thread nD τ).loc main_arg4)) := by
  entry_read
  rfl

theorem V_6 : V m c main_v4 = flat (m ((c.tc : Thread nD τ).loc main_arg5)) := by
  entry_read
  rfl

theorem V_7 : V m c main_v6 = weights (m ((c.tc : Thread nD τ).loc main_arg6)) := by
  entry_read
  rfl

theorem V_8 : V m c main_v8 = row (m ((c.tc : Thread nD τ).loc main_arg7)) := by
  entry_read
  rfl

theorem V_9 : V m c main_v10 = row (m ((c.tc : Thread nD τ).loc main_arg8)) := by
  entry_read
  rfl

theorem read_0 (r : Fin 512) (k : Fin 2048) : iblk m c 0 t (ix2 r k) = m ((c.tc : Thread nD τ).loc main_arg0) (ix2 (rowOf t r) k) := by
  have h := (idx t).1
  have e : iblk m c 0 t (ix2 r k) = V m c main_v0 (ix2 (rowOf t r) k) := by
    blk_simp [iblk]
    blk_ext [h]
    all_goals first | rfl | (simp only [rowOf] <;> omega)
  rw [e, V_0]
  rfl

theorem read_1 (r : Fin 512) (k : Fin 2048) : iblk m c 1 t (ix2 r k) = m ((c.tc : Thread nD τ).loc main_arg1) (ix2 (rowOf t r) k) := by
  have h := (idx t).2.1
  have e : iblk m c 1 t (ix2 r k) = V m c main_v1 (ix2 (rowOf t r) k) := by
    blk_simp [iblk]
    blk_ext [h]
    all_goals first | rfl | (simp only [rowOf] <;> omega)
  rw [e, V_1]
  rfl

theorem read_2 (r : Fin 512) (k : Fin 2048) : iblk m c 2 t (ix2 r k) = m ((c.tc : Thread nD τ).loc main_arg2) (ix2 (rowOf t r) ⟨k.val, by omega⟩) := by
  have h := (idx t).2.2.1
  have e : iblk m c 2 t (ix2 r k) = V m c main_v2 (ix2 (rowOf t r) ⟨k.val, by omega⟩) := by
    blk_simp [iblk]
    blk_ext [h]
    all_goals first | rfl | (simp only [rowOf] <;> omega)
  rw [e, V_2]
  rfl

theorem read_3 (r : Fin 512) (k : Fin 2048) : iblk m c 3 t (ix2 r k) = m ((c.tc : Thread nD τ).loc main_arg2) (ix2 (rowOf t r) ⟨2048 + k.val, by omega⟩) := by
  have h := (idx t).2.2.2.1
  have e : iblk m c 3 t (ix2 r k) = V m c main_v2 (ix2 (rowOf t r) ⟨2048 + k.val, by omega⟩) := by
    blk_simp [iblk]
    blk_ext [h]
    all_goals first | rfl | (simp only [rowOf] <;> omega)
  rw [e, V_2]
  rfl

theorem read_4 (r : Fin 512) (k : Fin 2048) : iblk m c 4 t (ix2 r k) = m ((c.tc : Thread nD τ).loc main_arg3) (ix2 (rowOf t r) k) := by
  have h := (idx t).2.2.2.2.1
  have e : iblk m c 4 t (ix2 r k) = V m c main_arg3 (ix2 (rowOf t r) k) := by
    blk_simp [iblk]
    blk_ext [h]
    all_goals first | rfl | (simp only [rowOf] <;> omega)
  rw [e, V_main_arg3]

theorem read_5 (k : Fin 2048) : iblk m c 5 t (ix2 0 k) = m ((c.tc : Thread nD τ).loc main_arg4) (ix1 k) := by
  have h := (idx t).2.2.2.2.2.1
  have e : iblk m c 5 t (ix2 0 k) = V m c main_v3 (ix2 0 k) := by
    blk_simp [iblk]
    blk_ext [h]
    all_goals first | rfl | (simp only [rowOf] <;> omega)
  rw [e, V_5]
  exact flat_apply _ _

theorem read_6 (k : Fin 2048) : iblk m c 6 t (ix2 0 k) = m ((c.tc : Thread nD τ).loc main_arg5) (ix1 k) := by
  have h := (idx t).2.2.2.2.2.2.1
  have e : iblk m c 6 t (ix2 0 k) = V m c main_v4 (ix2 0 k) := by
    blk_simp [iblk]
    blk_ext [h]
    all_goals first | rfl | (simp only [rowOf] <;> omega)
  rw [e, V_6]
  exact flat_apply _ _

theorem read_7 (k l : Fin 2048) : iblk m c 7 t (ix2 k l) = m ((c.tc : Thread nD τ).loc main_arg6) (ix3 0 k l) := by
  have h := (idx t).2.2.2.2.2.2.2.1
  have e : iblk m c 7 t (ix2 k l) = V m c main_v6 (ix2 k l) := by
    blk_simp [iblk]
    blk_ext [h]
    all_goals first | rfl | (simp only [rowOf] <;> omega)
  rw [e, V_7]
  exact weights_apply _ _ _

theorem read_8 (k : Fin 2048) : iblk m c 8 t (ix2 0 k) = m ((c.tc : Thread nD τ).loc main_arg7) (ix2 0 k) := by
  have h := (idx t).2.2.2.2.2.2.2.2.1
  have e : iblk m c 8 t (ix2 0 k) = V m c main_v8 (ix2 0 k) := by
    blk_simp [iblk]
    blk_ext [h]
    all_goals first | rfl | (simp only [rowOf] <;> omega)
  rw [e, V_8]
  exact row_at _ _

theorem read_9 (k : Fin 2048) : iblk m c 9 t (ix2 0 k) = m ((c.tc : Thread nD τ).loc main_arg8) (ix2 0 k) := by
  have h := (idx t).2.2.2.2.2.2.2.2.2.1
  have e : iblk m c 9 t (ix2 0 k) = V m c main_v10 (ix2 0 k) := by
    blk_simp [iblk]
    blk_ext [h]
    all_goals first | rfl | (simp only [rowOf] <;> omega)
  rw [e, V_9]
  exact row_at _ _

/-- The block the body computes at a point, at an element: the reference's. -/
theorem point (r : Fin 512) (j : Fin 2048) :
    k0_pay1 (F := Ideal) (k0_pay3 (iblk m c 2 t) (iblk m c 0 t) (iblk m c 3 t) (iblk m c 1 t) (iblk m c 7 t)) (k0_pay4 (iblk m c 5 t)) (k0_pay5 (iblk m c 6 t))
        (k0_pay6 (iblk m c 4 t)) (k0_pay7 (iblk m c 4 t)) (iblk m c 8 t) (iblk m c 9 t) (ix2 r j)
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 (rowOf t r) j) := by
  rw [refOut_apply]
  refine (block_apply _ _ _ _ _ _ _ _ _ _ r j).trans ?_
  simp only [read_0, read_1, read_2, read_3, read_4, read_5, read_6, read_7, read_8, read_9]

theorem emb_10 (r : Fin 512) (j : Fin 2048) : (win0_10.blk t).view.emb (ix2 r j) = ix2 (rowOf t r) j := by
  have h := (idx t).2.2.2.2.2.2.2.2.2.2.1
  blk_ext [h]
  all_goals rfl

theorem emb_11 (r : Fin 512) (j : Fin 2048) : (win0_11.blk t).view.emb (ix2 r j) = ix2 (rowOf t r) j := by
  have h := (idx t).2.2.2.2.2.2.2.2.2.2.2
  blk_ext [h]
  all_goals rfl

/-- The first array when the run ends. -/
theorem array_eq : (dats m 0 c).arrAt 10 cfg0.N = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 10 _ (by decide +kernel) fun t hf y => ?_
  rw [after0_10]
  blk_simp
  unfold_out out0_10
  frame_out
  obtain ⟨r, j, rfl⟩ : ∃ (r : Fin 512) (j : Fin 2048), y = ix2 r j := ⟨y 0, y 1, by ext a; fin_cases a <;> rfl⟩
  rw [emb_10]
  exact point m c t r j

/-- The second array when the run ends. -/
theorem array_eq' : (dats m 0 c).arrAt 11 cfg0.N = refOut' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 11 _ (by decide +kernel) fun t hf y => ?_
  rw [after0_11]
  blk_simp
  unfold_out out0_11
  frame_out
  obtain ⟨r, j, rfl⟩ : ∃ (r : Fin 512) (j : Fin 2048), y = ix2 r j := ⟨y 0, y 1, by ext a; fin_cases a <;> rfl⟩
  rw [emb_11]
  exact point m c t r j

end Cert.MixIdeal.Product

end
-- ==== Proof.Tap.lean ====
/- A chunk of the convolution: thirty-one taps over a window of sixty-four rows, in the order of the taps' phases. -/
module

public import proofs.«01_k».proof.Proof.Gen.ConvIdeal.Frame
public import Idealize.ShloMosaic.Lib.Claim
public import Idealize.ShloMosaic.Lib.Pointwise

@[expose] public section

set_option maxRecDepth 16384

noncomputable section

namespace Cert.ConvIdeal.Taps

open Idealize.ShloMosaic Idealize.ShloMosaic.TcCoe
open Cert.ConvIdeal Cert.ConvIdeal.Gen

section
variable {F : FTy → Type} [FloatOps F]

/-- The chunk: the taps' rows against the window turned to each phase, and the bias. -/
def chunk (v : FVec F S64x256 .f32) (w : Fin 31 → FVec F S1x256 .f32) (b : FVec F S1x256 .f32) : FVec F S32x256 .f32 :=
  have a0 : FVec F S32x256 .f32 := broadcast S32x256 (Scalar.ofBits .f32 0x00000000#32 : F .f32)
  have a1 : FVec F S32x256 .f32 := addf a0 (mulf (broadcastTo S32x256 (shapeCast S1x256 (w 6) shapeCasts_S1x256_S1x256) broadcasts_S1x256_S32x256) (extractStridedSlice S32x256 ![8, 0] v slices_S64x256_o8_0_S32x256))
  have a2 : FVec F S32x256 .f32 := addf a1 (mulf (broadcastTo S32x256 (shapeCast S1x256 (w 14) shapeCasts_S1x256_S1x256) broadcasts_S1x256_S32x256) (extractStridedSlice S32x256 ![16, 0] v slices_S64x256_o16_0_S32x256))
  have a3 : FVec F S32x256 .f32 := addf a2 (mulf (broadcastTo S32x256 (shapeCast S1x256 (w 22) shapeCasts_S1x256_S1x256) broadcasts_S1x256_S32x256) (extractStridedSlice S32x256 ![24, 0] v slices_S64x256_o24_0_S32x256))
  have a4 : FVec F S32x256 .f32 := addf a3 (mulf (broadcastTo S32x256 (shapeCast S1x256 (w 30) shapeCasts_S1x256_S1x256) broadcasts_S1x256_S32x256) (extractStridedSlice S32x256 ![32, 0] v slices_S64x256_o32_0_S32x256))
  have a5 : FVec F S32x256 .f32 := addf a4 (mulf (broadcastTo S32x256 (shapeCast S1x256 (w 7) shapeCasts_S1x256_S1x256) broadcasts_S1x256_S32x256) (extractStridedSlice S32x256 ![8, 0] (dynamicRotate 0 63#32 none v rotates_S64x256_d0) slices_S64x256_o8_0_S32x256))
  have a6 : FVec F S32x256 .f32 := addf a5 (mulf (broadcastTo S32x256 (shapeCast S1x256 (w 15) shapeCasts_S1x256_S1x256) broadcasts_S1x256_S32x256) (extractStridedSlice S32x256 ![16, 0] (dynamicRotate 0 63#32 none v rotates_S64x256_d0) slices_S64x256_o16_0_S32x256))
  have a7 : FVec F S32x256 .f32 := addf a6 (mulf (broadcastTo S32x256 (shapeCast S1x256 (w 23) shapeCasts_S1x256_S1x256) broadcasts_S1x256_S32x256) (extractStridedSlice S32x256 ![24, 0] (dynamicRotate 0 63#32 none v rotates_S64x256_d0) slices_S64x256_o24_0_S32x256))
  have a8 : FVec F S32x256 .f32 := addf a7 (mulf (broadcastTo S32x256 (shapeCast S1x256 (w 0) shapeCasts_S1x256_S1x256) broadcasts_S1x256_S32x256) (extractStridedSlice S32x256 ![0, 0] (dynamicRotate 0 62#32 none v rotates_S64x256_d0) slices_S64x256_o0_0_S32x256))
  have a9 : FVec F S32x256 .f32 := addf a8 (mulf (broadcastTo S32x256 (shapeCast S1x256 (w 8) shapeCasts_S1x256_S1x256) broadcasts_S1x256_S32x256) (extractStridedSlice S32x256 ![8, 0] (dynamicRotate 0 62#32 none v rotates_S64x256_d0) slices_S64x256_o8_0_S32x256))
  have a10 : FVec F S32x256 .f32 := addf a9 (mulf (broadcastTo S32x256 (shapeCast S1x256 (w 16) shapeCasts_S1x256_S1x256) broadcasts_S1x256_S32x256) (extractStridedSlice S32x256 ![16, 0] (dynamicRotate 0 62#32 none v rotates_S64x256_d0) slices_S64x256_o16_0_S32x256))
  have a11 : FVec F S32x256 .f32 := addf a10 (mulf (broadcastTo S32x256 (shapeCast S1x256 (w 24) shapeCasts_S1x256_S1x256) broadcasts_S1x256_S32x256) (extractStridedSlice S32x256 ![24, 0] (dynamicRotate 0 62#32 none v rotates_S64x256_d0) slices_S64x256_o24_0_S32x256))
  have a12 : FVec F S32x256 .f32 := addf a11 (mulf (broadcastTo S32x256 (shapeCast S1x256 (w 1) shapeCasts_S1x256_S1x256) broadcasts_S1x256_S32x256) (extractStridedSlice S32x256 ![0, 0] (dynamicRotate 0 61#32 none v rotates_S64x256_d0) slices_S64x256_o0_0_S32x256))
  have a13 : FVec F S32x256 .f32 := addf a12 (mulf (broadcastTo S32x256 (shapeCast S1x256 (w 9) shapeCasts_S1x256_S1x256) broadcasts_S1x256_S32x256) (extractStridedSlice S32x256 ![8, 0] (dynamicRotate 0 61#32 none v rotates_S64x256_d0) slices_S64x256_o8_0_S32x256))
  have a14 : FVec F S32x256 .f32 := addf a13 (mulf (broadcastTo S32x256 (shapeCast S1x256 (w 17) shapeCasts_S1x256_S1x256) broadcasts_S1x256_S32x256) (extractStridedSlice S32x256 ![16, 0] (dynamicRotate 0 61#32 none v rotates_S64x256_d0) slices_S64x256_o16_0_S32x256))
  have a15 : FVec F S32x256 .f32 := addf a14 (mulf (broadcastTo S32x256 (shapeCast S1x256 (w 25) shapeCasts_S1x256_S1x256) broadcasts_S1x256_S32x256) (extractStridedSlice S32x256 ![24, 0] (dynamicRotate 0 61#32 none v rotates_S64x256_d0) slices_S64x256_o24_0_S32x256))
  have a16 : FVec F S32x256 .f32 := addf a15 (mulf (broadcastTo S32x256 (shapeCast S1x256 (w 2) shapeCasts_S1x256_S1x256) broadcasts_S1x256_S32x256) (extractStridedSlice S32x256 ![0, 0] (dynamicRotate 0 60#32 none v rotates_S64x256_d0) slices_S64x256_o0_0_S32x256))
  have a17 : FVec F S32x256 .f32 := addf a16 (mulf (broadcastTo S32x256 (shapeCast S1x256 (w 10) shapeCasts_S1x256_S1x256) broadcasts_S1x256_S32x256) (extractStridedSlice S32x256 ![8, 0] (dynamicRotate 0 60#32 none v rotates_S64x256_d0) slices_S64x256_o8_0_S32x256))
  have a18 : FVec F S32x256 .f32 := addf a17 (mulf (broadcastTo S32x256 (shapeCast S1x256 (w 18) shapeCasts_S1x256_S1x256) broadcasts_S1x256_S32x256) (extractStridedSlice S32x256 ![16, 0] (dynamicRotate 0 60#32 none v rotates_S64x256_d0) slices_S64x256_o16_0_S32x256))
  have a19 : FVec F S32x256 .f32 := addf a18 (mulf (broadcastTo S32x256 (shapeCast S1x256 (w 26) shapeCasts_S1x256_S1x256) broadcasts_S1x256_S32x256) (extractStridedSlice S32x256 ![24, 0] (dynamicRotate 0 60#32 none v rotates_S64x256_d0) slices_S64x256_o24_0_S32x256))
  have a20 : FVec F S32x256 .f32 := addf a19 (mulf (broadcastTo S32x256 (shapeCast S1x256 (w 3) shapeCasts_S1x256_S1x256) broadcasts_S1x256_S32x256) (extractStridedSlice S32x256 ![0, 0] (dynamicRotate 0 59#32 none v rotates_S64x256_d0) slices_S64x256_o0_0_S32x256))
  have a21 : FVec F S32x256 .f32 := addf a20 (mulf (broadcastTo S32x256 (shapeCast S1x256 (w 11) shapeCasts_S1x256_S1x256) broadcasts_S1x256_S32x256) (extractStridedSlice S32x256 ![8, 0] (dynamicRotate 0 59#32 none v rotates_S64x256_d0) slices_S64x256_o8_0_S32x256))
  have a22 : FVec F S32x256 .f32 := addf a21 (mulf (broadcastTo S32x256 (shapeCast S1x256 (w 19) shapeCasts_S1x256_S1x256) broadcasts_S1x256_S32x256) (extractStridedSlice S32x256 ![16, 0] (dynamicRotate 0 59#32 none v rotates_S64x256_d0) slices_S64x256_o16_0_S32x256))
  have a23 : FVec F S32x256 .f32 := addf a22 (mulf (broadcastTo S32x256 (shapeCast S1x256 (w 27) shapeCasts_S1x256_S1x256) broadcasts_S1x256_S32x256) (extractStridedSlice S32x256 ![24, 0] (dynamicRotate 0 59#32 none v rotates_S64x256_d0) slices_S64x256_o24_0_S32x256))
  have a24 : FVec F S32x256 .f32 := addf a23 (mulf (broadcastTo S32x256 (shapeCast S1x256 (w 4) shapeCasts_S1x256_S1x256) broadcasts_S1x256_S32x256) (extractStridedSlice S32x256 ![0, 0] (dynamicRotate 0 58#32 none v rotates_S64x256_d0) slices_S64x256_o0_0_S32x256))
  have a25 : FVec F S32x256 .f32 := addf a24 (mulf (broadcastTo S32x256 (shapeCast S1x256 (w 12) shapeCasts_S1x256_S1x256) broadcasts_S1x256_S32x256) (extractStridedSlice S32x256 ![8, 0] (dynamicRotate 0 58#32 none v rotates_S64x256_d0) slices_S64x256_o8_0_S32x256))
  have a26 : FVec F S32x256 .f32 := addf a25 (mulf (broadcastTo S32x256 (shapeCast S1x256 (w 20) shapeCasts_S1x256_S1x256) broadcasts_S1x256_S32x256) (extractStridedSlice S32x256 ![16, 0] (dynamicRotate 0 58#32 none v rotates_S64x256_d0) slices_S64x256_o16_0_S32x256))
  have a27 : FVec F S32x256 .f32 := addf a26 (mulf (broadcastTo S32x256 (shapeCast S1x256 (w 28) shapeCasts_S1x256_S1x256) broadcasts_S1x256_S32x256) (extractStridedSlice S32x256 ![24, 0] (dynamicRotate 0 58#32 none v rotates_S64x256_d0) slices_S64x256_o24_0_S32x256))
  have a28 : FVec F S32x256 .f32 := addf a27 (mulf (broadcastTo S32x256 (shapeCast S1x256 (w 5) shapeCasts_S1x256_S1x256) broadcasts_S1x256_S32x256) (extractStridedSlice S32x256 ![0, 0] (dynamicRotate 0 57#32 none v rotates_S64x256_d0) slices_S64x256_o0_0_S32x256))
  have a29 : FVec F S32x256 .f32 := addf a28 (mulf (broadcastTo S32x256 (shapeCast S1x256 (w 13) shapeCasts_S1x256_S1x256) broadcasts_S1x256_S32x256) (extractStridedSlice S32x256 ![8, 0] (dynamicRotate 0 57#32 none v rotates_S64x256_d0) slices_S64x256_o8_0_S32x256))
  have a30 : FVec F S32x256 .f32 := addf a29 (mulf (broadcastTo S32x256 (shapeCast S1x256 (w 21) shapeCasts_S1x256_S1x256) broadcasts_S1x256_S32x256) (extractStridedSlice S32x256 ![16, 0] (dynamicRotate 0 57#32 none v rotates_S64x256_d0) slices_S64x256_o16_0_S32x256))
  have a31 : FVec F S32x256 .f32 := addf a30 (mulf (broadcastTo S32x256 (shapeCast S1x256 (w 29) shapeCasts_S1x256_S1x256) broadcasts_S1x256_S32x256) (extractStridedSlice S32x256 ![24, 0] (dynamicRotate 0 57#32 none v rotates_S64x256_d0) slices_S64x256_o24_0_S32x256))
  shapeCast S32x256 (addf a31 (broadcastTo S32x256 (shapeCast S1x256 b shapeCasts_S1x256_S1x256) broadcasts_S1x256_S32x256)) shapeCasts_S32x256_S32x256

end

/-- The thirty-one terms in the phases' order sum to what they do in their own. -/
theorem phases (t : Fin 31 → EReal) : 0 + t 6 + t 14 + t 22 + t 30 + t 7 + t 15 + t 23 + t 0 + t 8 + t 16 + t 24 + t 1 + t 9 + t 17 + t 25 + t 2 + t 10 + t 18 + t 26 + t 3 + t 11 + t 19 + t 27 + t 4 + t 12 + t 20 + t 28 + t 5 + t 13 + t 21 + t 29 = ∑ k, t k := by
  simp only [Fin.sum_univ_succ, Fin.sum_univ_zero]
  simp only [Fin.isValue, zero_add, add_zero]
  show _ = t 0 + (t 1 + (t 2 + (t 3 + (t 4 + (t 5 + (t 6 + (t 7 + (t 8 + (t 9 + (t 10 + (t 11 + (t 12 + (t 13 + (t 14 + (t 15 + (t 16 + (t 17 + (t 18 + (t 19 + (t 20 + (t 21 + (t 22 + (t 23 + (t 24 + (t 25 + (t 26 + (t 27 + (t 28 + (t 29 + (t 30))))))))))))))))))))))))))))))
  ac_rfl

theorem chunk_apply (v : FVec Ideal S64x256 .f32) (w : Fin 31 → FVec Ideal S1x256 .f32) (b : FVec Ideal S1x256 .f32) (r : Fin 32) (c : Fin 256) :
    chunk v w b (ix2 r c) = (∑ k : Fin 31, w k (ix2 0 c) * v (ix2 ⟨r.val + 2 + k.val, by omega⟩ c)) + b (ix2 0 c) := by
  have z : Ideal.ofBits .f32 0x00000000#32 = 0 := by simp [Ideal.ofBits, Ideal.ieee]
  rw [← phases]
  pointwise [chunk]
  have q : ∀ (n n' : ℕ) (x : EReal) (h : n < 64) (h' : n' < 64), n = n' → x * v (ix2 ⟨n, h⟩ c) = x * v (ix2 ⟨n', h'⟩ c) := by
    intro n n' x h h' e
    subst e
    rfl
  repeat' first | rfl | exact q _ _ _ _ _ (by omega) | refine congrArg₂ HAdd.hAdd ?_ ?_

end Cert.ConvIdeal.Taps

end
-- ==== Proof.ConvRows.lean ====
/- The convolution's loop: what its trips leave is, row by row, the taps over the window. -/
module

public import proofs.«01_k».proof.Proof.Tap
public import Idealize.ShloMosaic.Lib.Pipeline.ReadBack
public import Idealize.ShloMosaic.Lib.Pipeline.Value

@[expose] public section

set_option maxRecDepth 16384

noncomputable section

namespace Cert.ConvIdeal.Taps

open Idealize.ShloMosaic Idealize.ShloMosaic.TcCoe Idealize.ShloMosaic.Tactic
open Idealize.SL Idealize.SL.RA Idealize.SL.BI
open Idealize.SL.Sem
open Cert.ConvIdeal Cert.ConvIdeal.Gen

section
variable {F : FTy → Type} [FloatOps F]

/-- A chunk's columns of the taps. -/
def tapRow (arg5 : Memref sig .tc .vmem S31x2048 .f32) (X5 : BufTy.Contents (Elt F) arg5.view.ty) (o : ℕ) (ho : o + 256 ≤ 2048) (k : Fin 31) : FVec F S1x256 .f32 :=
  arg5.view.readAt (Elt F) (Rect.unit (s := S31x2048) ![k.val, o] S1x256.size (by
    intro a
    fin_cases a
    · show k.val + 1 ≤ 31; omega
    · show o + 256 ≤ 2048; omega)).toLoadRect X5

/-- A chunk's columns of the bias. -/
def biasRow (arg6 : Memref sig .tc .vmem S1x2048 .f32) (X6 : BufTy.Contents (Elt F) arg6.view.ty) (o : ℕ) (ho : o + 256 ≤ 2048) : FVec F S1x256 .f32 :=
  arg6.view.readAt (Elt F) (Rect.unit (s := S1x2048) ![0, o] S1x256.size (by
    intro a
    fin_cases a
    · show 0 + 1 ≤ 1; omega
    · show o + 256 ≤ 2048; omega)).toLoadRect X6

end

/-- The convolution of a window with the taps, at a row and a column. -/
def tapped (w : FVec Ideal S31x2048 .f32) (b : FVec Ideal S1x2048 .f32) (v : FVec Ideal S288x2048 .f32) (r : Fin 256) (j : Fin 2048) : EReal :=
  (∑ k : Fin 31, w (ix2 k j) * v (ix2 ⟨r.val + 2 + k.val, by omega⟩ j)) + b (ix2 0 j)

section
variable (arg5 : Memref sig .tc .vmem S31x2048 .f32) (arg6 : Memref sig .tc .vmem S1x2048 .f32) (arg11 : Memref sig .tc .vmem S288x2048 .f32)
  (X5 : BufTy.Contents (Elt Ideal) arg5.view.ty) (X6 : BufTy.Contents (Elt Ideal) arg6.view.ty) (X11 : BufTy.Contents (Elt Ideal) arg11.view.ty)

/-- The whole result, from what the buffers read. -/
def rows (y : S256x2048.Idx) : EReal :=
  tapped (arg5.view.read (Elt Ideal) X5) (arg6.view.read (Elt Ideal) X6) (arg11.view.read (Elt Ideal) X11) (y 0) (y 1)

/-- A chunk is the result's block. -/
theorem piece (off off' : Fin 2 → ℕ) (n o : ℕ) (h : off = ![n, o]) (h' : off' = ![n, o])
    (inb : ∀ a, off a + S32x256.size a ≤ S256x2048.size a) (inb' : ∀ a, off' a + S64x256.size a ≤ S288x2048.size a) (ho : o + 256 ≤ 2048)
    (x : (Rect.unit (s := S256x2048) off S32x256.size inb).shape.Idx) :
    chunk (F := Ideal) (arg11.view.readAt (Elt Ideal) (Rect.unit (s := S288x2048) off' S64x256.size inb').toLoadRect X11) (tapRow arg5 X5 o ho) (biasRow arg6 X6 o ho) x
      = rows arg5 arg6 arg11 X5 X6 X11 ((Rect.unit (s := S256x2048) off S32x256.size inb).emb x) := by
  subst h h'
  have hn : n + 32 ≤ 256 := inb 0
  obtain ⟨r, j, rfl⟩ : ∃ (r : Fin 32) (j : Fin 256), x = ix2 r j := ⟨x 0, x 1, by ext a; fin_cases a <;> rfl⟩
  have e : (Rect.unit (s := S256x2048) ![n, o] S32x256.size inb).emb (ix2 r j) = ix2 ⟨n + r.val, by omega⟩ ⟨o + j.val, by omega⟩ := by
    ext a
    fin_cases a
    · show n + 1 * r.val = n + r.val; omega
    · show o + 1 * j.val = o + j.val; omega
  have ew : ∀ k : Fin 31, tapRow arg5 X5 o ho k (ix2 0 j) = arg5.view.read (Elt Ideal) X5 (ix2 k ⟨o + j.val, by omega⟩) := by
    intro k
    refine congrArg (arg5.view.read (Elt Ideal) X5) ?_
    ext a
    fin_cases a
    · show k.val + 1 * 0 = k.val; omega
    · show o + 1 * j.val = o + j.val; omega
  have eb : biasRow arg6 X6 o ho (ix2 0 j) = arg6.view.read (Elt Ideal) X6 (ix2 0 ⟨o + j.val, by omega⟩) := by
    refine congrArg (arg6.view.read (Elt Ideal) X6) ?_
    ext a
    fin_cases a
    · show 0 + 1 * 0 = 0; omega
    · show o + 1 * j.val = o + j.val; omega
  have ev : ∀ k : Fin 31, arg11.view.readAt (Elt Ideal) (Rect.unit (s := S288x2048) ![n, o] S64x256.size inb').toLoadRect X11 (ix2 ⟨r.val + 2 + k.val, by omega⟩ j)
      = arg11.view.read (Elt Ideal) X11 (ix2 ⟨n + r.val + 2 + k.val, by omega⟩ ⟨o + j.val, by omega⟩) := by
    intro k
    refine congrArg (arg11.view.read (Elt Ideal) X11) ?_
    ext a
    fin_cases a
    · show n + 1 * (r.val + 2 + k.val) = n + r.val + 2 + k.val; omega
    · show o + 1 * j.val = o + j.val; omega
  rw [e]
  refine (chunk_apply _ _ _ r j).trans ?_
  rw [eb]
  refine congrArg (· + _) (Finset.sum_congr rfl fun k _ => ?_)
  rw [ew k]
  exact congrArg (_ * ·) (ev k)
end

section
variable (𝒱 : Variants) (c : Dev nD) (bd : Option 𝒱.V) (i : grid0.Coords)
  (arg2 : Memref sig .tc .vmem S256x2048 .f32) (harg2 : arg2.IsWhole)
  (arg3 : Memref sig .tc .vmem S32x2048 .f32) (harg3 : arg3.IsWhole)
  (arg4 : Memref sig .tc .vmem S16x2048 .f32) (harg4 : arg4.IsWhole)
  (arg5 : Memref sig .tc .vmem S31x2048 .f32) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S2048x2048 .bf16) (harg9 : arg9.IsWhole)
  (arg10 : Memref sig .tc .vmem S256x2048 .bf16) (harg10 : arg10.IsWhole)
  (arg11 : Memref sig .tc .vmem S288x2048 .f32) (harg11 : arg11.IsWhole)
  (arg12 : Memref sig .tc .vmem S256x2048 .f32) (harg12 : arg12.IsWhole)

section
variable {F : FTy → Type} [FloatOps F]
  (X5 : BufTy.Contents (Elt F) arg5.view.ty) (X6 : BufTy.Contents (Elt F) arg6.view.ty) (X11 : BufTy.Contents (Elt F) arg11.view.ty)

/-- A trip writes the eight chunks of its rows. -/
theorem trip_eq (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 X5 X6 X11 k).1
      = [⟨Rect.unit (s := S256x2048) (k0_off16 k) S32x256.size (k0_off16_inb k), chunk (arg11.view.readAt (Elt F) (Rect.unit (s := S288x2048) (k0_off15 k) S64x256.size (k0_off15_inb k)).toLoadRect X11) (tapRow arg5 X5 1792 (by omega)) (biasRow arg6 X6 1792 (by omega))⟩,
        ⟨Rect.unit (s := S256x2048) (k0_off14 k) S32x256.size (k0_off14_inb k), chunk (arg11.view.readAt (Elt F) (Rect.unit (s := S288x2048) (k0_off13 k) S64x256.size (k0_off13_inb k)).toLoadRect X11) (tapRow arg5 X5 1536 (by omega)) (biasRow arg6 X6 1536 (by omega))⟩,
        ⟨Rect.unit (s := S256x2048) (k0_off12 k) S32x256.size (k0_off12_inb k), chunk (arg11.view.readAt (Elt F) (Rect.unit (s := S288x2048) (k0_off11 k) S64x256.size (k0_off11_inb k)).toLoadRect X11) (tapRow arg5 X5 1280 (by omega)) (biasRow arg6 X6 1280 (by omega))⟩,
        ⟨Rect.unit (s := S256x2048) (k0_off10 k) S32x256.size (k0_off10_inb k), chunk (arg11.view.readAt (Elt F) (Rect.unit (s := S288x2048) (k0_off9 k) S64x256.size (k0_off9_inb k)).toLoadRect X11) (tapRow arg5 X5 1024 (by omega)) (biasRow arg6 X6 1024 (by omega))⟩,
        ⟨Rect.unit (s := S256x2048) (k0_off8 k) S32x256.size (k0_off8_inb k), chunk (arg11.view.readAt (Elt F) (Rect.unit (s := S288x2048) (k0_off7 k) S64x256.size (k0_off7_inb k)).toLoadRect X11) (tapRow arg5 X5 768 (by omega)) (biasRow arg6 X6 768 (by omega))⟩,
        ⟨Rect.unit (s := S256x2048) (k0_off6 k) S32x256.size (k0_off6_inb k), chunk (arg11.view.readAt (Elt F) (Rect.unit (s := S288x2048) (k0_off5 k) S64x256.size (k0_off5_inb k)).toLoadRect X11) (tapRow arg5 X5 512 (by omega)) (biasRow arg6 X6 512 (by omega))⟩,
        ⟨Rect.unit (s := S256x2048) (k0_off4 k) S32x256.size (k0_off4_inb k), chunk (arg11.view.readAt (Elt F) (Rect.unit (s := S288x2048) (k0_off3 k) S64x256.size (k0_off3_inb k)).toLoadRect X11) (tapRow arg5 X5 256 (by omega)) (biasRow arg6 X6 256 (by omega))⟩,
        ⟨Rect.unit (s := S256x2048) (k0_off2 k) S32x256.size (k0_off2_inb k), chunk (arg11.view.readAt (Elt F) (Rect.unit (s := S288x2048) (k0_off1 k) S64x256.size (k0_off1_inb k)).toLoadRect X11) (tapRow arg5 X5 0 (by omega)) (biasRow arg6 X6 0 (by omega))⟩] := by
  unfold trip_k0_t1
  rfl
end

variable (X5 : BufTy.Contents (Elt Ideal) arg5.view.ty) (X6 : BufTy.Contents (Elt Ideal) arg6.view.ty) (X11 : BufTy.Contents (Elt Ideal) arg11.view.ty)

theorem trip_pieces (k : Fin k0_t1_loop.trips) : View.PiecesOf (rows arg5 arg6 arg11 X5 X6 X11)
    (trip_k0_t1 (F := Ideal) 𝒱 c bd i arg2 harg2 arg3 harg3 arg4 harg4 arg5 harg5 arg6 harg6 arg7 harg7 arg8 harg8 arg9 harg9 arg10 harg10 arg11 harg11 arg12 harg12 X5 X6 X11 k).1 := by
  rw [trip_eq]
  exact ⟨piece arg5 arg6 arg11 X5 X6 X11 _ _ (32 * k.val) 1792 (k0_off16_eq k) (k0_off15_eq k) (k0_off16_inb k) (k0_off15_inb k) (by omega), piece arg5 arg6 arg11 X5 X6 X11 _ _ (32 * k.val) 1536 (k0_off14_eq k) (k0_off13_eq k) (k0_off14_inb k) (k0_off13_inb k) (by omega), piece arg5 arg6 arg11 X5 X6 X11 _ _ (32 * k.val) 1280 (k0_off12_eq k) (k0_off11_eq k) (k0_off12_inb k) (k0_off11_inb k) (by omega), piece arg5 arg6 arg11 X5 X6 X11 _ _ (32 * k.val) 1024 (k0_off10_eq k) (k0_off9_eq k) (k0_off10_inb k) (k0_off9_inb k) (by omega), piece arg5 arg6 arg11 X5 X6 X11 _ _ (32 * k.val) 768 (k0_off8_eq k) (k0_off7_eq k) (k0_off8_inb k) (k0_off7_inb k) (by omega), piece arg5 arg6 arg11 X5 X6 X11 _ _ (32 * k.val) 512 (k0_off6_eq k) (k0_off5_eq k) (k0_off6_inb k) (k0_off5_inb k) (by omega), piece arg5 arg6 arg11 X5 X6 X11 _ _ (32 * k.val) 256 (k0_off4_eq k) (k0_off3_eq k) (k0_off4_inb k) (k0_off3_inb k) (by omega), piece arg5 arg6 arg11 X5 X6 X11 _ _ (32 * k.val) 0 (k0_off2_eq k) (k0_off1_eq k) (k0_off2_inb k) (k0_off1_inb k) (by omega), trivial⟩

/-- Every piece of the first trips is the result's block. -/
theorem pieces (n : ℕ) (hn : n ≤ k0_t1_loop.trips) : ∀ p ∈ pb_k0_t1 (F := Ideal) 𝒱 c bd i arg2 harg2 arg3 harg3 arg4 harg4 arg5 harg5 arg6 harg6 arg7 harg7 arg8 harg8 arg9 harg9 arg10 harg10 arg11 harg11 arg12 harg12 X5 X6 X11 n,
    ∀ x : p.1.shape.Idx, p.2 x = rows arg5 arg6 arg11 X5 X6 X11 (p.1.emb x) := by
  induction n with
  | zero => intro p hp; exact absurd hp List.not_mem_nil
  | succ n ih =>
    intro p hp
    rw [pb_k0_t1_succ (F := Ideal) 𝒱 c bd i arg2 harg2 arg3 harg3 arg4 harg4 arg5 harg5 arg6 harg6 arg7 harg7 arg8 harg8 arg9 harg9 arg10 harg10 arg11 harg11 arg12 harg12 X5 X6 X11 ⟨n, hn⟩] at hp
    rcases List.mem_append.mp hp with hp | hp
    · exact (trip_pieces 𝒱 c bd i arg2 harg2 arg3 harg3 arg4 harg4 arg5 harg5 arg6 harg6 arg7 harg7 arg8 harg8 arg9 harg9 arg10 harg10 arg11 harg11 arg12 harg12 X5 X6 X11 ⟨n, hn⟩).mem p hp
    · exact ih (Nat.le_of_succ_le hn) p hp

/-- What the whole result's buffer reads after the loop. -/
theorem loop_apply (y : S256x2048.Idx) :
    arg12.view.readCov (pb_k0_t1 (F := Ideal) 𝒱 c bd i arg2 harg2 arg3 harg3 arg4 harg4 arg5 harg5 arg6 harg6 arg7 harg7 arg8 harg8 arg9 harg9 arg10 harg10 arg11 harg11 arg12 harg12 X5 X6 X11 (Scf.trips k0_t1_loop.lb k0_t1_loop.ub k0_t1_loop.st))
        (Rect.unit (s := S256x2048) ![0, 0] S256x2048.size inb_S256x2048_S256x2048_0_0).toLoadRect y
      = rows arg5 arg6 arg11 X5 X6 X11 y := by
  rw [View.readCov_eq_canon']
  have e : (Rect.unit (s := S256x2048) ![0, 0] S256x2048.size inb_S256x2048_S256x2048_0_0).toLoadRect.idx y = y := by
    ext a
    fin_cases a
    · show 0 + 1 * (y 0).val = (y 0).val; omega
    · show 0 + 1 * (y 1).val = (y 1).val; omega
  show View.canon _ _ = _
  rw [e]
  exact View.canon_apply_of_pieces _ _ (pieces 𝒱 c bd i arg2 harg2 arg3 harg3 arg4 harg4 arg5 harg5 arg6 harg6 arg7 harg7 arg8 harg8 arg9 harg9 arg10 harg10 arg11 harg11 arg12 harg12 X5 X6 X11 _ le_rfl) y
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 X5 X6 X11 (Scf.trips k0_t1_loop.lb k0_t1_loop.ub k0_t1_loop.st)) S32x256.size (by sl_kernel_rfl) y)
end

end Cert.ConvIdeal.Taps

end
-- ==== Proof.ConvBody.lean ====
/- The convolution module's body at an element: the layer norm of the taps' row, gated and projected. -/
module

public import proofs.«01_k».proof.Proof.ConvRows
public import proofs.«01_k».proof.Proof.MixProj
public import proofs.«01_k».proof.Proof.Linear

@[expose] public section

set_option maxRecDepth 16384

noncomputable section

namespace Cert.ConvIdeal.Taps

open Idealize.ShloMosaic Idealize.ShloMosaic.TcCoe
open Cert.ConvIdeal Cert.ConvIdeal.Gen
open Cert.MixIdeal.Product (norm spread dev mean)
open Cert.Linear (one sigmoid sigmoid_sub)

/-- A row of the result: the layer norm of a row, times its sigmoid, against the output weights. -/
def outRow (f g b : Fin 2048 → EReal) (w : Fin 2048 → Fin 2048 → EReal) (j : Fin 2048) : EReal :=
  ∑ k, norm f g b k * sigmoid (norm f g b k) * w k j

theorem block_apply (h : FVec Ideal S256x2048 .f32) (x5 x6 : Vec Ideal S1x2048 .f32) (x7 : Vec Ideal S2048x2048 .bf16) (r : Fin 256) (j : Fin 2048) :
    k0_pay1 (k0_pay99 x5) (k0_pay100 x6) (k0_pay101 h) (k0_pay102 h) x7 (ix2 r j)
      = outRow (fun l => h (ix2 r l)) (fun l => x5 (ix2 0 l)) (fun l => x6 (ix2 0 l)) (fun k l => x7 (ix2 k l)) j := by
  unfold outRow
  simp only [← sigmoid_sub]
  pointwise [k0_pay1, k0_pay99, k0_pay100, k0_pay101, k0_pay102, Cert.MixIdeal.Product.norm, spread, dev, mean, one]

theorem whole_row {a : Memref sig .tc .vmem S1x2048 .f32} (h : a.IsWhole) (x : Vec Ideal S1x2048 .f32) :
    View.readAt (Elt Ideal) a.view (Rect.unit (s := S1x2048) ![0, 0] S1x2048.size inb_S1x2048_S1x2048_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

theorem whole_square {a : Memref sig .tc .vmem S2048x2048 .bf16} (h : a.IsWhole) (x : Vec Ideal S2048x2048 .bf16) :
    View.readAt (Elt Ideal) a.view (Rect.unit (s := S2048x2048) ![0, 0] S2048x2048.size inb_S2048x2048_S2048x2048_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

theorem whole_block {a : Memref sig .tc .vmem S256x2048 .f32} (h : a.IsWhole) (x : Vec Ideal S256x2048 .f32) :
    View.readAt (Elt Ideal) a.view (Rect.unit (s := S256x2048) ![0, 0] S256x2048.size inb_S256x2048_S256x2048_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

theorem whole_half {a : Memref sig .tc .vmem S32x2048 .f32} (h : a.IsWhole) (x : Vec Ideal S32x2048 .f32) :
    View.readAt (Elt Ideal) a.view (Rect.unit (s := S32x2048) ![0, 0] S32x2048.size inb_S32x2048_S32x2048_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

theorem whole_memory {a : Memref sig .tc .vmem S16x2048 .f32} (h : a.IsWhole) (x : Vec Ideal S16x2048 .f32) :
    View.readAt (Elt Ideal) a.view (Rect.unit (s := S16x2048) ![0, 0] S16x2048.size inb_S16x2048_S16x2048_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

/-- The window at a batch's first block: sixteen rows of zeros, the memory's sixteen, the block's. -/
def winA (x0 : Vec Ideal S256x2048 .f32) (x2 : Vec Ideal S16x2048 .f32) : Vec Ideal S288x2048 .f32 := fun y =>
  if h : 32 ≤ (y 0).val then x0 (ix2 ⟨(y 0).val - 32, by have := (y 0).isLt; change (y 0).val < 288 at this; omega⟩ (y 1))
  else if h' : 16 ≤ (y 0).val then x2 (ix2 ⟨(y 0).val - 16, by omega⟩ (y 1)) else 0

/-- The window elsewhere: the last thirty-two rows of the block before, and the block's. -/
def winB (x0 : Vec Ideal S256x2048 .f32) (x1 : Vec Ideal S32x2048 .f32) : Vec Ideal S288x2048 .f32 := fun y =>
  if h : 32 ≤ (y 0).val then x0 (ix2 ⟨(y 0).val - 32, by have := (y 0).isLt; change (y 0).val < 288 at this; omega⟩ (y 1))
  else x1 (ix2 ⟨(y 0).val, by omega⟩ (y 1))

theorem winA_hi (x0 : Vec Ideal S256x2048 .f32) (x2 : Vec Ideal S16x2048 .f32) (p : Fin 288) (j : Fin 2048) (h : 32 ≤ p.val) :
    winA x0 x2 (ix2 p j) = x0 (ix2 ⟨p.val - 32, by omega⟩ j) := dif_pos h

theorem winA_mid (x0 : Vec Ideal S256x2048 .f32) (x2 : Vec Ideal S16x2048 .f32) (p : Fin 288) (j : Fin 2048) (h : ¬32 ≤ p.val) (h' : 16 ≤ p.val) :
    winA x0 x2 (ix2 p j) = x2 (ix2 ⟨p.val - 16, by omega⟩ j) := (dif_neg h).trans (dif_pos h')

theorem winA_lo (x0 : Vec Ideal S256x2048 .f32) (x2 : Vec Ideal S16x2048 .f32) (p : Fin 288) (j : Fin 2048) (h' : ¬16 ≤ p.val) :
    winA x0 x2 (ix2 p j) = 0 := (dif_neg (show ¬32 ≤ p.val by omega)).trans (dif_neg h')

theorem winB_hi (x0 : Vec Ideal S256x2048 .f32) (x1 : Vec Ideal S32x2048 .f32) (p : Fin 288) (j : Fin 2048) (h : 32 ≤ p.val) :
    winB x0 x1 (ix2 p j) = x0 (ix2 ⟨p.val - 32, by omega⟩ j) := dif_pos h

theorem winB_lo (x0 : Vec Ideal S256x2048 .f32) (x1 : Vec Ideal S32x2048 .f32) (p : Fin 288) (j : Fin 2048) (h : ¬32 ≤ p.val) :
    winB x0 x1 (ix2 p j) = x1 (ix2 ⟨p.val, by omega⟩ j) := dif_neg h

theorem read_winB (c : Dev nD) (arg2 : Memref sig .tc .vmem S256x2048 .f32) (harg2 : arg2.IsWhole) (arg3 : Memref sig .tc .vmem S32x2048 .f32) (harg3 : arg3.IsWhole)
    (arg11 : Memref sig .tc .vmem S288x2048 .f32) (x0 : Vec Ideal S256x2048 .f32) (x1 : Vec Ideal S32x2048 .f32) :
    arg11.view.read (Elt Ideal) (arg11.view.writes (Elt Ideal) arg11.view.junk (kernelRun0_B.sl.HS0_2 (F := Ideal) c arg2 harg2 arg3 harg3 x0 x1)) = winB x0 x1 := by
  rw [View.read_writes_junk_eq_canon]
  unfold kernelRun0_B.sl.HS0_2
  rw [whole_block harg2, whole_half harg3]
  funext y
  have hy : (y 0).val < 288 := (y 0).isLt
  refine View.canon_apply_of_pieces (winB x0 x1) _ (View.PiecesOf.mem ?_) y ?_
  · refine ⟨fun x => by
    obtain ⟨r, j, rfl⟩ : ∃ (r : Fin 256) (j : Fin 2048), x = ix2 r j := ⟨x 0, x 1, by ext a; fin_cases a <;> rfl⟩
    have e : (Rect.unit (s := S288x2048) ![32, 0] (Shape.size S256x2048) inb_S288x2048_S256x2048_32_0).emb (ix2 r j) = ix2 ⟨32 + r.val, by omega⟩ j := by
      ext a
      fin_cases a
      · show 32 + 1 * r.val = 32 + r.val; omega
      · show 0 + 1 * j.val = j.val; omega
    refine Eq.trans ?_ (congrArg (winB x0 x1) e.symm)
    refine Eq.trans (b := x0 (ix2 r j)) (by pointwise [k0_pay97]) ?_
    have q : ∀ (n n' : ℕ) (h : n < 256) (h' : n' < 256), n = n' → x0 (ix2 ⟨n, h⟩ j) = x0 (ix2 ⟨n', h'⟩ j) := by
      intro n n' h h' e
      subst e
      rfl
    exact (q _ _ _ _ (show r.val = 32 + r.val - 32 by omega)).trans (winB_hi _ _ ⟨32 + r.val, _⟩ j (show 32 ≤ 32 + r.val by omega)).symm, fun x => by
    obtain ⟨r, j, rfl⟩ : ∃ (r : Fin 32) (j : Fin 2048), x = ix2 r j := ⟨x 0, x 1, by ext a; fin_cases a <;> rfl⟩
    have e : (Rect.unit (s := S288x2048) ![0, 0] (Shape.size S32x2048) inb_S288x2048_S32x2048_0_0).emb (ix2 r j) = ix2 ⟨0 + r.val, by omega⟩ j := by
      ext a
      fin_cases a
      · show 0 + 1 * r.val = 0 + r.val; omega
      · show 0 + 1 * j.val = j.val; omega
    refine Eq.trans ?_ (congrArg (winB x0 x1) e.symm)
    refine Eq.trans (b := x1 (ix2 r j)) (by pointwise [k0_pay96]) ?_
    have q : ∀ (n n' : ℕ) (h : n < 32) (h' : n' < 32), n = n' → x1 (ix2 ⟨n, h⟩ j) = x1 (ix2 ⟨n', h'⟩ j) := by
      intro n n' h h' e
      subst e
      rfl
    exact (q _ _ _ _ (show r.val = 0 + r.val by omega)).trans (winB_lo _ _ ⟨0 + r.val, _⟩ j (show ¬32 ≤ 0 + r.val by omega)).symm , trivial⟩
  by_cases h : 32 ≤ (y 0).val
  · refine ⟨_, List.mem_cons_self, ?_⟩
    refine (Rect.mem_set_unit (inb := inb_S288x2048_S256x2048_32_0)).mpr fun a => ?_
    fin_cases a
    · show 32 ≤ (y 0).val ∧ (y 0).val < 32 + 256; omega
    · show 0 ≤ (y 1).val ∧ (y 1).val < 0 + 2048; have h := (y 1).isLt; change (y 1).val < 2048 at h; omega
  · refine ⟨_, List.mem_cons_of_mem _ List.mem_cons_self, ?_⟩
    refine (Rect.mem_set_unit (inb := inb_S288x2048_S32x2048_0_0)).mpr fun a => ?_
    fin_cases a
    · show 0 ≤ (y 0).val ∧ (y 0).val < 0 + 32; omega
    · show 0 ≤ (y 1).val ∧ (y 1).val < 0 + 2048; have h := (y 1).isLt; change (y 1).val < 2048 at h; omega

theorem read_winA (c : Dev nD) (arg2 : Memref sig .tc .vmem S256x2048 .f32) (harg2 : arg2.IsWhole) (arg4 : Memref sig .tc .vmem S16x2048 .f32) (harg4 : arg4.IsWhole)
    (arg11 : Memref sig .tc .vmem S288x2048 .f32) (x0 : Vec Ideal S256x2048 .f32) (x2 : Vec Ideal S16x2048 .f32) :
    arg11.view.read (Elt Ideal) (arg11.view.writes (Elt Ideal) arg11.view.junk (kernelRun0_A.sl.HS0_3 (F := Ideal) c arg2 harg2 arg4 harg4 x0 x2)) = winA x0 x2 := by
  rw [View.read_writes_junk_eq_canon]
  unfold kernelRun0_A.sl.HS0_3
  rw [whole_block harg2, whole_memory harg4]
  funext y
  have hy : (y 0).val < 288 := (y 0).isLt
  refine View.canon_apply_of_pieces (winA x0 x2) _ (View.PiecesOf.mem ?_) y ?_
  · refine ⟨fun x => by
    obtain ⟨r, j, rfl⟩ : ∃ (r : Fin 256) (j : Fin 2048), x = ix2 r j := ⟨x 0, x 1, by ext a; fin_cases a <;> rfl⟩
    have e : (Rect.unit (s := S288x2048) ![32, 0] (Shape.size S256x2048) inb_S288x2048_S256x2048_32_0).emb (ix2 r j) = ix2 ⟨32 + r.val, by omega⟩ j := by
      ext a
      fin_cases a
      · show 32 + 1 * r.val = 32 + r.val; omega
      · show 0 + 1 * j.val = j.val; omega
    refine Eq.trans ?_ (congrArg (winA x0 x2) e.symm)
    refine Eq.trans (b := x0 (ix2 r j)) (by pointwise [k0_pay97]) ?_
    have q : ∀ (n n' : ℕ) (h : n < 256) (h' : n' < 256), n = n' → x0 (ix2 ⟨n, h⟩ j) = x0 (ix2 ⟨n', h'⟩ j) := by
      intro n n' h h' e
      subst e
      rfl
    exact (q _ _ _ _ (show r.val = 32 + r.val - 32 by omega)).trans (winA_hi _ _ ⟨32 + r.val, _⟩ j (show 32 ≤ 32 + r.val by omega)).symm, fun x => by
    obtain ⟨r, j, rfl⟩ : ∃ (r : Fin 16) (j : Fin 2048), x = ix2 r j := ⟨x 0, x 1, by ext a; fin_cases a <;> rfl⟩
    have e : (Rect.unit (s := S288x2048) ![16, 0] (Shape.size S16x2048) inb_S288x2048_S16x2048_16_0).emb (ix2 r j) = ix2 ⟨16 + r.val, by omega⟩ j := by
      ext a
      fin_cases a
      · show 16 + 1 * r.val = 16 + r.val; omega
      · show 0 + 1 * j.val = j.val; omega
    refine Eq.trans ?_ (congrArg (winA x0 x2) e.symm)
    refine Eq.trans (b := x2 (ix2 r j)) (by pointwise [k0_pay95]) ?_
    have q : ∀ (n n' : ℕ) (h : n < 16) (h' : n' < 16), n = n' → x2 (ix2 ⟨n, h⟩ j) = x2 (ix2 ⟨n', h'⟩ j) := by
      intro n n' h h' e
      subst e
      rfl
    exact (q _ _ _ _ (show r.val = 16 + r.val - 16 by omega)).trans (winA_mid _ _ ⟨16 + r.val, _⟩ j (show ¬32 ≤ 16 + r.val by omega) (show 16 ≤ 16 + r.val by omega)).symm, fun x => by
    obtain ⟨r, j, rfl⟩ : ∃ (r : Fin 16) (j : Fin 2048), x = ix2 r j := ⟨x 0, x 1, by ext a; fin_cases a <;> rfl⟩
    have e : (Rect.unit (s := S288x2048) ![0, 0] (Shape.size S16x2048) inb_S288x2048_S16x2048_0_0).emb (ix2 r j) = ix2 ⟨0 + r.val, by omega⟩ j := by
      ext a
      fin_cases a
      · show 0 + 1 * r.val = 0 + r.val; omega
      · show 0 + 1 * j.val = j.val; omega
    refine Eq.trans ?_ (congrArg (winA x0 x2) e.symm)
    refine Eq.trans (b := (0 : EReal)) (by pointwise [k0_pay94]) ?_
    exact (winA_lo _ _ ⟨0 + r.val, _⟩ j (show ¬16 ≤ 0 + r.val by omega)).symm , trivial⟩
  by_cases h : 32 ≤ (y 0).val
  · refine ⟨_, List.mem_cons_self, ?_⟩
    refine (Rect.mem_set_unit (inb := inb_S288x2048_S256x2048_32_0)).mpr fun a => ?_
    fin_cases a
    · show 32 ≤ (y 0).val ∧ (y 0).val < 32 + 256; omega
    · show 0 ≤ (y 1).val ∧ (y 1).val < 0 + 2048; have h := (y 1).isLt; change (y 1).val < 2048 at h; omega
  by_cases h' : 16 ≤ (y 0).val
  · refine ⟨_, List.mem_cons_of_mem _ List.mem_cons_self, ?_⟩
    refine (Rect.mem_set_unit (inb := inb_S288x2048_S16x2048_16_0)).mpr fun a => ?_
    fin_cases a
    · show 16 ≤ (y 0).val ∧ (y 0).val < 16 + 16; omega
    · show 0 ≤ (y 1).val ∧ (y 1).val < 0 + 2048; have h := (y 1).isLt; change (y 1).val < 2048 at h; omega
  · refine ⟨_, List.mem_cons_of_mem _ (List.mem_cons_of_mem _ List.mem_cons_self), ?_⟩
    refine (Rect.mem_set_unit (inb := inb_S288x2048_S16x2048_0_0)).mpr fun a => ?_
    fin_cases a
    · show 0 ≤ (y 0).val ∧ (y 0).val < 0 + 16; omega
    · show 0 ≤ (y 1).val ∧ (y 1).val < 0 + 2048; have h := (y 1).isLt; change (y 1).val < 2048 at h; omega

/-- What the body leaves in the result's block. -/
theorem run_A (c : Dev nD) (i : grid0.Coords) (arg2 : Memref sig .tc .vmem S256x2048 .f32) (harg2 : arg2.IsWhole) (arg3 : Memref sig .tc .vmem S32x2048 .f32) (harg3 : arg3.IsWhole) (arg4 : Memref sig .tc .vmem S16x2048 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .bf16) (harg9 : arg9.IsWhole) (arg10 : Memref sig .tc .vmem S256x2048 .bf16) (harg10 : arg10.IsWhole) (arg11 : Memref sig .tc .vmem S288x2048 .f32) (harg11 : arg11.IsWhole) (arg12 : Memref sig .tc .vmem S256x2048 .f32) (harg12 : arg12.IsWhole) (hc0 : cond0_0 i) (hc1 : ¬cond0_1 i)
    (x0 : Vec Ideal S256x2048 .f32) (x1 : Vec Ideal S32x2048 .f32) (x2 : Vec Ideal S16x2048 .f32) (x3 : Vec Ideal S31x2048 .f32) (x4 : Vec Ideal S1x2048 .f32) (x5 : Vec Ideal S1x2048 .f32) (x6 : Vec Ideal S1x2048 .f32) (x7 : Vec Ideal S2048x2048 .bf16) :
    (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).1
      = [⟨Rect.unit (s := S256x2048) ![0, 0] ![256, 2048] inb_S256x2048_S256x2048_0_0,
          k0_pay1 (k0_pay99 (View.readAt (Elt Ideal) arg7.view (Rect.unit (s := S1x2048) ![0, 0] S1x2048.size inb_S1x2048_S1x2048_0_0).toLoadRect (harg7.unread x5))) (k0_pay100 (View.readAt (Elt Ideal) arg8.view (Rect.unit (s := S1x2048) ![0, 0] S1x2048.size inb_S1x2048_S1x2048_0_0).toLoadRect (harg8.unread x6)))
            (k0_pay101 (arg12.view.readCov (pb_k0_t1 (F := Ideal) Variants.none c none i arg2 harg2 arg3 harg3 arg4 harg4 arg5 harg5 arg6 harg6 arg7 harg7 arg8 harg8 arg9 harg9 arg10 harg10 arg11 harg11 arg12 harg12 (harg5.unread x3) (harg6.unread x4) (arg11.view.writes (Elt Ideal) arg11.view.junk (kernelRun0_A.sl.HS0_3 (F := Ideal) c arg2 harg2 arg4 harg4 x0 x2)) (Scf.trips k0_t1_loop.lb k0_t1_loop.ub k0_t1_loop.st)) (Rect.unit (s := S256x2048) ![0, 0] S256x2048.size inb_S256x2048_S256x2048_0_0).toLoadRect))
            (k0_pay102 (arg12.view.readCov (pb_k0_t1 (F := Ideal) Variants.none c none i arg2 harg2 arg3 harg3 arg4 harg4 arg5 harg5 arg6 harg6 arg7 harg7 arg8 harg8 arg9 harg9 arg10 harg10 arg11 harg11 arg12 harg12 (harg5.unread x3) (harg6.unread x4) (arg11.view.writes (Elt Ideal) arg11.view.junk (kernelRun0_A.sl.HS0_3 (F := Ideal) c arg2 harg2 arg4 harg4 x0 x2)) (Scf.trips k0_t1_loop.lb k0_t1_loop.ub k0_t1_loop.st)) (Rect.unit (s := S256x2048) ![0, 0] S256x2048.size inb_S256x2048_S256x2048_0_0).toLoadRect)) (View.readAt (Elt Ideal) arg9.view (Rect.unit (s := S2048x2048) ![0, 0] S2048x2048.size inb_S2048x2048_S2048x2048_0_0).toLoadRect (harg9.unread x7))⟩] := by
  unfold kernelRun0_A
  rfl

theorem out_A (c : Dev nD) (i : grid0.Coords) (arg2 : Memref sig .tc .vmem S256x2048 .f32) (harg2 : arg2.IsWhole) (arg3 : Memref sig .tc .vmem S32x2048 .f32) (harg3 : arg3.IsWhole) (arg4 : Memref sig .tc .vmem S16x2048 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .bf16) (harg9 : arg9.IsWhole) (arg10 : Memref sig .tc .vmem S256x2048 .bf16) (harg10 : arg10.IsWhole) (arg11 : Memref sig .tc .vmem S288x2048 .f32) (harg11 : arg11.IsWhole) (arg12 : Memref sig .tc .vmem S256x2048 .f32) (harg12 : arg12.IsWhole) (hc0 : cond0_0 i) (hc1 : ¬cond0_1 i)
    (x0 : Vec Ideal S256x2048 .f32) (x1 : Vec Ideal S32x2048 .f32) (x2 : Vec Ideal S16x2048 .f32) (x3 : Vec Ideal S31x2048 .f32) (x4 : Vec Ideal S1x2048 .f32) (x5 : Vec Ideal S1x2048 .f32) (x6 : Vec Ideal S1x2048 .f32) (x7 : Vec Ideal S2048x2048 .bf16) (r : Fin 256) (j : Fin 2048) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r j)
      = outRow (tapped x3 x4 (winA x0 x2) r) (fun l => x5 (ix2 0 l)) (fun l => x6 (ix2 0 l)) (fun k l => x7 (ix2 k l)) j := by
  unfold out0_A_8
  rw [run_A, View.read_writes_junk_eq_canon]
  have hz : (![0, 0] : Fin 2 → ℕ) = fun _ => 0 := by funext a; fin_cases a <;> rfl
  refine (congrFun (View.canon_unit_zero (S := S256x2048) hz inb_S256x2048_S256x2048_0_0 _) (ix2 r j)).trans ?_
  have hH : (arg12.view.readCov (pb_k0_t1 (F := Ideal) Variants.none c none i arg2 harg2 arg3 harg3 arg4 harg4 arg5 harg5 arg6 harg6 arg7 harg7 arg8 harg8 arg9 harg9 arg10 harg10 arg11 harg11 arg12 harg12 (harg5.unread x3) (harg6.unread x4) (arg11.view.writes (Elt Ideal) arg11.view.junk (kernelRun0_A.sl.HS0_3 (F := Ideal) c arg2 harg2 arg4 harg4 x0 x2)) (Scf.trips k0_t1_loop.lb k0_t1_loop.ub k0_t1_loop.st)) (Rect.unit (s := S256x2048) ![0, 0] S256x2048.size inb_S256x2048_S256x2048_0_0).toLoadRect) = fun y => tapped x3 x4 (winA x0 x2) (y 0) (y 1) := by
    funext y
    refine (loop_apply Variants.none c none i arg2 harg2 arg3 harg3 arg4 harg4 arg5 harg5 arg6 harg6 arg7 harg7 arg8 harg8 arg9 harg9 arg10 harg10 arg11 harg11 arg12 harg12 _ _ _ y).trans ?_
    unfold rows
    rw [harg5.read_unread, harg6.read_unread, read_winA]
  rw [hH, whole_row harg7, whole_row harg8, whole_square harg9]
  exact block_apply _ _ _ _ r j

/-- What the body leaves in the result's block. -/
theorem run_B (c : Dev nD) (i : grid0.Coords) (arg2 : Memref sig .tc .vmem S256x2048 .f32) (harg2 : arg2.IsWhole) (arg3 : Memref sig .tc .vmem S32x2048 .f32) (harg3 : arg3.IsWhole) (arg4 : Memref sig .tc .vmem S16x2048 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .bf16) (harg9 : arg9.IsWhole) (arg10 : Memref sig .tc .vmem S256x2048 .bf16) (harg10 : arg10.IsWhole) (arg11 : Memref sig .tc .vmem S288x2048 .f32) (harg11 : arg11.IsWhole) (arg12 : Memref sig .tc .vmem S256x2048 .f32) (harg12 : arg12.IsWhole) (hc0 : ¬cond0_0 i) (hc1 : cond0_1 i)
    (x0 : Vec Ideal S256x2048 .f32) (x1 : Vec Ideal S32x2048 .f32) (x2 : Vec Ideal S16x2048 .f32) (x3 : Vec Ideal S31x2048 .f32) (x4 : Vec Ideal S1x2048 .f32) (x5 : Vec Ideal S1x2048 .f32) (x6 : Vec Ideal S1x2048 .f32) (x7 : Vec Ideal S2048x2048 .bf16) :
    (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).1
      = [⟨Rect.unit (s := S256x2048) ![0, 0] ![256, 2048] inb_S256x2048_S256x2048_0_0,
          k0_pay1 (k0_pay99 (View.readAt (Elt Ideal) arg7.view (Rect.unit (s := S1x2048) ![0, 0] S1x2048.size inb_S1x2048_S1x2048_0_0).toLoadRect (harg7.unread x5))) (k0_pay100 (View.readAt (Elt Ideal) arg8.view (Rect.unit (s := S1x2048) ![0, 0] S1x2048.size inb_S1x2048_S1x2048_0_0).toLoadRect (harg8.unread x6)))
            (k0_pay101 (arg12.view.readCov (pb_k0_t1 (F := Ideal) Variants.none c none i arg2 harg2 arg3 harg3 arg4 harg4 arg5 harg5 arg6 harg6 arg7 harg7 arg8 harg8 arg9 harg9 arg10 harg10 arg11 harg11 arg12 harg12 (harg5.unread x3) (harg6.unread x4) (arg11.view.writes (Elt Ideal) arg11.view.junk (kernelRun0_B.sl.HS0_2 (F := Ideal) c arg2 harg2 arg3 harg3 x0 x1)) (Scf.trips k0_t1_loop.lb k0_t1_loop.ub k0_t1_loop.st)) (Rect.unit (s := S256x2048) ![0, 0] S256x2048.size inb_S256x2048_S256x2048_0_0).toLoadRect))
            (k0_pay102 (arg12.view.readCov (pb_k0_t1 (F := Ideal) Variants.none c none i arg2 harg2 arg3 harg3 arg4 harg4 arg5 harg5 arg6 harg6 arg7 harg7 arg8 harg8 arg9 harg9 arg10 harg10 arg11 harg11 arg12 harg12 (harg5.unread x3) (harg6.unread x4) (arg11.view.writes (Elt Ideal) arg11.view.junk (kernelRun0_B.sl.HS0_2 (F := Ideal) c arg2 harg2 arg3 harg3 x0 x1)) (Scf.trips k0_t1_loop.lb k0_t1_loop.ub k0_t1_loop.st)) (Rect.unit (s := S256x2048) ![0, 0] S256x2048.size inb_S256x2048_S256x2048_0_0).toLoadRect)) (View.readAt (Elt Ideal) arg9.view (Rect.unit (s := S2048x2048) ![0, 0] S2048x2048.size inb_S2048x2048_S2048x2048_0_0).toLoadRect (harg9.unread x7))⟩] := by
  unfold kernelRun0_B
  rfl

theorem out_B (c : Dev nD) (i : grid0.Coords) (arg2 : Memref sig .tc .vmem S256x2048 .f32) (harg2 : arg2.IsWhole) (arg3 : Memref sig .tc .vmem S32x2048 .f32) (harg3 : arg3.IsWhole) (arg4 : Memref sig .tc .vmem S16x2048 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x2048 .bf16) (harg9 : arg9.IsWhole) (arg10 : Memref sig .tc .vmem S256x2048 .bf16) (harg10 : arg10.IsWhole) (arg11 : Memref sig .tc .vmem S288x2048 .f32) (harg11 : arg11.IsWhole) (arg12 : Memref sig .tc .vmem S256x2048 .f32) (harg12 : arg12.IsWhole) (hc0 : ¬cond0_0 i) (hc1 : cond0_1 i)
    (x0 : Vec Ideal S256x2048 .f32) (x1 : Vec Ideal S32x2048 .f32) (x2 : Vec Ideal S16x2048 .f32) (x3 : Vec Ideal S31x2048 .f32) (x4 : Vec Ideal S1x2048 .f32) (x5 : Vec Ideal S1x2048 .f32) (x6 : Vec Ideal S1x2048 .f32) (x7 : Vec Ideal S2048x2048 .bf16) (r : Fin 256) (j : Fin 2048) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r j)
      = outRow (tapped x3 x4 (winB x0 x1) r) (fun l => x5 (ix2 0 l)) (fun l => x6 (ix2 0 l)) (fun k l => x7 (ix2 k l)) j := by
  unfold out0_B_8
  rw [run_B, View.read_writes_junk_eq_canon]
  have hz : (![0, 0] : Fin 2 → ℕ) = fun _ => 0 := by funext a; fin_cases a <;> rfl
  refine (congrFun (View.canon_unit_zero (S := S256x2048) hz inb_S256x2048_S256x2048_0_0 _) (ix2 r j)).trans ?_
  have hH : (arg12.view.readCov (pb_k0_t1 (F := Ideal) Variants.none c none i arg2 harg2 arg3 harg3 arg4 harg4 arg5 harg5 arg6 harg6 arg7 harg7 arg8 harg8 arg9 harg9 arg10 harg10 arg11 harg11 arg12 harg12 (harg5.unread x3) (harg6.unread x4) (arg11.view.writes (Elt Ideal) arg11.view.junk (kernelRun0_B.sl.HS0_2 (F := Ideal) c arg2 harg2 arg3 harg3 x0 x1)) (Scf.trips k0_t1_loop.lb k0_t1_loop.ub k0_t1_loop.st)) (Rect.unit (s := S256x2048) ![0, 0] S256x2048.size inb_S256x2048_S256x2048_0_0).toLoadRect) = fun y => tapped x3 x4 (winB x0 x1) (y 0) (y 1) := by
    funext y
    refine (loop_apply Variants.none c none i arg2 harg2 arg3 harg3 arg4 harg4 arg5 harg5 arg6 harg6 arg7 harg7 arg8 harg8 arg9 harg9 arg10 harg10 arg11 harg11 arg12 harg12 _ _ _ y).trans ?_
    unfold rows
    rw [harg5.read_unread, harg6.read_unread, read_winB]
  rw [hH, whole_row harg7, whole_row harg8, whole_square harg9]
  exact block_apply _ _ _ _ r j

end Cert.ConvIdeal.Taps

end
-- ==== Proof.ConvRef.lean ====
/- The convolution module's reference: its result at an element, in the arguments' own elements. -/
module

public import proofs.«01_k».proof.Proof.Gen.ConvReferenceIdeal.Run
public import proofs.«01_k».proof.Proof.MixProj
public import proofs.«01_k».proof.Proof.Linear

@[expose] public section

set_option maxRecDepth 16384

noncomputable section

namespace Cert.ConvReferenceIdeal.Rows

open Idealize.ShloMosaic Idealize.ShloMosaic.TcCoe
open Cert.ConvReferenceIdeal Cert.ConvReferenceIdeal.Gen Cert.ConvReferenceIdeal.Value
open Cert.MixIdeal.Product (norm spread dev mean)
open Cert.Linear (one sigmoid)

/-- A batch's rows behind the sixteen rows of the memory, themselves behind thirty rows of zeros. -/
def src (u : FVec Ideal S32768x2048 .f32) (um : FVec Ideal S16x2048 .f32) (b : Fin 4) (p : Fin 8238) (j : Fin 2048) : EReal :=
  if h : 46 ≤ p.val then u (ix2 ⟨b.val * 8192 + (p.val - 46), by omega⟩ j)
  else if h' : 30 ≤ p.val then um (ix2 ⟨p.val - 30, by omega⟩ j) else 0

/-- A row of the convolution. -/
def conv (u : FVec Ideal S32768x2048 .f32) (um : FVec Ideal S16x2048 .f32) (w : FVec Ideal S1x31x2048 .f32) (b : FVec Ideal S1x2048 .f32)
    (q : Fin 4) (s : Fin 8192) (j : Fin 2048) : EReal :=
  (∑ k : Fin 31, w (ix3 0 k j) * src u um q ⟨16 + s.val + k.val, by omega⟩ j) + b (ix2 0 j)

/-- The reference's result at a row of a batch. -/
def outAt (u : FVec Ideal S32768x2048 .f32) (um : FVec Ideal S16x2048 .f32) (w : FVec Ideal S1x31x2048 .f32) (b g b' : FVec Ideal S1x2048 .f32)
    (wo : FVec Ideal S1x2048x2048 .f32) (q : Fin 4) (s : Fin 8192) (j : Fin 2048) : EReal :=
  ∑ k, norm (conv u um w b q s) (fun l => g (ix2 0 l)) (fun l => b' (ix2 0 l)) k
    * sigmoid (norm (conv u um w b q s) (fun l => g (ix2 0 l)) (fun l => b' (ix2 0 l)) k) * wo (ix3 0 k j)

/-- The reference's result. -/
def refConv (u : FVec Ideal S32768x2048 .f32) (um : FVec Ideal S16x2048 .f32) (w : FVec Ideal S1x31x2048 .f32) (b g b' : FVec Ideal S1x2048 .f32)
    (wo : FVec Ideal S1x2048x2048 .f32) : FVec Ideal S32768x2048 .bf16 := fun y =>
  outAt u um w b g b' wo ⟨(y 0).val / 8192, by have h : (y 0).val < 32768 := (y 0).isLt; omega⟩ ⟨(y 0).val % 8192, by omega⟩ (y 1)

/-- The rows the taps read. -/
def padded (u : FVec Ideal S32768x2048 .f32) (um : FVec Ideal S16x2048 .f32) : FVec Ideal S4x8238x2048 .f32 :=
  pad S4x8238x2048 ![0, 30, 0] ![0, 0, 0] ![0, 0, 0] (concatenate S4x8208x2048 1 [⟨S4x16x2048, (broadcastInDim S4x16x2048 ![0, 1, 2] bcast_S1x16x2048_S4x16x2048_0_1_2 (broadcastInDim S1x16x2048 ![1, 2] bcast_S16x2048_S1x16x2048_1_2 um))⟩, ⟨S4x8192x2048, (shapeCast _ u shapeCasts_S32768x2048_S4x8192x2048)⟩] concatenates_S4x16x2048_S4x8192x2048_S4x8208x2048_d1) (sitofp .f32 (constantI S_ 32 0#32)) pads_S4x8208x2048_S4x8238x2048_000_3000_000 h_S_

theorem padded_apply (u : FVec Ideal S32768x2048 .f32) (um : FVec Ideal S16x2048 .f32) (b : Fin 4) (p : Fin 8238) (j : Fin 2048) :
    padded u um (ix3 b p j) = src u um b p j := by
  pointwise [padded, src]
  have q : ∀ (n n' : ℕ) (h : n < 32768) (h' : n' < 32768), n = n' → u (ix2 ⟨n, h⟩ j) = u (ix2 ⟨n', h'⟩ j) := by
    intro n n' h h' e
    subst e
    rfl
  by_cases h0 : 30 ≤ p.val
  · rw [dif_pos ⟨h0, by omega⟩]
    by_cases h1 : p.val - 30 < 16
    · rw [dif_pos h1, dif_neg (by omega), dif_pos h0]
    · rw [dif_neg h1, dif_pos (by omega)]
      exact q _ _ _ _ (by omega)
  · rw [dif_neg (by omega), dif_neg (by omega), dif_neg h0]
    show ((((0 : BitVec 32).toInt : ℤ) : ℝ) : EReal) = 0
    simp

/-- One tap's term. -/
def tap (P : FVec Ideal S4x8238x2048 .f32) (w : FVec Ideal S31x2048 .f32) (o k : ℕ) (h : S4x8238x2048.Slices ![0, o, 0] S4x8192x2048)
    (h' : S31x2048.Slices ![k, 0] S1x2048) : FVec Ideal S4x8192x2048 .f32 :=
  mulf (extractStridedSlice S4x8192x2048 ![0, o, 0] P h)
    (broadcastInDim S4x8192x2048 ![0, 1, 2] bcast_S1x1x2048_S4x8192x2048_0_1_2 (broadcastInDim S1x1x2048 ![2] bcast_S2048_S1x1x2048_2
      (shapeCast _ (extractStridedSlice S1x2048 ![k, 0] w h') shapeCasts_S1x2048_S2048)))

/-- The first eleven taps. -/
def taps0 (P : FVec Ideal S4x8238x2048 .f32) (w : FVec Ideal S31x2048 .f32) : FVec Ideal S4x8192x2048 .f32 :=
  (addf (addf (addf (addf (addf (addf (addf (addf (addf (addf (addf (broadcastInDim S4x8192x2048 ![] bcast_S_S4x8192x2048 (constant S_ .f32 0x00000000#32))
    (tap P w 16 0 slices_S4x8238x2048_S4x8192x2048_0_16_0 slices_S31x2048_S1x2048_0_0))
    (tap P w 17 1 slices_S4x8238x2048_S4x8192x2048_0_17_0 slices_S31x2048_S1x2048_1_0))
    (tap P w 18 2 slices_S4x8238x2048_S4x8192x2048_0_18_0 slices_S31x2048_S1x2048_2_0))
    (tap P w 19 3 slices_S4x8238x2048_S4x8192x2048_0_19_0 slices_S31x2048_S1x2048_3_0))
    (tap P w 20 4 slices_S4x8238x2048_S4x8192x2048_0_20_0 slices_S31x2048_S1x2048_4_0))
    (tap P w 21 5 slices_S4x8238x2048_S4x8192x2048_0_21_0 slices_S31x2048_S1x2048_5_0))
    (tap P w 22 6 slices_S4x8238x2048_S4x8192x2048_0_22_0 slices_S31x2048_S1x2048_6_0))
    (tap P w 23 7 slices_S4x8238x2048_S4x8192x2048_0_23_0 slices_S31x2048_S1x2048_7_0))
    (tap P w 24 8 slices_S4x8238x2048_S4x8192x2048_0_24_0 slices_S31x2048_S1x2048_8_0))
    (tap P w 25 9 slices_S4x8238x2048_S4x8192x2048_0_25_0 slices_S31x2048_S1x2048_9_0))
    (tap P w 26 10 slices_S4x8238x2048_S4x8192x2048_0_26_0 slices_S31x2048_S1x2048_10_0))

/-- The eleven after them. -/
def taps1 (P : FVec Ideal S4x8238x2048 .f32) (w : FVec Ideal S31x2048 .f32) (x : FVec Ideal S4x8192x2048 .f32) : FVec Ideal S4x8192x2048 .f32 :=
  (addf (addf (addf (addf (addf (addf (addf (addf (addf (addf (addf x
    (tap P w 27 11 slices_S4x8238x2048_S4x8192x2048_0_27_0 slices_S31x2048_S1x2048_11_0))
    (tap P w 28 12 slices_S4x8238x2048_S4x8192x2048_0_28_0 slices_S31x2048_S1x2048_12_0))
    (tap P w 29 13 slices_S4x8238x2048_S4x8192x2048_0_29_0 slices_S31x2048_S1x2048_13_0))
    (tap P w 30 14 slices_S4x8238x2048_S4x8192x2048_0_30_0 slices_S31x2048_S1x2048_14_0))
    (tap P w 31 15 slices_S4x8238x2048_S4x8192x2048_0_31_0 slices_S31x2048_S1x2048_15_0))
    (tap P w 32 16 slices_S4x8238x2048_S4x8192x2048_0_32_0 slices_S31x2048_S1x2048_16_0))
    (tap P w 33 17 slices_S4x8238x2048_S4x8192x2048_0_33_0 slices_S31x2048_S1x2048_17_0))
    (tap P w 34 18 slices_S4x8238x2048_S4x8192x2048_0_34_0 slices_S31x2048_S1x2048_18_0))
    (tap P w 35 19 slices_S4x8238x2048_S4x8192x2048_0_35_0 slices_S31x2048_S1x2048_19_0))
    (tap P w 36 20 slices_S4x8238x2048_S4x8192x2048_0_36_0 slices_S31x2048_S1x2048_20_0))
    (tap P w 37 21 slices_S4x8238x2048_S4x8192x2048_0_37_0 slices_S31x2048_S1x2048_21_0))

/-- The last nine, and the bias. -/
def taps2 (P : FVec Ideal S4x8238x2048 .f32) (w : FVec Ideal S31x2048 .f32) (b : FVec Ideal S1x2048 .f32) (x : FVec Ideal S4x8192x2048 .f32) :
    FVec Ideal S4x8192x2048 .f32 :=
  addf (addf (addf (addf (addf (addf (addf (addf (addf (addf x
    (tap P w 38 22 slices_S4x8238x2048_S4x8192x2048_0_38_0 slices_S31x2048_S1x2048_22_0))
    (tap P w 39 23 slices_S4x8238x2048_S4x8192x2048_0_39_0 slices_S31x2048_S1x2048_23_0))
    (tap P w 40 24 slices_S4x8238x2048_S4x8192x2048_0_40_0 slices_S31x2048_S1x2048_24_0))
    (tap P w 41 25 slices_S4x8238x2048_S4x8192x2048_0_41_0 slices_S31x2048_S1x2048_25_0))
    (tap P w 42 26 slices_S4x8238x2048_S4x8192x2048_0_42_0 slices_S31x2048_S1x2048_26_0))
    (tap P w 43 27 slices_S4x8238x2048_S4x8192x2048_0_43_0 slices_S31x2048_S1x2048_27_0))
    (tap P w 44 28 slices_S4x8238x2048_S4x8192x2048_0_44_0 slices_S31x2048_S1x2048_28_0))
    (tap P w 45 29 slices_S4x8238x2048_S4x8192x2048_0_45_0 slices_S31x2048_S1x2048_29_0))
    (tap P w 46 30 slices_S4x8238x2048_S4x8192x2048_0_46_0 slices_S31x2048_S1x2048_30_0))
    (broadcastInDim S4x8192x2048 ![0, 1, 2] bcast_S1x1x2048_S4x8192x2048_0_1_2 (broadcastInDim S1x1x2048 ![2] bcast_S2048_S1x1x2048_2
      (shapeCast _ b shapeCasts_S1x2048_S2048)))

theorem ordered (t : Fin 31 → EReal) : 0 + t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 + t 30 = ∑ k, t k := by
  simp only [Fin.sum_univ_succ, Fin.sum_univ_zero]
  simp only [Fin.isValue, zero_add, add_zero]
  show _ = t 0 + (t 1 + (t 2 + (t 3 + (t 4 + (t 5 + (t 6 + (t 7 + (t 8 + (t 9 + (t 10 + (t 11 + (t 12 + (t 13 + (t 14 + (t 15 + (t 16 + (t 17 + (t 18 + (t 19 + (t 20 + (t 21 + (t 22 + (t 23 + (t 24 + (t 25 + (t 26 + (t 27 + (t 28 + (t 29 + (t 30))))))))))))))))))))))))))))))
  ac_rfl

theorem taps_apply (P : FVec Ideal S4x8238x2048 .f32) (w : FVec Ideal S31x2048 .f32) (b : FVec Ideal S1x2048 .f32) (q : Fin 4) (s : Fin 8192) (j : Fin 2048) :
    taps2 P w b (taps1 P w (taps0 P w)) (ix3 q s j)
      = (∑ k : Fin 31, w (ix2 k j) * P (ix3 q ⟨16 + s.val + k.val, by omega⟩ j)) + b (ix2 0 j) := by
  rw [← ordered]
  pointwise [taps2, taps1, taps0, tap]
  have e : ∀ (n n' : ℕ) (x : EReal) (h : n < 8238) (h' : n' < 8238), n = n' → P (ix3 q ⟨n, h⟩ j) * x = x * P (ix3 q ⟨n', h'⟩ j) := by
    intro n n' x h h' e
    subst e
    exact mul_comm _ _
  repeat' first | rfl | exact e _ _ _ _ _ (by omega) | refine congrArg₂ HAdd.hAdd ?_ ?_

/-- The taps as a matrix. -/
def flat (w : FVec Ideal S1x31x2048 .f32) : FVec Ideal S31x2048 .f32 := shapeCast _ w shapeCasts_S1x31x2048_S31x2048

theorem flat_apply (w : FVec Ideal S1x31x2048 .f32) (k : Fin 31) (j : Fin 2048) : flat w (ix2 k j) = w (ix3 0 k j) := by
  pointwise [flat]

/-- The convolution. -/
def convolved (u : FVec Ideal S32768x2048 .f32) (um : FVec Ideal S16x2048 .f32) (w : FVec Ideal S1x31x2048 .f32) (b : FVec Ideal S1x2048 .f32) :
    FVec Ideal S4x8192x2048 .f32 :=
  taps2 (padded u um) (flat w) b (taps1 (padded u um) (flat w) (taps0 (padded u um) (flat w)))

theorem convolved_apply (u : FVec Ideal S32768x2048 .f32) (um : FVec Ideal S16x2048 .f32) (w : FVec Ideal S1x31x2048 .f32) (b : FVec Ideal S1x2048 .f32)
    (q : Fin 4) (s : Fin 8192) (j : Fin 2048) : convolved u um w b (ix3 q s j) = conv u um w b q s j := by
  unfold convolved conv
  rw [taps_apply]
  simp only [flat_apply, padded_apply]

/-- A row's mean, and a row less it. -/
def meanOf (x : FVec Ideal S4x8192x2048 .f32) : FVec Ideal S4x8192x1 .f32 :=
  Host.divf (broadcastInDim S4x8192x1 ![0, 1] bcast_S4x8192_S4x8192x1_0_1 (Host.reduceAdd x (constant S_ .f32 0x00000000#32) reducesTo_S4x8192x2048_S4x8192_d2 h_S_))
    (broadcastInDim S4x8192x1 ![] bcast_S_S4x8192x1 (constant S_ .f32 0x45000000#32))

def devOf (x : FVec Ideal S4x8192x2048 .f32) : FVec Ideal S4x8192x2048 .f32 :=
  subf x (broadcastInDim S4x8192x2048 ![0, 1, 2] bcast_S4x8192x1_S4x8192x2048_0_1_2 (meanOf x))

/-- The layer norm. -/
def normOf (x : FVec Ideal S4x8192x2048 .f32) (g b : FVec Ideal S1x2048 .f32) : FVec Ideal S4x8192x2048 .f32 :=
  addf (mulf (mulf (devOf x)
        (broadcastInDim S4x8192x2048 ![0, 1, 2] bcast_S4x8192x1_S4x8192x2048_0_1_2
          (Host.rsqrt (addf (meanOf (mulf (devOf x) (devOf x))) (broadcastInDim S4x8192x1 ![] bcast_S_S4x8192x1 (constant S_ .f32 0x3727C5AC#32))))))
      (broadcastInDim S4x8192x2048 ![0, 1, 2] bcast_S1x1x2048_S4x8192x2048_0_1_2 (broadcastInDim S1x1x2048 ![2] bcast_S2048_S1x1x2048_2
        (shapeCast _ g shapeCasts_S1x2048_S2048))))
    (broadcastInDim S4x8192x2048 ![0, 1, 2] bcast_S1x1x2048_S4x8192x2048_0_1_2 (broadcastInDim S1x1x2048 ![2] bcast_S2048_S1x1x2048_2
      (shapeCast _ b shapeCasts_S1x2048_S2048)))

theorem normOf_apply (x : FVec Ideal S4x8192x2048 .f32) (g b : FVec Ideal S1x2048 .f32) (q : Fin 4) (s : Fin 8192) (j : Fin 2048) :
    normOf x g b (ix3 q s j) = norm (fun l => x (ix3 q s l)) (fun l => g (ix2 0 l)) (fun l => b (ix2 0 l)) j := by
  pointwise [normOf, devOf, meanOf, Cert.MixIdeal.Product.norm, spread, dev, mean]

/-- The gated layer norm, projected. -/
def projected (x : FVec Ideal S4x8192x2048 .f32) (w : FVec Ideal S1x2048x2048 .f32) : FVec Ideal S32768x2048 .bf16 :=
  shapeCast _ (truncf .bf16 (Host.dotGeneral (F := Ideal) (so := S4x8192x2048) (φ₁ := .f32) (φ₂ := .f32) dot_S4x8192x2048_S2048x2048_S4x8192x2048_2_0_01_1_n_n none
    (mulf x (Host.divf (broadcastInDim S4x8192x2048 ![] bcast_S_S4x8192x2048 (constant S_ .f32 0x3F800000#32))
      (addf (broadcastInDim S4x8192x2048 ![] bcast_S_S4x8192x2048 (constant S_ .f32 0x3F800000#32)) (Host.exp (Host.negf x)))))
    (shapeCast _ w shapeCasts_S1x2048x2048_S2048x2048)) bitsLt_bf16_f32) shapeCasts_S4x8192x2048_S32768x2048

theorem projected_apply (x : FVec Ideal S4x8192x2048 .f32) (w : FVec Ideal S1x2048x2048 .f32) (i : Fin 32768) (j : Fin 2048) :
    projected x w (ix2 i j) = ∑ k, x (ix3 ⟨i.val / 8192, by omega⟩ ⟨i.val % 8192, by omega⟩ k)
      * sigmoid (x (ix3 ⟨i.val / 8192, by omega⟩ ⟨i.val % 8192, by omega⟩ k)) * w (ix3 0 k j) := by
  pointwise [projected, sigmoid, one]

/-- The program's result is the reference's. -/
theorem result_eq (u : FVec Ideal S32768x2048 .f32) (um : FVec Ideal S16x2048 .f32) (w : FVec Ideal S1x31x2048 .f32) (b g b' : FVec Ideal S1x2048 .f32)
    (wo : FVec Ideal S1x2048x2048 .f32) : projected (normOf (convolved u um w b) g b') wo = refConv u um w b g b' wo := by
  funext y
  obtain ⟨i, j, rfl⟩ : ∃ (i : Fin 32768) (j : Fin 2048), y = ix2 i j := ⟨y 0, y 1, by ext a; fin_cases a <;> rfl⟩
  rw [projected_apply]
  show _ = outAt u um w b g b' wo _ _ j
  unfold outAt
  simp only [normOf_apply, convolved_apply]
  rfl

theorem conv_eq (V : Valuation τ sig (Elt Ideal)) :
    res_main_v227 V = convolved (V (Proc.devRef .tc main_arg0)) (V (Proc.devRef .tc main_arg1)) (V (Proc.devRef .tc main_arg2)) (V (Proc.devRef .tc main_arg3)) := by
  unfold res_main_v227 res_main_v160 res_main_v83 res_main_v4 res_main_v5
  rfl

theorem norm_eq (V : Valuation τ sig (Elt Ideal)) :
    res_main_v253 V = normOf (res_main_v227 V) (V (Proc.devRef .tc main_arg4)) (V (Proc.devRef .tc main_arg5)) := by
  unfold res_main_v253 res_main_v235 res_main_v233
  rfl

end Cert.ConvReferenceIdeal.Rows

end
-- ==== Proof.ConvProj.lean ====
/- The convolution module: the array the call leaves is the reference's. -/
module

public import proofs.«01_k».proof.Proof.ConvBody
public import proofs.«01_k».proof.Proof.ConvRef
public import Idealize.ShloMosaic.Lib.Pipeline.ValueKit

@[expose] public section

set_option maxRecDepth 16384

noncomputable section

namespace Cert.ConvIdeal.Product

open Idealize.ShloMosaic Idealize.ShloMosaic.TcCoe
open Cert.ConvIdeal Cert.ConvIdeal.Gen Cert.ConvIdeal.Taps
open Cert.ConvReferenceIdeal.Rows (src conv outAt refConv)

/-- Which block each window is at. -/
theorem idx : ∀ t : Fin cfg0.N, win0_0.index t = ![t.val, 0] ∧ win0_1.index t = ![8 * t.val - 1, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

/-- The taps as the call reads them. -/
def flat (w : FVec Ideal S1x31x2048 .f32) : FVec Ideal S31x2048 .f32 := shapeCast S31x2048 w shapeCasts_S1x31x2048_S31x2048

/-- A row as the call reads it. -/
def row (g : FVec Ideal S1x2048 .f32) : FVec Ideal S1x2048 .f32 :=
  shapeCast S1x2048 (shapeCast S2048 g shapeCasts_S1x2048_S2048) shapeCasts_S2048_S1x2048

/-- The output weights as the call reads them. -/
def weights (w : FVec Ideal S1x2048x2048 .f32) : FVec Ideal S2048x2048 .bf16 :=
  truncf .bf16 (shapeCast S2048x2048 w shapeCasts_S1x2048x2048_S2048x2048) bitsLt_bf16_f32

theorem flat_apply (w : FVec Ideal S1x31x2048 .f32) (k : Fin 31) (j : Fin 2048) : flat w (ix2 k j) = w (ix3 0 k j) := by
  pointwise [flat]

theorem row_at (g : FVec Ideal S1x2048 .f32) (j : Fin 2048) : row g (ix2 0 j) = g (ix2 0 j) := by
  pointwise [row]

theorem weights_apply (w : FVec Ideal S1x2048x2048 .f32) (k j : Fin 2048) : weights w (ix2 k j) = w (ix3 0 k j) := by
  pointwise [weights]

variable (m : (ℓ : Loc nD τ sig) → Buf (Elt Ideal) ℓ) (c : Dev nD) (t : Fin cfg0.N)

theorem points_lt : t.val < 128 := t.isLt

/-- A row of the point's block, among all rows. -/
def rowOf (r : Fin 256) : Fin 32768 := ⟨t.val * 256 + r.val, by
  have h := points_lt t
  omega⟩

/-- A row of the thirty-two before the point's block, among all rows. -/
def before (r : Fin 32) : Fin 32768 := ⟨(8 * t.val - 1) * 32 + r.val, by
  have h := points_lt t
  omega⟩

/-- The point's batch. -/
def batch : Fin 4 := ⟨t.val / 32, by have h := points_lt t; omega⟩

/-- A row of the point's block, in its batch. -/
def within (r : Fin 256) : Fin 8192 := ⟨t.val % 32 * 256 + r.val, by omega⟩

theorem V_3 : V m c main_v0 = flat (m ((c.tc : Thread nD τ).loc main_arg2)) := by
  entry_read
  rfl

theorem V_4 : V m c main_v2 = row (m ((c.tc : Thread nD τ).loc main_arg3)) := by
  entry_read
  rfl

theorem V_5 : V m c main_v4 = row (m ((c.tc : Thread nD τ).loc main_arg4)) := by
  entry_read
  rfl

theorem V_6 : V m c main_v6 = row (m ((c.tc : Thread nD τ).loc main_arg5)) := by
  entry_read
  rfl

theorem V_7 : V m c main_v8 = weights (m ((c.tc : Thread nD τ).loc main_arg6)) := by
  entry_read
  rfl

theorem read_0 (r : Fin 256) (k : Fin 2048) : iblk m c 0 t (ix2 r k) = (m ((c.tc : Thread nD τ).loc main_arg0)) (ix2 (rowOf t r) k) := by
  have h := (idx t).1
  have e : iblk m c 0 t (ix2 r k) = V m c main_arg0 (ix2 (rowOf t r) k) := by
    blk_simp [iblk]
    blk_ext [h]
    all_goals first | rfl | (simp only [rowOf] <;> omega)
  rw [e, V_main_arg0]

theorem read_1 (h1 : 1 ≤ t.val) (r : Fin 32) (k : Fin 2048) : iblk m c 1 t (ix2 r k) = (m ((c.tc : Thread nD τ).loc main_arg0)) (ix2 (before t r) k) := by
  have h := (idx t).2.1
  have e : iblk m c 1 t (ix2 r k) = V m c main_arg0 (ix2 (before t r) k) := by
    blk_simp [iblk]
    blk_ext [h]
    all_goals first | rfl | (simp only [before] <;> omega)
  rw [e, V_main_arg0]

theorem read_2 (r : Fin 16) (k : Fin 2048) : iblk m c 2 t (ix2 r k) = (m ((c.tc : Thread nD τ).loc main_arg1)) (ix2 r k) := by
  have h := (idx t).2.2.1
  have e : iblk m c 2 t (ix2 r k) = V m c main_arg1 (ix2 r k) := by
    blk_simp [iblk]
    blk_ext [h]
    all_goals first | rfl | (simp only [rowOf] <;> omega)
  rw [e, V_main_arg1]

theorem read_3 (r : Fin 31) (k : Fin 2048) : iblk m c 3 t (ix2 r k) = (m ((c.tc : Thread nD τ).loc main_arg2)) (ix3 0 r k) := by
  have h := (idx t).2.2.2.1
  have e : iblk m c 3 t (ix2 r k) = V m c main_v0 (ix2 r k) := by
    blk_simp [iblk]
    blk_ext [h]
    all_goals first | rfl | (simp only [rowOf] <;> omega)
  rw [e, V_3]
  exact flat_apply _ _ _

theorem read_4 (k : Fin 2048) : iblk m c 4 t (ix2 0 k) = (m ((c.tc : Thread nD τ).loc main_arg3)) (ix2 0 k) := by
  have h := (idx t).2.2.2.2.1
  have e : iblk m c 4 t (ix2 0 k) = V m c main_v2 (ix2 0 k) := by
    blk_simp [iblk]
    blk_ext [h]
    all_goals first | rfl | (simp only [rowOf] <;> omega)
  rw [e, V_4]
  exact row_at _ _

theorem read_5 (k : Fin 2048) : iblk m c 5 t (ix2 0 k) = (m ((c.tc : Thread nD τ).loc main_arg4)) (ix2 0 k) := by
  have h := (idx t).2.2.2.2.2.1
  have e : iblk m c 5 t (ix2 0 k) = V m c main_v4 (ix2 0 k) := by
    blk_simp [iblk]
    blk_ext [h]
    all_goals first | rfl | (simp only [rowOf] <;> omega)
  rw [e, V_5]
  exact row_at _ _

theorem read_6 (k : Fin 2048) : iblk m c 6 t (ix2 0 k) = (m ((c.tc : Thread nD τ).loc main_arg5)) (ix2 0 k) := by
  have h := (idx t).2.2.2.2.2.2.1
  have e : iblk m c 6 t (ix2 0 k) = V m c main_v6 (ix2 0 k) := by
    blk_simp [iblk]
    blk_ext [h]
    all_goals first | rfl | (simp only [rowOf] <;> omega)
  rw [e, V_6]
  exact row_at _ _

theorem read_7 (k l : Fin 2048) : iblk m c 7 t (ix2 k l) = (m ((c.tc : Thread nD τ).loc main_arg6)) (ix3 0 k l) := by
  have h := (idx t).2.2.2.2.2.2.2.1
  have e : iblk m c 7 t (ix2 k l) = V m c main_v8 (ix2 k l) := by
    blk_simp [iblk]
    blk_ext [h]
    all_goals first | rfl | (simp only [rowOf] <;> omega)
  rw [e, V_7]
  exact weights_apply _ _ _

theorem src_hi (u : FVec Ideal S32768x2048 .f32) (um : FVec Ideal S16x2048 .f32) (b : Fin 4) (p : Fin 8238) (j : Fin 2048) (i : Fin 32768) (h : 46 ≤ p.val)
    (e : i.val = b.val * 8192 + (p.val - 46)) : src u um b p j = u (ix2 i j) := by
  obtain ⟨i, hi⟩ := i
  subst e
  exact dif_pos h

theorem src_mid (u : FVec Ideal S32768x2048 .f32) (um : FVec Ideal S16x2048 .f32) (b : Fin 4) (p : Fin 8238) (j : Fin 2048) (i : Fin 16) (h : p.val = 30 + i.val) :
    src u um b p j = um (ix2 i j) := by
  obtain ⟨i, hi⟩ := i
  obtain rfl : i = p.val - 30 := by dsimp only at h; omega
  exact (dif_neg (by dsimp only at h; omega)).trans (dif_pos (by dsimp only at h; omega))

theorem src_lo (u : FVec Ideal S32768x2048 .f32) (um : FVec Ideal S16x2048 .f32) (b : Fin 4) (p : Fin 8238) (j : Fin 2048) (h : p.val < 30) :
    src u um b p j = 0 := (dif_neg (by omega)).trans (dif_neg (by omega))

/-- The window at a batch's first block is the batch's rows behind the memory's. -/
theorem window_A (h0 : t.val % 32 = 0) (p : Fin 288) (q : Fin 8238) (hq : q.val = t.val % 32 * 256 + p.val + 14) (j : Fin 2048) :
    winA (iblk m c 0 t) (iblk m c 2 t) (ix2 p j) = src (m ((c.tc : Thread nD τ).loc main_arg0)) (m ((c.tc : Thread nD τ).loc main_arg1)) (batch t) q j := by
  by_cases h : 32 ≤ p.val
  · rw [winA_hi _ _ p j h, read_0]
    exact (src_hi _ _ _ q j _ (by omega) (by simp only [rowOf, batch]; omega)).symm
  by_cases h' : 16 ≤ p.val
  · rw [winA_mid _ _ p j h h', read_2]
    exact (src_mid _ _ _ q j _ (by dsimp only; omega)).symm
  · rw [winA_lo _ _ p j h']
    exact (src_lo _ _ _ q j (by omega)).symm

/-- The window elsewhere is the batch's rows. -/
theorem window_B (h0 : 1 ≤ t.val % 32) (p : Fin 288) (q : Fin 8238) (hq : q.val = t.val % 32 * 256 + p.val + 14) (j : Fin 2048) :
    winB (iblk m c 0 t) (iblk m c 1 t) (ix2 p j) = src (m ((c.tc : Thread nD τ).loc main_arg0)) (m ((c.tc : Thread nD τ).loc main_arg1)) (batch t) q j := by
  by_cases h : 32 ≤ p.val
  · rw [winB_hi _ _ p j h, read_0]
    exact (src_hi _ _ _ q j _ (by omega) (by simp only [rowOf, batch]; omega)).symm
  · rw [winB_lo _ _ p j h, read_1 m c t (by omega)]
    exact (src_hi _ _ _ q j _ (by omega) (by simp only [before, batch]; omega)).symm

/-- The taps' row at a point, from its window. -/
theorem taps_row (v : Vec Ideal S288x2048 .f32)
    (hv : ∀ (p : Fin 288) (q : Fin 8238) (_ : q.val = t.val % 32 * 256 + p.val + 14) (j : Fin 2048), v (ix2 p j) = src (m ((c.tc : Thread nD τ).loc main_arg0)) (m ((c.tc : Thread nD τ).loc main_arg1)) (batch t) q j) (r : Fin 256) :
    tapped (iblk m c 3 t) (iblk m c 4 t) v r = conv (m ((c.tc : Thread nD τ).loc main_arg0)) (m ((c.tc : Thread nD τ).loc main_arg1)) (m ((c.tc : Thread nD τ).loc main_arg2)) (m ((c.tc : Thread nD τ).loc main_arg3)) (batch t) (within t r) := by
  funext j
  unfold tapped conv
  rw [read_4]
  refine congrArg (· + _) (Finset.sum_congr rfl fun k _ => ?_)
  rw [read_3, hv _ ⟨16 + (within t r).val + k.val, by have h := (within t r).isLt; omega⟩ (by simp only [within]; omega) j]

theorem at_row (r : Fin 256) (j : Fin 2048) :
    outRow (conv (m ((c.tc : Thread nD τ).loc main_arg0)) (m ((c.tc : Thread nD τ).loc main_arg1)) (m ((c.tc : Thread nD τ).loc main_arg2)) (m ((c.tc : Thread nD τ).loc main_arg3)) (batch t) (within t r)) (fun l => iblk m c 5 t (ix2 0 l)) (fun l => iblk m c 6 t (ix2 0 l)) (fun k l => iblk m c 7 t (ix2 k l)) j
      = refConv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 (rowOf t r) j) := by
  simp only [read_5, read_6, read_7]
  have eb : (⟨(rowOf t r).val / 8192, by have h := (rowOf t r).isLt; omega⟩ : Fin 4) = batch t := Fin.ext (by simp only [rowOf, batch]; omega)
  have es : (⟨(rowOf t r).val % 8192, by omega⟩ : Fin 8192) = within t r := Fin.ext (by simp only [rowOf, within]; omega)
  show _ = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨(rowOf t r).val / 8192, _⟩ ⟨(rowOf t r).val % 8192, _⟩ j
  rw [eb, es]
  rfl

/-- The block the body leaves at a point, at an element: the reference's. -/
theorem point (r : Fin 256) (j : Fin 2048) :
    outsAt0 m c t.val t.isLt (ix2 r j) = refConv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 (rowOf t r) j) := by
  by_cases h0 : t.val % 32 = 0
  · rw [outsAt0_A m c t h0 (by omega)]
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk m c 0 t) (iblk m c 1 t) (iblk m c 2 t) (iblk m c 3 t) (iblk m c 4 t) (iblk m c 5 t) (iblk m c 6 t) (iblk m c 7 t) r j).trans ?_
    rw [taps_row m c t _ (window_A m c t h0) r]
    exact at_row m c t r j
  · rw [outsAt0_B m c t h0 (by omega)]
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk m c 0 t) (iblk m c 1 t) (iblk m c 2 t) (iblk m c 3 t) (iblk m c 4 t) (iblk m c 5 t) (iblk m c 6 t) (iblk m c 7 t) r j).trans ?_
    rw [taps_row m c t _ (window_B m c t (by omega)) r]
    exact at_row m c t r j

theorem emb_8 (r : Fin 256) (j : Fin 2048) : (win0_8.blk t).view.emb (ix2 r j) = ix2 (rowOf t r) j := by
  have h := (idx t).2.2.2.2.2.2.2.2
  blk_ext [h]
  all_goals rfl

/-- The array when the run ends. -/
theorem array_eq : (dats m 0 c).arrAt 8 cfg0.N = refConv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  rw [after0_8]
  blk_simp
  obtain ⟨r, j, rfl⟩ : ∃ (r : Fin 256) (j : Fin 2048), y = ix2 r j := ⟨y 0, y 1, by ext a; fin_cases a <;> rfl⟩
  rw [emb_8]
  exact point m c t r j

end Cert.ConvIdeal.Product

end
-- ==== Proof.NormProj.lean ====
/- The first layer norm of the residual stream, rounded: the array the call leaves is the reference's. -/
module

public import proofs.«01_k».proof.Proof.Gen.NormIdeal.Frame
public import proofs.«01_k».proof.Proof.Gen.NormReferenceIdeal
public import proofs.«01_k».proof.Proof.MixProj

@[expose] public section

set_option maxRecDepth 16384

noncomputable section

namespace Cert.NormReferenceIdeal.Rows

open Idealize.ShloMosaic Idealize.ShloMosaic.TcCoe
open Cert.NormReferenceIdeal Cert.NormReferenceIdeal.Gen

/-- The mean of each position. -/
def meanOf (x : FVec Ideal S4x8192x2048 .f32) : FVec Ideal S4x8192x1 .f32 :=
  Host.divf (broadcastInDim S4x8192x1 ![0, 1] bcast_S4x8192_S4x8192x1_0_1 (Host.reduceAdd x (constant S_ .f32 0x00000000#32) reducesTo_S4x8192x2048_S4x8192_d2 h_S_))
    (broadcastInDim S4x8192x1 ![] bcast_S_S4x8192x1 (constant S_ .f32 0x45000000#32))

/-- The stream less its means. -/
def devOf (x : FVec Ideal S4x8192x2048 .f32) : FVec Ideal S4x8192x2048 .f32 :=
  subf x (broadcastInDim S4x8192x2048 ![0, 1, 2] bcast_S4x8192x1_S4x8192x2048_0_1_2 (meanOf x))

/-- The reference: the layer norm of each position, rounded, as rows. -/
def refRows (x : FVec Ideal S4x8192x2048 .f32) (g b : FVec Ideal S2048 .f32) : FVec Ideal S32768x2048 .bf16 :=
  shapeCast _ (truncf .bf16 (addf (mulf (mulf (devOf x)
        (broadcastInDim S4x8192x2048 ![0, 1, 2] bcast_S4x8192x1_S4x8192x2048_0_1_2
          (Host.rsqrt (addf (meanOf (mulf (devOf x) (devOf x))) (broadcastInDim S4x8192x1 ![] bcast_S_S4x8192x1 (constant S_ .f32 0x3727C5AC#32))))))
      (broadcastInDim S4x8192x2048 ![0, 1, 2] bcast_S1x1x2048_S4x8192x2048_0_1_2 (broadcastInDim S1x1x2048 ![2] bcast_S2048_S1x1x2048_2 g)))
    (broadcastInDim S4x8192x2048 ![0, 1, 2] bcast_S1x1x2048_S4x8192x2048_0_1_2 (broadcastInDim S1x1x2048 ![2] bcast_S2048_S1x1x2048_2 b))) bitsLt_bf16_f32)
    shapeCasts_S4x8192x2048_S32768x2048

theorem refRows_apply (x : FVec Ideal S4x8192x2048 .f32) (g b : FVec Ideal S2048 .f32) (i : Fin 32768) (j : Fin 2048) :
    refRows x g b (ix2 i j) = Cert.MixIdeal.Product.norm (fun k => x (ix3 ⟨i.val / 8192, by omega⟩ ⟨i.val % 8192, by omega⟩ k))
      (fun k => g (ix1 k)) (fun k => b (ix1 k)) j := by
  pointwise [refRows, devOf, meanOf, Cert.MixIdeal.Product.norm, Cert.MixIdeal.Product.spread, Cert.MixIdeal.Product.dev, Cert.MixIdeal.Product.mean]

end Cert.NormReferenceIdeal.Rows

namespace Cert.NormIdeal.Product

open Idealize.ShloMosaic Idealize.ShloMosaic.TcCoe
open Cert.NormIdeal Cert.NormIdeal.Gen
open Cert.NormReferenceIdeal.Rows

/-- The block the body leaves, at an element. -/
theorem block_apply (x : Vec Ideal S512x2048 .f32) (g b : Vec Ideal S1x2048 .f32) (r : Fin 512) (j : Fin 2048) :
    k0_pay1 x g b (ix2 r j)
      = Cert.MixIdeal.Product.norm (fun k => x (ix2 r k)) (fun k => g (ix2 0 k)) (fun k => b (ix2 0 k)) j := by
  pointwise [k0_pay1, Cert.MixIdeal.Product.norm, Cert.MixIdeal.Product.spread, Cert.MixIdeal.Product.dev, Cert.MixIdeal.Product.mean]

/-- Which block each window is at. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The stream as rows. -/
def rows (x : FVec Ideal S4x8192x2048 .f32) : FVec Ideal S32768x2048 .f32 := shapeCast S32768x2048 x shapeCasts_S4x8192x2048_S32768x2048

/-- A vector as the call reads it. -/
def flat (g : FVec Ideal S2048 .f32) : FVec Ideal S1x2048 .f32 := shapeCast S1x2048 g shapeCasts_S2048_S1x2048

theorem rows_apply (x : FVec Ideal S4x8192x2048 .f32) (i : Fin 32768) (j : Fin 2048) :
    rows x (ix2 i j) = x (ix3 ⟨i.val / 8192, by omega⟩ ⟨i.val % 8192, by omega⟩ j) := by
  pointwise [rows]

theorem flat_apply (g : FVec Ideal S2048 .f32) (j : Fin 2048) : flat g (ix2 0 j) = g (ix1 j) := by
  pointwise [flat]

variable (m : (ℓ : Loc nD τ sig) → Buf (Elt Ideal) ℓ) (c : Dev nD) (t : Fin cfg0.N)

/-- A row of the point's block, among all rows. -/
def rowOf (r : Fin 512) : Fin 32768 := ⟨t.val * 512 + r.val, by
  have h : t.val < 64 := t.isLt
  omega⟩

theorem V_x : V m c main_v0 = rows (m ((c.tc : Thread nD τ).loc main_arg0)) := by
  entry_read
  rfl

theorem V_g : V m c main_v1 = flat (m ((c.tc : Thread nD τ).loc main_arg1)) := by
  entry_read
  rfl

theorem V_b : V m c main_v2 = flat (m ((c.tc : Thread nD τ).loc main_arg2)) := by
  entry_read
  rfl

theorem read_x (r : Fin 512) (k : Fin 2048) : iblk m c 0 t (ix2 r k) = rows (m ((c.tc : Thread nD τ).loc main_arg0)) (ix2 (rowOf t r) k) := by
  have h := (idx t).1
  have e : iblk m c 0 t (ix2 r k) = V m c main_v0 (ix2 (rowOf t r) k) := by
    blk_simp [iblk]
    blk_ext [h]
    all_goals first | rfl | (simp only [rowOf] <;> omega)
  rw [e, V_x]

theorem read_g (k : Fin 2048) : iblk m c 1 t (ix2 0 k) = m ((c.tc : Thread nD τ).loc main_arg1) (ix1 k) := by
  have h := (idx t).2.1
  have e : iblk m c 1 t (ix2 0 k) = V m c main_v1 (ix2 0 k) := by
    blk_simp [iblk]
    blk_ext [h]
    all_goals first | rfl | omega
  rw [e, V_g, flat_apply]

theorem read_b (k : Fin 2048) : iblk m c 2 t (ix2 0 k) = m ((c.tc : Thread nD τ).loc main_arg2) (ix1 k) := by
  have h := (idx t).2.2.1
  have e : iblk m c 2 t (ix2 0 k) = V m c main_v2 (ix2 0 k) := by
    blk_simp [iblk]
    blk_ext [h]
    all_goals first | rfl | omega
  rw [e, V_b, flat_apply]

/-- The array when the run ends. -/
theorem array_eq : (dats m 0 c).arrAt 3 cfg0.N = refRows (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  rw [after0_3]
  blk_simp
  frame_out
  obtain ⟨r, j, rfl⟩ : ∃ (r : Fin 512) (j : Fin 2048), y = ix2 r j := ⟨y 0, y 1, by ext a; fin_cases a <;> rfl⟩
  have h := (idx t).2.2.2
  have hout : (win0_3.blk t).view.emb (ix2 r j) = ix2 (rowOf t r) j := by
    blk_ext [h]
    all_goals first | rfl | (simp only [rowOf] <;> omega)
  rw [hout, refRows_apply]
  refine (block_apply _ _ _ r j).trans ?_
  simp only [read_x, read_g, read_b, rows_apply]

end Cert.NormIdeal.Product

end
-- ==== Proof.ForgetProj.lean ====
/- The forget gates: the array the call leaves is the reference's. -/
module

public import proofs.«01_k».proof.Proof.Gen.ForgetIdeal.Frame
public import proofs.«01_k».proof.Proof.Gen.ForgetReferenceIdeal
public import proofs.«01_k».proof.Proof.Linear
public import Idealize.ShloMosaic.Lib.Claim
public import Idealize.ShloMosaic.Lib.Pipeline.ValueKit

@[expose] public section

set_option maxRecDepth 16384

noncomputable section

namespace Cert.ForgetIdeal.Product

open Idealize.ShloMosaic Idealize.ShloMosaic.TcCoe
open Cert.ForgetIdeal Cert.ForgetIdeal.Gen
open Cert.Linear

/-- The logarithm of the sigmoid, as the call computes it. -/
def logSigmoid (y : EReal) : EReal :=
  min y (Ideal.ofBits .f32 0x00000000#32) - Ideal.log1p (Ideal.exp (Ideal.ofBits .f32 0x00000000#32 - max y (-y)))

/-- The combined projection of the reference. -/
def combined (x : FVec Ideal S32768x2048 .f32) (w : FVec Ideal S1x2048x14352 .f32) (b : FVec Ideal S1x14352 .f32) :
    FVec Ideal Cert.ForgetReferenceIdeal.S32768x14352 .f32 :=
  addf (Host.dotGeneral (F := Ideal) (so := Cert.ForgetReferenceIdeal.S32768x14352) (φ₁ := .f32) (φ₂ := .f32) Cert.ForgetReferenceIdeal.dot_S32768x2048_S2048x14352_S32768x14352_1_0_0_1_n_n none x
      (shapeCast _ w Cert.ForgetReferenceIdeal.Gen.shapeCasts_S1x2048x14352_S2048x14352))
    (broadcastInDim Cert.ForgetReferenceIdeal.S32768x14352 ![0, 1] Cert.ForgetReferenceIdeal.Gen.bcast_S1x14352_S32768x14352_0_1
      (broadcastInDim Cert.ForgetReferenceIdeal.S1x14352 ![1] Cert.ForgetReferenceIdeal.Gen.bcast_S14352_S1x14352_1
        (shapeCast _ b Cert.ForgetReferenceIdeal.Gen.shapeCasts_S1x14352_S14352)))

theorem combined_apply (x : FVec Ideal S32768x2048 .f32) (w : FVec Ideal S1x2048x14352 .f32) (b : FVec Ideal S1x14352 .f32)
    (i : Fin 32768) (j : Fin 14352) : combined x w b (ix2 i j) = affine x w b i j := by
  pointwise [combined, affine]

/-- The gates' columns of it, negated. -/
def minus (x : FVec Ideal S32768x2048 .f32) (w : FVec Ideal S1x2048x14352 .f32) (b : FVec Ideal S1x14352 .f32) :
    FVec Ideal Cert.ForgetReferenceIdeal.S32768x16 .f32 :=
  Host.negf (extractStridedSlice Cert.ForgetReferenceIdeal.S32768x16 ![0, 10240] (combined x w b)
    Cert.ForgetReferenceIdeal.Gen.slices_S32768x14352_S32768x16_0_10240)

/-- A zero everywhere. -/
def zeros : FVec Ideal Cert.ForgetReferenceIdeal.S32768x16 .f32 :=
  broadcastInDim Cert.ForgetReferenceIdeal.S32768x16 ![] Cert.ForgetReferenceIdeal.Gen.bcast_S_S32768x16 (constant Cert.ForgetReferenceIdeal.S_ .f32 0x00000000#32)

/-- The reference's softplus. -/
def soft (z : FVec Ideal Cert.ForgetReferenceIdeal.S32768x16 .f32) : FVec Ideal Cert.ForgetReferenceIdeal.S32768x16 .f32 :=
  select (cmpf .une (subf z zeros) (subf z zeros)) (addf z zeros)
    (addf (maximumf z zeros) (Host.log1p (Host.exp (Host.negf (Host.absf (subf z zeros))))))

theorem minus_apply (x : FVec Ideal S32768x2048 .f32) (w : FVec Ideal S1x2048x14352 .f32) (b : FVec Ideal S1x14352 .f32)
    (i : Fin 32768) (j : Fin 16) : minus x w b (ix2 i j) = -affine x w b i ⟨10240 + j.val, by omega⟩ := by
  rw [← combined_apply]
  pointwise [minus]

/-- The reference's softplus of one number. -/
def softAt (z : EReal) : EReal := max z 0 + Ideal.log1p (Ideal.exp (-(max z (-z))))

theorem soft_apply (z : FVec Ideal Cert.ForgetReferenceIdeal.S32768x16 .f32) (i : Fin 32768) (j : Fin 16) :
    soft z (ix2 i j) = softAt (z (ix2 i j)) := by
  have h : soft z (ix2 i j) = if z (ix2 i j) ≠ z (ix2 i j) then z (ix2 i j)
      else max (z (ix2 i j)) 0 + Ideal.log1p (Ideal.exp (-(max (z (ix2 i j)) (-(z (ix2 i j)))))) := by
    pointwise [soft, zeros]
    rfl
  rw [h, if_neg (fun h => h rfl), softAt]

/-- The small term is a real number. -/
theorem real_log (y : EReal) : ∃ r : ℝ, Ideal.log1p (Ideal.exp (-(max y (-y)))) = (r : EReal) := by
  obtain ⟨e, he, h⟩ : ∃ e : ℝ, 0 ≤ e ∧ Ideal.exp (-(max y (-y))) = (e : EReal) := by
    induction y using EReal.rec with
    | bot => exact ⟨0, le_refl _, by simp⟩
    | top => exact ⟨0, le_refl _, by simp⟩
    | coe r =>
      refine ⟨Real.exp (-(max r (-r))), (Real.exp_pos _).le, ?_⟩
      rw [← EReal.coe_neg, ← EReal.coe_strictMono.monotone.map_max, ← EReal.coe_neg, Ideal.exp_coe]
  refine ⟨Real.log (1 + e), ?_⟩
  rw [h]
  show Ideal.log (1 + (e : EReal)) = _
  rw [← EReal.coe_one, ← EReal.coe_add]
  show (if 1 + e ≤ 0 then (⊥ : EReal) else ((Real.log (1 + e) : ℝ) : EReal)) = _
  rw [if_neg (by linarith)]

/-- The two forms of the logarithm of the sigmoid are one number. -/
theorem logSigmoid_eq (y : EReal) : logSigmoid y = -softAt (-y) := by
  obtain ⟨r, hr⟩ := real_log y
  have hz : Ideal.ofBits .f32 0x00000000#32 = 0 := by
    simp
  unfold logSigmoid softAt
  rw [neg_neg, max_comm (-y) y, hz, zero_sub, hr, EReal.neg_add (.inr (EReal.coe_ne_top r)) (.inr (EReal.coe_ne_bot r))]
  congr 1
  rcases le_total y 0 with h | h
  · rw [min_eq_left h, max_eq_left (EReal.neg_nonneg.2 h), neg_neg]
  · rw [min_eq_right h, max_eq_right (by rw [← neg_zero]; exact EReal.neg_le_neg_iff.2 h), neg_zero]

/-- The reference's gates. -/
def refGates (x : FVec Ideal S32768x2048 .f32) (w : FVec Ideal S1x2048x14352 .f32) (b : FVec Ideal S1x14352 .f32) :
    FVec Ideal S16x32768 .f32 :=
  transpose Cert.ForgetReferenceIdeal.S16x32768 [1, 0] (Host.negf (soft (minus x w b))) Cert.ForgetReferenceIdeal.Gen.transposes_S32768x16_S16x32768_1_0

theorem refGates_apply (x : FVec Ideal S32768x2048 .f32) (w : FVec Ideal S1x2048x14352 .f32) (b : FVec Ideal S1x14352 .f32)
    (i : Fin 32768) (j : Fin 16) : refGates x w b (ix2 j i) = logSigmoid (affine x w b i ⟨10240 + j.val, by omega⟩) := by
  rw [logSigmoid_eq, ← minus_apply, ← soft_apply]
  pointwise [refGates]

/-- The block the body leaves, at an element. -/
theorem block_apply (w : Vec Ideal S16x2048 .bf16) (x : Vec Ideal S512x2048 .bf16) (b : Vec Ideal S16x1 .f32) (j : Fin 16)
    (r : Fin 512) : k0_pay1 w x b (ix2 j r) = logSigmoid ((∑ k : Fin 2048, w (ix2 j k) * x (ix2 r k)) + b (ix2 j 0)) := by
  pointwise [k0_pay1, logSigmoid]
  rfl

/-- Which block each window is at. -/
theorem idx : ∀ t : Fin cfg0.N, win0_0.index t = ![0, 0] ∧ win0_1.index t = ![t.val, 0] ∧ win0_2.index t = ![0, 0] ∧ win0_3.index t = ![0, t.val] :=
  (by decide +kernel : ∀ t : Fin grid0.N, _)

/-- The rows the call reads. -/
def rounded (x : FVec Ideal S32768x2048 .f32) : FVec Ideal S32768x2048 .bf16 := truncf .bf16 x bitsLt_bf16_f32

/-- The columns of the weights the call reads, as rows. -/
def weights (w : FVec Ideal S1x2048x14352 .f32) : FVec Ideal S16x2048 .bf16 :=
  truncf .bf16 (transpose S16x2048 [1, 0] (extractStridedSlice S2048x16 ![0, 10240] (shapeCast S2048x14352 w shapeCasts_S1x2048x14352_S2048x14352)
    slices_S2048x14352_S2048x16_0_10240) transposes_S2048x16_S16x2048_1_0) bitsLt_bf16_f32

/-- Their biases. -/
def biases (b : FVec Ideal S1x14352 .f32) : FVec Ideal S16x1 .f32 :=
  shapeCast S16x1 (extractStridedSlice S16 ![10240] (shapeCast S14352 b shapeCasts_S1x14352_S14352) slices_S14352_S16_10240) shapeCasts_S16_S16x1

theorem weights_apply (w : FVec Ideal S1x2048x14352 .f32) (k : Fin 2048) (j : Fin 16) :
    weights w (ix2 j k) = w (ix3 0 k ⟨10240 + j.val, by omega⟩) := by
  pointwise [weights]

theorem biases_apply (b : FVec Ideal S1x14352 .f32) (j : Fin 16) : biases b (ix2 j 0) = b (ix2 0 ⟨10240 + j.val, by omega⟩) := by
  pointwise [biases]

variable (m : (ℓ : Loc nD τ sig) → Buf (Elt Ideal) ℓ) (c : Dev nD) (t : Fin cfg0.N)

/-- A row of the point's block, among all rows. -/
def rowOf (r : Fin 512) : Fin 32768 := ⟨t.val * 512 + r.val, by
  have h : t.val < 64 := t.isLt
  omega⟩

theorem V_x : V m c main_v7 = rounded (m ((c.tc : Thread nD τ).loc main_arg0)) := by
  entry_read
  rfl

theorem V_w : V m c main_v3 = weights (m ((c.tc : Thread nD τ).loc main_arg1)) := by
  entry_read
  rfl

theorem V_b : V m c main_v6 = biases (m ((c.tc : Thread nD τ).loc main_arg2)) := by
  entry_read
  rfl

theorem read_w (j : Fin 16) (k : Fin 2048) :
    iblk m c 0 t (ix2 j k) = m ((c.tc : Thread nD τ).loc main_arg1) (ix3 0 k ⟨10240 + j.val, by omega⟩) := by
  have h := (idx t).1
  have e : iblk m c 0 t (ix2 j k) = V m c main_v3 (ix2 j k) := by
    blk_simp [iblk]
    blk_ext [h]
    all_goals first | rfl | omega
  rw [e, V_w, weights_apply]

theorem read_x (r : Fin 512) (k : Fin 2048) : iblk m c 1 t (ix2 r k) = m ((c.tc : Thread nD τ).loc main_arg0) (ix2 (rowOf t r) k) := by
  have h := (idx t).2.1
  have e : iblk m c 1 t (ix2 r k) = V m c main_v7 (ix2 (rowOf t r) k) := by
    blk_simp [iblk]
    blk_ext [h]
    all_goals first | rfl | (simp only [rowOf] <;> omega)
  rw [e, V_x]
  rfl

theorem read_b (j : Fin 16) : iblk m c 2 t (ix2 j 0) = m ((c.tc : Thread nD τ).loc main_arg2) (ix2 0 ⟨10240 + j.val, by omega⟩) := by
  have h := (idx t).2.2.1
  have e : iblk m c 2 t (ix2 j 0) = V m c main_v6 (ix2 j 0) := by
    blk_simp [iblk]
    blk_ext [h]
    all_goals first | rfl | omega
  rw [e, V_b, biases_apply]

/-- The array when the run ends. -/
theorem array_eq : (dats m 0 c).arrAt 3 cfg0.N = refGates (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  rw [after0_3]
  blk_simp
  frame_out
  obtain ⟨j, r, rfl⟩ : ∃ (j : Fin 16) (r : Fin 512), y = ix2 j r := ⟨y 0, y 1, by ext a; fin_cases a <;> rfl⟩
  have h := (idx t).2.2.2
  have hout : (win0_3.blk t).view.emb (ix2 j r) = ix2 j (rowOf t r) := by
    blk_ext [h]
    all_goals first | rfl | (simp only [rowOf] <;> omega)
  rw [hout, refGates_apply]
  refine (block_apply _ _ _ j r).trans (congrArg logSigmoid ?_)
  refine congrArg₂ (· + ·) (Finset.sum_congr rfl fun k _ => ?_) (read_b m c t j)
  rw [read_x, read_w, mul_comm]

end Cert.ForgetIdeal.Product

end
-- ==== Proof.CumsumBody.lean ====
/- The running sum of the gates: what the body leaves at a point, in terms of what it reads. -/
module

public import proofs.«01_k».proof.Proof.Gen.CumsumIdeal.Frame
public import Idealize.ShloMosaic.Lib.Claim
public import Idealize.ShloMosaic.Lib.Pointwise
public import Idealize.ShloMosaic.Lib.Pipeline.ValueKit

@[expose] public section

set_option maxRecDepth 16384

noncomputable section

namespace Cert.CumsumIdeal.Carry

open Idealize.ShloMosaic Idealize.ShloMosaic.TcCoe
open Cert.CumsumIdeal Cert.CumsumIdeal.Gen

theorem whole_block {a : Memref sig .tc .vmem S16x512 .f32} (h : a.IsWhole) (x : Vec Ideal S16x512 .f32) :
    View.readAt (Elt Ideal) a.view (Rect.unit (s := S16x512) ![0, 0] S16x512.size inb_S16x512_S16x512_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

theorem whole_square {a : Memref sig .tc .vmem S512x512 .bf16} (h : a.IsWhole) (x : Vec Ideal S512x512 .bf16) :
    View.readAt (Elt Ideal) a.view (Rect.unit (s := S512x512) ![0, 0] S512x512.size inb_S512x512_S512x512_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

theorem whole_meta {a : Memref sig .tc .vmem S16x128 .f32} (h : a.IsWhole) (x : Vec Ideal S16x128 .f32) :
    View.readAt (Elt Ideal) a.view (Rect.unit (s := S16x128) ![0, 0] S16x128.size inb_S16x128_S16x128_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

theorem whole_carry {a : Memref sig .tc .vmem S16x1 .f32} (h : a.IsWhole) (x : Vec Ideal S16x1 .f32) :
    View.readAt (Elt Ideal) a.view (Rect.unit (s := S16x1) ![0, 0] S16x1.size inb_S16x1_S16x1_0_0).toLoadRect (h.unread x) = x := by
  funext y
  refine (congrFun (h.read_unread x) _).trans (congrArg x ?_)
  ext a
  fin_cases a
  · show 0 + 1 * (y 0).val = (y 0).val; omega
  · show 0 + 1 * (y 1).val = (y 1).val; omega

/-- The corner of the triangle the meta tokens' sum uses. -/
def corner (x : Vec Ideal S512x512 .bf16) : Vec Ideal S128x128 .bf16 := fun y =>
  x (ix2 ⟨(y 0).val, lt_trans (y 0).isLt (by decide)⟩ ⟨(y 1).val, lt_trans (y 1).isLt (by decide)⟩)

theorem corner_read {a : Memref sig .tc .vmem S512x512 .bf16} (h : a.IsWhole) (x : Vec Ideal S512x512 .bf16) :
    View.readAt (Elt Ideal) a.view (Rect.unit (s := S512x512) ![0, 0] S128x128.size inb_S512x512_S128x128_0_0).toLoadRect (h.unread x) = corner x := by
  funext y
  refine (congrFun (h.read_unread x) _).trans (congrArg x ?_)
  ext a
  fin_cases a
  · show 0 + 1 * (y 0).val = (y 0).val; omega
  · show 0 + 1 * (y 1).val = (y 1).val; omega

theorem out_A_3_eq (c : Dev nD) (i : grid0.Coords) (arg2 : Memref sig .tc .vmem S16x512 .f32) (harg2 : arg2.IsWhole) (arg3 : Memref sig .tc .vmem S16x128 .f32) (harg3 : arg3.IsWhole) (arg4 : Memref sig .tc .vmem S512x512 .bf16) (harg4 : arg4.IsWhole) (arg5 : Memref sig .tc .vmem S16x512 .f32) (harg5 : arg5.IsWhole) (arg6 : Memref sig .tc .vmem S16x128 .f32) (harg6 : arg6.IsWhole) (arg7 : Memref sig .tc .vmem S16x1 .f32) (harg7 : arg7.IsWhole) (hc0 : cond0_0 i)
    (x0 : Vec Ideal S16x512 .f32) (x1 : Vec Ideal S16x128 .f32) (x2 : Vec Ideal S512x512 .bf16) :
    out0_A_3 (F := Ideal) c i arg2 harg2 arg3 harg3 arg4 harg4 arg5 harg5 arg6 harg6 arg7 harg7 hc0 x0 x1 x2 = k0_pay4 x0 x2 (k0_pay3 x1 (corner x2)) := by
  have hz : (![0, 0] : Fin 2 → ℕ) = fun _ => 0 := by funext a; fin_cases a <;> rfl
  unfold out0_A_3
  rw [View.read_writes_junk_eq_canon]
  unfold kernelRun0_A
  dsimp only
  refine (View.canon_cons_unit_zero (S := S16x512) hz inb_S16x512_S16x512_0_0 _ _).trans ?_
  unfold kernelRun0_A.sl.r_1
  dsimp only
  unfold kernelRun0_A.sl.v35 kernelRun0_A.sl.HS0_1
  exact congr (congrArg₂ k0_pay4 (whole_block harg2 x0) (whole_square harg4 x2)) ((View.readCov_unit_zero (S := S16x1) arg7.view hz inb_S16x1_S16x1_0_0 _).trans (congrArg₂ k0_pay3 (whole_meta harg3 x1) (corner_read harg4 x2)))

theorem out_A_4_eq (c : Dev nD) (i : grid0.Coords) (arg2 : Memref sig .tc .vmem S16x512 .f32) (harg2 : arg2.IsWhole) (arg3 : Memref sig .tc .vmem S16x128 .f32) (harg3 : arg3.IsWhole) (arg4 : Memref sig .tc .vmem S512x512 .bf16) (harg4 : arg4.IsWhole) (arg5 : Memref sig .tc .vmem S16x512 .f32) (harg5 : arg5.IsWhole) (arg6 : Memref sig .tc .vmem S16x128 .f32) (harg6 : arg6.IsWhole) (arg7 : Memref sig .tc .vmem S16x1 .f32) (harg7 : arg7.IsWhole) (hc0 : cond0_0 i)
    (x0 : Vec Ideal S16x512 .f32) (x1 : Vec Ideal S16x128 .f32) (x2 : Vec Ideal S512x512 .bf16) :
    out0_A_4 (F := Ideal) c i arg2 harg2 arg3 harg3 arg4 harg4 arg5 harg5 arg6 harg6 arg7 harg7 hc0 x0 x1 x2 = k0_pay2 x1 (corner x2) := by
  have hz : (![0, 0] : Fin 2 → ℕ) = fun _ => 0 := by funext a; fin_cases a <;> rfl
  unfold out0_A_4
  rw [View.read_writes_junk_eq_canon]
  unfold kernelRun0_A
  dsimp only
  refine (View.canon_cons_unit_zero (S := S16x128) hz inb_S16x128_S16x128_0_0 _ _).trans ?_
  unfold kernelRun0_A.sl.r
  dsimp only
  exact congrArg₂ _ (whole_meta harg3 x1) (corner_read harg4 x2)

theorem sout_A_0_eq (c : Dev nD) (i : grid0.Coords) (arg2 : Memref sig .tc .vmem S16x512 .f32) (harg2 : arg2.IsWhole) (arg3 : Memref sig .tc .vmem S16x128 .f32) (harg3 : arg3.IsWhole) (arg4 : Memref sig .tc .vmem S512x512 .bf16) (harg4 : arg4.IsWhole) (arg5 : Memref sig .tc .vmem S16x512 .f32) (harg5 : arg5.IsWhole) (arg6 : Memref sig .tc .vmem S16x128 .f32) (harg6 : arg6.IsWhole) (arg7 : Memref sig .tc .vmem S16x1 .f32) (harg7 : arg7.IsWhole) (hc0 : cond0_0 i)
    (x0 : Vec Ideal S16x512 .f32) (x1 : Vec Ideal S16x128 .f32) (x2 : Vec Ideal S512x512 .bf16) :
    sout0_A_0 (F := Ideal) c i arg2 harg2 arg3 harg3 arg4 harg4 arg5 harg5 arg6 harg6 arg7 harg7 hc0 x0 x1 x2 = k0_pay1 (k0_pay4 x0 x2 (k0_pay3 x1 (corner x2))) := by
  have hz : (![0, 0] : Fin 2 → ℕ) = fun _ => 0 := by funext a; fin_cases a <;> rfl
  unfold sout0_A_0
  rw [View.read_writes_junk_eq_canon]
  unfold kernelRun0_A
  dsimp only
  refine (View.canon_cons_unit_zero (S := S16x1) hz inb_S16x1_S16x1_0_0 _ _).trans ?_
  unfold kernelRun0_A.sl.r_1
  dsimp only
  unfold kernelRun0_A.sl.v35 kernelRun0_A.sl.HS0_1
  exact congrArg k0_pay1 (congr (congrArg₂ k0_pay4 (whole_block harg2 x0) (whole_square harg4 x2)) ((View.readCov_unit_zero (S := S16x1) arg7.view hz inb_S16x1_S16x1_0_0 _).trans (congrArg₂ k0_pay3 (whole_meta harg3 x1) (corner_read harg4 x2))))

theorem out_B_3_eq (c : Dev nD) (i : grid0.Coords) (arg2 : Memref sig .tc .vmem S16x512 .f32) (harg2 : arg2.IsWhole) (arg3 : Memref sig .tc .vmem S16x128 .f32) (harg3 : arg3.IsWhole) (arg4 : Memref sig .tc .vmem S512x512 .bf16) (harg4 : arg4.IsWhole) (arg5 : Memref sig .tc .vmem S16x512 .f32) (harg5 : arg5.IsWhole) (arg6 : Memref sig .tc .vmem S16x128 .f32) (harg6 : arg6.IsWhole) (arg7 : Memref sig .tc .vmem S16x1 .f32) (harg7 : arg7.IsWhole) (hc0 : ¬cond0_0 i)
    (x0 : Vec Ideal S16x512 .f32) (x1 : Vec Ideal S16x128 .f32) (x2 : Vec Ideal S512x512 .bf16) (xs0 : Vec Ideal S16x1 .f32) :
    out0_B_3 (F := Ideal) c i arg2 harg2 arg3 harg3 arg4 harg4 arg5 harg5 arg6 harg6 arg7 harg7 hc0 x0 x1 x2 xs0 = k0_pay4 x0 x2 xs0 := by
  have hz : (![0, 0] : Fin 2 → ℕ) = fun _ => 0 := by funext a; fin_cases a <;> rfl
  unfold out0_B_3
  rw [View.read_writes_junk_eq_canon]
  unfold kernelRun0_B
  dsimp only
  refine (View.canon_cons_unit_zero (S := S16x512) hz inb_S16x512_S16x512_0_0 _ _).trans ?_
  unfold kernelRun0_B.sl.r_1
  dsimp only
  exact congr (congrArg₂ k0_pay4 (whole_block harg2 x0) (whole_square harg4 x2)) (whole_carry harg7 xs0)

theorem out_B_4_eq (c : Dev nD) (i : grid0.Coords) (arg2 : Memref sig .tc .vmem S16x512 .f32) (harg2 : arg2.IsWhole) (arg3 : Memref sig .tc .vmem S16x128 .f32) (harg3 : arg3.IsWhole) (arg4 : Memref sig .tc .vmem S512x512 .bf16) (harg4 : arg4.IsWhole) (arg5 : Memref sig .tc .vmem S16x512 .f32) (harg5 : arg5.IsWhole) (arg6 : Memref sig .tc .vmem S16x128 .f32) (harg6 : arg6.IsWhole) (arg7 : Memref sig .tc .vmem S16x1 .f32) (harg7 : arg7.IsWhole) (hc0 : ¬cond0_0 i)
    (x0 : Vec Ideal S16x512 .f32) (x1 : Vec Ideal S16x128 .f32) (x2 : Vec Ideal S512x512 .bf16) (xs0 : Vec Ideal S16x1 .f32) :
    out0_B_4 (F := Ideal) c i arg2 harg2 arg3 harg3 arg4 harg4 arg5 harg5 arg6 harg6 arg7 harg7 hc0 x0 x1 x2 xs0 = k0_pay2 x1 (corner x2) := by
  have hz : (![0, 0] : Fin 2 → ℕ) = fun _ => 0 := by funext a; fin_cases a <;> rfl
  unfold out0_B_4
  rw [View.read_writes_junk_eq_canon]
  unfold kernelRun0_B
  dsimp only
  refine (View.canon_cons_unit_zero (S := S16x128) hz inb_S16x128_S16x128_0_0 _ _).trans ?_
  unfold kernelRun0_B.sl.r
  dsimp only
  exact congrArg₂ _ (whole_meta harg3 x1) (corner_read harg4 x2)

theorem sout_B_0_eq (c : Dev nD) (i : grid0.Coords) (arg2 : Memref sig .tc .vmem S16x512 .f32) (harg2 : arg2.IsWhole) (arg3 : Memref sig .tc .vmem S16x128 .f32) (harg3 : arg3.IsWhole) (arg4 : Memref sig .tc .vmem S512x512 .bf16) (harg4 : arg4.IsWhole) (arg5 : Memref sig .tc .vmem S16x512 .f32) (harg5 : arg5.IsWhole) (arg6 : Memref sig .tc .vmem S16x128 .f32) (harg6 : arg6.IsWhole) (arg7 : Memref sig .tc .vmem S16x1 .f32) (harg7 : arg7.IsWhole) (hc0 : ¬cond0_0 i)
    (x0 : Vec Ideal S16x512 .f32) (x1 : Vec Ideal S16x128 .f32) (x2 : Vec Ideal S512x512 .bf16) (xs0 : Vec Ideal S16x1 .f32) :
    sout0_B_0 (F := Ideal) c i arg2 harg2 arg3 harg3 arg4 harg4 arg5 harg5 arg6 harg6 arg7 harg7 hc0 x0 x1 x2 xs0 = k0_pay1 (k0_pay4 x0 x2 xs0) := by
  have hz : (![0, 0] : Fin 2 → ℕ) = fun _ => 0 := by funext a; fin_cases a <;> rfl
  unfold sout0_B_0
  rw [View.read_writes_junk_eq_canon]
  unfold kernelRun0_B
  dsimp only
  refine (View.canon_cons_unit_zero (S := S16x1) hz inb_S16x1_S16x1_0_0 _ _).trans ?_
  unfold kernelRun0_B.sl.r_1
  dsimp only
  exact congrArg k0_pay1 (congr (congrArg₂ k0_pay4 (whole_block harg2 x0) (whole_square harg4 x2)) (whole_carry harg7 xs0))

end Cert.CumsumIdeal.Carry

end
-- ==== Proof.CumsumRef.lean ====
/- The running sum of the gates: the reference's results at an element, as sums of the gates before it. -/
module

public import proofs.«01_k».proof.Proof.Gen.CumsumReferenceIdeal
public import Idealize.ShloMosaic.Lib.Claim
public import Idealize.ShloMosaic.Lib.Pointwise

@[expose] public section

set_option maxRecDepth 16384

noncomputable section

namespace Cert.CumsumReferenceIdeal.Prefix

open Idealize.ShloMosaic Idealize.ShloMosaic.TcCoe
open Cert.CumsumReferenceIdeal Cert.CumsumReferenceIdeal.Gen
open Finset (range)

/-- A left fold of additions is a sum. -/
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The last element of a window is the element itself: the window's sum is the sum up to it. -/
theorem window_sum (N n : ℕ) (hn : n < N) (g : ℕ → EReal) :
    ∑ k ∈ range N, (if N - 1 ≤ n + k then g (n + k - (N - 1)) else 0) = ∑ k ∈ range (n + 1), g k := by
  obtain ⟨d, rfl⟩ : ∃ d, N = d + (n + 1) := ⟨N - (n + 1), by omega⟩
  rw [Finset.sum_range_add, Finset.sum_eq_zero, zero_add]
  · refine Finset.sum_congr rfl fun k hk => ?_
    rw [if_pos (by omega)]
    exact congrArg g (by omega)
  · intro k hk
    have h := Finset.mem_range.1 hk
    rw [if_neg (by omega)]

/-- The positions of the long window. -/
def positions : (⟨3, ![1, 8208, 1]⟩ : Shape).Idx ≃ Fin 8208 where
  toFun p := p 1
  invFun k := ix3 0 k 0
  left_inv p := by
    funext a
    fin_cases a
    · exact Subsingleton.elim (α := Fin 1) _ _
    · rfl
    · exact Subsingleton.elim (α := Fin 1) _ _
  right_inv k := rfl

/-- The positions of the short window. -/
def positions' : (⟨2, ![128, 1]⟩ : Shape).Idx ≃ Fin 128 where
  toFun p := p 0
  invFun k := ix2 k 0
  left_inv p := by
    funext a
    fin_cases a
    · rfl
    · exact Subsingleton.elim (α := Fin 1) _ _
  right_inv k := rfl

/-- A window's sum, with zeros for the padding. -/
theorem window_apply {s t u : Shape} {window strides lo hi : Fin s.rank → Nat} (x : FVec Ideal s .f32) (v : FVec Ideal u .f32)
    (h : s.ReduceWindows window strides lo hi t) (hu : 0 < u.numel) (hv : ∀ i, v i = 0) (j : t.Idx) :
    Host.reduceWindowAdd window strides lo hi x v h hu j = ∑ p : (⟨s.rank, window⟩ : Shape).Idx,
      if hin : ∀ a, lo a ≤ (j (a.cast h.1.symm)).val * strides a + (p a).val
          ∧ (j (a.cast h.1.symm)).val * strides a + (p a).val - lo a < s.size a then
        x (fun a => ⟨(j (a.cast h.1.symm)).val * strides a + (p a).val - lo a, (hin a).2⟩) else 0 := by
  refine (foldl_add _ _ _).trans ?_
  rw [hv, zero_add, ← Fin.sum_univ_def]
  exact Fintype.sum_equiv (⟨s.rank, window⟩ : Shape).rowMajor.symm _ _ fun w => by congr

theorem scan_long (x : FVec Ideal S4x8208x16 .f32) (v : FVec Ideal S_ .f32) (hv : ∀ i, v i = 0) (q : Fin 4) (n : Fin 8208) (h : Fin 16)
    (g : ℕ → EReal) (hg : ∀ k : Fin 8208, x (ix3 q k h) = g k.val) :
    Host.reduceWindowAdd ![1, 8208, 1] ![1, 1, 1] ![0, 8207, 0] ![0, 0, 0] x v
      reduceWindows_S4x8208x16_S4x8208x16_w1s1p0_0_w8208s1p8207_0_w1s1p0_0 h_S_ (ix3 q n h) = ∑ k ∈ range (n.val + 1), g k := by
  rw [← window_sum 8208 n.val n.isLt g, ← Fin.sum_univ_eq_sum_range (fun k => if 8208 - 1 ≤ n.val + k then g (n.val + k - (8208 - 1)) else 0) 8208,
    window_apply x v _ _ hv]
  refine Fintype.sum_equiv positions _ _ fun p => ?_
  obtain ⟨k, rfl⟩ := positions.symm.surjective p
  rw [Equiv.apply_symm_apply]
  have hq := q.isLt
  have hh := h.isLt
  have hn := n.isLt
  have hk := k.isLt
  by_cases hc : 8208 - 1 ≤ n.val + k.val
  · rw [if_pos hc, dif_pos]
    · rw [← hg ⟨n.val + k.val - (8208 - 1), by omega⟩]
      refine congrArg x ?_
      funext a
      fin_cases a
      · exact Fin.ext (show q.val * 1 + 0 - 0 = q.val by omega)
      · exact Fin.ext (show n.val * 1 + k.val - 8207 = n.val + k.val - (8208 - 1) by omega)
      · exact Fin.ext (show h.val * 1 + 0 - 0 = h.val by omega)
    · intro a
      fin_cases a
      · show 0 ≤ q.val * 1 + 0 ∧ q.val * 1 + 0 - 0 < 4; omega
      · show 8207 ≤ n.val * 1 + k.val ∧ n.val * 1 + k.val - 8207 < 8208; omega
      · show 0 ≤ h.val * 1 + 0 ∧ h.val * 1 + 0 - 0 < 16; omega
  · rw [if_neg hc, dif_neg]
    intro hin
    have h1 : 8207 ≤ n.val * 1 + k.val := (hin 1).1
    omega

theorem scan_short (x : FVec Ideal S128x16 .f32) (v : FVec Ideal S_ .f32) (hv : ∀ i, v i = 0) (n : Fin 128) (h : Fin 16)
    (g : ℕ → EReal) (hg : ∀ k : Fin 128, x (ix2 k h) = g k.val) :
    Host.reduceWindowAdd ![128, 1] ![1, 1] ![127, 0] ![0, 0] x v
      reduceWindows_S128x16_S128x16_w128s1p127_0_w1s1p0_0 h_S_ (ix2 n h) = ∑ k ∈ range (n.val + 1), g k := by
  rw [← window_sum 128 n.val n.isLt g, ← Fin.sum_univ_eq_sum_range (fun k => if 128 - 1 ≤ n.val + k then g (n.val + k - (128 - 1)) else 0) 128,
    window_apply x v _ _ hv]
  refine Fintype.sum_equiv positions' _ _ fun p => ?_
  obtain ⟨k, rfl⟩ := positions'.symm.surjective p
  rw [Equiv.apply_symm_apply]
  have hh := h.isLt
  have hn := n.isLt
  have hk := k.isLt
  by_cases hc : 128 - 1 ≤ n.val + k.val
  · rw [if_pos hc, dif_pos]
    · rw [← hg ⟨n.val + k.val - (128 - 1), by omega⟩]
      refine congrArg x ?_
      funext a
      fin_cases a
      · exact Fin.ext (show n.val * 1 + k.val - 127 = n.val + k.val - (128 - 1) by omega)
      · exact Fin.ext (show h.val * 1 + 0 - 0 = h.val by omega)
    · intro a
      fin_cases a
      · show 127 ≤ n.val * 1 + k.val ∧ n.val * 1 + k.val - 127 < 128; omega
      · show 0 ≤ h.val * 1 + 0 ∧ h.val * 1 + 0 - 0 < 16; omega
  · rw [if_neg hc, dif_neg]
    intro hin
    have h1 : 127 ≤ n.val * 1 + k.val := (hin 0).1
    omega

/-- The gates of one head along one sequence, the meta tokens' first. -/
def gate (x : FVec Ideal S4x8192x16 .f32) (xm : FVec Ideal S16x16 .f32) (q : Fin 4) (h : Fin 16) (k : ℕ) : EReal :=
  if hm : k < 16 then xm (ix2 ⟨k, hm⟩ h) else if hk : k - 16 < 8192 then x (ix3 q ⟨k - 16, hk⟩ h) else 0

/-- The meta tokens' gates of one head. -/
def gateM (xm : FVec Ideal S16x16 .f32) (h : Fin 16) (k : ℕ) : EReal := if hm : k < 16 then xm (ix2 ⟨k, hm⟩ h) else 0

/-- The gates in order. -/
def joined (x : FVec Ideal S4x8192x16 .f32) (xm : FVec Ideal S16x16 .f32) : FVec Ideal S4x8208x16 .f32 :=
  concatenate S4x8208x16 1 [⟨S4x16x16, (broadcastInDim S4x16x16 ![0, 1, 2] bcast_S1x16x16_S4x16x16_0_1_2 (broadcastInDim S1x16x16 ![1, 2] bcast_S16x16_S1x16x16_1_2 xm))⟩,
    ⟨S4x8192x16, x⟩] concatenates_S4x16x16_S4x8192x16_S4x8208x16_d1

/-- The meta tokens' gates, padded. -/
def padded (xm : FVec Ideal S16x16 .f32) : FVec Ideal S128x16 .f32 :=
  pad S128x16 ![0, 0] ![112, 0] ![0, 0] xm (sitofp .f32 (constantI S_ 32 0#32)) pads_S16x16_S128x16_01120_000 h_S_

theorem joined_apply (x : FVec Ideal S4x8192x16 .f32) (xm : FVec Ideal S16x16 .f32) (q : Fin 4) (k : Fin 8208) (h : Fin 16) :
    joined x xm (ix3 q k h) = gate x xm q h k.val := by
  have h₁ : joined x xm (ix3 q k h) = if hm : k.val < 16 then xm (ix2 ⟨k.val, hm⟩ h) else x (ix3 q ⟨k.val - 16, by omega⟩ h) := by
    pointwise [joined]
  rw [h₁, gate]
  split
  · rfl
  · rw [dif_pos (by omega)]

theorem padded_apply (xm : FVec Ideal S16x16 .f32) (k : Fin 128) (h : Fin 16) : padded xm (ix2 k h) = gateM xm h k.val := by
  have h₁ : padded xm (ix2 k h) = if hm : k.val < 16 then xm (ix2 ⟨k.val, hm⟩ h) else ((((0#32 : BitVec 32).toInt : ℝ)) : EReal) := by
    pointwise [padded]
    rfl
  rw [h₁, gateM]
  split
  · rfl
  · simp

/-- The zero the reference starts its sums from. -/
def start : FVec Ideal S_ .f32 := broadcastInDim S_ ![] bcast_S_S_ (constant S_ .f32 0x00000000#32)

theorem start_apply (i : S_.Idx) : start i = 0 := by
  show Ideal.ofBits .f32 0x00000000#32 = 0
  simp

/-- The reference's running sum. -/
def scan (x : FVec Ideal S4x8192x16 .f32) (xm : FVec Ideal S16x16 .f32) : FVec Ideal S4x8208x16 .f32 :=
  Host.reduceWindowAdd ![1, 8208, 1] ![1, 1, 1] ![0, 8207, 0] ![0, 0, 0] (joined x xm) start
    reduceWindows_S4x8208x16_S4x8208x16_w1s1p0_0_w8208s1p8207_0_w1s1p0_0 h_S_

/-- The reference's running sum of the meta tokens. -/
def scanM (xm : FVec Ideal S16x16 .f32) : FVec Ideal S128x16 .f32 :=
  Host.reduceWindowAdd ![128, 1] ![1, 1] ![127, 0] ![0, 0] (padded xm) start
    reduceWindows_S128x16_S128x16_w128s1p127_0_w1s1p0_0 h_S_

/-- The first result. -/
def refC (x : FVec Ideal S4x8192x16 .f32) (xm : FVec Ideal S16x16 .f32) : FVec Ideal S16x32768 .f32 :=
  transpose S16x32768 [1, 0] (shapeCast _ (extractStridedSlice S4x8192x16 ![0, 16, 0] (scan x xm) slices_S4x8208x16_S4x8192x16_0_16_0)
    shapeCasts_S4x8192x16_S32768x16) transposes_S32768x16_S16x32768_1_0

/-- The second result. -/
def refM (xm : FVec Ideal S16x16 .f32) : FVec Ideal S16x128 .f32 := transpose S16x128 [1, 0] (scanM xm) transposes_S128x16_S16x128_1_0

theorem refC_apply (x : FVec Ideal S4x8192x16 .f32) (xm : FVec Ideal S16x16 .f32) (h : Fin 16) (i : Fin 32768) :
    refC x xm (ix2 h i) = ∑ k ∈ range (16 + i.val % 8192 + 1), gate x xm ⟨i.val / 8192, by omega⟩ h k := by
  have h₁ : refC x xm (ix2 h i) = scan x xm (ix3 ⟨i.val / 8192, by omega⟩ ⟨16 + i.val % 8192, by omega⟩ h) := by
    pointwise [refC]
  rw [h₁]
  exact scan_long _ _ start_apply _ _ _ _ fun k => joined_apply x xm _ k h

theorem refM_apply (xm : FVec Ideal S16x16 .f32) (h : Fin 16) (j : Fin 128) :
    refM xm (ix2 h j) = ∑ k ∈ range (j.val + 1), gateM xm h k := by
  have h₁ : refM xm (ix2 h j) = scanM xm (ix2 j h) := by
    pointwise [refM]
  rw [h₁]
  exact scan_short _ _ start_apply _ _ _ fun k => padded_apply xm k h

end Cert.CumsumReferenceIdeal.Prefix

end
-- ==== Proof.CumsumProj.lean ====
/- The running sum of the gates: the arrays the call leaves are the reference's. -/
module

public import proofs.«01_k».proof.Proof.CumsumBody
public import proofs.«01_k».proof.Proof.CumsumRef

@[expose] public section

set_option maxRecDepth 16384

noncomputable section

namespace Cert.CumsumIdeal.Carry

open Idealize.ShloMosaic Idealize.ShloMosaic.TcCoe
open Cert.CumsumIdeal Cert.CumsumIdeal.Gen
open Cert.CumsumReferenceIdeal.Prefix
open Finset (range)

/-- Not plus infinity. -/
def Below (x : EReal) : Prop := x ≠ ⊤

/-- Zero or one. -/
def Flag (x : EReal) : Prop := x = 0 ∨ x = 1

/-- A number below infinity, with what its rounding leaves and what is left of that: the number. -/
theorem split_sum {x : EReal} (h : Below x) : x + (x - x) + (x - x - (x - x)) = x := by
  induction x with
  | bot => rw [EReal.bot_add, EReal.bot_add]
  | top => exact absurd rfl h
  | coe r => rw [← EReal.coe_sub, sub_self, EReal.coe_zero, sub_zero, add_zero, add_zero]

/-- The three products of the split against zeros and ones add up to the one of the whole. -/
theorem split_dot {N : ℕ} (x t : Fin N → EReal) (hx : ∀ k, Below (x k)) (ht : ∀ k, Flag (t k)) :
    (∑ k, x k * t k) + (∑ k, (x k - x k) * t k) + (∑ k, (x k - x k - (x k - x k)) * t k) = ∑ k, x k * t k := by
  rw [← Finset.sum_add_distrib, ← Finset.sum_add_distrib]
  refine Finset.sum_congr rfl fun k _ => ?_
  rcases ht k with h | h
  · rw [h, mul_zero, mul_zero, mul_zero, add_zero, add_zero]
  · rw [h, mul_one, mul_one, mul_one, split_sum (hx k)]

/-- The triangle's column cuts a sum off after it. -/
theorem tri_sum (N : ℕ) (F : ℕ → EReal) (j : Fin N) :
    ∑ k : Fin N, F k.val * (if k.val ≤ j.val then 1 else 0) = ∑ k ∈ range (j.val + 1), F k := by
  rw [Fin.sum_univ_eq_sum_range (fun k => F k * (if k ≤ j.val then 1 else 0)) N]
  simp only [mul_ite, mul_one, mul_zero]
  rw [← Finset.sum_filter]
  refine Finset.sum_congr ?_ fun _ _ => rfl
  ext k
  have hj := j.isLt
  simp only [Finset.mem_filter, Finset.mem_range]
  omega

/-- The block of sums, at an element. -/
theorem pay4_apply (x : Vec Ideal S16x512 .f32) (w : Vec Ideal S512x512 .bf16) (c : Vec Ideal S16x1 .f32)
    (hx : ∀ i, Below (x i)) (h : Fin 16) (j : Fin 512)
    (hw : ∀ k, Flag (w (ix2 k j))) :
    k0_pay4 x w c (ix2 h j) = (∑ k : Fin 512, x (ix2 h k) * w (ix2 k j)) + c (ix2 h 0) := by
  have e : k0_pay4 x w c (ix2 h j) = (∑ k : Fin 512, x (ix2 h k) * w (ix2 k j)) + (∑ k : Fin 512, (x (ix2 h k) - x (ix2 h k)) * w (ix2 k j))
      + (∑ k : Fin 512, (x (ix2 h k) - x (ix2 h k) - (x (ix2 h k) - x (ix2 h k))) * w (ix2 k j)) + c (ix2 h 0) := by
    pointwise [k0_pay4]
  rw [e, split_dot (fun k => x (ix2 h k)) (fun k => w (ix2 k j)) (fun k => hx _) hw]

/-- The meta tokens' sums, at an element. -/
theorem pay2_apply (x : Vec Ideal S16x128 .f32) (w : Vec Ideal S128x128 .bf16) (hx : ∀ i, Below (x i)) (h : Fin 16)
    (j : Fin 128) (hw : ∀ k, Flag (w (ix2 k j))) : k0_pay2 x w (ix2 h j) = ∑ k : Fin 128, x (ix2 h k) * w (ix2 k j) := by
  have e : k0_pay2 x w (ix2 h j) = (∑ k : Fin 128, x (ix2 h k) * w (ix2 k j)) + (∑ k : Fin 128, (x (ix2 h k) - x (ix2 h k)) * w (ix2 k j))
      + (∑ k : Fin 128, (x (ix2 h k) - x (ix2 h k) - (x (ix2 h k) - x (ix2 h k))) * w (ix2 k j)) := by
    pointwise [k0_pay2]
  rw [e, split_dot (fun k => x (ix2 h k)) (fun k => w (ix2 k j)) (fun k => hx _) hw]

theorem pay1_apply (x : FVec Ideal S16x512 .f32) (h : Fin 16) : k0_pay1 (F := Ideal) x (ix2 h 0) = x (ix2 h 511) := by
  pointwise [k0_pay1]

theorem pay3_apply (x : Vec Ideal S16x128 .f32) (w : Vec Ideal S128x128 .bf16) (h : Fin 16) :
    k0_pay3 (F := Ideal) x w (ix2 h 0) = k0_pay2 x w (ix2 h 15) := by
  pointwise [k0_pay3]

/-- Which block each window is at. -/
theorem idx : ∀ t : Fin cfg0.N, win0_0.index t = ![0, t.val] ∧ win0_1.index t = ![0, 0] ∧ win0_2.index t = ![0, 0] ∧ win0_3.index t = ![0, t.val]
    ∧ win0_4.index t = ![0, 0] :=
  (by decide +kernel : ∀ t : Fin grid0.N, _)

/-- The gates as the call reads them. -/
def across (x : FVec Ideal S4x8192x16 .f32) : FVec Ideal S16x32768 .f32 :=
  transpose S16x32768 [1, 0] (shapeCast S32768x16 x shapeCasts_S4x8192x16_S32768x16) transposes_S32768x16_S16x32768_1_0

theorem across_apply (x : FVec Ideal S4x8192x16 .f32) (h : Fin 16) (i : Fin 32768) :
    across x (ix2 h i) = x (ix3 ⟨i.val / 8192, by omega⟩ ⟨i.val % 8192, by omega⟩ h) := by
  pointwise [across]

/-- The triangle of ones. -/
def tri : FVec Ideal S512x512 .bf16 := uitofp .bf16 (cmpi .sle (iotaInDim S512x512 32 0) (iotaInDim S512x512 32 1))

theorem tri_apply (k j : Fin 512) : tri (ix2 k j) = if k.val ≤ j.val then 1 else 0 := by
  have e : tri (ix2 k j) = FloatOps.uitofp (F := Ideal) FTy.bf16 (IntOp.cmpi .sle (BitVec.ofNat 32 k.val) (BitVec.ofNat 32 j.val)) := by
    pointwise [tri]
  have hk := k.isLt
  have hj := j.isLt
  rw [e, WordCmp.cmpi_sle_ofNat (by omega) (by omega)]
  by_cases h : k.val ≤ j.val
  · rw [if_pos h, decide_eq_true h]
    show (((1#1 : BitVec 1).toNat : ℝ) : EReal) = 1
    simp
  · rw [if_neg h, decide_eq_false h]
    show (((0#1 : BitVec 1).toNat : ℝ) : EReal) = 0
    simp

/-- The meta tokens' gates as the call reads them. -/
def metas (x : FVec Ideal S16x16 .f32) : FVec Ideal S16x128 .f32 :=
  pad S16x128 ![0, 0] ![0, 112] ![0, 0] (transpose S16x16 [1, 0] x transposes_S16x16_S16x16_1_0) (sitofp .f32 (constantI S_ 32 0#32))
    pads_S16x16_S16x128_000_01120 h_S_

theorem metas_apply (x : FVec Ideal S16x16 .f32) (h : Fin 16) (k : Fin 128) : metas x (ix2 h k) = gateM x h k.val := by
  have h₁ : metas x (ix2 h k) = if hm : k.val < 16 then x (ix2 ⟨k.val, hm⟩ h) else ((((0#32 : BitVec 32).toInt : ℝ)) : EReal) := by
    pointwise [metas]
    rfl
  rw [h₁, gateM]
  split
  · rfl
  · simp

variable (m : (ℓ : Loc nD τ sig) → Buf (Elt Ideal) ℓ) (c : Dev nD) (t : Fin cfg0.N)

theorem V_x : V m c main_v3 = across (m ((c.tc : Thread nD τ).loc main_arg0)) := by
  entry_read
  rfl

theorem V_m : V m c main_v1 = metas (m ((c.tc : Thread nD τ).loc main_arg1)) := by
  entry_read
  rfl

theorem V_t : V m c main_v7 = tri := by
  entry_read
  rfl

/-- The column of an element of a block. -/
def colOf (k : Fin 512) : Fin 32768 := ⟨t.val * 512 + k.val, by have := t.isLt; have : cfg0.N = 64 := rfl; omega⟩

/-- The sequence a point is in. -/
def seqOf : Fin 4 := ⟨t.val / 16, by have := t.isLt; have : cfg0.N = 64 := rfl; omega⟩

theorem read_x (h : Fin 16) (k : Fin 512) : iblk m c 0 t (ix2 h k) = gate (m ((c.tc : Thread nD τ).loc main_arg0)) (m ((c.tc : Thread nD τ).loc main_arg1))
    (seqOf t) h (16 + 512 * (t.val % 16) + k.val) := by
  have hi := (idx t).1
  have e : iblk m c 0 t (ix2 h k) = V m c main_v3 (ix2 h (colOf t k)) := by
    blk_simp [iblk]
    blk_ext [hi]
    all_goals first | rfl | (simp only [colOf] <;> omega)
  have hk := k.isLt
  rw [e, V_x, across_apply, gate, dif_neg (by omega), dif_pos (by omega)]
  refine congrArg _ ?_
  ext a
  fin_cases a
  · show (t.val * 512 + k.val) / 8192 = t.val / 16; omega
  · show (t.val * 512 + k.val) % 8192 = 16 + 512 * (t.val % 16) + k.val - 16; omega
  · rfl

theorem read_m (h : Fin 16) (k : Fin 128) : iblk m c 1 t (ix2 h k) = gateM (m ((c.tc : Thread nD τ).loc main_arg1)) h k.val := by
  have hi := (idx t).2.1
  have e : iblk m c 1 t (ix2 h k) = V m c main_v1 (ix2 h k) := by
    blk_simp [iblk]
    blk_ext [hi]
    all_goals first | rfl | omega
  rw [e, V_m, metas_apply]

theorem read_t (k j : Fin 512) : iblk m c 2 t (ix2 k j) = if k.val ≤ j.val then (1 : EReal) else 0 := by
  have hi := (idx t).2.2.1
  have e : iblk m c 2 t (ix2 k j) = V m c main_v7 (ix2 k j) := by
    blk_simp [iblk]
    blk_ext [hi]
    all_goals first | rfl | omega
  rw [e, V_t, tri_apply]

theorem gate_below (x : FVec Ideal S4x8192x16 .f32) (xm : FVec Ideal S16x16 .f32) (hx : ∀ i, Below (x i))
    (hm : ∀ i, Below (xm i)) (q : Fin 4) (h : Fin 16) (k : ℕ) : Below (gate x xm q h k) := by
  unfold gate
  split
  · exact hm _
  · split
    · exact hx _
    · exact EReal.zero_ne_top

theorem gateM_below (xm : FVec Ideal S16x16 .f32) (hm : ∀ i, Below (xm i)) (h : Fin 16) (k : ℕ) : Below (gateM xm h k) := by
  unfold gateM
  split
  · exact hm _
  · exact EReal.zero_ne_top

theorem read_t_or (k j : Fin 512) : Flag (iblk m c 2 t (ix2 k j)) := by
  refine (congrArg Flag (read_t m c t k j)).mpr ?_
  split
  · exact Or.inr rfl
  · exact Or.inl rfl

/-- The meta tokens' gates are the first of every sequence. -/
theorem gate_meta (x : FVec Ideal S4x8192x16 .f32) (xm : FVec Ideal S16x16 .f32) (q : Fin 4) (h : Fin 16) :
    ∑ k ∈ range 16, gateM xm h k = ∑ k ∈ range 16, gate x xm q h k :=
  Finset.sum_congr rfl fun k hk => by
    have := Finset.mem_range.1 hk
    rw [gateM, gate, dif_pos this, dif_pos this]

section Below

variable (hx : ∀ i, Below (m ((c.tc : Thread nD τ).loc main_arg0) i))
  (hm : ∀ i, Below (m ((c.tc : Thread nD τ).loc main_arg1) i))

include hm in
/-- The meta tokens' sums, as the kernel has them. -/
theorem metas_sum (h : Fin 16) (j : Fin 128) : k0_pay2 (iblk m c 1 t) (corner (iblk m c 2 t)) (ix2 h j)
    = ∑ k ∈ range (j.val + 1), gateM (m ((c.tc : Thread nD τ).loc main_arg1)) h k := by
  have hr : ∀ i, Below (iblk m c 1 t i) := by
    intro i
    obtain ⟨a, b, rfl⟩ : ∃ (a : Fin 16) (b : Fin 128), i = ix2 a b := ⟨i 0, i 1, by ext a; fin_cases a <;> rfl⟩
    refine (congrArg Below (read_m m c t a b)).mpr ?_
    exact gateM_below _ hm _ _
  have hw : ∀ k : Fin 128, Flag (corner (iblk m c 2 t) (ix2 k j)) := fun k =>
    read_t_or m c t ⟨k.val, by omega⟩ ⟨j.val, by omega⟩
  rw [pay2_apply (iblk m c 1 t) (corner (iblk m c 2 t)) hr h j hw, ← tri_sum 128]
  refine Finset.sum_congr rfl fun k _ => ?_
  rw [read_m]
  exact congrArg _ (read_t m c t ⟨k.val, by omega⟩ ⟨j.val, by omega⟩)

include hx hm in
/-- A block's sums, as the kernel has them, over what is carried to it. -/
theorem block_sum (w : Vec Ideal S16x1 .f32) (h : Fin 16) (j : Fin 512)
    (hw : w (ix2 h 0) = ∑ k ∈ range (16 + 512 * (t.val % 16)),
      gate (m ((c.tc : Thread nD τ).loc main_arg0)) (m ((c.tc : Thread nD τ).loc main_arg1)) (seqOf t) h k) :
    k0_pay4 (iblk m c 0 t) (iblk m c 2 t) w (ix2 h j) = ∑ k ∈ range (16 + 512 * (t.val % 16) + (j.val + 1)),
      gate (m ((c.tc : Thread nD τ).loc main_arg0)) (m ((c.tc : Thread nD τ).loc main_arg1)) (seqOf t) h k := by
  have hr : ∀ i, Below (iblk m c 0 t i) := by
    intro i
    obtain ⟨a, b, rfl⟩ : ∃ (a : Fin 16) (b : Fin 512), i = ix2 a b := ⟨i 0, i 1, by ext a; fin_cases a <;> rfl⟩
    refine (congrArg Below (read_x m c t a b)).mpr ?_
    exact gate_below _ _ hx hm _ _ _
  rw [pay4_apply (iblk m c 0 t) (iblk m c 2 t) w hr h j fun k => read_t_or m c t k j, hw, Finset.sum_range_add _ (16 + 512 * (t.val % 16)) (j.val + 1), add_comm]
  refine congrArg (_ + ·) ?_
  rw [← tri_sum 512 (fun k => gate (m ((c.tc : Thread nD τ).loc main_arg0)) (m ((c.tc : Thread nD τ).loc main_arg1)) (seqOf t) h
    (16 + 512 * (t.val % 16) + k))]
  refine Finset.sum_congr rfl fun k _ => ?_
  rw [read_x, read_t]

include hm in
/-- What the first point of a sequence starts from. -/
theorem first_carry (h0 : t.val % 16 = 0) (h : Fin 16) : k0_pay3 (F := Ideal) (iblk m c 1 t) (corner (iblk m c 2 t)) (ix2 h 0)
    = ∑ k ∈ range (16 + 512 * (t.val % 16)),
      gate (m ((c.tc : Thread nD τ).loc main_arg0)) (m ((c.tc : Thread nD τ).loc main_arg1)) (seqOf t) h k := by
  rw [pay3_apply, metas_sum m c t hm, h0]
  exact gate_meta _ _ _ _

include hx hm in
/-- What a point leaves to the next. -/
theorem carried (n : ℕ) (hn : n < cfg0.N) (h : Fin 16) : (outsAt0 m c n hn).2.2 (ix2 h 0) = ∑ k ∈ range (16 + 512 * (n % 16) + 512),
      gate (m ((c.tc : Thread nD τ).loc main_arg0)) (m ((c.tc : Thread nD τ).loc main_arg1)) (seqOf ⟨n, hn⟩) h k := by
  induction n with
  | zero =>
    have h0 : (⟨0, hn⟩ : Fin cfg0.N).val % 16 = 0 := rfl
    refine (congrFun (congrArg (fun p => p.2.2) (outsAt0_A m c ⟨0, hn⟩ h0)) _).trans ?_
    dsimp only
    rw [sout_A_0_eq, pay1_apply]
    exact block_sum m c ⟨0, hn⟩ hx hm _ h 511 (first_carry m c ⟨0, hn⟩ hm h0 h)
  | succ n ih =>
    by_cases h0 : (⟨n + 1, hn⟩ : Fin cfg0.N).val % 16 = 0
    · refine (congrFun (congrArg (fun p => p.2.2) (outsAt0_A m c ⟨n + 1, hn⟩ h0)) _).trans ?_
      dsimp only
      rw [sout_A_0_eq, pay1_apply]
      exact block_sum m c ⟨n + 1, hn⟩ hx hm _ h 511 (first_carry m c ⟨n + 1, hn⟩ hm h0 h)
    · refine (congrFun (congrArg (fun p => p.2.2) (outsAt0_B m c ⟨n + 1, hn⟩ h0)) _).trans ?_
      dsimp only
      rw [sout_B_0_eq, pay1_apply]
      refine block_sum m c ⟨n + 1, hn⟩ hx hm _ h 511 ?_
      refine (ih (by omega)).trans ?_
      have e₁ : seqOf ⟨n, by omega⟩ = seqOf ⟨n + 1, hn⟩ := Fin.ext (show n / 16 = (n + 1) / 16 by simp only at h0; omega)
      have e₂ : 16 + 512 * (n % 16) + 512 = 16 + 512 * ((n + 1) % 16) := by simp only at h0; omega
      rw [e₁, e₂]

include hx hm in
/-- The sums a point writes. -/
theorem written (h : Fin 16) (j : Fin 512) : (outsAt0 m c t.val t.isLt).1 (ix2 h j) = ∑ k ∈ range (16 + 512 * (t.val % 16) + (j.val + 1)),
      gate (m ((c.tc : Thread nD τ).loc main_arg0)) (m ((c.tc : Thread nD τ).loc main_arg1)) (seqOf t) h k := by
  by_cases h0 : t.val % 16 = 0
  · rw [outsAt0_A m c t h0]
    dsimp only
    rw [out_A_3_eq]
    exact block_sum m c t hx hm _ h j (first_carry m c t hm h0 h)
  · rw [outsAt0_B m c t h0]
    dsimp only
    rw [out_B_3_eq]
    refine block_sum m c t hx hm _ h j ?_
    have hn := t.isLt
    refine (carried m c hx hm (t.val - 1) (by omega) h).trans ?_
    have e₁ : seqOf ⟨t.val - 1, by omega⟩ = seqOf t := Fin.ext (show (t.val - 1) / 16 = t.val / 16 by omega)
    have e₂ : 16 + 512 * ((t.val - 1) % 16) + 512 = 16 + 512 * (t.val % 16) := by omega
    rw [e₁, e₂]

include hm in
/-- The meta tokens' sums a point writes. -/
theorem written_meta (h : Fin 16) (j : Fin 128) : (outsAt0 m c t.val t.isLt).2.1 (ix2 h j)
    = ∑ k ∈ range (j.val + 1), gateM (m ((c.tc : Thread nD τ).loc main_arg1)) h k := by
  by_cases h0 : t.val % 16 = 0
  · rw [outsAt0_A m c t h0]
    dsimp only
    rw [out_A_4_eq]
    exact metas_sum m c t hm h j
  · rw [outsAt0_B m c t h0]
    dsimp only
    rw [out_B_4_eq]
    exact metas_sum m c t hm h j

include hx hm in
/-- The first array when the run ends. -/
theorem array_eq : (dats m 0 c).arrAt 3 cfg0.N = refC (m ((c.tc : Thread nD τ).loc main_arg0)) (m ((c.tc : Thread nD τ).loc main_arg1)) := by
  refine (dats m 0 c).arrAt_eq_of_covers 3 _ (by decide +kernel) fun t hf y => ?_
  rw [after0_3]
  obtain ⟨h, j, rfl⟩ : ∃ (h : Fin 16) (j : Fin 512), y = ix2 h j := ⟨y 0, y 1, by ext a; fin_cases a <;> rfl⟩
  have hi := (idx t).2.2.2.1
  have hj := j.isLt
  have hout : (win0_3.blk t).view.emb (ix2 h j) = ix2 h (colOf t j) := by
    blk_ext [hi]
    all_goals first | rfl | (simp only [colOf] <;> omega)
  refine (written m c t hx hm h j).trans ?_
  refine Eq.trans ?_ (congrArg (refC (m ((c.tc : Thread nD τ).loc main_arg0)) (m ((c.tc : Thread nD τ).loc main_arg1))) hout).symm
  rw [refC_apply]
  have e₁ : (⟨(colOf t j).val / 8192, by omega⟩ : Fin 4) = seqOf t := Fin.ext (show (t.val * 512 + j.val) / 8192 = t.val / 16 by omega)
  have e₂ : 16 + (colOf t j).val % 8192 + 1 = 16 + 512 * (t.val % 16) + (j.val + 1) := by
    show 16 + (t.val * 512 + j.val) % 8192 + 1 = _
    omega
  rw [e₁, e₂]

include hm in
/-- The second array when the run ends. -/
theorem array_meta : (dats m 0 c).arrAt 4 cfg0.N = refM (m ((c.tc : Thread nD τ).loc main_arg1)) := by
  refine (dats m 0 c).arrAt_eq_of_covers 4 _ (by decide +kernel) fun t hf y => ?_
  rw [after0_4]
  obtain ⟨h, j, rfl⟩ : ∃ (h : Fin 16) (j : Fin 128), y = ix2 h j := ⟨y 0, y 1, by ext a; fin_cases a <;> rfl⟩
  have hi := (idx t).2.2.2.2
  have hout : (win0_4.blk t).view.emb (ix2 h j) = ix2 h j := by
    blk_ext [hi]
    all_goals first | rfl | omega
  refine (written_meta m c t hm h j).trans ?_
  exact ((congrArg (refM (m ((c.tc : Thread nD τ).loc main_arg1))) hout).trans (refM_apply _ _ _)).symm

end Below

end Cert.CumsumIdeal.Carry

end
-- ==== Proof.Below.lean ====
/- The precondition, read at an element: no gate is plus infinity. -/
module

public import proofs.«01_k».proof.Pre_gates_below_infinity
public import Idealize.ShloMosaic.Lib.ReduceAll
public import Idealize.ShloMosaic.Lib.Pointwise

@[expose] public section

set_option maxRecDepth 16384

noncomputable section

namespace Cert.Pre_gates_below_infinity

open Idealize.ShloMosaic Idealize.ShloMosaic.TcCoe

variable [Facts]
open Facts

/-- Below the word of infinity: not infinity. -/
theorem ne_top_of_lt (x : EReal) (h : Ideal.cmp .olt x (Ideal.ofBits .f32 0x7F800000#32) = 1#1) : x ≠ ⊤ := by
  have ht : Ideal.ofBits .f32 0x7F800000#32 = ⊤ := by simp [Ideal.ofBits, Ideal.ieee]
  rw [ht] at h
  rintro rfl
  simp [Ideal.cmp] at h

/-- `all` of the comparisons: no element is infinity. -/
theorem ne_top_of_all {s : Shape} {axes : List (Fin s.rank)} (x : FVec Ideal s .f32) (hb : S_.BroadcastsInDim s (![] : Fin 0 → Fin s.rank))
    (h : s.ReducesTo axes S_) (hu : 0 < S_.numel) (init : IVec S_ 1) (j : S_.Idx)
    (e : Host.reduce IntOp.andi (cmpf .olt x (broadcastInDim s ![] hb (constant S_ .f32 0x7F800000#32))) init h hu j = 1#1)
    (i : s.Idx) : x i ≠ ⊤ :=
  haveI : Subsingleton S_.Idx := ⟨fun a b => funext fun k => k.elim0⟩
  ne_top_of_lt (x i) (Host.reduce_andi_all _ init h hu j e i)

theorem and_one {a b : BitVec 1} (h : IntOp.andi a b = 1#1) : a = 1#1 ∧ b = 1#1 := by
  revert h; revert a b; decide

/-- What the precondition says of the two arrays. -/
theorem below_of_pre (x0 : FVec Ideal S4x8192x16 .f32) (x1 : FVec Ideal S16x16 .f32) (h : fn (F := Ideal) x0 x1 = fun _ => 1#1) :
    (∀ i, x0 i ≠ ⊤) ∧ ∀ i, x1 i ≠ ⊤ := by
  have e := congrFun h ix0
  obtain ⟨h0, h1⟩ := and_one e
  exact ⟨ne_top_of_all x0 _ _ _ _ _ h0, ne_top_of_all x1 _ _ _ _ _ h1⟩

end Cert.Pre_gates_below_infinity

end
-- ==== Proof.LinearMeta.lean ====
/- The combined input projection of the meta tokens at an element. -/
module

public import Idealize.ShloMosaic.Lib.Pointwise

@[expose] public section

noncomputable section

namespace Cert.LinearMeta

open Idealize.ShloMosaic

/-- A meta token's row against a column of the weights, and the column's bias. -/
def affine (x : FVec Ideal ⟨2, ![16, 2048]⟩ .f32) (w : FVec Ideal ⟨3, ![1, 2048, 14352]⟩ .f32)
    (b : FVec Ideal ⟨2, ![1, 14352]⟩ .f32) (i : Fin 16) (j : Fin 14352) : EReal :=
  (∑ k : Fin 2048, x (ix2 i k) * w (ix3 0 k j)) + b (ix2 0 j)

end Cert.LinearMeta

end
-- ==== Proof.QkvMetaProj.lean ====
/- Queries, keys and values of the meta tokens, scaled by column and split by head: the array the call leaves is the reference's. -/
module

public import proofs.«01_k».proof.Proof.Gen.QkvMetaIdeal.Frame
public import proofs.«01_k».proof.Proof.Gen.QkvMetaReferenceIdeal
public import proofs.«01_k».proof.Proof.LinearMeta
public import Idealize.ShloMosaic.Lib.Claim
public import Idealize.ShloMosaic.Lib.Pipeline.ValueKit

@[expose] public section

set_option maxRecDepth 16384

noncomputable section

namespace Cert.QkvMetaIdeal.Product

open Idealize.ShloMosaic Idealize.ShloMosaic.TcCoe
open Cert.QkvMetaIdeal Cert.QkvMetaIdeal.Gen
open Cert.LinearMeta

/-- The combined projection of the reference. -/
def combined (x : FVec Ideal S16x2048 .f32) (w : FVec Ideal S1x2048x14352 .f32) (b : FVec Ideal S1x14352 .f32) :
    FVec Ideal Cert.QkvMetaReferenceIdeal.S16x14352 .f32 :=
  addf (Host.dotGeneral (F := Ideal) (so := Cert.QkvMetaReferenceIdeal.S16x14352) (φ₁ := .f32) (φ₂ := .f32) Cert.QkvMetaReferenceIdeal.dot_S16x2048_S2048x14352_S16x14352_1_0_0_1_n_n none x
      (shapeCast _ w Cert.QkvMetaReferenceIdeal.Gen.shapeCasts_S1x2048x14352_S2048x14352))
    (broadcastInDim Cert.QkvMetaReferenceIdeal.S16x14352 ![0, 1] Cert.QkvMetaReferenceIdeal.Gen.bcast_S1x14352_S16x14352_0_1
      (broadcastInDim Cert.QkvMetaReferenceIdeal.S1x14352 ![1] Cert.QkvMetaReferenceIdeal.Gen.bcast_S14352_S1x14352_1
        (shapeCast _ b Cert.QkvMetaReferenceIdeal.Gen.shapeCasts_S1x14352_S14352)))

theorem combined_apply (x : FVec Ideal S16x2048 .f32) (w : FVec Ideal S1x2048x14352 .f32) (b : FVec Ideal S1x14352 .f32)
    (i : Fin 16) (j : Fin 14352) : combined x w b (ix2 i j) = affine x w b i j := by
  pointwise [combined, affine]

/-- The reference's queries, keys and values by head. -/
def refQkv (x : FVec Ideal S16x2048 .f32) (w : FVec Ideal S1x2048x14352 .f32) (b : FVec Ideal S1x14352 .f32) (s : FVec Ideal S6144 .f32) :
    FVec Ideal S48x16x128 .bf16 :=
  truncf .bf16 (transpose Cert.QkvMetaReferenceIdeal.S48x16x128 [1, 0, 2]
    (shapeCast Cert.QkvMetaReferenceIdeal.S16x48x128
      (mulf (extractStridedSlice Cert.QkvMetaReferenceIdeal.S16x6144 ![0, 4096] (combined x w b) Cert.QkvMetaReferenceIdeal.Gen.slices_S16x14352_S16x6144_0_4096)
        (broadcastInDim Cert.QkvMetaReferenceIdeal.S16x6144 ![0, 1] Cert.QkvMetaReferenceIdeal.Gen.bcast_S1x6144_S16x6144_0_1
          (broadcastInDim Cert.QkvMetaReferenceIdeal.S1x6144 ![1] Cert.QkvMetaReferenceIdeal.Gen.bcast_S6144_S1x6144_1 s)))
      Cert.QkvMetaReferenceIdeal.Gen.shapeCasts_S16x6144_S16x48x128)
    Cert.QkvMetaReferenceIdeal.Gen.transposes_S16x48x128_S48x16x128_1_0_2) Cert.QkvMetaReferenceIdeal.Gen.bitsLt_bf16_f32

theorem refQkv_apply (x : FVec Ideal S16x2048 .f32) (w : FVec Ideal S1x2048x14352 .f32) (b : FVec Ideal S1x14352 .f32) (s : FVec Ideal S6144 .f32)
    (a : Fin 48) (i : Fin 16) (d : Fin 128) :
    refQkv x w b s (ix3 a i d) = affine x w b i ⟨4096 + (a.val * 128 + d.val), by omega⟩ * s (ix1 ⟨a.val * 128 + d.val, by omega⟩) := by
  rw [← combined_apply]
  pointwise [refQkv]
  blk_ext

theorem refQkv_col (x : FVec Ideal S16x2048 .f32) (w : FVec Ideal S1x2048x14352 .f32) (b : FVec Ideal S1x14352 .f32) (s : FVec Ideal S6144 .f32)
    (a : Fin 48) (i : Fin 16) (d : Fin 128) (j : Fin 6144) (h : j.val = a.val * 128 + d.val) :
    refQkv x w b s (ix3 a i d) = affine x w b i ⟨4096 + j.val, by omega⟩ * s (ix1 j) := by
  obtain ⟨n, hn⟩ := j
  dsimp only at h
  subst h
  exact refQkv_apply x w b s a i d

/-- The tile the body computes, at an element. -/
theorem tile_apply (x : Vec Ideal S16x2048 .bf16) (w : Vec Ideal S2048x512 .bf16) (b s : Vec Ideal S1x512 .f32) (r : Fin 16) (j : Fin 512) :
    k0_pay1 x w b s (ix2 r j) = ((∑ k : Fin 2048, x (ix2 r k) * w (ix2 k j)) + b (ix2 0 j)) * s (ix2 0 j) := by
  pointwise [k0_pay1]

/-- The block the body leaves: the tile, its columns split by head. -/
theorem block_eq (x : Vec Ideal S16x2048 .bf16) (w : Vec Ideal S2048x512 .bf16) (b s : Vec Ideal S1x512 .f32)
    (y : S4x16x128.Idx) (i : S16x512.Idx) (hi0 : (i 0 : ℕ) = y 1) (hi1 : (i 1 : ℕ) = (y 0 : ℕ) * 128 + y 2) :
    out0_4 x w b s y = k0_pay1 x w b s i := by
  unfold out0_4
  canon_tiles x h
  all_goals (open_payloads; pointwise; blk_ext)

/-- Which block each window is at. -/
theorem idx : ∀ t : Fin cfg0.N, win0_0.index t = ![0, 0] ∧ win0_1.index t = ![0, 8 + t.val]
    ∧ win0_2.index t = ![0, 8 + t.val] ∧ win0_3.index t = ![0, t.val]
    ∧ win0_4.index t = ![t.val, 0, 0] :=
  (by decide +kernel : ∀ t : Fin grid0.N, _)

/-- The rows the call reads. -/
def rounded (x : FVec Ideal S16x2048 .f32) : FVec Ideal S16x2048 .bf16 := truncf .bf16 x bitsLt_bf16_f32

/-- The columns of the weights the call reads. -/
def weights (w : FVec Ideal S1x2048x14352 .f32) : FVec Ideal S2048x10240 .bf16 :=
  truncf .bf16 (extractStridedSlice S2048x10240 ![0, 0] (shapeCast S2048x14352 w shapeCasts_S1x2048x14352_S2048x14352)
    slices_S2048x14352_S2048x10240_0_0) bitsLt_bf16_f32

/-- Their biases. -/
def biases (b : FVec Ideal S1x14352 .f32) : FVec Ideal S1x10240 .f32 :=
  shapeCast S1x10240 (extractStridedSlice S10240 ![0] (shapeCast S14352 b shapeCasts_S1x14352_S14352) slices_S14352_S10240_0)
    shapeCasts_S10240_S1x10240

theorem weights_apply (w : FVec Ideal S1x2048x14352 .f32) (k : Fin 2048) (j : Fin 10240) (j' : Fin 14352) (h : j'.val = 0 + j.val) :
    weights w (ix2 k j) = w (ix3 0 k j') := by
  obtain ⟨n, hn⟩ := j'
  dsimp only at h
  subst h
  pointwise [weights]

theorem biases_apply (b : FVec Ideal S1x14352 .f32) (j : Fin 10240) (j' : Fin 14352) (h : j'.val = 0 + j.val) :
    biases b (ix2 0 j) = b (ix2 0 j') := by
  obtain ⟨n, hn⟩ := j'
  dsimp only at h
  subst h
  pointwise [biases]

variable (m : (ℓ : Loc nD τ sig) → Buf (Elt Ideal) ℓ) (c : Dev nD) (t : Fin cfg0.N)

/-- A column of the point's block, among all columns of the result. -/
def colOf (j : Fin 512) : Fin 6144 := ⟨t.val * 512 + j.val, by
  have h : t.val < 12 := t.isLt
  omega⟩

theorem V_x : V m c main_v6 = rounded (m ((c.tc : Thread nD τ).loc main_arg0)) := by
  entry_read
  rfl

theorem V_w : V m c main_v2 = weights (m ((c.tc : Thread nD τ).loc main_arg1)) := by
  entry_read
  rfl

theorem V_b : V m c main_v5 = biases (m ((c.tc : Thread nD τ).loc main_arg2)) := by
  entry_read
  rfl

theorem read_x (r : Fin 16) (k : Fin 2048) : iblk m c 0 t (ix2 r k) = m ((c.tc : Thread nD τ).loc main_arg0) (ix2 r k) := by
  have h := (idx t).1
  have e : iblk m c 0 t (ix2 r k) = V m c main_v6 (ix2 r k) := by
    blk_simp [iblk]
    blk_ext [h]
    all_goals rfl
  rw [e, V_x]
  rfl

theorem read_w (k : Fin 2048) (j : Fin 512) (j' : Fin 14352) (h' : j'.val = 4096 + (colOf t j).val) :
    iblk m c 1 t (ix2 k j) = m ((c.tc : Thread nD τ).loc main_arg1) (ix3 0 k j') := by
  have h := (idx t).2.1
  have e : iblk m c 1 t (ix2 k j) = V m c main_v2 (ix2 k ⟨4096 + (colOf t j).val, by omega⟩) := by
    blk_simp [iblk]
    blk_ext [h]
    all_goals (simp only [colOf] <;> omega)
  rw [e, V_w]
  exact weights_apply _ _ _ _ (by simp only; omega)

theorem read_b (j : Fin 512) (j' : Fin 14352) (h' : j'.val = 4096 + (colOf t j).val) :
    iblk m c 2 t (ix2 0 j) = m ((c.tc : Thread nD τ).loc main_arg2) (ix2 0 j') := by
  have h := (idx t).2.2.1
  have e : iblk m c 2 t (ix2 0 j) = V m c main_v5 (ix2 0 ⟨4096 + (colOf t j).val, by omega⟩) := by
    blk_simp [iblk]
    blk_ext [h]
    all_goals (simp only [colOf] <;> omega)
  rw [e, V_b]
  exact biases_apply _ _ _ (by simp only; omega)

/-- The scales of the columns, as the call reads them. -/
def scales (s : FVec Ideal S6144 .f32) : FVec Ideal S1x6144 .f32 := shapeCast S1x6144 s shapeCasts_S6144_S1x6144

theorem scales_apply (s : FVec Ideal S6144 .f32) (j : Fin 6144) : scales s (ix2 0 j) = s (ix1 j) := by
  pointwise [scales]

theorem V_s : V m c main_v7 = scales (m ((c.tc : Thread nD τ).loc main_arg3)) := by
  entry_read
  rfl

theorem read_s (j : Fin 512) : iblk m c 3 t (ix2 0 j) = m ((c.tc : Thread nD τ).loc main_arg3) (ix1 (colOf t j)) := by
  have h := (idx t).2.2.2.1
  have e : iblk m c 3 t (ix2 0 j) = V m c main_v7 (ix2 0 (colOf t j)) := by
    blk_simp [iblk]
    blk_ext [h]
    all_goals rfl
  rw [e, V_s]
  exact scales_apply _ _

/-- A head of the point's block, among all heads. -/
def headOf (a : Fin 4) : Fin 48 := ⟨t.val * 4 + a.val, by
  have h : t.val < 12 := t.isLt
  omega⟩

/-- Where an element of the point's block lies in the array. -/
theorem emb_out (a : Fin 4) (r : Fin 16) (d : Fin 128) : (win0_4.blk t).view.emb (ix3 a r d) = ix3 (headOf t a) r d := by
  have h := (idx t).2.2.2.2
  blk_ext [h]
  all_goals rfl

theorem point (a : Fin 4) (r : Fin 16) (d : Fin 128) (j : Fin 512) (hj : j.val = a.val * 128 + d.val) :
    out0_4 (iblk m c 0 t) (iblk m c 1 t) (iblk m c 2 t) (iblk m c 3 t) (ix3 a r d)
      = refQkv (m ((c.tc : Thread nD τ).loc main_arg0)) (m ((c.tc : Thread nD τ).loc main_arg1))
        (m ((c.tc : Thread nD τ).loc main_arg2)) (m ((c.tc : Thread nD τ).loc main_arg3)) (ix3 (headOf t a) r d) := by
  have hc : (colOf t j).val = (headOf t a).val * 128 + d.val := by
    simp only [headOf, colOf]
    omega
  rw [refQkv_col _ _ _ _ _ _ _ _ hc]
  refine (block_eq _ _ _ _ (ix3 a r d) (ix2 r j) rfl hj).trans ((tile_apply _ _ _ _ r j).trans ?_)
  refine congrArg₂ (· * ·) (congrArg₂ (· + ·) (Finset.sum_congr rfl fun k _ => ?_)
    (read_b m c t j ⟨4096 + (colOf t j).val, by omega⟩ rfl)) (read_s m c t j)
  rw [read_x, read_w m c t k j ⟨4096 + (colOf t j).val, by omega⟩ rfl]

/-- The array when the run ends. -/
theorem array_eq : (dats m 0 c).arrAt 4 cfg0.N = refQkv (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ (by decide +kernel) fun t hf y => ?_
  rw [after0_4]
  blk_simp
  obtain ⟨a, r, d, rfl⟩ : ∃ (a : Fin 4) (r : Fin 16) (d : Fin 128), y = ix3 a r d := ⟨y 0, y 1, y 2, by ext b; fin_cases b <;> rfl⟩
  rw [emb_out]
  exact point m c t a r d ⟨a.val * 128 + d.val, by omega⟩ rfl

end Cert.QkvMetaIdeal.Product

end
-- ==== Proof.GluMetaProj.lean ====
/- The gated linear unit of the meta tokens: the array the call leaves is the reference's. -/
module

public import proofs.«01_k».proof.Proof.Gen.GluMetaIdeal.Frame
public import proofs.«01_k».proof.Proof.Gen.GluMetaReferenceIdeal
public import proofs.«01_k».proof.Proof.Linear
public import proofs.«01_k».proof.Proof.LinearMeta
public import Idealize.ShloMosaic.Lib.Claim
public import Idealize.ShloMosaic.Lib.Pipeline.ValueKit

@[expose] public section

set_option maxRecDepth 16384

noncomputable section

namespace Cert.GluMetaIdeal.Product

open Idealize.ShloMosaic Idealize.ShloMosaic.TcCoe
open Cert.GluMetaIdeal Cert.GluMetaIdeal.Gen
open Cert.Linear (one sigmoid sigmoid_sub)
open Cert.LinearMeta

/-- The combined projection of the reference. -/
def combined (x : FVec Ideal S16x2048 .f32) (w : FVec Ideal S1x2048x14352 .f32) (b : FVec Ideal S1x14352 .f32) :
    FVec Ideal Cert.GluMetaReferenceIdeal.S16x14352 .f32 :=
  addf (Host.dotGeneral (F := Ideal) (so := Cert.GluMetaReferenceIdeal.S16x14352) (φ₁ := .f32) (φ₂ := .f32) Cert.GluMetaReferenceIdeal.dot_S16x2048_S2048x14352_S16x14352_1_0_0_1_n_n none x
      (shapeCast _ w Cert.GluMetaReferenceIdeal.Gen.shapeCasts_S1x2048x14352_S2048x14352))
    (broadcastInDim Cert.GluMetaReferenceIdeal.S16x14352 ![0, 1] Cert.GluMetaReferenceIdeal.Gen.bcast_S1x14352_S16x14352_0_1
      (broadcastInDim Cert.GluMetaReferenceIdeal.S1x14352 ![1] Cert.GluMetaReferenceIdeal.Gen.bcast_S14352_S1x14352_1
        (shapeCast _ b Cert.GluMetaReferenceIdeal.Gen.shapeCasts_S1x14352_S14352)))

theorem combined_apply (x : FVec Ideal S16x2048 .f32) (w : FVec Ideal S1x2048x14352 .f32) (b : FVec Ideal S1x14352 .f32)
    (i : Fin 16) (j : Fin 14352) : combined x w b (ix2 i j) = affine x w b i j := by
  pointwise [combined, affine]

/-- The reference's gated linear unit. -/
def refGlu (x : FVec Ideal S16x2048 .f32) (w : FVec Ideal S1x2048x14352 .f32) (b : FVec Ideal S1x14352 .f32) :
    FVec Ideal S16x2048 .f32 :=
  mulf (extractStridedSlice Cert.GluMetaReferenceIdeal.S16x2048 ![0, 0] (combined x w b) Cert.GluMetaReferenceIdeal.Gen.slices_S16x14352_S16x2048_0_0)
    (Host.divf
      (broadcastInDim Cert.GluMetaReferenceIdeal.S16x2048 ![] Cert.GluMetaReferenceIdeal.Gen.bcast_S_S16x2048 (constant Cert.GluMetaReferenceIdeal.S_ .f32 0x3F800000#32))
      (addf (broadcastInDim Cert.GluMetaReferenceIdeal.S16x2048 ![] Cert.GluMetaReferenceIdeal.Gen.bcast_S_S16x2048 (constant Cert.GluMetaReferenceIdeal.S_ .f32 0x3F800000#32))
        (Host.exp (Host.negf (extractStridedSlice Cert.GluMetaReferenceIdeal.S16x2048 ![0, 2048] (combined x w b)
          Cert.GluMetaReferenceIdeal.Gen.slices_S16x14352_S16x2048_0_2048)))))

theorem refGlu_apply (x : FVec Ideal S16x2048 .f32) (w : FVec Ideal S1x2048x14352 .f32) (b : FVec Ideal S1x14352 .f32)
    (i : Fin 16) (j : Fin 2048) :
    refGlu x w b (ix2 i j) = affine x w b i ⟨0 + j.val, by omega⟩ * sigmoid (affine x w b i ⟨2048 + j.val, by omega⟩) := by
  rw [← combined_apply, ← combined_apply]
  pointwise [refGlu, sigmoid, one]

/-- The block the body leaves, at an element. -/
theorem block_apply (x : Vec Ideal S16x2048 .bf16) (w : Vec Ideal S2048x512 .bf16) (b : Vec Ideal S1x512 .f32)
    (w' : Vec Ideal S2048x512 .bf16) (b' : Vec Ideal S1x512 .f32) (r : Fin 16) (j : Fin 512) :
    k0_pay1 x w b w' b' (ix2 r j) = ((∑ k : Fin 2048, x (ix2 r k) * w (ix2 k j)) + b (ix2 0 j))
      * sigmoid ((∑ k : Fin 2048, x (ix2 r k) * w' (ix2 k j)) + b' (ix2 0 j)) := by
  rw [← sigmoid_sub]
  pointwise [k0_pay1, one]

/-- Which block each window is at. -/
theorem idx : ∀ t : Fin cfg0.N, win0_0.index t = ![0, 0] ∧ win0_1.index t = ![0, t.val]
    ∧ win0_2.index t = ![0, 4 + t.val] ∧ win0_3.index t = ![0, t.val]
    ∧ win0_4.index t = ![0, 4 + t.val] ∧ win0_5.index t = ![0, t.val] :=
  (by decide +kernel : ∀ t : Fin grid0.N, _)

/-- The rows the call reads. -/
def rounded (x : FVec Ideal S16x2048 .f32) : FVec Ideal S16x2048 .bf16 := truncf .bf16 x bitsLt_bf16_f32

/-- The columns of the weights the call reads. -/
def weights (w : FVec Ideal S1x2048x14352 .f32) : FVec Ideal S2048x10240 .bf16 :=
  truncf .bf16 (extractStridedSlice S2048x10240 ![0, 0] (shapeCast S2048x14352 w shapeCasts_S1x2048x14352_S2048x14352)
    slices_S2048x14352_S2048x10240_0_0) bitsLt_bf16_f32

/-- Their biases. -/
def biases (b : FVec Ideal S1x14352 .f32) : FVec Ideal S1x10240 .f32 :=
  shapeCast S1x10240 (extractStridedSlice S10240 ![0] (shapeCast S14352 b shapeCasts_S1x14352_S14352) slices_S14352_S10240_0)
    shapeCasts_S10240_S1x10240

theorem weights_apply (w : FVec Ideal S1x2048x14352 .f32) (k : Fin 2048) (j : Fin 10240) (j' : Fin 14352) (h : j'.val = 0 + j.val) :
    weights w (ix2 k j) = w (ix3 0 k j') := by
  obtain ⟨n, hn⟩ := j'
  dsimp only at h
  subst h
  pointwise [weights]

theorem biases_apply (b : FVec Ideal S1x14352 .f32) (j : Fin 10240) (j' : Fin 14352) (h : j'.val = 0 + j.val) :
    biases b (ix2 0 j) = b (ix2 0 j') := by
  obtain ⟨n, hn⟩ := j'
  dsimp only at h
  subst h
  pointwise [biases]

variable (m : (ℓ : Loc nD τ sig) → Buf (Elt Ideal) ℓ) (c : Dev nD) (t : Fin cfg0.N)

/-- A column of the point's block, among all columns of the result. -/
def colOf (j : Fin 512) : Fin 2048 := ⟨t.val * 512 + j.val, by
  have h : t.val < 4 := t.isLt
  omega⟩

theorem V_x : V m c main_v6 = rounded (m ((c.tc : Thread nD τ).loc main_arg0)) := by
  entry_read
  rfl

theorem V_w : V m c main_v2 = weights (m ((c.tc : Thread nD τ).loc main_arg1)) := by
  entry_read
  rfl

theorem V_b : V m c main_v5 = biases (m ((c.tc : Thread nD τ).loc main_arg2)) := by
  entry_read
  rfl

theorem read_x (r : Fin 16) (k : Fin 2048) : iblk m c 0 t (ix2 r k) = m ((c.tc : Thread nD τ).loc main_arg0) (ix2 r k) := by
  have h := (idx t).1
  have e : iblk m c 0 t (ix2 r k) = V m c main_v6 (ix2 r k) := by
    blk_simp [iblk]
    blk_ext [h]
    all_goals rfl
  rw [e, V_x]
  rfl

theorem read_w (k : Fin 2048) (j : Fin 512) (j' : Fin 14352) (h' : j'.val = 0 + (colOf t j).val) :
    iblk m c 1 t (ix2 k j) = m ((c.tc : Thread nD τ).loc main_arg1) (ix3 0 k j') := by
  have h := (idx t).2.1
  have e : iblk m c 1 t (ix2 k j) = V m c main_v2 (ix2 k ⟨0 + (colOf t j).val, by omega⟩) := by
    blk_simp [iblk]
    blk_ext [h]
    all_goals (simp only [colOf] <;> omega)
  rw [e, V_w]
  exact weights_apply _ _ _ _ (by simp only; omega)

theorem read_wg (k : Fin 2048) (j : Fin 512) (j' : Fin 14352) (h' : j'.val = 2048 + (colOf t j).val) :
    iblk m c 2 t (ix2 k j) = m ((c.tc : Thread nD τ).loc main_arg1) (ix3 0 k j') := by
  have h := (idx t).2.2.1
  have e : iblk m c 2 t (ix2 k j) = V m c main_v2 (ix2 k ⟨2048 + (colOf t j).val, by omega⟩) := by
    blk_simp [iblk]
    blk_ext [h]
    all_goals (simp only [colOf] <;> omega)
  rw [e, V_w]
  exact weights_apply _ _ _ _ (by simp only; omega)

theorem read_b (j : Fin 512) (j' : Fin 14352) (h' : j'.val = 0 + (colOf t j).val) :
    iblk m c 3 t (ix2 0 j) = m ((c.tc : Thread nD τ).loc main_arg2) (ix2 0 j') := by
  have h := (idx t).2.2.2.1
  have e : iblk m c 3 t (ix2 0 j) = V m c main_v5 (ix2 0 ⟨0 + (colOf t j).val, by omega⟩) := by
    blk_simp [iblk]
    blk_ext [h]
    all_goals (simp only [colOf] <;> omega)
  rw [e, V_b]
  exact biases_apply _ _ _ (by simp only; omega)

theorem read_bg (j : Fin 512) (j' : Fin 14352) (h' : j'.val = 2048 + (colOf t j).val) :
    iblk m c 4 t (ix2 0 j) = m ((c.tc : Thread nD τ).loc main_arg2) (ix2 0 j') := by
  have h := (idx t).2.2.2.2.1
  have e : iblk m c 4 t (ix2 0 j) = V m c main_v5 (ix2 0 ⟨2048 + (colOf t j).val, by omega⟩) := by
    blk_simp [iblk]
    blk_ext [h]
    all_goals (simp only [colOf] <;> omega)
  rw [e, V_b]
  exact biases_apply _ _ _ (by simp only; omega)

/-- The array when the run ends. -/
theorem array_eq : (dats m 0 c).arrAt 5 cfg0.N = refGlu (m ((c.tc : Thread nD τ).loc main_arg0)) (m ((c.tc : Thread nD τ).loc main_arg1))
    (m ((c.tc : Thread nD τ).loc main_arg2)) := by
  refine (dats m 0 c).arrAt_eq_of_covers 5 _ (by decide +kernel) fun t hf y => ?_
  rw [after0_5]
  blk_simp
  frame_out
  obtain ⟨r, j, rfl⟩ : ∃ (r : Fin 16) (j : Fin 512), y = ix2 r j := ⟨y 0, y 1, by ext a; fin_cases a <;> rfl⟩
  have h := (idx t).2.2.2.2.2
  have hout : (win0_5.blk t).view.emb (ix2 r j) = ix2 r (colOf t j) := by
    blk_ext [h]
    all_goals rfl
  rw [hout, refGlu_apply]
  refine (block_apply _ _ _ _ _ r j).trans (congrArg₂ (fun a b => a * sigmoid b) ?_ ?_)
  · refine congrArg₂ (· + ·) (Finset.sum_congr rfl fun k _ => ?_) (read_b m c t j ⟨0 + (colOf t j).val, by omega⟩ rfl)
    rw [read_x, read_w m c t k j ⟨0 + (colOf t j).val, by omega⟩ rfl]
  · refine congrArg₂ (· + ·) (Finset.sum_congr rfl fun k _ => ?_) (read_bg m c t j ⟨2048 + (colOf t j).val, by omega⟩ rfl)
    rw [read_x, read_wg m c t k j ⟨2048 + (colOf t j).val, by omega⟩ rfl]

end Cert.GluMetaIdeal.Product

end
-- ==== Proof.ForgetMetaProj.lean ====
/- The forget gates of the meta tokens: the array the call leaves is the reference's. -/
module

public import proofs.«01_k».proof.Proof.Gen.ForgetMetaIdeal.Frame
public import proofs.«01_k».proof.Proof.Gen.ForgetMetaReferenceIdeal
public import proofs.«01_k».proof.Proof.LinearMeta
public import proofs.«01_k».proof.Proof.ForgetProj
public import Idealize.ShloMosaic.Lib.Claim
public import Idealize.ShloMosaic.Lib.Pipeline.ValueKit

@[expose] public section

set_option maxRecDepth 16384

noncomputable section

namespace Cert.ForgetMetaIdeal.Product

open Idealize.ShloMosaic Idealize.ShloMosaic.TcCoe
open Cert.ForgetMetaIdeal Cert.ForgetMetaIdeal.Gen
open Cert.LinearMeta
open Cert.ForgetIdeal.Product (logSigmoid softAt logSigmoid_eq)

/-- The combined projection of the reference. -/
def combined (x : FVec Ideal S16x2048 .f32) (w : FVec Ideal S1x2048x14352 .f32) (b : FVec Ideal S1x14352 .f32) :
    FVec Ideal Cert.ForgetMetaReferenceIdeal.S16x14352 .f32 :=
  addf (Host.dotGeneral (F := Ideal) (so := Cert.ForgetMetaReferenceIdeal.S16x14352) (φ₁ := .f32) (φ₂ := .f32) Cert.ForgetMetaReferenceIdeal.dot_S16x2048_S2048x14352_S16x14352_1_0_0_1_n_n none x
      (shapeCast _ w Cert.ForgetMetaReferenceIdeal.Gen.shapeCasts_S1x2048x14352_S2048x14352))
    (broadcastInDim Cert.ForgetMetaReferenceIdeal.S16x14352 ![0, 1] Cert.ForgetMetaReferenceIdeal.Gen.bcast_S1x14352_S16x14352_0_1
      (broadcastInDim Cert.ForgetMetaReferenceIdeal.S1x14352 ![1] Cert.ForgetMetaReferenceIdeal.Gen.bcast_S14352_S1x14352_1
        (shapeCast _ b Cert.ForgetMetaReferenceIdeal.Gen.shapeCasts_S1x14352_S14352)))

theorem combined_apply (x : FVec Ideal S16x2048 .f32) (w : FVec Ideal S1x2048x14352 .f32) (b : FVec Ideal S1x14352 .f32)
    (i : Fin 16) (j : Fin 14352) : combined x w b (ix2 i j) = affine x w b i j := by
  pointwise [combined, affine]

/-- The gates' columns of it, negated. -/
def minus (x : FVec Ideal S16x2048 .f32) (w : FVec Ideal S1x2048x14352 .f32) (b : FVec Ideal S1x14352 .f32) :
    FVec Ideal Cert.ForgetMetaReferenceIdeal.S16x16 .f32 :=
  Host.negf (extractStridedSlice Cert.ForgetMetaReferenceIdeal.S16x16 ![0, 10240] (combined x w b)
    Cert.ForgetMetaReferenceIdeal.Gen.slices_S16x14352_S16x16_0_10240)

/-- A zero everywhere. -/
def zeros : FVec Ideal Cert.ForgetMetaReferenceIdeal.S16x16 .f32 :=
  broadcastInDim Cert.ForgetMetaReferenceIdeal.S16x16 ![] Cert.ForgetMetaReferenceIdeal.Gen.bcast_S_S16x16 (constant Cert.ForgetMetaReferenceIdeal.S_ .f32 0x00000000#32)

/-- The reference's softplus. -/
def soft (z : FVec Ideal Cert.ForgetMetaReferenceIdeal.S16x16 .f32) : FVec Ideal Cert.ForgetMetaReferenceIdeal.S16x16 .f32 :=
  select (cmpf .une (subf z zeros) (subf z zeros)) (addf z zeros)
    (addf (maximumf z zeros) (Host.log1p (Host.exp (Host.negf (Host.absf (subf z zeros))))))

theorem minus_apply (x : FVec Ideal S16x2048 .f32) (w : FVec Ideal S1x2048x14352 .f32) (b : FVec Ideal S1x14352 .f32)
    (i : Fin 16) (j : Fin 16) : minus x w b (ix2 i j) = -affine x w b i ⟨10240 + j.val, by omega⟩ := by
  rw [← combined_apply]
  pointwise [minus]

theorem soft_apply (z : FVec Ideal Cert.ForgetMetaReferenceIdeal.S16x16 .f32) (i : Fin 16) (j : Fin 16) :
    soft z (ix2 i j) = softAt (z (ix2 i j)) := by
  have h : soft z (ix2 i j) = if z (ix2 i j) ≠ z (ix2 i j) then z (ix2 i j)
      else max (z (ix2 i j)) 0 + Ideal.log1p (Ideal.exp (-(max (z (ix2 i j)) (-(z (ix2 i j)))))) := by
    pointwise [soft, zeros]
    rfl
  rw [h, if_neg (fun h => h rfl), softAt]

/-- The reference's gates. -/
def refGates (x : FVec Ideal S16x2048 .f32) (w : FVec Ideal S1x2048x14352 .f32) (b : FVec Ideal S1x14352 .f32) :
    FVec Ideal S16x16 .f32 :=
  transpose Cert.ForgetMetaReferenceIdeal.S16x16 [1, 0] (Host.negf (soft (minus x w b))) Cert.ForgetMetaReferenceIdeal.Gen.transposes_S16x16_S16x16_1_0

theorem refGates_apply (x : FVec Ideal S16x2048 .f32) (w : FVec Ideal S1x2048x14352 .f32) (b : FVec Ideal S1x14352 .f32)
    (i : Fin 16) (j : Fin 16) : refGates x w b (ix2 j i) = logSigmoid (affine x w b i ⟨10240 + j.val, by omega⟩) := by
  rw [logSigmoid_eq, ← minus_apply, ← soft_apply]
  pointwise [refGates]

/-- The block the body leaves, at an element. -/
theorem block_apply (w : Vec Ideal S16x2048 .bf16) (x : Vec Ideal S16x2048 .bf16) (b : Vec Ideal S16x1 .f32) (j : Fin 16)
    (r : Fin 16) : k0_pay1 w x b (ix2 j r) = logSigmoid ((∑ k : Fin 2048, w (ix2 j k) * x (ix2 r k)) + b (ix2 j 0)) := by
  pointwise [k0_pay1, logSigmoid]
  rfl

/-- Which block each window is at. -/
theorem idx : ∀ t : Fin cfg0.N, win0_0.index t = ![0, 0] ∧ win0_1.index t = ![t.val, 0] ∧ win0_2.index t = ![0, 0] ∧ win0_3.index t = ![0, t.val] :=
  (by decide +kernel : ∀ t : Fin grid0.N, _)

/-- The rows the call reads. -/
def rounded (x : FVec Ideal S16x2048 .f32) : FVec Ideal S16x2048 .bf16 := truncf .bf16 x bitsLt_bf16_f32

/-- The columns of the weights the call reads, as rows. -/
def weights (w : FVec Ideal S1x2048x14352 .f32) : FVec Ideal S16x2048 .bf16 :=
  truncf .bf16 (transpose S16x2048 [1, 0] (extractStridedSlice S2048x16 ![0, 10240] (shapeCast S2048x14352 w shapeCasts_S1x2048x14352_S2048x14352)
    slices_S2048x14352_S2048x16_0_10240) transposes_S2048x16_S16x2048_1_0) bitsLt_bf16_f32

/-- Their biases. -/
def biases (b : FVec Ideal S1x14352 .f32) : FVec Ideal S16x1 .f32 :=
  shapeCast S16x1 (extractStridedSlice S16 ![10240] (shapeCast S14352 b shapeCasts_S1x14352_S14352) slices_S14352_S16_10240) shapeCasts_S16_S16x1

theorem weights_apply (w : FVec Ideal S1x2048x14352 .f32) (k : Fin 2048) (j : Fin 16) :
    weights w (ix2 j k) = w (ix3 0 k ⟨10240 + j.val, by omega⟩) := by
  pointwise [weights]

theorem biases_apply (b : FVec Ideal S1x14352 .f32) (j : Fin 16) : biases b (ix2 j 0) = b (ix2 0 ⟨10240 + j.val, by omega⟩) := by
  pointwise [biases]

variable (m : (ℓ : Loc nD τ sig) → Buf (Elt Ideal) ℓ) (c : Dev nD) (t : Fin cfg0.N)

/-- A row of the point's block, among all rows. -/
def rowOf (r : Fin 16) : Fin 16 := ⟨t.val * 16 + r.val, by
  have h : t.val < 1 := t.isLt
  omega⟩

theorem V_x : V m c main_v7 = rounded (m ((c.tc : Thread nD τ).loc main_arg0)) := by
  entry_read
  rfl

theorem V_w : V m c main_v3 = weights (m ((c.tc : Thread nD τ).loc main_arg1)) := by
  entry_read
  rfl

theorem V_b : V m c main_v6 = biases (m ((c.tc : Thread nD τ).loc main_arg2)) := by
  entry_read
  rfl

theorem read_w (j : Fin 16) (k : Fin 2048) :
    iblk m c 0 t (ix2 j k) = m ((c.tc : Thread nD τ).loc main_arg1) (ix3 0 k ⟨10240 + j.val, by omega⟩) := by
  have h := (idx t).1
  have e : iblk m c 0 t (ix2 j k) = V m c main_v3 (ix2 j k) := by
    blk_simp [iblk]
    blk_ext [h]
    all_goals first | rfl | omega
  rw [e, V_w, weights_apply]

theorem read_x (r : Fin 16) (k : Fin 2048) : iblk m c 1 t (ix2 r k) = m ((c.tc : Thread nD τ).loc main_arg0) (ix2 (rowOf t r) k) := by
  have h := (idx t).2.1
  have e : iblk m c 1 t (ix2 r k) = V m c main_v7 (ix2 (rowOf t r) k) := by
    blk_simp [iblk]
    blk_ext [h]
    all_goals first | rfl | (simp only [rowOf] <;> omega)
  rw [e, V_x]
  rfl

theorem read_b (j : Fin 16) : iblk m c 2 t (ix2 j 0) = m ((c.tc : Thread nD τ).loc main_arg2) (ix2 0 ⟨10240 + j.val, by omega⟩) := by
  have h := (idx t).2.2.1
  have e : iblk m c 2 t (ix2 j 0) = V m c main_v6 (ix2 j 0) := by
    blk_simp [iblk]
    blk_ext [h]
    all_goals first | rfl | omega
  rw [e, V_b, biases_apply]

/-- The array when the run ends. -/
theorem array_eq : (dats m 0 c).arrAt 3 cfg0.N = refGates (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  rw [after0_3]
  blk_simp
  frame_out
  obtain ⟨j, r, rfl⟩ : ∃ (j : Fin 16) (r : Fin 16), y = ix2 j r := ⟨y 0, y 1, by ext a; fin_cases a <;> rfl⟩
  have h := (idx t).2.2.2
  have hout : (win0_3.blk t).view.emb (ix2 j r) = ix2 j (rowOf t r) := by
    blk_ext [h]
    all_goals first | rfl | (simp only [rowOf] <;> omega)
  rw [hout, refGates_apply]
  refine (block_apply _ _ _ j r).trans (congrArg logSigmoid ?_)
  refine congrArg₂ (· + ·) (Finset.sum_congr rfl fun k _ => ?_) (read_b m c t j)
  rw [read_x, read_w, mul_comm]

end Cert.ForgetMetaIdeal.Product

end
-- ==== Proof.NormMetaProj.lean ====
/- The layer norm of the meta tokens, rounded: the array the call leaves is the reference's. -/
module

public import proofs.«01_k».proof.Proof.Gen.NormMetaIdeal.Frame
public import proofs.«01_k».proof.Proof.Gen.NormMetaReferenceIdeal
public import proofs.«01_k».proof.Proof.MixProj

@[expose] public section

set_option maxRecDepth 16384

noncomputable section

namespace Cert.NormMetaReferenceIdeal.Rows

open Idealize.ShloMosaic Idealize.ShloMosaic.TcCoe
open Cert.NormMetaReferenceIdeal Cert.NormMetaReferenceIdeal.Gen

/-- The mean of each position. -/
def meanOf (x : FVec Ideal S16x2048 .f32) : FVec Ideal S16x1 .f32 :=
  Host.divf (broadcastInDim S16x1 ![0] bcast_S16_S16x1_0 (Host.reduceAdd x (constant S_ .f32 0x00000000#32) reducesTo_S16x2048_S16_d1 h_S_))
    (broadcastInDim S16x1 ![] bcast_S_S16x1 (constant S_ .f32 0x45000000#32))

/-- The stream less its means. -/
def devOf (x : FVec Ideal S16x2048 .f32) : FVec Ideal S16x2048 .f32 :=
  subf x (broadcastInDim S16x2048 ![0, 1] bcast_S16x1_S16x2048_0_1 (meanOf x))

/-- The reference: the layer norm of each position, rounded, as rows. -/
def refRows (x : FVec Ideal S16x2048 .f32) (g b : FVec Ideal S2048 .f32) : FVec Ideal S16x2048 .bf16 :=
  truncf .bf16 (addf (mulf (mulf (devOf x)
        (broadcastInDim S16x2048 ![0, 1] bcast_S16x1_S16x2048_0_1
          (Host.rsqrt (addf (meanOf (mulf (devOf x) (devOf x))) (broadcastInDim S16x1 ![] bcast_S_S16x1 (constant S_ .f32 0x3727C5AC#32))))))
      (broadcastInDim S16x2048 ![0, 1] bcast_S1x2048_S16x2048_0_1 (broadcastInDim S1x2048 ![1] bcast_S2048_S1x2048_1 g)))
    (broadcastInDim S16x2048 ![0, 1] bcast_S1x2048_S16x2048_0_1 (broadcastInDim S1x2048 ![1] bcast_S2048_S1x2048_1 b))) bitsLt_bf16_f32

theorem refRows_apply (x : FVec Ideal S16x2048 .f32) (g b : FVec Ideal S2048 .f32) (i : Fin 16) (j : Fin 2048) :
    refRows x g b (ix2 i j) = Cert.MixIdeal.Product.norm (fun k => x (ix2 i k))
      (fun k => g (ix1 k)) (fun k => b (ix1 k)) j := by
  pointwise [refRows, devOf, meanOf, Cert.MixIdeal.Product.norm, Cert.MixIdeal.Product.spread, Cert.MixIdeal.Product.dev, Cert.MixIdeal.Product.mean]

end Cert.NormMetaReferenceIdeal.Rows

namespace Cert.NormMetaIdeal.Product

open Idealize.ShloMosaic Idealize.ShloMosaic.TcCoe
open Cert.NormMetaIdeal Cert.NormMetaIdeal.Gen
open Cert.NormMetaReferenceIdeal.Rows

/-- The block the body leaves, at an element. -/
theorem block_apply (x : Vec Ideal S16x2048 .f32) (g b : Vec Ideal S1x2048 .f32) (r : Fin 16) (j : Fin 2048) :
    k0_pay1 x g b (ix2 r j)
      = Cert.MixIdeal.Product.norm (fun k => x (ix2 r k)) (fun k => g (ix2 0 k)) (fun k => b (ix2 0 k)) j := by
  pointwise [k0_pay1, Cert.MixIdeal.Product.norm, Cert.MixIdeal.Product.spread, Cert.MixIdeal.Product.dev, Cert.MixIdeal.Product.mean]

/-- Which block each window is at. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- A vector as the call reads it. -/
def flat (g : FVec Ideal S2048 .f32) : FVec Ideal S1x2048 .f32 := shapeCast S1x2048 g shapeCasts_S2048_S1x2048

theorem flat_apply (g : FVec Ideal S2048 .f32) (j : Fin 2048) : flat g (ix2 0 j) = g (ix1 j) := by
  pointwise [flat]

variable (m : (ℓ : Loc nD τ sig) → Buf (Elt Ideal) ℓ) (c : Dev nD) (t : Fin cfg0.N)

/-- A row of the point's block, among all rows. -/
def rowOf (r : Fin 16) : Fin 16 := ⟨t.val * 16 + r.val, by
  have h : t.val < 1 := t.isLt
  omega⟩

theorem V_x : V m c main_arg0 = m ((c.tc : Thread nD τ).loc main_arg0) := by
  entry_read
  rfl

theorem V_g : V m c main_v0 = flat (m ((c.tc : Thread nD τ).loc main_arg1)) := by
  entry_read
  rfl

theorem V_b : V m c main_v1 = flat (m ((c.tc : Thread nD τ).loc main_arg2)) := by
  entry_read
  rfl

theorem read_x (r : Fin 16) (k : Fin 2048) : iblk m c 0 t (ix2 r k) = m ((c.tc : Thread nD τ).loc main_arg0) (ix2 (rowOf t r) k) := by
  have h := (idx t).1
  have e : iblk m c 0 t (ix2 r k) = V m c main_arg0 (ix2 (rowOf t r) k) := by
    blk_simp [iblk]
    blk_ext [h]
    all_goals first | rfl | (simp only [rowOf] <;> omega)
  rw [e, V_x]

theorem read_g (k : Fin 2048) : iblk m c 1 t (ix2 0 k) = m ((c.tc : Thread nD τ).loc main_arg1) (ix1 k) := by
  have h := (idx t).2.1
  have e : iblk m c 1 t (ix2 0 k) = V m c main_v0 (ix2 0 k) := by
    blk_simp [iblk]
    blk_ext [h]
    all_goals first | rfl | omega
  rw [e, V_g, flat_apply]

theorem read_b (k : Fin 2048) : iblk m c 2 t (ix2 0 k) = m ((c.tc : Thread nD τ).loc main_arg2) (ix1 k) := by
  have h := (idx t).2.2.1
  have e : iblk m c 2 t (ix2 0 k) = V m c main_v1 (ix2 0 k) := by
    blk_simp [iblk]
    blk_ext [h]
    all_goals first | rfl | omega
  rw [e, V_b, flat_apply]

/-- The array when the run ends. -/
theorem array_eq : (dats m 0 c).arrAt 3 cfg0.N = refRows (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  rw [after0_3]
  blk_simp
  frame_out
  obtain ⟨r, j, rfl⟩ : ∃ (r : Fin 16) (j : Fin 2048), y = ix2 r j := ⟨y 0, y 1, by ext a; fin_cases a <;> rfl⟩
  have h := (idx t).2.2.2
  have hout : (win0_3.blk t).view.emb (ix2 r j) = ix2 (rowOf t r) j := by
    blk_ext [h]
    all_goals first | rfl | (simp only [rowOf] <;> omega)
  rw [hout, refRows_apply]
  refine (block_apply _ _ _ r j).trans ?_
  simp only [read_x, read_g, read_b]

end Cert.NormMetaIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Run
public import proofs.«01_k».proof.Proof.Same
public import proofs.«01_k».proof.Proof.Array
public import proofs.«01_k».proof.Proof.Finite
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvReferenceIdeal
public import proofs.«01_k».proof.Proof.Gen.QkvReferenceIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluReferenceIdeal
public import proofs.«01_k».proof.Proof.Gen.GluReferenceIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesReferenceIdeal
public import proofs.«01_k».proof.Proof.Gen.GatesReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal
public import proofs.«01_k».proof.Proof.Gen.MixReferenceIdeal.Run
public import proofs.«01_k».proof.Proof.QkvProj
public import proofs.«01_k».proof.Proof.GluProj
public import proofs.«01_k».proof.Proof.GatesProj
public import proofs.«01_k».proof.Proof.OutProj
public import proofs.«01_k».proof.Proof.MixProj
public import proofs.«01_k».proof.Proof.ConvProj
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Loops
public import proofs.«01_k».proof.Proof.Gen.ConvReferenceIdeal
public import proofs.«01_k».proof.Proof.Gen.ConvReferenceIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormReferenceIdeal
public import proofs.«01_k».proof.Proof.Gen.NormReferenceIdeal.Run
public import proofs.«01_k».proof.Proof.Gen.Forget
public import proofs.«01_k».proof.Proof.Gen.Forget.Frame
public import proofs.«01_k».proof.Proof.Gen.ForgetIdeal
public import proofs.«01_k».proof.Proof.Gen.ForgetIdeal.Frame
public import proofs.«01_k».proof.Proof.Gen.ForgetReferenceIdeal
public import proofs.«01_k».proof.Proof.Gen.ForgetReferenceIdeal.Run
public import proofs.«01_k».proof.Proof.Gen.Cumsum
public import proofs.«01_k».proof.Proof.Gen.Cumsum.Frame
public import proofs.«01_k».proof.Proof.Gen.CumsumIdeal
public import proofs.«01_k».proof.Proof.Gen.CumsumIdeal.Frame
public import proofs.«01_k».proof.Proof.Gen.CumsumReferenceIdeal
public import proofs.«01_k».proof.Proof.Gen.CumsumReferenceIdeal.Run
public import proofs.«01_k».proof.Proof.Gen.CumsumIdeal.Value
public import proofs.«01_k».proof.Proof.Gen.Pre_gates_below_infinity
public import proofs.«01_k».proof.Proof.NormProj
public import proofs.«01_k».proof.Proof.ForgetProj
public import proofs.«01_k».proof.Proof.CumsumProj
public import proofs.«01_k».proof.Proof.Below
public import proofs.«01_k».proof.Proof.Gen.QkvMeta
public import proofs.«01_k».proof.Proof.Gen.QkvMeta.Frame
public import proofs.«01_k».proof.Proof.Gen.QkvMetaIdeal
public import proofs.«01_k».proof.Proof.Gen.QkvMetaIdeal.Frame
public import proofs.«01_k».proof.Proof.Gen.QkvMetaReferenceIdeal
public import proofs.«01_k».proof.Proof.Gen.QkvMetaReferenceIdeal.Run
public import proofs.«01_k».proof.Proof.QkvMetaProj
public import proofs.«01_k».proof.Proof.Gen.GluMeta
public import proofs.«01_k».proof.Proof.Gen.GluMeta.Frame
public import proofs.«01_k».proof.Proof.Gen.GluMetaIdeal
public import proofs.«01_k».proof.Proof.Gen.GluMetaIdeal.Frame
public import proofs.«01_k».proof.Proof.Gen.GluMetaReferenceIdeal
public import proofs.«01_k».proof.Proof.Gen.GluMetaReferenceIdeal.Run
public import proofs.«01_k».proof.Proof.GluMetaProj
public import proofs.«01_k».proof.Proof.Gen.ForgetMeta
public import proofs.«01_k».proof.Proof.Gen.ForgetMeta.Frame
public import proofs.«01_k».proof.Proof.Gen.ForgetMetaIdeal
public import proofs.«01_k».proof.Proof.Gen.ForgetMetaIdeal.Frame
public import proofs.«01_k».proof.Proof.Gen.ForgetMetaReferenceIdeal
public import proofs.«01_k».proof.Proof.Gen.ForgetMetaReferenceIdeal.Run
public import proofs.«01_k».proof.Proof.ForgetMetaProj
public import proofs.«01_k».proof.Proof.Gen.NormMeta
public import proofs.«01_k».proof.Proof.Gen.NormMeta.Frame
public import proofs.«01_k».proof.Proof.Gen.NormMetaIdeal
public import proofs.«01_k».proof.Proof.Gen.NormMetaIdeal.Frame
public import proofs.«01_k».proof.Proof.Gen.NormMetaReferenceIdeal
public import proofs.«01_k».proof.Proof.Gen.NormMetaReferenceIdeal.Run
public import proofs.«01_k».proof.Proof.NormMetaProj
public import Idealize.ShloMosaic.Adequacy
public import Idealize.ShloMosaic.Init

@[expose] public section

noncomputable section

namespace Cert.Proof

open Idealize.ShloMosaic Idealize.SL.Sem

attribute [local instance] namedBits

/-- The kernel's frame: the run of the attention, at bit patterns. -/
theorem frame_kernel : Cert.quiescent_Kernel := fun m ρ _ => by
  have h := Cert.KernelIdeal.Attn.run_frame (F := Bits) m ρ
  rw [defs_same, main_same]
  exact h

/-- The idealized kernel's frame. -/
theorem frame_ideal : Cert.quiescent_KernelIdeal := fun m ρ _ => Cert.KernelIdeal.Attn.run_frame m ρ

theorem frame_ideal_pre : Cert.quiescent_KernelIdeal_pre_finite_scores := fun m ρ _ => Cert.KernelIdeal.Attn.run_frame m ρ

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_pre : Cert.quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run m ρ)

/-- The named constant is the one the idealization states. -/
theorem preserves : Cert.preserves_Kernel_KernelIdeal :=
  IdealRules.named_const.statement Cert.KernelIdeal.κ "log2e" .f32 0x3FB8AA3B#32 (((Real.log 2)⁻¹ : ℝ) : EReal) rfl

/-- The idealized kernel and the idealized reference leave the same array. -/
theorem algebraic : Cert.algebraic_KernelIdeal_ReferenceIdeal_pre_finite_scores := by
  intro m ρ m' ρ' hp hm
  refine ⟨fun c => Cert.ReferenceIdeal.Read.val_main_v45 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Attn.run_main m ρ)
    obtain ⟨⟨h0, h1⟩, h3, h5, h6⟩ := Cert.Pre_finite_scores.finite_of_pre _ _ _ _ _ _ _ (hp c)
    exact ⟨((h.1 c).1 7).trans (Cert.KernelIdeal.Attn.array_eq m c _ _ _ _ _ _ _ rfl rfl rfl rfl rfl rfl rfl h0 h1 h3 h5 h6),
      Cert.KernelIdeal.Attn.unchanged m h.1 c⟩
  · refine (θ_run Cert.ReferenceIdeal.defs _ _).mono (fun r h c => ⟨(h c).1.trans ?_, (h c).2⟩) (Cert.ReferenceIdeal.Value.run m' ρ')
    obtain ⟨e0, e1, e2, e3, e4, e5, e6⟩ := hm c
    rw [Cert.ReferenceIdeal.Read.val_main_v45_eq, e0, e1, e2, e3, e4, e5, e6]

/-! ## The other calls -/

theorem qkv_frame_reference : Cert.quiescent_QkvReferenceIdeal := fun m ρ _ =>
  (θ_run Cert.QkvReferenceIdeal.defs _ _).mono (fun r h => ⟨fun c => (h c).2, sem_eq_zero_of_no_sems (by decide) r.2⟩)
    (Cert.QkvReferenceIdeal.Value.run m ρ)

/-- The kernel and the reference of the queries, keys and values leave the same array. -/
theorem qkv_algebraic : Cert.algebraic_QkvIdeal_QkvReferenceIdeal := by
  intro m ρ m' ρ' _ hm
  refine ⟨fun c => Cert.QkvIdeal.Product.refQkv (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)), ?_, ?_⟩
  · exact (θ_run Cert.QkvIdeal.defs _ _).mono (fun r h c => ⟨((h.1 c).1 4).trans (Cert.QkvIdeal.Product.array_eq m c), h.2 c⟩)
      (θ_run_and (Cert.QkvIdeal.Gen.run_main m ρ) (Cert.QkvIdeal.Gen.unchanged m ρ))
  · refine (θ_run Cert.QkvReferenceIdeal.defs _ _).mono (fun r h c => ⟨(h c).1.trans ?_, (h c).2⟩) (Cert.QkvReferenceIdeal.Value.run m' ρ')
    obtain ⟨e0, e1, e2, e3⟩ := hm c
    rw [e0, e1, e2, e3]
    rfl

theorem glu_frame_reference : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run m ρ)

/-- The kernel and the reference of the gated linear unit leave the same array. -/
theorem glu_algebraic : Cert.algebraic_GluIdeal_GluReferenceIdeal := by
  intro m ρ m' ρ' _ hm
  refine ⟨fun c => Cert.GluIdeal.Product.refGlu (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)), ?_, ?_⟩
  · exact (θ_run Cert.GluIdeal.defs _ _).mono (fun r h c => ⟨((h.1 c).1 5).trans (Cert.GluIdeal.Product.array_eq m c), h.2 c⟩)
      (θ_run_and (Cert.GluIdeal.Gen.run_main m ρ) (Cert.GluIdeal.Gen.unchanged m ρ))
  · refine (θ_run Cert.GluReferenceIdeal.defs _ _).mono (fun r h c => ⟨(h c).1.trans ?_, (h c).2⟩) (Cert.GluReferenceIdeal.Value.run m' ρ')
    obtain ⟨e0, e1, e2⟩ := hm c
    rw [e0, e1, e2]
    rfl

theorem gates_frame_reference : Cert.quiescent_GatesReferenceIdeal := fun m ρ _ =>
  (θ_run Cert.GatesReferenceIdeal.defs _ _).mono (fun r h => ⟨fun c => (h c).2, sem_eq_zero_of_no_sems (by decide) r.2⟩)
    (Cert.GatesReferenceIdeal.Value.run m ρ)

/-- The kernel and the reference of the gates leave the same array. -/
theorem gates_algebraic : Cert.algebraic_GatesIdeal_GatesReferenceIdeal := by
  intro m ρ m' ρ' _ hm
  refine ⟨fun c => Cert.GatesIdeal.Product.refGates (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)), ?_, ?_⟩
  · exact (θ_run Cert.GatesIdeal.defs _ _).mono (fun r h c => ⟨((h.1 c).1 3).trans (Cert.GatesIdeal.Product.array_eq m c), h.2 c⟩)
      (θ_run_and (Cert.GatesIdeal.Gen.run_main m ρ) (Cert.GatesIdeal.Gen.unchanged m ρ))
  · refine (θ_run Cert.GatesReferenceIdeal.defs _ _).mono (fun r h c => ⟨(h c).1.trans ?_, (h c).2⟩) (Cert.GatesReferenceIdeal.Value.run m' ρ')
    obtain ⟨e0, e1, e2⟩ := hm c
    rw [e0, e1, e2]
    rfl

theorem out_frame_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run m ρ)

/-- The kernel and the reference of the output projection leave the same array. -/
theorem out_algebraic : Cert.algebraic_OutIdeal_OutReferenceIdeal := by
  intro m ρ m' ρ' _ hm
  refine ⟨fun c => Cert.OutIdeal.Product.refOut (m ((c.tc : Thread Cert.OutIdeal.nD Cert.OutIdeal.τ).loc Cert.OutIdeal.main_arg0)) (m ((c.tc : Thread Cert.OutIdeal.nD Cert.OutIdeal.τ).loc Cert.OutIdeal.main_arg1)), ?_, ?_⟩
  · exact (θ_run Cert.OutIdeal.defs _ _).mono (fun r h c => ⟨((h.1 c).1 3).trans (Cert.OutIdeal.Product.array_eq m c), h.2 c⟩)
      (θ_run_and (Cert.OutIdeal.Gen.run_main m ρ) (Cert.OutIdeal.Gen.unchanged m ρ))
  · refine (θ_run Cert.OutReferenceIdeal.defs _ _).mono (fun r h c => ⟨(h c).1.trans ?_, (h c).2⟩) (Cert.OutReferenceIdeal.Value.run m' ρ')
    obtain ⟨e0, e1⟩ := hm c
    rw [e0, e1]
    rfl

theorem mix_frame_reference : Cert.quiescent_MixReferenceIdeal := fun m ρ _ =>
  (θ_run Cert.MixReferenceIdeal.defs _ _).mono (fun r h => ⟨fun c => (h c).2.2, sem_eq_zero_of_no_sems (by decide) r.2⟩)
    (Cert.MixReferenceIdeal.Value.run m ρ)

/-- The kernel and the reference of the merge of the branches leave the same arrays. -/
theorem mix_algebraic : Cert.algebraic_MixIdeal_MixReferenceIdeal := by
  intro m ρ m' ρ' _ hm
  refine ⟨fun c => Cert.MixIdeal.Product.refOut (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)),
    fun c => Cert.MixIdeal.Product.refOut' (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)), ?_, ?_⟩
  · exact (θ_run Cert.MixIdeal.defs _ _).mono (fun r h c => ⟨((h.1 c).1 10).trans (Cert.MixIdeal.Product.array_eq m c), ((h.1 c).1 11).trans (Cert.MixIdeal.Product.array_eq' m c), h.2 c⟩)
      (θ_run_and (Cert.MixIdeal.Gen.run_main m ρ) (Cert.MixIdeal.Gen.unchanged m ρ))
  · refine (θ_run Cert.MixReferenceIdeal.defs _ _).mono (fun r h c => ⟨(h c).1.trans ?_, (h c).2.1.trans ?_, (h c).2.2⟩) (Cert.MixReferenceIdeal.Value.run m' ρ')
    · obtain ⟨e0, e1, e2, e3, e4, e5, e6, e7, e8⟩ := hm c
      unfold Cert.MixReferenceIdeal.Value.res_main_v59
      rw [e0, e1, e2, e3, e4, e5, e6, e7, e8]
      rfl
    · obtain ⟨e0, e1, e2, e3, e4, e5, e6, e7, e8⟩ := hm c
      unfold Cert.MixReferenceIdeal.Value.res_main_v60
      rw [e0, e1, e2, e3, e4, e5, e6, e7, e8]
      rfl

theorem conv_frame_reference : Cert.quiescent_ConvReferenceIdeal := fun m ρ _ =>
  (θ_run Cert.ConvReferenceIdeal.defs _ _).mono (fun r h => ⟨fun c => (h c).2, sem_eq_zero_of_no_sems (by decide) r.2⟩)
    (Cert.ConvReferenceIdeal.Value.run m ρ)

/-- The kernel and the reference of the convolution module leave the same array. -/
theorem conv_algebraic : Cert.algebraic_ConvIdeal_ConvReferenceIdeal := by
  intro m ρ m' ρ' _ hm
  refine ⟨fun c => Cert.ConvReferenceIdeal.Rows.refConv (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)), ?_, ?_⟩
  · exact (θ_run Cert.ConvIdeal.defs _ _).mono (fun r h c => ⟨((h.1 c).1 8).trans (Cert.ConvIdeal.Product.array_eq m c), h.2 c⟩)
      (θ_run_and (Cert.ConvIdeal.Gen.run_main m ρ) (Cert.ConvIdeal.Gen.unchanged m ρ))
  · refine (θ_run Cert.ConvReferenceIdeal.defs _ _).mono (fun r h c => ⟨(h c).1.trans ?_, (h c).2⟩) (Cert.ConvReferenceIdeal.Value.run m' ρ')
    obtain ⟨e0, e1, e2, e3, e4, e5, e6⟩ := hm c
    rw [Cert.ConvReferenceIdeal.Rows.norm_eq, Cert.ConvReferenceIdeal.Rows.conv_eq]
    refine (Cert.ConvReferenceIdeal.Rows.result_eq _ _ _ _ _ _ _).trans ?_
    show Cert.ConvReferenceIdeal.Rows.refConv (m' ((c.tc : Thread Cert.ConvReferenceIdeal.nD Cert.ConvReferenceIdeal.τ).loc Cert.ConvReferenceIdeal.main_arg0))
      (m' ((c.tc : Thread Cert.ConvReferenceIdeal.nD Cert.ConvReferenceIdeal.τ).loc Cert.ConvReferenceIdeal.main_arg1))
      (m' ((c.tc : Thread Cert.ConvReferenceIdeal.nD Cert.ConvReferenceIdeal.τ).loc Cert.ConvReferenceIdeal.main_arg2))
      (m' ((c.tc : Thread Cert.ConvReferenceIdeal.nD Cert.ConvReferenceIdeal.τ).loc Cert.ConvReferenceIdeal.main_arg3))
      (m' ((c.tc : Thread Cert.ConvReferenceIdeal.nD Cert.ConvReferenceIdeal.τ).loc Cert.ConvReferenceIdeal.main_arg4))
      (m' ((c.tc : Thread Cert.ConvReferenceIdeal.nD Cert.ConvReferenceIdeal.τ).loc Cert.ConvReferenceIdeal.main_arg5))
      (m' ((c.tc : Thread Cert.ConvReferenceIdeal.nD Cert.ConvReferenceIdeal.τ).loc Cert.ConvReferenceIdeal.main_arg6)) = Cert.ConvReferenceIdeal.Rows.refConv (m ((c.tc : Thread Cert.ConvIdeal.nD Cert.ConvIdeal.τ).loc Cert.ConvIdeal.main_arg0))
      (m ((c.tc : Thread Cert.ConvIdeal.nD Cert.ConvIdeal.τ).loc Cert.ConvIdeal.main_arg1))
      (m ((c.tc : Thread Cert.ConvIdeal.nD Cert.ConvIdeal.τ).loc Cert.ConvIdeal.main_arg2))
      (m ((c.tc : Thread Cert.ConvIdeal.nD Cert.ConvIdeal.τ).loc Cert.ConvIdeal.main_arg3))
      (m ((c.tc : Thread Cert.ConvIdeal.nD Cert.ConvIdeal.τ).loc Cert.ConvIdeal.main_arg4))
      (m ((c.tc : Thread Cert.ConvIdeal.nD Cert.ConvIdeal.τ).loc Cert.ConvIdeal.main_arg5))
      (m ((c.tc : Thread Cert.ConvIdeal.nD Cert.ConvIdeal.τ).loc Cert.ConvIdeal.main_arg6))
    rw [e0, e1, e2, e3, e4, e5, e6]

theorem norm_frame_reference : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run m ρ)

/-- The kernel and the reference of the layer norm leave the same array. -/
theorem norm_algebraic : Cert.algebraic_NormIdeal_NormReferenceIdeal := by
  intro m ρ m' ρ' _ hm
  refine ⟨fun c => Cert.NormReferenceIdeal.Rows.refRows (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)), ?_, ?_⟩
  · exact (θ_run Cert.NormIdeal.defs _ _).mono (fun r h c => ⟨((h.1 c).1 3).trans (Cert.NormIdeal.Product.array_eq m c), h.2 c⟩)
      (θ_run_and (Cert.NormIdeal.Gen.run_main m ρ) (Cert.NormIdeal.Gen.unchanged m ρ))
  · refine (θ_run Cert.NormReferenceIdeal.defs _ _).mono (fun r h c => ⟨(h c).1.trans ?_, (h c).2⟩) (Cert.NormReferenceIdeal.Value.run m' ρ')
    obtain ⟨e0, e1, e2⟩ := hm c
    rw [e0, e1, e2]
    rfl

theorem forget_frame_reference : Cert.quiescent_ForgetReferenceIdeal := fun m ρ _ =>
  (θ_run Cert.ForgetReferenceIdeal.defs _ _).mono (fun r h => ⟨fun c => (h c).2, sem_eq_zero_of_no_sems (by decide) r.2⟩)
    (Cert.ForgetReferenceIdeal.Value.run m ρ)

/-- The kernel and the reference of the forget gates leave the same array. -/
theorem forget_algebraic : Cert.algebraic_ForgetIdeal_ForgetReferenceIdeal := by
  intro m ρ m' ρ' _ hm
  refine ⟨fun c => Cert.ForgetIdeal.Product.refGates (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2)), ?_, ?_⟩
  · exact (θ_run Cert.ForgetIdeal.defs _ _).mono (fun r h c => ⟨((h.1 c).1 3).trans (Cert.ForgetIdeal.Product.array_eq m c), h.2 c⟩)
      (θ_run_and (Cert.ForgetIdeal.Gen.run_main m ρ) (Cert.ForgetIdeal.Gen.unchanged m ρ))
  · refine (θ_run Cert.ForgetReferenceIdeal.defs _ _).mono (fun r h c => ⟨(h c).1.trans ?_, (h c).2⟩) (Cert.ForgetReferenceIdeal.Value.run m' ρ')
    obtain ⟨e0, e1, e2⟩ := hm c
    rw [e0, e1, e2]
    rfl

theorem cumsum_frame_reference : Cert.quiescent_CumsumReferenceIdeal := fun m ρ _ =>
  (θ_run Cert.CumsumReferenceIdeal.defs _ _).mono (fun r h => ⟨fun c => (h c).2.2, sem_eq_zero_of_no_sems (by decide) r.2⟩)
    (Cert.CumsumReferenceIdeal.Value.run m ρ)

theorem cumsum_frame_reference_pre : Cert.quiescent_CumsumReferenceIdeal_pre_gates_below_infinity := fun m ρ _ =>
  (θ_run Cert.CumsumReferenceIdeal.defs _ _).mono (fun r h => ⟨fun c => (h c).2.2, sem_eq_zero_of_no_sems (by decide) r.2⟩)
    (Cert.CumsumReferenceIdeal.Value.run m ρ)

/-- The kernel and the reference of the gates' running sum leave the same arrays. -/
theorem cumsum_algebraic : Cert.algebraic_CumsumIdeal_CumsumReferenceIdeal_pre_gates_below_infinity := by
  intro m ρ m' ρ' hp hm
  refine ⟨fun c => Cert.CumsumReferenceIdeal.Prefix.refC (m ((c.tc : Thread Cert.CumsumIdeal.nD Cert.CumsumIdeal.τ).loc Cert.CumsumIdeal.main_arg0)) (m ((c.tc : Thread Cert.CumsumIdeal.nD Cert.CumsumIdeal.τ).loc Cert.CumsumIdeal.main_arg1)),
    fun c => Cert.CumsumReferenceIdeal.Prefix.refM (m ((c.tc : Thread Cert.CumsumIdeal.nD Cert.CumsumIdeal.τ).loc Cert.CumsumIdeal.main_arg1)), ?_, ?_⟩
  · refine (θ_run Cert.CumsumIdeal.defs _ _).mono (fun r h c => ?_) (θ_run_and (Cert.CumsumIdeal.Gen.run_main m ρ) (Cert.CumsumIdeal.Gen.unchanged m ρ))
    obtain ⟨h0, h1⟩ := Cert.Pre_gates_below_infinity.below_of_pre _ _ (hp c)
    exact ⟨((h.1 c).1 3).trans (Cert.CumsumIdeal.Carry.array_eq m c h0 h1), ((h.1 c).1 4).trans (Cert.CumsumIdeal.Carry.array_meta m c h1), h.2 c⟩
  · refine (θ_run Cert.CumsumReferenceIdeal.defs _ _).mono (fun r h c => ⟨(h c).1.trans ?_, (h c).2.1.trans ?_, (h c).2.2⟩) (Cert.CumsumReferenceIdeal.Value.run m' ρ')
    · obtain ⟨e0, e1⟩ := hm c
      rw [e0, e1]
      rfl
    · obtain ⟨e0, e1⟩ := hm c
      rw [e1]
      rfl

/-! ## The calls on the meta tokens -/

theorem qkv_meta_frame_reference : Cert.quiescent_QkvMetaReferenceIdeal := fun m ρ _ =>
  (θ_run Cert.QkvMetaReferenceIdeal.defs _ _).mono (fun r h => ⟨fun c => (h c).2, sem_eq_zero_of_no_sems (by decide) r.2⟩)
    (Cert.QkvMetaReferenceIdeal.Value.run m ρ)

/-- The kernel and the reference of the queries, keys and values on the meta tokens leave the same array. -/
theorem qkv_meta_algebraic : Cert.algebraic_QkvMetaIdeal_QkvMetaReferenceIdeal := by
  intro m ρ m' ρ' _ hm
  refine ⟨fun c => Cert.QkvMetaIdeal.Product.refQkv (m ((c.tc : Thread Cert.QkvMetaIdeal.nD Cert.QkvMetaIdeal.τ).loc Cert.QkvMetaIdeal.main_arg0)) (m ((c.tc : Thread Cert.QkvMetaIdeal.nD Cert.QkvMetaIdeal.τ).loc Cert.QkvMetaIdeal.main_arg1)) (m ((c.tc : Thread Cert.QkvMetaIdeal.nD Cert.QkvMetaIdeal.τ).loc Cert.QkvMetaIdeal.main_arg2)) (m ((c.tc : Thread Cert.QkvMetaIdeal.nD Cert.QkvMetaIdeal.τ).loc Cert.QkvMetaIdeal.main_arg3)), ?_, ?_⟩
  · exact (θ_run Cert.QkvMetaIdeal.defs _ _).mono (fun r h c => ⟨((h.1 c).1 4).trans (Cert.QkvMetaIdeal.Product.array_eq m c), h.2 c⟩)
      (θ_run_and (Cert.QkvMetaIdeal.Gen.run_main m ρ) (Cert.QkvMetaIdeal.Gen.unchanged m ρ))
  · refine (θ_run Cert.QkvMetaReferenceIdeal.defs _ _).mono (fun r h c => ⟨(h c).1.trans ?_, (h c).2⟩) (Cert.QkvMetaReferenceIdeal.Value.run m' ρ')
    obtain ⟨e0, e1, e2, e3⟩ := hm c
    rw [e0, e1, e2, e3]
    rfl

theorem glu_meta_frame_reference : Cert.quiescent_GluMetaReferenceIdeal := fun m ρ _ =>
  (θ_run Cert.GluMetaReferenceIdeal.defs _ _).mono (fun r h => ⟨fun c => (h c).2, sem_eq_zero_of_no_sems (by decide) r.2⟩)
    (Cert.GluMetaReferenceIdeal.Value.run m ρ)

/-- The kernel and the reference of the gated linear unit on the meta tokens leave the same array. -/
theorem glu_meta_algebraic : Cert.algebraic_GluMetaIdeal_GluMetaReferenceIdeal := by
  intro m ρ m' ρ' _ hm
  refine ⟨fun c => Cert.GluMetaIdeal.Product.refGlu (m ((c.tc : Thread Cert.GluMetaIdeal.nD Cert.GluMetaIdeal.τ).loc Cert.GluMetaIdeal.main_arg0)) (m ((c.tc : Thread Cert.GluMetaIdeal.nD Cert.GluMetaIdeal.τ).loc Cert.GluMetaIdeal.main_arg1)) (m ((c.tc : Thread Cert.GluMetaIdeal.nD Cert.GluMetaIdeal.τ).loc Cert.GluMetaIdeal.main_arg2)), ?_, ?_⟩
  · exact (θ_run Cert.GluMetaIdeal.defs _ _).mono (fun r h c => ⟨((h.1 c).1 5).trans (Cert.GluMetaIdeal.Product.array_eq m c), h.2 c⟩)
      (θ_run_and (Cert.GluMetaIdeal.Gen.run_main m ρ) (Cert.GluMetaIdeal.Gen.unchanged m ρ))
  · refine (θ_run Cert.GluMetaReferenceIdeal.defs _ _).mono (fun r h c => ⟨(h c).1.trans ?_, (h c).2⟩) (Cert.GluMetaReferenceIdeal.Value.run m' ρ')
    obtain ⟨e0, e1, e2⟩ := hm c
    rw [e0, e1, e2]
    rfl

theorem forget_meta_frame_reference : Cert.quiescent_ForgetMetaReferenceIdeal := fun m ρ _ =>
  (θ_run Cert.ForgetMetaReferenceIdeal.defs _ _).mono (fun r h => ⟨fun c => (h c).2, sem_eq_zero_of_no_sems (by decide) r.2⟩)
    (Cert.ForgetMetaReferenceIdeal.Value.run m ρ)

/-- The kernel and the reference of the forget gates on the meta tokens leave the same array. -/
theorem forget_meta_algebraic : Cert.algebraic_ForgetMetaIdeal_ForgetMetaReferenceIdeal := by
  intro m ρ m' ρ' _ hm
  refine ⟨fun c => Cert.ForgetMetaIdeal.Product.refGates (m ((c.tc : Thread Cert.ForgetMetaIdeal.nD Cert.ForgetMetaIdeal.τ).loc Cert.ForgetMetaIdeal.main_arg0)) (m ((c.tc : Thread Cert.ForgetMetaIdeal.nD Cert.ForgetMetaIdeal.τ).loc Cert.ForgetMetaIdeal.main_arg1)) (m ((c.tc : Thread Cert.ForgetMetaIdeal.nD Cert.ForgetMetaIdeal.τ).loc Cert.ForgetMetaIdeal.main_arg2)), ?_, ?_⟩
  · exact (θ_run Cert.ForgetMetaIdeal.defs _ _).mono (fun r h c => ⟨((h.1 c).1 3).trans (Cert.ForgetMetaIdeal.Product.array_eq m c), h.2 c⟩)
      (θ_run_and (Cert.ForgetMetaIdeal.Gen.run_main m ρ) (Cert.ForgetMetaIdeal.Gen.unchanged m ρ))
  · refine (θ_run Cert.ForgetMetaReferenceIdeal.defs _ _).mono (fun r h c => ⟨(h c).1.trans ?_, (h c).2⟩) (Cert.ForgetMetaReferenceIdeal.Value.run m' ρ')
    obtain ⟨e0, e1, e2⟩ := hm c
    rw [e0, e1, e2]
    rfl

theorem norm_meta_frame_reference : Cert.quiescent_NormMetaReferenceIdeal := fun m ρ _ =>
  (θ_run Cert.NormMetaReferenceIdeal.defs _ _).mono (fun r h => ⟨fun c => (h c).2, sem_eq_zero_of_no_sems (by decide) r.2⟩)
    (Cert.NormMetaReferenceIdeal.Value.run m ρ)

/-- The kernel and the reference of the layer norm on the meta tokens leave the same array. -/
theorem norm_meta_algebraic : Cert.algebraic_NormMetaIdeal_NormMetaReferenceIdeal := by
  intro m ρ m' ρ' _ hm
  refine ⟨fun c => Cert.NormMetaReferenceIdeal.Rows.refRows (m ((c.tc : Thread Cert.NormMetaIdeal.nD Cert.NormMetaIdeal.τ).loc Cert.NormMetaIdeal.main_arg0)) (m ((c.tc : Thread Cert.NormMetaIdeal.nD Cert.NormMetaIdeal.τ).loc Cert.NormMetaIdeal.main_arg1)) (m ((c.tc : Thread Cert.NormMetaIdeal.nD Cert.NormMetaIdeal.τ).loc Cert.NormMetaIdeal.main_arg2)), ?_, ?_⟩
  · exact (θ_run Cert.NormMetaIdeal.defs _ _).mono (fun r h c => ⟨((h.1 c).1 3).trans (Cert.NormMetaIdeal.Product.array_eq m c), h.2 c⟩)
      (θ_run_and (Cert.NormMetaIdeal.Gen.run_main m ρ) (Cert.NormMetaIdeal.Gen.unchanged m ρ))
  · refine (θ_run Cert.NormMetaReferenceIdeal.defs _ _).mono (fun r h c => ⟨(h c).1.trans ?_, (h c).2⟩) (Cert.NormMetaReferenceIdeal.Value.run m' ρ')
    obtain ⟨e0, e1, e2⟩ := hm c
    rw [e0, e1, e2]
    rfl

theorem claim : Cert.Claim :=
  ⟨Cert.Kernel.Gen.facts, Cert.KernelIdeal.Gen.facts, Cert.ReferenceIdeal.Gen.facts,
    Cert.Qkv.Gen.facts, Cert.QkvIdeal.Gen.facts, Cert.QkvReferenceIdeal.Gen.facts,
    Cert.Glu.Gen.facts, Cert.GluIdeal.Gen.facts, Cert.GluReferenceIdeal.Gen.facts,
    Cert.Gates.Gen.facts, Cert.GatesIdeal.Gen.facts, Cert.GatesReferenceIdeal.Gen.facts,
    Cert.Out.Gen.facts, Cert.OutIdeal.Gen.facts, Cert.OutReferenceIdeal.Gen.facts,
    Cert.Mix.Gen.facts, Cert.MixIdeal.Gen.facts, Cert.MixReferenceIdeal.Gen.facts,
    Cert.Conv.Gen.facts, Cert.ConvIdeal.Gen.facts, Cert.ConvReferenceIdeal.Gen.facts,
    Cert.Norm.Gen.facts, Cert.NormIdeal.Gen.facts, Cert.NormReferenceIdeal.Gen.facts,
    Cert.Forget.Gen.facts, Cert.ForgetIdeal.Gen.facts, Cert.ForgetReferenceIdeal.Gen.facts,
    Cert.Cumsum.Gen.facts, Cert.CumsumIdeal.Gen.facts, Cert.CumsumReferenceIdeal.Gen.facts,
    Cert.QkvMeta.Gen.facts, Cert.QkvMetaIdeal.Gen.facts, Cert.QkvMetaReferenceIdeal.Gen.facts,
    Cert.GluMeta.Gen.facts, Cert.GluMetaIdeal.Gen.facts, Cert.GluMetaReferenceIdeal.Gen.facts,
    Cert.ForgetMeta.Gen.facts, Cert.ForgetMetaIdeal.Gen.facts, Cert.ForgetMetaReferenceIdeal.Gen.facts,
    Cert.NormMeta.Gen.facts, Cert.NormMetaIdeal.Gen.facts, Cert.NormMetaReferenceIdeal.Gen.facts,
    Cert.Pre_finite_scores.Gen.facts, Cert.Pre_gates_below_infinity.Gen.facts,
    frame_kernel, frame_ideal, frame_ideal_pre, frame_reference, frame_reference_pre,
    fun m ρ _ => Cert.Qkv.Gen.frame m ρ, fun m ρ _ => Cert.QkvIdeal.Gen.frame m ρ, qkv_frame_reference,
    fun m ρ _ => Cert.Glu.Gen.frame m ρ, fun m ρ _ => Cert.GluIdeal.Gen.frame m ρ, glu_frame_reference,
    fun m ρ _ => Cert.Gates.Gen.frame m ρ, fun m ρ _ => Cert.GatesIdeal.Gen.frame m ρ, gates_frame_reference,
    fun m ρ _ => Cert.Out.Gen.frame m ρ, fun m ρ _ => Cert.OutIdeal.Gen.frame m ρ, out_frame_reference,
    fun m ρ _ => Cert.Mix.Gen.frame m ρ, fun m ρ _ => Cert.MixIdeal.Gen.frame m ρ, mix_frame_reference,
    fun m ρ _ => Cert.Conv.Gen.frame m ρ, fun m ρ _ => Cert.ConvIdeal.Gen.frame m ρ, conv_frame_reference,
    fun m ρ _ => Cert.Norm.Gen.frame m ρ, fun m ρ _ => Cert.NormIdeal.Gen.frame m ρ, norm_frame_reference,
    fun m ρ _ => Cert.Forget.Gen.frame m ρ, fun m ρ _ => Cert.ForgetIdeal.Gen.frame m ρ, forget_frame_reference,
    fun m ρ _ => Cert.Cumsum.Gen.frame m ρ, fun m ρ _ => Cert.CumsumIdeal.Gen.frame m ρ, fun m ρ _ => Cert.CumsumIdeal.Gen.frame m ρ,
    cumsum_frame_reference, cumsum_frame_reference_pre,
    fun m ρ _ => Cert.QkvMeta.Gen.frame m ρ, fun m ρ _ => Cert.QkvMetaIdeal.Gen.frame m ρ, qkv_meta_frame_reference,
    fun m ρ _ => Cert.GluMeta.Gen.frame m ρ, fun m ρ _ => Cert.GluMetaIdeal.Gen.frame m ρ, glu_meta_frame_reference,
    fun m ρ _ => Cert.ForgetMeta.Gen.frame m ρ, fun m ρ _ => Cert.ForgetMetaIdeal.Gen.frame m ρ, forget_meta_frame_reference,
    fun m ρ _ => Cert.NormMeta.Gen.frame m ρ, fun m ρ _ => Cert.NormMetaIdeal.Gen.frame m ρ, norm_meta_frame_reference,
    preserves, algebraic,
    trivial, qkv_algebraic,
    trivial, glu_algebraic,
    trivial, gates_algebraic,
    trivial, out_algebraic,
    trivial, mix_algebraic,
    trivial, conv_algebraic,
    trivial, norm_algebraic,
    trivial, forget_algebraic,
    trivial, cumsum_algebraic,
    trivial, qkv_meta_algebraic,
    trivial, glu_meta_algebraic,
    trivial, forget_meta_algebraic,
    trivial, norm_meta_algebraic⟩

end Cert.Proof

end
